-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_range [hPre_lb_range : Cert.Pre_lb_range.Facts] (m : (ℓ : Loc Cert.KernelIdeal.nD Cert.KernelIdeal.τ Cert.KernelIdeal.sig) → Buf (Elt Ideal) ℓ) : Prop :=
  ∀ c : Dev Cert.KernelIdeal.nD,
    (Cert.Pre_lb_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_range [hPre_lb_range : Cert.Pre_lb_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Colproj (m : (ℓ : Loc Cert.Colproj.nD Cert.Colproj.τ Cert.Colproj.sig) → Buf (Elt Bits) ℓ) : Prop :=
  True

def Pre_ColprojIdeal (m : (ℓ : Loc Cert.ColprojIdeal.nD Cert.ColprojIdeal.τ Cert.ColprojIdeal.sig) → Buf (Elt Ideal) ℓ) : Prop :=
  True

def Pre_ColprojReferenceIdeal (m : (ℓ : Loc Cert.ColprojReferenceIdeal.nD Cert.ColprojReferenceIdeal.τ Cert.ColprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_y_b_finite [hPre_y_b_finite : Cert.Pre_y_b_finite.Facts] (m : (ℓ : Loc Cert.MergeIdeal.nD Cert.MergeIdeal.τ Cert.MergeIdeal.sig) → Buf (Elt Ideal) ℓ) : Prop :=
  ∀ c : Dev Cert.MergeIdeal.nD,
    (Cert.Pre_y_b_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_y_b_finite [hPre_y_b_finite : Cert.Pre_y_b_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_y_b_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7))) = (fun _ => 1#1)

def Pre_Ctxrow (m : (ℓ : Loc Cert.Ctxrow.nD Cert.Ctxrow.τ Cert.Ctxrow.sig) → Buf (Elt Bits) ℓ) : Prop :=
  True

def Pre_CtxrowIdeal (m : (ℓ : Loc Cert.CtxrowIdeal.nD Cert.CtxrowIdeal.τ Cert.CtxrowIdeal.sig) → Buf (Elt Ideal) ℓ) : Prop :=
  True

def Pre_CtxrowReferenceIdeal (m : (ℓ : Loc Cert.CtxrowReferenceIdeal.nD Cert.CtxrowReferenceIdeal.τ Cert.CtxrowReferenceIdeal.sig) → Buf (Elt Ideal) ℓ) : Prop :=
  True

def Pre_Ctxcol (m : (ℓ : Loc Cert.Ctxcol.nD Cert.Ctxcol.τ Cert.Ctxcol.sig) → Buf (Elt Bits) ℓ) : Prop :=
  True

def Pre_CtxcolIdeal (m : (ℓ : Loc Cert.CtxcolIdeal.nD Cert.CtxcolIdeal.τ Cert.CtxcolIdeal.sig) → Buf (Elt Ideal) ℓ) : Prop :=
  True

def Pre_CtxcolReferenceIdeal (m : (ℓ : Loc Cert.CtxcolReferenceIdeal.nD Cert.CtxcolReferenceIdeal.τ Cert.CtxcolReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_lb_positive [hPre_lb_positive : Cert.Pre_lb_positive.Facts] (m : (ℓ : Loc Cert.StateIdeal.nD Cert.StateIdeal.τ Cert.StateIdeal.sig) → Buf (Elt Ideal) ℓ) : Prop :=
  ∀ c : Dev Cert.StateIdeal.nD,
    (Cert.Pre_lb_positive.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1))) = (fun _ => 1#1)

def Pre_StateReferenceIdeal (m : (ℓ : Loc Cert.StateReferenceIdeal.nD Cert.StateReferenceIdeal.τ Cert.StateReferenceIdeal.sig) → Buf (Elt Ideal) ℓ) : Prop :=
  True

def Pre_StateReferenceIdeal_lb_positive [hPre_lb_positive : Cert.Pre_lb_positive.Facts] (m : (ℓ : Loc Cert.StateReferenceIdeal.nD Cert.StateReferenceIdeal.τ Cert.StateReferenceIdeal.sig) → Buf (Elt Ideal) ℓ) : Prop :=
  ∀ c : Dev Cert.StateReferenceIdeal.nD,
    (Cert.Pre_lb_positive.fn (F := Ideal) (m ((c.tc : Thread Cert.StateReferenceIdeal.nD Cert.StateReferenceIdeal.τ).loc Cert.StateReferenceIdeal.main_arg0)) (m ((c.tc : Thread Cert.StateReferenceIdeal.nD Cert.StateReferenceIdeal.τ).loc Cert.StateReferenceIdeal.main_arg1))) = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackIdeal_lb_positive [hPre_lb_positive : Cert.Pre_lb_positive.Facts] (m : (ℓ : Loc Cert.BackIdeal.nD Cert.BackIdeal.τ Cert.BackIdeal.sig) → Buf (Elt Ideal) ℓ) : Prop :=
  ∀ c : Dev Cert.BackIdeal.nD,
    (Cert.Pre_lb_positive.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))) = (fun _ => 1#1)

def Pre_BackReferenceIdeal (m : (ℓ : Loc Cert.BackReferenceIdeal.nD Cert.BackReferenceIdeal.τ Cert.BackReferenceIdeal.sig) → Buf (Elt Ideal) ℓ) : Prop :=
  True

def Pre_BackReferenceIdeal_lb_positive [hPre_lb_positive : Cert.Pre_lb_positive.Facts] (m : (ℓ : Loc Cert.BackReferenceIdeal.nD Cert.BackReferenceIdeal.τ Cert.BackReferenceIdeal.sig) → Buf (Elt Ideal) ℓ) : Prop :=
  ∀ c : Dev Cert.BackReferenceIdeal.nD,
    (Cert.Pre_lb_positive.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_lb_range [hKernelIdeal : Cert.KernelIdeal.Facts] [hPre_lb_range : Cert.Pre_lb_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lb_range [hReferenceIdeal : Cert.ReferenceIdeal.Facts] [hPre_lb_range : Cert.Pre_lb_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_Colproj [hColproj : Cert.Colproj.Facts] : Prop :=
  ∀ (m : (ℓ : Loc Cert.Colproj.nD Cert.Colproj.τ Cert.Colproj.sig) → Buf (Elt Bits) ℓ) (g : Dev Cert.Colproj.nD → PrngReg), Pre_Colproj m →
    θ_run (Cert.Colproj.defs (F := Bits)) (onTc (τ := Cert.Colproj.τ) (Cert.Colproj.main (F := Bits))) ⟨m, fun _ => 0, g⟩ (fun r => (∀ c : Dev Cert.Colproj.nD,
      r.2.mem ((c.tc : Thread Cert.Colproj.nD Cert.Colproj.τ).loc Cert.Colproj.main_arg0) = m ((c.tc : Thread Cert.Colproj.nD Cert.Colproj.τ).loc Cert.Colproj.main_arg0)
      ∧ r.2.mem ((c.tc : Thread Cert.Colproj.nD Cert.Colproj.τ).loc Cert.Colproj.main_arg1) = m ((c.tc : Thread Cert.Colproj.nD Cert.Colproj.τ).loc Cert.Colproj.main_arg1)
      ∧ r.2.mem ((c.tc : Thread Cert.Colproj.nD Cert.Colproj.τ).loc Cert.Colproj.main_arg2) = m ((c.tc : Thread Cert.Colproj.nD Cert.Colproj.τ).loc Cert.Colproj.main_arg2)
      ∧ r.2.mem ((c.tc : Thread Cert.Colproj.nD Cert.Colproj.τ).loc Cert.Colproj.main_arg3) = m ((c.tc : Thread Cert.Colproj.nD Cert.Colproj.τ).loc Cert.Colproj.main_arg3)
      ∧ r.2.mem ((c.tc : Thread Cert.Colproj.nD Cert.Colproj.τ).loc Cert.Colproj.main_arg4) = m ((c.tc : Thread Cert.Colproj.nD Cert.Colproj.τ).loc Cert.Colproj.main_arg4))
      ∧ r.2.sem = fun _ => 0)

def quiescent_ColprojIdeal [hColprojIdeal : Cert.ColprojIdeal.Facts] : Prop :=
  ∀ (m : (ℓ : Loc Cert.ColprojIdeal.nD Cert.ColprojIdeal.τ Cert.ColprojIdeal.sig) → Buf (Elt Ideal) ℓ) (g : Dev Cert.ColprojIdeal.nD → PrngReg), Pre_ColprojIdeal m →
    θ_run (Cert.ColprojIdeal.defs (F := Ideal)) (onTc (τ := Cert.ColprojIdeal.τ) (Cert.ColprojIdeal.main (F := Ideal))) ⟨m, fun _ => 0, g⟩ (fun r => (∀ c : Dev Cert.ColprojIdeal.nD,
      r.2.mem ((c.tc : Thread Cert.ColprojIdeal.nD Cert.ColprojIdeal.τ).loc Cert.ColprojIdeal.main_arg0) = m ((c.tc : Thread Cert.ColprojIdeal.nD Cert.ColprojIdeal.τ).loc Cert.ColprojIdeal.main_arg0)
      ∧ r.2.mem ((c.tc : Thread Cert.ColprojIdeal.nD Cert.ColprojIdeal.τ).loc Cert.ColprojIdeal.main_arg1) = m ((c.tc : Thread Cert.ColprojIdeal.nD Cert.ColprojIdeal.τ).loc Cert.ColprojIdeal.main_arg1)
      ∧ r.2.mem ((c.tc : Thread Cert.ColprojIdeal.nD Cert.ColprojIdeal.τ).loc Cert.ColprojIdeal.main_arg2) = m ((c.tc : Thread Cert.ColprojIdeal.nD Cert.ColprojIdeal.τ).loc Cert.ColprojIdeal.main_arg2)
      ∧ r.2.mem ((c.tc : Thread Cert.ColprojIdeal.nD Cert.ColprojIdeal.τ).loc Cert.ColprojIdeal.main_arg3) = m ((c.tc : Thread Cert.ColprojIdeal.nD Cert.ColprojIdeal.τ).loc Cert.ColprojIdeal.main_arg3)
      ∧ r.2.mem ((c.tc : Thread Cert.ColprojIdeal.nD Cert.ColprojIdeal.τ).loc Cert.ColprojIdeal.main_arg4) = m ((c.tc : Thread Cert.ColprojIdeal.nD Cert.ColprojIdeal.τ).loc Cert.ColprojIdeal.main_arg4))
      ∧ r.2.sem = fun _ => 0)

def quiescent_ColprojReferenceIdeal [hColprojReferenceIdeal : Cert.ColprojReferenceIdeal.Facts] : Prop :=
  ∀ (m : (ℓ : Loc Cert.ColprojReferenceIdeal.nD Cert.ColprojReferenceIdeal.τ Cert.ColprojReferenceIdeal.sig) → Buf (Elt Ideal) ℓ) (g : Dev Cert.ColprojReferenceIdeal.nD → PrngReg), Pre_ColprojReferenceIdeal m →
    θ_run (Cert.ColprojReferenceIdeal.defs (F := Ideal)) (onTc (τ := Cert.ColprojReferenceIdeal.τ) (Cert.ColprojReferenceIdeal.main (F := Ideal))) ⟨m, fun _ => 0, g⟩ (fun r => (∀ c : Dev Cert.ColprojReferenceIdeal.nD,
      r.2.mem ((c.tc : Thread Cert.ColprojReferenceIdeal.nD Cert.ColprojReferenceIdeal.τ).loc Cert.ColprojReferenceIdeal.main_arg0) = m ((c.tc : Thread Cert.ColprojReferenceIdeal.nD Cert.ColprojReferenceIdeal.τ).loc Cert.ColprojReferenceIdeal.main_arg0)
      ∧ r.2.mem ((c.tc : Thread Cert.ColprojReferenceIdeal.nD Cert.ColprojReferenceIdeal.τ).loc Cert.ColprojReferenceIdeal.main_arg1) = m ((c.tc : Thread Cert.ColprojReferenceIdeal.nD Cert.ColprojReferenceIdeal.τ).loc Cert.ColprojReferenceIdeal.main_arg1)
      ∧ r.2.mem ((c.tc : Thread Cert.ColprojReferenceIdeal.nD Cert.ColprojReferenceIdeal.τ).loc Cert.ColprojReferenceIdeal.main_arg2) = m ((c.tc : Thread Cert.ColprojReferenceIdeal.nD Cert.ColprojReferenceIdeal.τ).loc Cert.ColprojReferenceIdeal.main_arg2)
      ∧ r.2.mem ((c.tc : Thread Cert.ColprojReferenceIdeal.nD Cert.ColprojReferenceIdeal.τ).loc Cert.ColprojReferenceIdeal.main_arg3) = m ((c.tc : Thread Cert.ColprojReferenceIdeal.nD Cert.ColprojReferenceIdeal.τ).loc Cert.ColprojReferenceIdeal.main_arg3)
      ∧ r.2.mem ((c.tc : Thread Cert.ColprojReferenceIdeal.nD Cert.ColprojReferenceIdeal.τ).loc Cert.ColprojReferenceIdeal.main_arg4) = m ((c.tc : Thread Cert.ColprojReferenceIdeal.nD Cert.ColprojReferenceIdeal.τ).loc Cert.ColprojReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_y_b_finite [hMergeIdeal : Cert.MergeIdeal.Facts] [hPre_y_b_finite : Cert.Pre_y_b_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_y_b_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MergeReferenceIdeal_pre_y_b_finite [hMergeReferenceIdeal : Cert.MergeReferenceIdeal.Facts] [hPre_y_b_finite : Cert.Pre_y_b_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_y_b_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Ctxrow [hCtxrow : Cert.Ctxrow.Facts] : Prop :=
  ∀ (m : (ℓ : Loc Cert.Ctxrow.nD Cert.Ctxrow.τ Cert.Ctxrow.sig) → Buf (Elt Bits) ℓ) (g : Dev Cert.Ctxrow.nD → PrngReg), Pre_Ctxrow m →
    θ_run (Cert.Ctxrow.defs (F := Bits)) (onTc (τ := Cert.Ctxrow.τ) (Cert.Ctxrow.main (F := Bits))) ⟨m, fun _ => 0, g⟩ (fun r => (∀ c : Dev Cert.Ctxrow.nD,
      r.2.mem ((c.tc : Thread Cert.Ctxrow.nD Cert.Ctxrow.τ).loc Cert.Ctxrow.main_arg0) = m ((c.tc : Thread Cert.Ctxrow.nD Cert.Ctxrow.τ).loc Cert.Ctxrow.main_arg0)
      ∧ r.2.mem ((c.tc : Thread Cert.Ctxrow.nD Cert.Ctxrow.τ).loc Cert.Ctxrow.main_arg1) = m ((c.tc : Thread Cert.Ctxrow.nD Cert.Ctxrow.τ).loc Cert.Ctxrow.main_arg1)
      ∧ r.2.mem ((c.tc : Thread Cert.Ctxrow.nD Cert.Ctxrow.τ).loc Cert.Ctxrow.main_arg2) = m ((c.tc : Thread Cert.Ctxrow.nD Cert.Ctxrow.τ).loc Cert.Ctxrow.main_arg2)
      ∧ r.2.mem ((c.tc : Thread Cert.Ctxrow.nD Cert.Ctxrow.τ).loc Cert.Ctxrow.main_arg3) = m ((c.tc : Thread Cert.Ctxrow.nD Cert.Ctxrow.τ).loc Cert.Ctxrow.main_arg3))
      ∧ r.2.sem = fun _ => 0)

def quiescent_CtxrowIdeal [hCtxrowIdeal : Cert.CtxrowIdeal.Facts] : Prop :=
  ∀ (m : (ℓ : Loc Cert.CtxrowIdeal.nD Cert.CtxrowIdeal.τ Cert.CtxrowIdeal.sig) → Buf (Elt Ideal) ℓ) (g : Dev Cert.CtxrowIdeal.nD → PrngReg), Pre_CtxrowIdeal m →
    θ_run (Cert.CtxrowIdeal.defs (F := Ideal)) (onTc (τ := Cert.CtxrowIdeal.τ) (Cert.CtxrowIdeal.main (F := Ideal))) ⟨m, fun _ => 0, g⟩ (fun r => (∀ c : Dev Cert.CtxrowIdeal.nD,
      r.2.mem ((c.tc : Thread Cert.CtxrowIdeal.nD Cert.CtxrowIdeal.τ).loc Cert.CtxrowIdeal.main_arg0) = m ((c.tc : Thread Cert.CtxrowIdeal.nD Cert.CtxrowIdeal.τ).loc Cert.CtxrowIdeal.main_arg0)
      ∧ r.2.mem ((c.tc : Thread Cert.CtxrowIdeal.nD Cert.CtxrowIdeal.τ).loc Cert.CtxrowIdeal.main_arg1) = m ((c.tc : Thread Cert.CtxrowIdeal.nD Cert.CtxrowIdeal.τ).loc Cert.CtxrowIdeal.main_arg1)
      ∧ r.2.mem ((c.tc : Thread Cert.CtxrowIdeal.nD Cert.CtxrowIdeal.τ).loc Cert.CtxrowIdeal.main_arg2) = m ((c.tc : Thread Cert.CtxrowIdeal.nD Cert.CtxrowIdeal.τ).loc Cert.CtxrowIdeal.main_arg2)
      ∧ r.2.mem ((c.tc : Thread Cert.CtxrowIdeal.nD Cert.CtxrowIdeal.τ).loc Cert.CtxrowIdeal.main_arg3) = m ((c.tc : Thread Cert.CtxrowIdeal.nD Cert.CtxrowIdeal.τ).loc Cert.CtxrowIdeal.main_arg3))
      ∧ r.2.sem = fun _ => 0)

def quiescent_CtxrowReferenceIdeal [hCtxrowReferenceIdeal : Cert.CtxrowReferenceIdeal.Facts] : Prop :=
  ∀ (m : (ℓ : Loc Cert.CtxrowReferenceIdeal.nD Cert.CtxrowReferenceIdeal.τ Cert.CtxrowReferenceIdeal.sig) → Buf (Elt Ideal) ℓ) (g : Dev Cert.CtxrowReferenceIdeal.nD → PrngReg), Pre_CtxrowReferenceIdeal m →
    θ_run (Cert.CtxrowReferenceIdeal.defs (F := Ideal)) (onTc (τ := Cert.CtxrowReferenceIdeal.τ) (Cert.CtxrowReferenceIdeal.main (F := Ideal))) ⟨m, fun _ => 0, g⟩ (fun r => (∀ c : Dev Cert.CtxrowReferenceIdeal.nD,
      r.2.mem ((c.tc : Thread Cert.CtxrowReferenceIdeal.nD Cert.CtxrowReferenceIdeal.τ).loc Cert.CtxrowReferenceIdeal.main_arg0) = m ((c.tc : Thread Cert.CtxrowReferenceIdeal.nD Cert.CtxrowReferenceIdeal.τ).loc Cert.CtxrowReferenceIdeal.main_arg0)
      ∧ r.2.mem ((c.tc : Thread Cert.CtxrowReferenceIdeal.nD Cert.CtxrowReferenceIdeal.τ).loc Cert.CtxrowReferenceIdeal.main_arg1) = m ((c.tc : Thread Cert.CtxrowReferenceIdeal.nD Cert.CtxrowReferenceIdeal.τ).loc Cert.CtxrowReferenceIdeal.main_arg1)
      ∧ r.2.mem ((c.tc : Thread Cert.CtxrowReferenceIdeal.nD Cert.CtxrowReferenceIdeal.τ).loc Cert.CtxrowReferenceIdeal.main_arg2) = m ((c.tc : Thread Cert.CtxrowReferenceIdeal.nD Cert.CtxrowReferenceIdeal.τ).loc Cert.CtxrowReferenceIdeal.main_arg2)
      ∧ r.2.mem ((c.tc : Thread Cert.CtxrowReferenceIdeal.nD Cert.CtxrowReferenceIdeal.τ).loc Cert.CtxrowReferenceIdeal.main_arg3) = m ((c.tc : Thread Cert.CtxrowReferenceIdeal.nD Cert.CtxrowReferenceIdeal.τ).loc Cert.CtxrowReferenceIdeal.main_arg3))
      ∧ r.2.sem = fun _ => 0)

def quiescent_Ctxcol [hCtxcol : Cert.Ctxcol.Facts] : Prop :=
  ∀ (m : (ℓ : Loc Cert.Ctxcol.nD Cert.Ctxcol.τ Cert.Ctxcol.sig) → Buf (Elt Bits) ℓ) (g : Dev Cert.Ctxcol.nD → PrngReg), Pre_Ctxcol m →
    θ_run (Cert.Ctxcol.defs (F := Bits)) (onTc (τ := Cert.Ctxcol.τ) (Cert.Ctxcol.main (F := Bits))) ⟨m, fun _ => 0, g⟩ (fun r => (∀ c : Dev Cert.Ctxcol.nD,
      r.2.mem ((c.tc : Thread Cert.Ctxcol.nD Cert.Ctxcol.τ).loc Cert.Ctxcol.main_arg0) = m ((c.tc : Thread Cert.Ctxcol.nD Cert.Ctxcol.τ).loc Cert.Ctxcol.main_arg0)
      ∧ r.2.mem ((c.tc : Thread Cert.Ctxcol.nD Cert.Ctxcol.τ).loc Cert.Ctxcol.main_arg1) = m ((c.tc : Thread Cert.Ctxcol.nD Cert.Ctxcol.τ).loc Cert.Ctxcol.main_arg1)
      ∧ r.2.mem ((c.tc : Thread Cert.Ctxcol.nD Cert.Ctxcol.τ).loc Cert.Ctxcol.main_arg2) = m ((c.tc : Thread Cert.Ctxcol.nD Cert.Ctxcol.τ).loc Cert.Ctxcol.main_arg2)
      ∧ r.2.mem ((c.tc : Thread Cert.Ctxcol.nD Cert.Ctxcol.τ).loc Cert.Ctxcol.main_arg3) = m ((c.tc : Thread Cert.Ctxcol.nD Cert.Ctxcol.τ).loc Cert.Ctxcol.main_arg3)
      ∧ r.2.mem ((c.tc : Thread Cert.Ctxcol.nD Cert.Ctxcol.τ).loc Cert.Ctxcol.main_arg4) = m ((c.tc : Thread Cert.Ctxcol.nD Cert.Ctxcol.τ).loc Cert.Ctxcol.main_arg4))
      ∧ r.2.sem = fun _ => 0)

def quiescent_CtxcolIdeal [hCtxcolIdeal : Cert.CtxcolIdeal.Facts] : Prop :=
  ∀ (m : (ℓ : Loc Cert.CtxcolIdeal.nD Cert.CtxcolIdeal.τ Cert.CtxcolIdeal.sig) → Buf (Elt Ideal) ℓ) (g : Dev Cert.CtxcolIdeal.nD → PrngReg), Pre_CtxcolIdeal m →
    θ_run (Cert.CtxcolIdeal.defs (F := Ideal)) (onTc (τ := Cert.CtxcolIdeal.τ) (Cert.CtxcolIdeal.main (F := Ideal))) ⟨m, fun _ => 0, g⟩ (fun r => (∀ c : Dev Cert.CtxcolIdeal.nD,
      r.2.mem ((c.tc : Thread Cert.CtxcolIdeal.nD Cert.CtxcolIdeal.τ).loc Cert.CtxcolIdeal.main_arg0) = m ((c.tc : Thread Cert.CtxcolIdeal.nD Cert.CtxcolIdeal.τ).loc Cert.CtxcolIdeal.main_arg0)
      ∧ r.2.mem ((c.tc : Thread Cert.CtxcolIdeal.nD Cert.CtxcolIdeal.τ).loc Cert.CtxcolIdeal.main_arg1) = m ((c.tc : Thread Cert.CtxcolIdeal.nD Cert.CtxcolIdeal.τ).loc Cert.CtxcolIdeal.main_arg1)
      ∧ r.2.mem ((c.tc : Thread Cert.CtxcolIdeal.nD Cert.CtxcolIdeal.τ).loc Cert.CtxcolIdeal.main_arg2) = m ((c.tc : Thread Cert.CtxcolIdeal.nD Cert.CtxcolIdeal.τ).loc Cert.CtxcolIdeal.main_arg2)
      ∧ r.2.mem ((c.tc : Thread Cert.CtxcolIdeal.nD Cert.CtxcolIdeal.τ).loc Cert.CtxcolIdeal.main_arg3) = m ((c.tc : Thread Cert.CtxcolIdeal.nD Cert.CtxcolIdeal.τ).loc Cert.CtxcolIdeal.main_arg3)
      ∧ r.2.mem ((c.tc : Thread Cert.CtxcolIdeal.nD Cert.CtxcolIdeal.τ).loc Cert.CtxcolIdeal.main_arg4) = m ((c.tc : Thread Cert.CtxcolIdeal.nD Cert.CtxcolIdeal.τ).loc Cert.CtxcolIdeal.main_arg4))
      ∧ r.2.sem = fun _ => 0)

def quiescent_CtxcolReferenceIdeal [hCtxcolReferenceIdeal : Cert.CtxcolReferenceIdeal.Facts] : Prop :=
  ∀ (m : (ℓ : Loc Cert.CtxcolReferenceIdeal.nD Cert.CtxcolReferenceIdeal.τ Cert.CtxcolReferenceIdeal.sig) → Buf (Elt Ideal) ℓ) (g : Dev Cert.CtxcolReferenceIdeal.nD → PrngReg), Pre_CtxcolReferenceIdeal m →
    θ_run (Cert.CtxcolReferenceIdeal.defs (F := Ideal)) (onTc (τ := Cert.CtxcolReferenceIdeal.τ) (Cert.CtxcolReferenceIdeal.main (F := Ideal))) ⟨m, fun _ => 0, g⟩ (fun r => (∀ c : Dev Cert.CtxcolReferenceIdeal.nD,
      r.2.mem ((c.tc : Thread Cert.CtxcolReferenceIdeal.nD Cert.CtxcolReferenceIdeal.τ).loc Cert.CtxcolReferenceIdeal.main_arg0) = m ((c.tc : Thread Cert.CtxcolReferenceIdeal.nD Cert.CtxcolReferenceIdeal.τ).loc Cert.CtxcolReferenceIdeal.main_arg0)
      ∧ r.2.mem ((c.tc : Thread Cert.CtxcolReferenceIdeal.nD Cert.CtxcolReferenceIdeal.τ).loc Cert.CtxcolReferenceIdeal.main_arg1) = m ((c.tc : Thread Cert.CtxcolReferenceIdeal.nD Cert.CtxcolReferenceIdeal.τ).loc Cert.CtxcolReferenceIdeal.main_arg1)
      ∧ r.2.mem ((c.tc : Thread Cert.CtxcolReferenceIdeal.nD Cert.CtxcolReferenceIdeal.τ).loc Cert.CtxcolReferenceIdeal.main_arg2) = m ((c.tc : Thread Cert.CtxcolReferenceIdeal.nD Cert.CtxcolReferenceIdeal.τ).loc Cert.CtxcolReferenceIdeal.main_arg2)
      ∧ r.2.mem ((c.tc : Thread Cert.CtxcolReferenceIdeal.nD Cert.CtxcolReferenceIdeal.τ).loc Cert.CtxcolReferenceIdeal.main_arg3) = m ((c.tc : Thread Cert.CtxcolReferenceIdeal.nD Cert.CtxcolReferenceIdeal.τ).loc Cert.CtxcolReferenceIdeal.main_arg3)
      ∧ r.2.mem ((c.tc : Thread Cert.CtxcolReferenceIdeal.nD Cert.CtxcolReferenceIdeal.τ).loc Cert.CtxcolReferenceIdeal.main_arg4) = m ((c.tc : Thread Cert.CtxcolReferenceIdeal.nD Cert.CtxcolReferenceIdeal.τ).loc Cert.CtxcolReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ r.2.sem = fun _ => 0)

def quiescent_StateIdeal_pre_lb_positive [hStateIdeal : Cert.StateIdeal.Facts] [hPre_lb_positive : Cert.Pre_lb_positive.Facts] : Prop :=
  ∀ (m : (ℓ : Loc Cert.StateIdeal.nD Cert.StateIdeal.τ Cert.StateIdeal.sig) → Buf (Elt Ideal) ℓ) (g : Dev Cert.StateIdeal.nD → PrngReg), Pre_StateIdeal_lb_positive m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ r.2.sem = fun _ => 0)

def quiescent_StateReferenceIdeal [hStateReferenceIdeal : Cert.StateReferenceIdeal.Facts] : Prop :=
  ∀ (m : (ℓ : Loc Cert.StateReferenceIdeal.nD Cert.StateReferenceIdeal.τ Cert.StateReferenceIdeal.sig) → Buf (Elt Ideal) ℓ) (g : Dev Cert.StateReferenceIdeal.nD → PrngReg), Pre_StateReferenceIdeal m →
    θ_run (Cert.StateReferenceIdeal.defs (F := Ideal)) (onTc (τ := Cert.StateReferenceIdeal.τ) (Cert.StateReferenceIdeal.main (F := Ideal))) ⟨m, fun _ => 0, g⟩ (fun r => (∀ c : Dev Cert.StateReferenceIdeal.nD,
      r.2.mem ((c.tc : Thread Cert.StateReferenceIdeal.nD Cert.StateReferenceIdeal.τ).loc Cert.StateReferenceIdeal.main_arg0) = m ((c.tc : Thread Cert.StateReferenceIdeal.nD Cert.StateReferenceIdeal.τ).loc Cert.StateReferenceIdeal.main_arg0)
      ∧ r.2.mem ((c.tc : Thread Cert.StateReferenceIdeal.nD Cert.StateReferenceIdeal.τ).loc Cert.StateReferenceIdeal.main_arg1) = m ((c.tc : Thread Cert.StateReferenceIdeal.nD Cert.StateReferenceIdeal.τ).loc Cert.StateReferenceIdeal.main_arg1))
      ∧ r.2.sem = fun _ => 0)

def quiescent_StateReferenceIdeal_pre_lb_positive [hStateReferenceIdeal : Cert.StateReferenceIdeal.Facts] [hPre_lb_positive : Cert.Pre_lb_positive.Facts] : Prop :=
  ∀ (m : (ℓ : Loc Cert.StateReferenceIdeal.nD Cert.StateReferenceIdeal.τ Cert.StateReferenceIdeal.sig) → Buf (Elt Ideal) ℓ) (g : Dev Cert.StateReferenceIdeal.nD → PrngReg), Pre_StateReferenceIdeal_lb_positive m →
    θ_run (Cert.StateReferenceIdeal.defs (F := Ideal)) (onTc (τ := Cert.StateReferenceIdeal.τ) (Cert.StateReferenceIdeal.main (F := Ideal))) ⟨m, fun _ => 0, g⟩ (fun r => (∀ c : Dev Cert.StateReferenceIdeal.nD,
      r.2.mem ((c.tc : Thread Cert.StateReferenceIdeal.nD Cert.StateReferenceIdeal.τ).loc Cert.StateReferenceIdeal.main_arg0) = m ((c.tc : Thread Cert.StateReferenceIdeal.nD Cert.StateReferenceIdeal.τ).loc Cert.StateReferenceIdeal.main_arg0)
      ∧ r.2.mem ((c.tc : Thread Cert.StateReferenceIdeal.nD Cert.StateReferenceIdeal.τ).loc Cert.StateReferenceIdeal.main_arg1) = m ((c.tc : Thread Cert.StateReferenceIdeal.nD Cert.StateReferenceIdeal.τ).loc Cert.StateReferenceIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackIdeal_pre_lb_positive [hBackIdeal : Cert.BackIdeal.Facts] [hPre_lb_positive : Cert.Pre_lb_positive.Facts] : Prop :=
  ∀ (m : (ℓ : Loc Cert.BackIdeal.nD Cert.BackIdeal.τ Cert.BackIdeal.sig) → Buf (Elt Ideal) ℓ) (g : Dev Cert.BackIdeal.nD → PrngReg), Pre_BackIdeal_lb_positive m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_BackReferenceIdeal_pre_lb_positive [hBackReferenceIdeal : Cert.BackReferenceIdeal.Facts] [hPre_lb_positive : Cert.Pre_lb_positive.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal_lb_positive m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def preserves_Kernel_KernelIdeal : Prop :=
  True

def algebraic_KernelIdeal_ReferenceIdeal_pre_lb_range [hKernelIdeal : Cert.KernelIdeal.Facts] [hReferenceIdeal : Cert.ReferenceIdeal.Facts] [hPre_lb_range : Cert.Pre_lb_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v28) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_Colproj_ColprojIdeal : Prop :=
  True

def algebraic_ColprojIdeal_ColprojReferenceIdeal [hColprojIdeal : Cert.ColprojIdeal.Facts] [hColprojReferenceIdeal : Cert.ColprojReferenceIdeal.Facts] : Prop :=
  ∀ (m : (ℓ : Loc Cert.ColprojIdeal.nD Cert.ColprojIdeal.τ Cert.ColprojIdeal.sig) → Buf (Elt Ideal) ℓ) (g : Dev Cert.ColprojIdeal.nD → PrngReg)
    (m' : (ℓ : Loc Cert.ColprojReferenceIdeal.nD Cert.ColprojReferenceIdeal.τ Cert.ColprojReferenceIdeal.sig) → Buf (Elt Ideal) ℓ) (g' : Dev Cert.ColprojReferenceIdeal.nD → PrngReg), Pre_ColprojIdeal m →
    (∀ c : Dev Cert.ColprojIdeal.nD,
      m' ((c.tc : Thread Cert.ColprojReferenceIdeal.nD Cert.ColprojReferenceIdeal.τ).loc Cert.ColprojReferenceIdeal.main_arg0) = m ((c.tc : Thread Cert.ColprojIdeal.nD Cert.ColprojIdeal.τ).loc Cert.ColprojIdeal.main_arg0)
      ∧ m' ((c.tc : Thread Cert.ColprojReferenceIdeal.nD Cert.ColprojReferenceIdeal.τ).loc Cert.ColprojReferenceIdeal.main_arg1) = m ((c.tc : Thread Cert.ColprojIdeal.nD Cert.ColprojIdeal.τ).loc Cert.ColprojIdeal.main_arg1)
      ∧ m' ((c.tc : Thread Cert.ColprojReferenceIdeal.nD Cert.ColprojReferenceIdeal.τ).loc Cert.ColprojReferenceIdeal.main_arg2) = m ((c.tc : Thread Cert.ColprojIdeal.nD Cert.ColprojIdeal.τ).loc Cert.ColprojIdeal.main_arg2)
      ∧ m' ((c.tc : Thread Cert.ColprojReferenceIdeal.nD Cert.ColprojReferenceIdeal.τ).loc Cert.ColprojReferenceIdeal.main_arg3) = m ((c.tc : Thread Cert.ColprojIdeal.nD Cert.ColprojIdeal.τ).loc Cert.ColprojIdeal.main_arg3)
      ∧ m' ((c.tc : Thread Cert.ColprojReferenceIdeal.nD Cert.ColprojReferenceIdeal.τ).loc Cert.ColprojReferenceIdeal.main_arg4) = m ((c.tc : Thread Cert.ColprojIdeal.nD Cert.ColprojIdeal.τ).loc Cert.ColprojIdeal.main_arg4)) →
    ∃ (v0 : (c : Dev Cert.ColprojIdeal.nD) → Buf (Elt Ideal) ((c.tc : Thread Cert.ColprojIdeal.nD Cert.ColprojIdeal.τ).loc Cert.ColprojIdeal.main_v11_0)) (v1 : (c : Dev Cert.ColprojIdeal.nD) → Buf (Elt Ideal) ((c.tc : Thread Cert.ColprojIdeal.nD Cert.ColprojIdeal.τ).loc Cert.ColprojIdeal.main_v11_1)),
      θ_run (Cert.ColprojIdeal.defs (F := Ideal)) (onTc (τ := Cert.ColprojIdeal.τ) (Cert.ColprojIdeal.main (F := Ideal))) ⟨m, fun _ => 0, g⟩ (fun r => ∀ c : Dev Cert.ColprojIdeal.nD,
          r.2.mem ((c.tc : Thread Cert.ColprojIdeal.nD Cert.ColprojIdeal.τ).loc Cert.ColprojIdeal.main_v11_0) = v0 c
          ∧ r.2.mem ((c.tc : Thread Cert.ColprojIdeal.nD Cert.ColprojIdeal.τ).loc Cert.ColprojIdeal.main_v11_1) = v1 c
          ∧ r.2.mem ((c.tc : Thread Cert.ColprojIdeal.nD Cert.ColprojIdeal.τ).loc Cert.ColprojIdeal.main_arg0) = m ((c.tc : Thread Cert.ColprojIdeal.nD Cert.ColprojIdeal.τ).loc Cert.ColprojIdeal.main_arg0)
          ∧ r.2.mem ((c.tc : Thread Cert.ColprojIdeal.nD Cert.ColprojIdeal.τ).loc Cert.ColprojIdeal.main_arg1) = m ((c.tc : Thread Cert.ColprojIdeal.nD Cert.ColprojIdeal.τ).loc Cert.ColprojIdeal.main_arg1)
          ∧ r.2.mem ((c.tc : Thread Cert.ColprojIdeal.nD Cert.ColprojIdeal.τ).loc Cert.ColprojIdeal.main_arg2) = m ((c.tc : Thread Cert.ColprojIdeal.nD Cert.ColprojIdeal.τ).loc Cert.ColprojIdeal.main_arg2)
          ∧ r.2.mem ((c.tc : Thread Cert.ColprojIdeal.nD Cert.ColprojIdeal.τ).loc Cert.ColprojIdeal.main_arg3) = m ((c.tc : Thread Cert.ColprojIdeal.nD Cert.ColprojIdeal.τ).loc Cert.ColprojIdeal.main_arg3)
          ∧ r.2.mem ((c.tc : Thread Cert.ColprojIdeal.nD Cert.ColprojIdeal.τ).loc Cert.ColprojIdeal.main_arg4) = m ((c.tc : Thread Cert.ColprojIdeal.nD Cert.ColprojIdeal.τ).loc Cert.ColprojIdeal.main_arg4))
      ∧ θ_run (Cert.ColprojReferenceIdeal.defs (F := Ideal)) (onTc (τ := Cert.ColprojReferenceIdeal.τ) (Cert.ColprojReferenceIdeal.main (F := Ideal))) ⟨m', fun _ => 0, g'⟩ (fun r => ∀ c : Dev Cert.ColprojReferenceIdeal.nD,
          r.2.mem ((c.tc : Thread Cert.ColprojReferenceIdeal.nD Cert.ColprojReferenceIdeal.τ).loc Cert.ColprojReferenceIdeal.main_v35) = v0 c
          ∧ r.2.mem ((c.tc : Thread Cert.ColprojReferenceIdeal.nD Cert.ColprojReferenceIdeal.τ).loc Cert.ColprojReferenceIdeal.main_v36) = v1 c
          ∧ r.2.mem ((c.tc : Thread Cert.ColprojReferenceIdeal.nD Cert.ColprojReferenceIdeal.τ).loc Cert.ColprojReferenceIdeal.main_arg0) = m' ((c.tc : Thread Cert.ColprojReferenceIdeal.nD Cert.ColprojReferenceIdeal.τ).loc Cert.ColprojReferenceIdeal.main_arg0)
          ∧ r.2.mem ((c.tc : Thread Cert.ColprojReferenceIdeal.nD Cert.ColprojReferenceIdeal.τ).loc Cert.ColprojReferenceIdeal.main_arg1) = m' ((c.tc : Thread Cert.ColprojReferenceIdeal.nD Cert.ColprojReferenceIdeal.τ).loc Cert.ColprojReferenceIdeal.main_arg1)
          ∧ r.2.mem ((c.tc : Thread Cert.ColprojReferenceIdeal.nD Cert.ColprojReferenceIdeal.τ).loc Cert.ColprojReferenceIdeal.main_arg2) = m' ((c.tc : Thread Cert.ColprojReferenceIdeal.nD Cert.ColprojReferenceIdeal.τ).loc Cert.ColprojReferenceIdeal.main_arg2)
          ∧ r.2.mem ((c.tc : Thread Cert.ColprojReferenceIdeal.nD Cert.ColprojReferenceIdeal.τ).loc Cert.ColprojReferenceIdeal.main_arg3) = m' ((c.tc : Thread Cert.ColprojReferenceIdeal.nD Cert.ColprojReferenceIdeal.τ).loc Cert.ColprojReferenceIdeal.main_arg3)
          ∧ r.2.mem ((c.tc : Thread Cert.ColprojReferenceIdeal.nD Cert.ColprojReferenceIdeal.τ).loc Cert.ColprojReferenceIdeal.main_arg4) = m' ((c.tc : Thread Cert.ColprojReferenceIdeal.nD Cert.ColprojReferenceIdeal.τ).loc Cert.ColprojReferenceIdeal.main_arg4))

def preserves_Merge_MergeIdeal : Prop :=
  True

def algebraic_MergeIdeal_MergeReferenceIdeal_pre_y_b_finite [hMergeIdeal : Cert.MergeIdeal.Facts] [hMergeReferenceIdeal : Cert.MergeReferenceIdeal.Facts] [hPre_y_b_finite : Cert.Pre_y_b_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_y_b_finite m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v56) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Ctxrow_CtxrowIdeal : Prop :=
  True

def algebraic_CtxrowIdeal_CtxrowReferenceIdeal [hCtxrowIdeal : Cert.CtxrowIdeal.Facts] [hCtxrowReferenceIdeal : Cert.CtxrowReferenceIdeal.Facts] : Prop :=
  ∀ (m : (ℓ : Loc Cert.CtxrowIdeal.nD Cert.CtxrowIdeal.τ Cert.CtxrowIdeal.sig) → Buf (Elt Ideal) ℓ) (g : Dev Cert.CtxrowIdeal.nD → PrngReg)
    (m' : (ℓ : Loc Cert.CtxrowReferenceIdeal.nD Cert.CtxrowReferenceIdeal.τ Cert.CtxrowReferenceIdeal.sig) → Buf (Elt Ideal) ℓ) (g' : Dev Cert.CtxrowReferenceIdeal.nD → PrngReg), Pre_CtxrowIdeal m →
    (∀ c : Dev Cert.CtxrowIdeal.nD,
      m' ((c.tc : Thread Cert.CtxrowReferenceIdeal.nD Cert.CtxrowReferenceIdeal.τ).loc Cert.CtxrowReferenceIdeal.main_arg0) = m ((c.tc : Thread Cert.CtxrowIdeal.nD Cert.CtxrowIdeal.τ).loc Cert.CtxrowIdeal.main_arg0)
      ∧ m' ((c.tc : Thread Cert.CtxrowReferenceIdeal.nD Cert.CtxrowReferenceIdeal.τ).loc Cert.CtxrowReferenceIdeal.main_arg1) = m ((c.tc : Thread Cert.CtxrowIdeal.nD Cert.CtxrowIdeal.τ).loc Cert.CtxrowIdeal.main_arg1)
      ∧ m' ((c.tc : Thread Cert.CtxrowReferenceIdeal.nD Cert.CtxrowReferenceIdeal.τ).loc Cert.CtxrowReferenceIdeal.main_arg2) = m ((c.tc : Thread Cert.CtxrowIdeal.nD Cert.CtxrowIdeal.τ).loc Cert.CtxrowIdeal.main_arg2)
      ∧ m' ((c.tc : Thread Cert.CtxrowReferenceIdeal.nD Cert.CtxrowReferenceIdeal.τ).loc Cert.CtxrowReferenceIdeal.main_arg3) = m ((c.tc : Thread Cert.CtxrowIdeal.nD Cert.CtxrowIdeal.τ).loc Cert.CtxrowIdeal.main_arg3)) →
    ∃ (v0 : (c : Dev Cert.CtxrowIdeal.nD) → Buf (Elt Ideal) ((c.tc : Thread Cert.CtxrowIdeal.nD Cert.CtxrowIdeal.τ).loc Cert.CtxrowIdeal.main_v0)),
      θ_run (Cert.CtxrowIdeal.defs (F := Ideal)) (onTc (τ := Cert.CtxrowIdeal.τ) (Cert.CtxrowIdeal.main (F := Ideal))) ⟨m, fun _ => 0, g⟩ (fun r => ∀ c : Dev Cert.CtxrowIdeal.nD,
          r.2.mem ((c.tc : Thread Cert.CtxrowIdeal.nD Cert.CtxrowIdeal.τ).loc Cert.CtxrowIdeal.main_v0) = v0 c
          ∧ r.2.mem ((c.tc : Thread Cert.CtxrowIdeal.nD Cert.CtxrowIdeal.τ).loc Cert.CtxrowIdeal.main_arg0) = m ((c.tc : Thread Cert.CtxrowIdeal.nD Cert.CtxrowIdeal.τ).loc Cert.CtxrowIdeal.main_arg0)
          ∧ r.2.mem ((c.tc : Thread Cert.CtxrowIdeal.nD Cert.CtxrowIdeal.τ).loc Cert.CtxrowIdeal.main_arg1) = m ((c.tc : Thread Cert.CtxrowIdeal.nD Cert.CtxrowIdeal.τ).loc Cert.CtxrowIdeal.main_arg1)
          ∧ r.2.mem ((c.tc : Thread Cert.CtxrowIdeal.nD Cert.CtxrowIdeal.τ).loc Cert.CtxrowIdeal.main_arg2) = m ((c.tc : Thread Cert.CtxrowIdeal.nD Cert.CtxrowIdeal.τ).loc Cert.CtxrowIdeal.main_arg2)
          ∧ r.2.mem ((c.tc : Thread Cert.CtxrowIdeal.nD Cert.CtxrowIdeal.τ).loc Cert.CtxrowIdeal.main_arg3) = m ((c.tc : Thread Cert.CtxrowIdeal.nD Cert.CtxrowIdeal.τ).loc Cert.CtxrowIdeal.main_arg3))
      ∧ θ_run (Cert.CtxrowReferenceIdeal.defs (F := Ideal)) (onTc (τ := Cert.CtxrowReferenceIdeal.τ) (Cert.CtxrowReferenceIdeal.main (F := Ideal))) ⟨m', fun _ => 0, g'⟩ (fun r => ∀ c : Dev Cert.CtxrowReferenceIdeal.nD,
          r.2.mem ((c.tc : Thread Cert.CtxrowReferenceIdeal.nD Cert.CtxrowReferenceIdeal.τ).loc Cert.CtxrowReferenceIdeal.main_v28) = v0 c
          ∧ r.2.mem ((c.tc : Thread Cert.CtxrowReferenceIdeal.nD Cert.CtxrowReferenceIdeal.τ).loc Cert.CtxrowReferenceIdeal.main_arg0) = m' ((c.tc : Thread Cert.CtxrowReferenceIdeal.nD Cert.CtxrowReferenceIdeal.τ).loc Cert.CtxrowReferenceIdeal.main_arg0)
          ∧ r.2.mem ((c.tc : Thread Cert.CtxrowReferenceIdeal.nD Cert.CtxrowReferenceIdeal.τ).loc Cert.CtxrowReferenceIdeal.main_arg1) = m' ((c.tc : Thread Cert.CtxrowReferenceIdeal.nD Cert.CtxrowReferenceIdeal.τ).loc Cert.CtxrowReferenceIdeal.main_arg1)
          ∧ r.2.mem ((c.tc : Thread Cert.CtxrowReferenceIdeal.nD Cert.CtxrowReferenceIdeal.τ).loc Cert.CtxrowReferenceIdeal.main_arg2) = m' ((c.tc : Thread Cert.CtxrowReferenceIdeal.nD Cert.CtxrowReferenceIdeal.τ).loc Cert.CtxrowReferenceIdeal.main_arg2)
          ∧ r.2.mem ((c.tc : Thread Cert.CtxrowReferenceIdeal.nD Cert.CtxrowReferenceIdeal.τ).loc Cert.CtxrowReferenceIdeal.main_arg3) = m' ((c.tc : Thread Cert.CtxrowReferenceIdeal.nD Cert.CtxrowReferenceIdeal.τ).loc Cert.CtxrowReferenceIdeal.main_arg3))

def preserves_Ctxcol_CtxcolIdeal : Prop :=
  True

def algebraic_CtxcolIdeal_CtxcolReferenceIdeal [hCtxcolIdeal : Cert.CtxcolIdeal.Facts] [hCtxcolReferenceIdeal : Cert.CtxcolReferenceIdeal.Facts] : Prop :=
  ∀ (m : (ℓ : Loc Cert.CtxcolIdeal.nD Cert.CtxcolIdeal.τ Cert.CtxcolIdeal.sig) → Buf (Elt Ideal) ℓ) (g : Dev Cert.CtxcolIdeal.nD → PrngReg)
    (m' : (ℓ : Loc Cert.CtxcolReferenceIdeal.nD Cert.CtxcolReferenceIdeal.τ Cert.CtxcolReferenceIdeal.sig) → Buf (Elt Ideal) ℓ) (g' : Dev Cert.CtxcolReferenceIdeal.nD → PrngReg), Pre_CtxcolIdeal m →
    (∀ c : Dev Cert.CtxcolIdeal.nD,
      m' ((c.tc : Thread Cert.CtxcolReferenceIdeal.nD Cert.CtxcolReferenceIdeal.τ).loc Cert.CtxcolReferenceIdeal.main_arg0) = m ((c.tc : Thread Cert.CtxcolIdeal.nD Cert.CtxcolIdeal.τ).loc Cert.CtxcolIdeal.main_arg0)
      ∧ m' ((c.tc : Thread Cert.CtxcolReferenceIdeal.nD Cert.CtxcolReferenceIdeal.τ).loc Cert.CtxcolReferenceIdeal.main_arg1) = m ((c.tc : Thread Cert.CtxcolIdeal.nD Cert.CtxcolIdeal.τ).loc Cert.CtxcolIdeal.main_arg1)
      ∧ m' ((c.tc : Thread Cert.CtxcolReferenceIdeal.nD Cert.CtxcolReferenceIdeal.τ).loc Cert.CtxcolReferenceIdeal.main_arg2) = m ((c.tc : Thread Cert.CtxcolIdeal.nD Cert.CtxcolIdeal.τ).loc Cert.CtxcolIdeal.main_arg2)
      ∧ m' ((c.tc : Thread Cert.CtxcolReferenceIdeal.nD Cert.CtxcolReferenceIdeal.τ).loc Cert.CtxcolReferenceIdeal.main_arg3) = m ((c.tc : Thread Cert.CtxcolIdeal.nD Cert.CtxcolIdeal.τ).loc Cert.CtxcolIdeal.main_arg3)
      ∧ m' ((c.tc : Thread Cert.CtxcolReferenceIdeal.nD Cert.CtxcolReferenceIdeal.τ).loc Cert.CtxcolReferenceIdeal.main_arg4) = m ((c.tc : Thread Cert.CtxcolIdeal.nD Cert.CtxcolIdeal.τ).loc Cert.CtxcolIdeal.main_arg4)) →
    ∃ (v0 : (c : Dev Cert.CtxcolIdeal.nD) → Buf (Elt Ideal) ((c.tc : Thread Cert.CtxcolIdeal.nD Cert.CtxcolIdeal.τ).loc Cert.CtxcolIdeal.main_v0_0)) (v1 : (c : Dev Cert.CtxcolIdeal.nD) → Buf (Elt Ideal) ((c.tc : Thread Cert.CtxcolIdeal.nD Cert.CtxcolIdeal.τ).loc Cert.CtxcolIdeal.main_v0_1)),
      θ_run (Cert.CtxcolIdeal.defs (F := Ideal)) (onTc (τ := Cert.CtxcolIdeal.τ) (Cert.CtxcolIdeal.main (F := Ideal))) ⟨m, fun _ => 0, g⟩ (fun r => ∀ c : Dev Cert.CtxcolIdeal.nD,
          r.2.mem ((c.tc : Thread Cert.CtxcolIdeal.nD Cert.CtxcolIdeal.τ).loc Cert.CtxcolIdeal.main_v0_0) = v0 c
          ∧ r.2.mem ((c.tc : Thread Cert.CtxcolIdeal.nD Cert.CtxcolIdeal.τ).loc Cert.CtxcolIdeal.main_v0_1) = v1 c
          ∧ r.2.mem ((c.tc : Thread Cert.CtxcolIdeal.nD Cert.CtxcolIdeal.τ).loc Cert.CtxcolIdeal.main_arg0) = m ((c.tc : Thread Cert.CtxcolIdeal.nD Cert.CtxcolIdeal.τ).loc Cert.CtxcolIdeal.main_arg0)
          ∧ r.2.mem ((c.tc : Thread Cert.CtxcolIdeal.nD Cert.CtxcolIdeal.τ).loc Cert.CtxcolIdeal.main_arg1) = m ((c.tc : Thread Cert.CtxcolIdeal.nD Cert.CtxcolIdeal.τ).loc Cert.CtxcolIdeal.main_arg1)
          ∧ r.2.mem ((c.tc : Thread Cert.CtxcolIdeal.nD Cert.CtxcolIdeal.τ).loc Cert.CtxcolIdeal.main_arg2) = m ((c.tc : Thread Cert.CtxcolIdeal.nD Cert.CtxcolIdeal.τ).loc Cert.CtxcolIdeal.main_arg2)
          ∧ r.2.mem ((c.tc : Thread Cert.CtxcolIdeal.nD Cert.CtxcolIdeal.τ).loc Cert.CtxcolIdeal.main_arg3) = m ((c.tc : Thread Cert.CtxcolIdeal.nD Cert.CtxcolIdeal.τ).loc Cert.CtxcolIdeal.main_arg3)
          ∧ r.2.mem ((c.tc : Thread Cert.CtxcolIdeal.nD Cert.CtxcolIdeal.τ).loc Cert.CtxcolIdeal.main_arg4) = m ((c.tc : Thread Cert.CtxcolIdeal.nD Cert.CtxcolIdeal.τ).loc Cert.CtxcolIdeal.main_arg4))
      ∧ θ_run (Cert.CtxcolReferenceIdeal.defs (F := Ideal)) (onTc (τ := Cert.CtxcolReferenceIdeal.τ) (Cert.CtxcolReferenceIdeal.main (F := Ideal))) ⟨m', fun _ => 0, g'⟩ (fun r => ∀ c : Dev Cert.CtxcolReferenceIdeal.nD,
          r.2.mem ((c.tc : Thread Cert.CtxcolReferenceIdeal.nD Cert.CtxcolReferenceIdeal.τ).loc Cert.CtxcolReferenceIdeal.main_v29) = v0 c
          ∧ r.2.mem ((c.tc : Thread Cert.CtxcolReferenceIdeal.nD Cert.CtxcolReferenceIdeal.τ).loc Cert.CtxcolReferenceIdeal.main_v30) = v1 c
          ∧ r.2.mem ((c.tc : Thread Cert.CtxcolReferenceIdeal.nD Cert.CtxcolReferenceIdeal.τ).loc Cert.CtxcolReferenceIdeal.main_arg0) = m' ((c.tc : Thread Cert.CtxcolReferenceIdeal.nD Cert.CtxcolReferenceIdeal.τ).loc Cert.CtxcolReferenceIdeal.main_arg0)
          ∧ r.2.mem ((c.tc : Thread Cert.CtxcolReferenceIdeal.nD Cert.CtxcolReferenceIdeal.τ).loc Cert.CtxcolReferenceIdeal.main_arg1) = m' ((c.tc : Thread Cert.CtxcolReferenceIdeal.nD Cert.CtxcolReferenceIdeal.τ).loc Cert.CtxcolReferenceIdeal.main_arg1)
          ∧ r.2.mem ((c.tc : Thread Cert.CtxcolReferenceIdeal.nD Cert.CtxcolReferenceIdeal.τ).loc Cert.CtxcolReferenceIdeal.main_arg2) = m' ((c.tc : Thread Cert.CtxcolReferenceIdeal.nD Cert.CtxcolReferenceIdeal.τ).loc Cert.CtxcolReferenceIdeal.main_arg2)
          ∧ r.2.mem ((c.tc : Thread Cert.CtxcolReferenceIdeal.nD Cert.CtxcolReferenceIdeal.τ).loc Cert.CtxcolReferenceIdeal.main_arg3) = m' ((c.tc : Thread Cert.CtxcolReferenceIdeal.nD Cert.CtxcolReferenceIdeal.τ).loc Cert.CtxcolReferenceIdeal.main_arg3)
          ∧ r.2.mem ((c.tc : Thread Cert.CtxcolReferenceIdeal.nD Cert.CtxcolReferenceIdeal.τ).loc Cert.CtxcolReferenceIdeal.main_arg4) = m' ((c.tc : Thread Cert.CtxcolReferenceIdeal.nD Cert.CtxcolReferenceIdeal.τ).loc Cert.CtxcolReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_State_StateIdeal : Prop :=
  True

def algebraic_StateIdeal_StateReferenceIdeal_pre_lb_positive [hStateIdeal : Cert.StateIdeal.Facts] [hStateReferenceIdeal : Cert.StateReferenceIdeal.Facts] [hPre_lb_positive : Cert.Pre_lb_positive.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateReferenceIdeal.nD Cert.StateReferenceIdeal.τ Cert.StateReferenceIdeal.sig) → Buf (Elt Ideal) ℓ) (g' : Dev Cert.StateReferenceIdeal.nD → PrngReg), Pre_StateIdeal_lb_positive m →
    (∀ c : Dev Cert.StateIdeal.nD,
      m' ((c.tc : Thread Cert.StateReferenceIdeal.nD Cert.StateReferenceIdeal.τ).loc Cert.StateReferenceIdeal.main_arg0) = m ((c.tc : Thread Cert.StateIdeal.nD Cert.StateIdeal.τ).loc Cert.StateIdeal.main_arg0)
      ∧ m' ((c.tc : Thread Cert.StateReferenceIdeal.nD Cert.StateReferenceIdeal.τ).loc Cert.StateReferenceIdeal.main_arg1) = m ((c.tc : Thread Cert.StateIdeal.nD Cert.StateIdeal.τ).loc Cert.StateIdeal.main_arg1)) →
    ∃ (v0 : (c : Dev Cert.StateIdeal.nD) → Buf (Elt Ideal) ((c.tc : Thread Cert.StateIdeal.nD Cert.StateIdeal.τ).loc Cert.StateIdeal.main_v1)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v1) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1))
      ∧ θ_run (Cert.StateReferenceIdeal.defs (F := Ideal)) (onTc (τ := Cert.StateReferenceIdeal.τ) (Cert.StateReferenceIdeal.main (F := Ideal))) ⟨m', fun _ => 0, g'⟩ (fun r => ∀ c : Dev Cert.StateReferenceIdeal.nD,
          r.2.mem ((c.tc : Thread Cert.StateReferenceIdeal.nD Cert.StateReferenceIdeal.τ).loc Cert.StateReferenceIdeal.main_v31) = v0 c
          ∧ r.2.mem ((c.tc : Thread Cert.StateReferenceIdeal.nD Cert.StateReferenceIdeal.τ).loc Cert.StateReferenceIdeal.main_arg0) = m' ((c.tc : Thread Cert.StateReferenceIdeal.nD Cert.StateReferenceIdeal.τ).loc Cert.StateReferenceIdeal.main_arg0)
          ∧ r.2.mem ((c.tc : Thread Cert.StateReferenceIdeal.nD Cert.StateReferenceIdeal.τ).loc Cert.StateReferenceIdeal.main_arg1) = m' ((c.tc : Thread Cert.StateReferenceIdeal.nD Cert.StateReferenceIdeal.τ).loc Cert.StateReferenceIdeal.main_arg1))

def preserves_Back_BackIdeal : Prop :=
  True

def algebraic_BackIdeal_BackReferenceIdeal_pre_lb_positive [hBackIdeal : Cert.BackIdeal.Facts] [hBackReferenceIdeal : Cert.BackReferenceIdeal.Facts] [hPre_lb_positive : Cert.Pre_lb_positive.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal_lb_positive m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)) →
    ∃ (v0 : (c : Dev Cert.BackIdeal.nD) → Buf (Elt Ideal) ((c.tc : Thread Cert.BackIdeal.nD Cert.BackIdeal.τ).loc Cert.BackIdeal.main_v1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v1) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v34) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hColproj : Cert.Colproj.Facts) (hColprojIdeal : Cert.ColprojIdeal.Facts) (hColprojReferenceIdeal : Cert.ColprojReferenceIdeal.Facts) (hMerge : Cert.Merge.Facts) (hMergeIdeal : Cert.MergeIdeal.Facts) (hMergeReferenceIdeal : Cert.MergeReferenceIdeal.Facts) (hCtxrow : Cert.Ctxrow.Facts) (hCtxrowIdeal : Cert.CtxrowIdeal.Facts) (hCtxrowReferenceIdeal : Cert.CtxrowReferenceIdeal.Facts) (hCtxcol : Cert.Ctxcol.Facts) (hCtxcolIdeal : Cert.CtxcolIdeal.Facts) (hCtxcolReferenceIdeal : Cert.CtxcolReferenceIdeal.Facts) (hAda : Cert.Ada.Facts) (hAdaIdeal : Cert.AdaIdeal.Facts) (hAdaReferenceIdeal : Cert.AdaReferenceIdeal.Facts) (hState : Cert.State.Facts) (hStateIdeal : Cert.StateIdeal.Facts) (hStateReferenceIdeal : Cert.StateReferenceIdeal.Facts) (hBack : Cert.Back.Facts) (hBackIdeal : Cert.BackIdeal.Facts) (hBackReferenceIdeal : Cert.BackReferenceIdeal.Facts) (hPre_lb_range : Cert.Pre_lb_range.Facts) (hPre_y_b_finite : Cert.Pre_y_b_finite.Facts) (hPre_lb_positive : Cert.Pre_lb_positive.Facts),
    quiescent_Kernel (hKernel := hKernel)
    ∧ quiescent_KernelIdeal (hKernelIdeal := hKernelIdeal)
    ∧ quiescent_KernelIdeal_pre_lb_range (hKernelIdeal := hKernelIdeal) (hPre_lb_range := hPre_lb_range)
    ∧ quiescent_ReferenceIdeal (hReferenceIdeal := hReferenceIdeal)
    ∧ quiescent_ReferenceIdeal_pre_lb_range (hReferenceIdeal := hReferenceIdeal) (hPre_lb_range := hPre_lb_range)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Colproj (hColproj := hColproj)
    ∧ quiescent_ColprojIdeal (hColprojIdeal := hColprojIdeal)
    ∧ quiescent_ColprojReferenceIdeal (hColprojReferenceIdeal := hColprojReferenceIdeal)
    ∧ quiescent_Merge (hMerge := hMerge)
    ∧ quiescent_MergeIdeal (hMergeIdeal := hMergeIdeal)
    ∧ quiescent_MergeIdeal_pre_y_b_finite (hMergeIdeal := hMergeIdeal) (hPre_y_b_finite := hPre_y_b_finite)
    ∧ quiescent_MergeReferenceIdeal (hMergeReferenceIdeal := hMergeReferenceIdeal)
    ∧ quiescent_MergeReferenceIdeal_pre_y_b_finite (hMergeReferenceIdeal := hMergeReferenceIdeal) (hPre_y_b_finite := hPre_y_b_finite)
    ∧ quiescent_Ctxrow (hCtxrow := hCtxrow)
    ∧ quiescent_CtxrowIdeal (hCtxrowIdeal := hCtxrowIdeal)
    ∧ quiescent_CtxrowReferenceIdeal (hCtxrowReferenceIdeal := hCtxrowReferenceIdeal)
    ∧ quiescent_Ctxcol (hCtxcol := hCtxcol)
    ∧ quiescent_CtxcolIdeal (hCtxcolIdeal := hCtxcolIdeal)
    ∧ quiescent_CtxcolReferenceIdeal (hCtxcolReferenceIdeal := hCtxcolReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_State (hState := hState)
    ∧ quiescent_StateIdeal (hStateIdeal := hStateIdeal)
    ∧ quiescent_StateIdeal_pre_lb_positive (hStateIdeal := hStateIdeal) (hPre_lb_positive := hPre_lb_positive)
    ∧ quiescent_StateReferenceIdeal (hStateReferenceIdeal := hStateReferenceIdeal)
    ∧ quiescent_StateReferenceIdeal_pre_lb_positive (hStateReferenceIdeal := hStateReferenceIdeal) (hPre_lb_positive := hPre_lb_positive)
    ∧ quiescent_Back (hBack := hBack)
    ∧ quiescent_BackIdeal (hBackIdeal := hBackIdeal)
    ∧ quiescent_BackIdeal_pre_lb_positive (hBackIdeal := hBackIdeal) (hPre_lb_positive := hPre_lb_positive)
    ∧ quiescent_BackReferenceIdeal (hBackReferenceIdeal := hBackReferenceIdeal)
    ∧ quiescent_BackReferenceIdeal_pre_lb_positive (hBackReferenceIdeal := hBackReferenceIdeal) (hPre_lb_positive := hPre_lb_positive)
    ∧ preserves_Kernel_KernelIdeal
    ∧ algebraic_KernelIdeal_ReferenceIdeal_pre_lb_range (hKernelIdeal := hKernelIdeal) (hReferenceIdeal := hReferenceIdeal) (hPre_lb_range := hPre_lb_range)
    ∧ preserves_Inproj_InprojIdeal
    ∧ algebraic_InprojIdeal_InprojReferenceIdeal (hInprojIdeal := hInprojIdeal) (hInprojReferenceIdeal := hInprojReferenceIdeal)
    ∧ preserves_Colproj_ColprojIdeal
    ∧ algebraic_ColprojIdeal_ColprojReferenceIdeal (hColprojIdeal := hColprojIdeal) (hColprojReferenceIdeal := hColprojReferenceIdeal)
    ∧ preserves_Merge_MergeIdeal
    ∧ algebraic_MergeIdeal_MergeReferenceIdeal_pre_y_b_finite (hMergeIdeal := hMergeIdeal) (hMergeReferenceIdeal := hMergeReferenceIdeal) (hPre_y_b_finite := hPre_y_b_finite)
    ∧ preserves_Ctxrow_CtxrowIdeal
    ∧ algebraic_CtxrowIdeal_CtxrowReferenceIdeal (hCtxrowIdeal := hCtxrowIdeal) (hCtxrowReferenceIdeal := hCtxrowReferenceIdeal)
    ∧ preserves_Ctxcol_CtxcolIdeal
    ∧ algebraic_CtxcolIdeal_CtxcolReferenceIdeal (hCtxcolIdeal := hCtxcolIdeal) (hCtxcolReferenceIdeal := hCtxcolReferenceIdeal)
    ∧ preserves_Ada_AdaIdeal
    ∧ algebraic_AdaIdeal_AdaReferenceIdeal (hAdaIdeal := hAdaIdeal) (hAdaReferenceIdeal := hAdaReferenceIdeal)
    ∧ preserves_State_StateIdeal
    ∧ algebraic_StateIdeal_StateReferenceIdeal_pre_lb_positive (hStateIdeal := hStateIdeal) (hStateReferenceIdeal := hStateReferenceIdeal) (hPre_lb_positive := hPre_lb_positive)
    ∧ preserves_Back_BackIdeal
    ∧ algebraic_BackIdeal_BackReferenceIdeal_pre_lb_positive (hBackIdeal := hBackIdeal) (hBackReferenceIdeal := hBackReferenceIdeal) (hPre_lb_positive := hPre_lb_positive)
-- ==== Pre_lb_positive.lean ====
abbrev S8x256x7168 : Shape := ⟨3, ![8, 256, 7168]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S8x256x7168 .bf16) (main_arg1 : FVec F S1x1024 .f32) : IVec S_ 1 :=
  let main_cst : FVec F S_ .f32 := constant S_ .f32 0x00000000#32
  let main_v0 : FVec F S1x1024 .f32 := broadcastInDim S1x1024 ![] bcast_S_S1x1024 main_cst
  let main_v1 : IVec S1x1024 1 := cmpf .ogt main_arg1 main_v0
  let main_c : IVec S_ 1 := constantI S_ 1 1#1
  let main_v2 : IVec S_ 1 := (fun x v => Host.reduce IntOp.andi x v reducesTo_S1x1024_S_d0_1 h_S_) main_v1 main_c
  main_v2
-- ==== Pre_lb_range.lean ====
abbrev S8x8192x7168 : Shape := ⟨3, ![8, 8192, 7168]⟩
abbrev S8x8x128x128 : Shape := ⟨4, ![8, 8, 128, 128]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S8x8192x7168 .bf16) (main_arg1 : FVec F S8x8x128x128 .f32) (main_arg2 : FVec F S1x1024 .f32) : IVec S_ 1 :=
  let main_cst : FVec F S_ .f32 := constant S_ .f32 0x3D000000#32
  let main_v0 : FVec F S1x1024 .f32 := broadcastInDim S1x1024 ![] bcast_S_S1x1024 main_cst
  let main_v1 : IVec S1x1024 1 := cmpf .oge main_arg2 main_v0
  let main_cst_0 : FVec F S_ .f32 := constant S_ .f32 0x3F800000#32
  let main_v2 : FVec F S1x1024 .f32 := broadcastInDim S1x1024 ![] bcast_S_S1x1024 main_cst_0
  let main_v3 : IVec S1x1024 1 := cmpf .ole main_arg2 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  main_v5
-- ==== Pre_y_b_finite.lean ====
abbrev S65536x1024 : Shape := ⟨2, ![65536, 1024]⟩
abbrev S8x64x128x1024 : Shape := ⟨4, ![8, 64, 128, 1024]⟩
abbrev S65536x7168 : Shape := ⟨2, ![65536, 7168]⟩
abbrev S8x1x1024 : Shape := ⟨3, ![8, 1, 1024]⟩
abbrev S1024x1024 : Shape := ⟨2, ![1024, 1024]⟩
abbrev S1x1024 : Shape := ⟨2, ![1, 1024]⟩
abbrev S_ : Shape := ⟨0, ![]⟩

class Facts : Prop where
  bcast_S_S8x64x128x1024 : S_.BroadcastsInDim S8x64x128x1024 (![] : Fin 0 → Fin S8x64x128x1024.rank)
  reducesTo_S8x64x128x1024_S_d0_1_2_3 : S8x64x128x1024.ReducesTo [0, 1, 2, 3] S_
  h_S_ : 0 < S_.numel

variable [Facts]

def fn {F : FTy → Type} [FloatOps F] (main_arg0 : FVec F S65536x1024 .f32) (main_arg1 : FVec F S65536x1024 .f32) (main_arg2 : FVec F S8x64x128x1024 .f32) (main_arg3 : FVec F S65536x7168 .bf16) (main_arg4 : FVec F S8x1x1024 .f32) (main_arg5 : FVec F S1024x1024 .bf16) (main_arg6 : FVec F S1x1024 .f32) (main_arg7 : FVec F S1x1024 .f32) : IVec S_ 1 :=
  let main_cst : FVec F S_ .f32 := constant S_ .f32 0xFF800000#32
  let main_v0 : FVec F S8x64x128x1024 .f32 := broadcastInDim S8x64x128x1024 ![] bcast_S_S8x64x128x1024 main_cst
  let main_v1 : IVec S8x64x128x1024 1 := cmpf .ogt main_arg2 main_v0
  let main_cst_0 : FVec F S_ .f32 := constant S_ .f32 0x7F800000#32
  let main_v2 : FVec F S8x64x128x1024 .f32 := broadcastInDim S8x64x128x1024 ![] bcast_S_S8x64x128x1024 main_cst_0
  let main_v3 : IVec S8x64x128x1024 1 := cmpf .olt main_arg2 main_v2
  let main_v4 : IVec S8x64x128x1024 1 := andi main_v1 main_v3
  let main_c : IVec S_ 1 := constantI S_ 1 1#1
  let main_v5 : IVec S_ 1 := (fun x v => Host.reduce IntOp.andi x v reducesTo_S8x64x128x1024_S_d0_1_2_3 h_S_) main_v4 main_c
  main_v5
-- ==== Kernel.lean ====
abbrev S8x8192x7168 : Shape := ⟨3, ![8, 8192, 7168]⟩
abbrev S8x8x128x128 : Shape := ⟨4, ![8, 8, 128, 128]⟩
abbrev S1x1024 : Shape := ⟨2, ![1, 1024]⟩
abbrev S64x64 : Shape := ⟨2, ![64, 64]⟩
abbrev S8x8192x1024 : Shape := ⟨3, ![8, 8192, 1024]⟩
abbrev S2x512x1024 : Shape := ⟨3, ![2, 512, 1024]⟩
abbrev S2x8x128x128 : Shape := ⟨4, ![2, 8, 128, 128]⟩
abbrev S1x64x1024 : Shape := ⟨3, ![1, 64, 1024]⟩
abbrev S64x1024 : Shape := ⟨2, ![64, 1024]⟩
abbrev S16x1024 : Shape := ⟨2, ![16, 1024]⟩
abbrev S1x1x128x128 : Shape := ⟨4, ![1, 1, 128, 128]⟩
abbrev S128x128 : Shape := ⟨2, ![128, 128]⟩
abbrev S64x128 : Shape := ⟨2, ![64, 128]⟩
abbrev S64x512 : Shape := ⟨2, ![64, 512]⟩
abbrev S1x128 : Shape := ⟨2, ![1, 128]⟩

abbrev nBuf : Space → Nat
  | .hbm => 5
  | .vmem => 13
  | .smem => 0
  | _ => 0

abbrev bufTy : (tb : Table) → Fin (tcTables nBuf tb) → BufTy
  | .hbm, ⟨0, _⟩ => ⟨S8x8192x7168, .bf16⟩
  | .hbm, ⟨1, _⟩ => ⟨S8x8x128x128, .f32⟩
  | .hbm, ⟨2, _⟩ => ⟨S1x1024, .f32⟩
  | .hbm, ⟨3, _⟩ => ⟨S64x64, .f32⟩
  | .hbm, ⟨4, _⟩ => ⟨S8x8192x1024, .bf16⟩
  | .local _ .vmem, ⟨0, _⟩ => ⟨S2x512x1024, .bf16⟩
  | .local _ .vmem, ⟨1, _⟩ => ⟨S2x512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x8x128x128, .f32⟩
  | .local _ .vmem, ⟨7, _⟩ => ⟨S2x8x128x128, .f32⟩
  | .local _ .vmem, ⟨8, _⟩ => ⟨S1x1024, .f32⟩
  | .local _ .vmem, ⟨9, _⟩ => ⟨S64x64, .f32⟩
  | .local _ .vmem, ⟨10, _⟩ => ⟨S2x512x1024, .bf16⟩
  | .local _ .vmem, ⟨11, _⟩ => ⟨S2x512x1024, .bf16⟩
  | .local _ .vmem, ⟨12, _⟩ => ⟨S2x8x128x128, .f32⟩
  | _, _ => ⟨S8x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_4 : BitVec 32 := 0#32
  let c8_i32 : BitVec 32 := 8#32
  let v5 : BitVec 32 := Scalar.addi c0_i32_4 c8_i32
  let c1_i32 : BitVec 32 := 1#32
  ⟨c0_i32_4, v5, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c64_i32 : BitVec 32 := 64#32
  let v6 : BitVec 32 := Scalar.muli arg10 c64_i32
  v6
def k0_off1 (k0_t1 : Fin k0_t1_loop.trips) : Fin 3 → Nat :=
  let c0_6 : Index := 0#32
  let c0_i32_4 : BitVec 32 := 0#32
  let c1_i32 : BitVec 32 := 1#32
  let arg10 : BitVec 32 := Scf.iv c0_i32_4 c1_i32 k0_t1
  let c64_i32 : BitVec 32 := 64#32
  let v6 : BitVec 32 := Scalar.muli arg10 c64_i32
  let v7 : BitVec 32 := v6
  let v8 : Index := Scalar.indexCast v7
  let c0_7 : Index := 0#32
  ![0, v8.toNat, 0]
def k0_off2 (k0_t1 : Fin k0_t1_loop.trips) : Fin 3 → Nat :=
  let c1 : Index := 1#32
  let c0_i32_4 : BitVec 32 := 0#32
  let c1_i32 : BitVec 32 := 1#32
  let arg10 : BitVec 32 := Scf.iv c0_i32_4 c1_i32 k0_t1
  let c64_i32 : BitVec 32 := 64#32
  let v6 : BitVec 32 := Scalar.muli arg10 c64_i32
  let v7 : BitVec 32 := v6
  let v28 : Index := Scalar.indexCast v7
  let c0_14 : Index := 0#32
  ![1, v28.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x8192x7168 : Shape := ⟨3, ![8, 8192, 7168]⟩
abbrev S8x8x128x128 : Shape := ⟨4, ![8, 8, 128, 128]⟩
abbrev S1x1024 : Shape := ⟨2, ![1, 1024]⟩
abbrev S8x8192x1024 : Shape := ⟨3, ![8, 8192, 1024]⟩
abbrev S1024 : Shape := ⟨1, ![1024]⟩
abbrev S_ : Shape := ⟨0, ![]⟩
abbrev S1x1x1024 : Shape := ⟨3, ![1, 1, 1024]⟩
abbrev S8x8192x8x128 : Shape := ⟨4, ![8, 8192, 8, 128]⟩
abbrev S64x64 : Shape := ⟨2, ![64, 64]⟩
abbrev S8x128x64x8x128 : Shape := ⟨5, ![8, 128, 64, 8, 128]⟩
abbrev S128x8x8x64x128 : Shape := ⟨5, ![128, 8, 8, 64, 128]⟩
abbrev S1x8x8x64x128 : Shape := ⟨5, ![1, 8, 8, 64, 128]⟩
abbrev S8x8x64x128 : Shape := ⟨4, ![8, 8, 64, 128]⟩
abbrev S64x64x1 : Shape := ⟨3, ![64, 64, 1]⟩
abbrev S8x8x64x1x128 : Shape := ⟨5, ![8, 8, 64, 1, 128]⟩
abbrev S8x8x1x64x128 : Shape := ⟨5, ![8, 8, 1, 64, 128]⟩
abbrev S8x8x64x64x128 : Shape := ⟨5, ![8, 8, 64, 64, 128]⟩
abbrev S8x8x64x64 : Shape := ⟨4, ![8, 8, 64, 64]⟩
abbrev S8x8x1x128 : Shape := ⟨4, ![8, 8, 1, 128]⟩
abbrev S8x8x128 : Shape := ⟨3, ![8, 8, 128]⟩
abbrev S8x8x128x1 : Shape := ⟨4, ![8, 8, 128, 1]⟩

abbrev nBuf : Space → Nat
  | .hbm => 151
  | .vmem => 0
  | .smem => 0
  | _ => 0

abbrev hbmTy0_0 (i : Nat) : BufTy := match i % 128 with
  | 0 => ⟨S8x8192x7168, .bf16⟩
  | 1 => ⟨S8x8x128x128, .f32⟩
  | 2 => ⟨S1x1024, .f32⟩
  | 3 => ⟨S8x8192x7168, .f32⟩
  | 4 => ⟨S8x8192x1024, .f32⟩
  | 5 => ⟨S8x8192x1024, .f32⟩
  | 6 => ⟨S8x8192x1024, .f32⟩
  | 7 => ⟨S1024, .f32⟩
  | 8 => ⟨S_, .f32⟩
  | 9 => ⟨S1024, .f32⟩
  | 10 => ⟨S1024, .f32⟩
  | 11 => ⟨S8x8192x1024, .f32⟩
  | 12 => ⟨S8x8192x1024, .f32⟩
  | 13 => ⟨S_, .f32⟩
  | 14 => ⟨S8x8192x1024, .f32⟩
  | 15 => ⟨S8x8192x1024, .f32⟩
  | 16 => ⟨S_, .f32⟩
  | 17 => ⟨S8x8192x1024, .f32⟩
  | 18 => ⟨S8x8192x1024, .f32⟩
  | 19 => ⟨S1x1x1024, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S8x8192x1024, .f32⟩
  | 26 => ⟨S_, .f32⟩
  | 27 => ⟨S8x8192x1024, .f32⟩
  | 28 => ⟨S8x8192x1024, .f32⟩
  | 29 => ⟨S8x8192x1024, .f32⟩
  | 30 => ⟨S8x8192x1024, .f32⟩
  | 31 => ⟨S_, .f32⟩
  | 32 => ⟨S8x8192x1024, .f32⟩
  | 33 => ⟨S8x8192x1024, .f32⟩
  | 34 => ⟨S_, .f32⟩
  | 35 => ⟨S8x8192x1024, .f32⟩
  | 36 => ⟨S8x8192x1024, .f32⟩
  | 37 => ⟨S8x8192x1024, .f32⟩
  | 38 => ⟨S8x8192x8x128, .f32⟩
  | 39 => ⟨S8x8192x8x128, .f32⟩
  | 40 => ⟨S8x8192x8x128, .f32⟩
  | 41 => ⟨S8x8192x8x128, .f32⟩
  | 42 => ⟨S8x8x128x128, .f32⟩
  | 43 => ⟨S_, .i1⟩
  | 44 => ⟨S64x64, .i1⟩
  | 45 => ⟨S64x64, .i32⟩
  | 46 => ⟨S_, .i32⟩
  | 47 => ⟨S64x64, .i32⟩
  | 48 => ⟨S64x64, .i32⟩
  | 49 => ⟨S64x64, .i32⟩
  | 50 => ⟨S64x64, .i1⟩
  | 51 => ⟨S_, .i1⟩
  | 52 => ⟨S64x64, .i1⟩
  | 53 => ⟨S64x64, .i1⟩
  | 54 => ⟨S8x128x64x8x128, .f32⟩
  | 55 => ⟨S128x8x8x64x128, .f32⟩
  | 56 => ⟨S8x128x64x8x128, .f32⟩
  | 57 => ⟨S128x8x8x64x128, .f32⟩
  | 58 => ⟨S8x128x64x8x128, .f32⟩
  | 59 => ⟨S128x8x8x64x128, .f32⟩
  | 60 => ⟨S8x128x64x8x128, .f32⟩
  | 61 => ⟨S128x8x8x64x128, .f32⟩
  | 62 => ⟨S_, .f32⟩
  | 63 => ⟨S128x8x8x64x128, .f32⟩
  | 64 => ⟨S_, .i32⟩
  | 65 => ⟨S128x8x8x64x128, .f32⟩
  | 66 => ⟨S128x8x8x64x128, .f32⟩
  | 67 => ⟨S128x8x8x64x128, .f32⟩
  | 68 => ⟨S128x8x8x64x128, .f32⟩
  | 69 => ⟨S64x64, .i1⟩
  | 70 => ⟨S_, .i32⟩
  | 71 => ⟨S8x8x128x128, .f32⟩
  | 72 => ⟨S128x8x8x64x128, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x8x8x64x128, .f32⟩
  | 80 => ⟨S8x8x64x128, .f32⟩
  | 81 => ⟨S_, .i32⟩
  | 82 => ⟨S_, .i32⟩
  | 83 => ⟨S_, .i32⟩
  | 84 => ⟨S_, .i32⟩
  | 85 => ⟨S1x8x8x64x128, .f32⟩
  | 86 => ⟨S8x8x64x128, .f32⟩
  | 87 => ⟨S_, .i32⟩
  | 88 => ⟨S_, .i32⟩
  | 89 => ⟨S_, .i32⟩
  | 90 => ⟨S_, .i32⟩
  | 91 => ⟨S1x8x8x64x128, .f32⟩
  | 92 => ⟨S8x8x64x128, .f32⟩
  | 93 => ⟨S_, .i32⟩
  | 94 => ⟨S_, .i32⟩
  | 95 => ⟨S_, .i32⟩
  | 96 => ⟨S_, .i32⟩
  | 97 => ⟨S1x8x8x64x128, .f32⟩
  | 98 => ⟨S8x8x64x128, .f32⟩
  | 99 => ⟨S_, .f32⟩
  | 100 => ⟨S_, .f32⟩
  | 101 => ⟨S8x8x64x128, .f32⟩
  | 102 => ⟨S64x64x1, .i1⟩
  | 103 => ⟨S8x8x64x1x128, .f32⟩
  | 104 => ⟨S8x8x1x64x128, .f32⟩
  | 105 => ⟨S8x8x64x64x128, .f32⟩
  | 106 => ⟨S8x8x64x64x128, .f32⟩
  | 107 => ⟨S8x8x64x64x128, .f32⟩
  | 108 => ⟨S_, .f32⟩
  | 109 => ⟨S_, .f32⟩
  | 110 => ⟨S8x8x64x64x128, .i1⟩
  | 111 => ⟨S8x8x64x64x128, .f32⟩
  | 112 => ⟨S8x8x64x64x128, .f32⟩
  | 113 => ⟨S8x8x64x64x128, .f32⟩
  | 114 => ⟨S8x8x64x1x128, .f32⟩
  | 115 => ⟨S8x8x64x64x128, .f32⟩
  | 116 => ⟨S8x8x64x64x128, .f32⟩
  | 117 => ⟨S8x8x1x64x128, .f32⟩
  | 118 => ⟨S8x8x64x64x128, .f32⟩
  | 119 => ⟨S8x8x64x64x128, .f32⟩
  | 120 => ⟨S_, .f32⟩
  | 121 => ⟨S8x8x64x64, .f32⟩
  | 122 => ⟨S8x8x1x128, .f32⟩
  | 123 => ⟨S8x8x64x128, .f32⟩
  | 124 => ⟨S8x8x64x128, .f32⟩
  | 125 => ⟨S8x8x64x128, .f32⟩
  | 126 => ⟨S8x8x64x128, .f32⟩
  | 127 => ⟨S8x8x64x128, .f32⟩
  | _ => ⟨S8x8192x7168, .bf16⟩

abbrev hbmTy0_1 (i : Nat) : BufTy := match i % 128 with
  | 0 => ⟨S8x8x128, .f32⟩
  | 1 => ⟨S8x8x128x1, .f32⟩
  | 2 => ⟨S8x8x128x1, .f32⟩
  | 3 => ⟨S8x8x128x128, .f32⟩
  | 4 => ⟨S8x8x128x128, .f32⟩
  | 5 => ⟨S8x8x64x128, .f32⟩
  | 6 => ⟨S8x8x64x128, .f32⟩
  | 7 => ⟨S8x8x64x128, .f32⟩
  | 8 => ⟨S8x8x64x128, .f32⟩
  | 9 => ⟨S8x8x128x128, .f32⟩
  | 10 => ⟨S8x8x128x128, .f32⟩
  | 11 => ⟨S1x8x8x64x128, .f32⟩
  | 12 => ⟨S_, .i32⟩
  | 13 => ⟨S_, .i32⟩
  | 14 => ⟨S_, .i32⟩
  | 15 => ⟨S_, .i32⟩
  | 16 => ⟨S128x8x8x64x128, .f32⟩
  | 17 => ⟨S_, .i32⟩
  | 18 => ⟨S_, .i32⟩
  | 19 => ⟨S8x128x64x8x128, .f32⟩
  | 20 => ⟨S8x8192x8x128, .f32⟩
  | 21 => ⟨S8x8192x1024, .f32⟩
  | 22 => ⟨S8x8192x1024, .bf16⟩
  | _ => ⟨S8x8192x7168, .bf16⟩

abbrev hbmTy (i : Nat) : BufTy := match i / 128 with
  | 0 => hbmTy0_0 i
  | 1 => hbmTy0_1 i
  | _ => ⟨S8x8192x7168, .bf16⟩

abbrev bufTy : (tb : Table) → Fin (tcTables nBuf tb) → BufTy
  | .hbm, ⟨i, _⟩ => hbmTy i
  | _, _ => ⟨S8x8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_0 : Ref sig .tc := ⟨.hbm, 51, rfl⟩
abbrev main_call1_v5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_c_4 : Ref sig .tc := ⟨.hbm, 64, rfl⟩
abbrev main_v39_0 : Ref sig .tc := ⟨.hbm, 65, rfl⟩
abbrev main_v39_1 : Ref sig .tc := ⟨.hbm, 66, rfl⟩
abbrev main_v39_2 : Ref sig .tc := ⟨.hbm, 67, rfl⟩
abbrev main_v39_3 : Ref sig .tc := ⟨.hbm, 68, rfl⟩
abbrev main_v39_4 : Ref sig .tc := ⟨.hbm, 69, rfl⟩
abbrev main_v39_5 : Ref sig .tc := ⟨.hbm, 70, rfl⟩
abbrev main_v39_6 : Ref sig .tc := ⟨.hbm, 71, rfl⟩
abbrev main_v39_7 : Ref sig .tc := ⟨.hbm, 72, rfl⟩
abbrev main_while0c_c_12 : Ref sig .tc := ⟨.hbm, 73, rfl⟩
abbrev main_while0c_v44 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_call2_c_1 : Ref sig .tc := ⟨.hbm, 77, rfl⟩
abbrev main_while0b_call2_c_2 : Ref sig .tc := ⟨.hbm, 78, rfl⟩
abbrev main_while0b_call2_v0 : Ref sig .tc := ⟨.hbm, 79, rfl⟩
abbrev main_while0b_v44 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_c_2 : Ref sig .tc := ⟨.hbm, 84, rfl⟩
abbrev main_while0b_call3_v0 : Ref sig .tc := ⟨.hbm, 85, rfl⟩
abbrev main_while0b_v45 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_c_2 : Ref sig .tc := ⟨.hbm, 90, rfl⟩
abbrev main_while0b_call4_v0 : Ref sig .tc := ⟨.hbm, 91, rfl⟩
abbrev main_while0b_v46 : Ref sig .tc := ⟨.hbm, 92, rfl⟩
abbrev main_while0b_call5_c : Ref sig .tc := ⟨.hbm, 93, rfl⟩
abbrev main_while0b_call5_c_0 : Ref sig .tc := ⟨.hbm, 94, rfl⟩
abbrev main_while0b_call5_c_1 : Ref sig .tc := ⟨.hbm, 95, rfl⟩
abbrev main_while0b_call5_c_2 : Ref sig .tc := ⟨.hbm, 96, rfl⟩
abbrev main_while0b_call5_v0 : Ref sig .tc := ⟨.hbm, 97, rfl⟩
abbrev main_while0b_v47 : Ref sig .tc := ⟨.hbm, 98, rfl⟩
abbrev main_while0b_call6_call0_cst : Ref sig .tc := ⟨.hbm, 99, rfl⟩
abbrev main_while0b_call6_call0_v0 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_cst_12 : Ref sig .tc := ⟨.hbm, 108, rfl⟩
abbrev main_while0b_call7_v0 : Ref sig .tc := ⟨.hbm, 109, rfl⟩
abbrev main_while0b_call7_v1 : Ref sig .tc := ⟨.hbm, 110, rfl⟩
abbrev main_while0b_call7_v2 : Ref sig .tc := ⟨.hbm, 111, rfl⟩
abbrev main_while0b_v55 : Ref sig .tc := ⟨.hbm, 112, rfl⟩
abbrev main_while0b_v56 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_cst_13 : Ref sig .tc := ⟨.hbm, 120, rfl⟩
abbrev main_while0b_v63 : Ref sig .tc := ⟨.hbm, 121, rfl⟩
abbrev main_while0b_v64 : Ref sig .tc := ⟨.hbm, 122, rfl⟩
abbrev main_while0b_v65 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_v72 : Ref sig .tc := ⟨.hbm, 130, rfl⟩
abbrev main_while0b_v73 : Ref sig .tc := ⟨.hbm, 131, rfl⟩
abbrev main_while0b_v74 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_call8_v0 : Ref sig .tc := ⟨.hbm, 139, rfl⟩
abbrev main_while0b_call8_c : Ref sig .tc := ⟨.hbm, 140, rfl⟩
abbrev main_while0b_call8_c_0 : Ref sig .tc := ⟨.hbm, 141, rfl⟩
abbrev main_while0b_call8_c_1 : Ref sig .tc := ⟨.hbm, 142, rfl⟩
abbrev main_while0b_call8_c_2 : Ref sig .tc := ⟨.hbm, 143, rfl⟩
abbrev main_while0b_v81 : Ref sig .tc := ⟨.hbm, 144, rfl⟩
abbrev main_while0b_c_14 : Ref sig .tc := ⟨.hbm, 145, rfl⟩
abbrev main_while0b_v82 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩

abbrev nD : Nat := 1
abbrev τ : Topo := Topo.v7x

variable {F : FTy → Type} [FloatOps F]

abbrev main_while0_count : Scf.Loop 32 := ⟨0#32, 128#32, 1#32⟩
-- ==== Inproj.lean ====
abbrev S65536x1024 : Shape := ⟨2, ![65536, 1024]⟩
abbrev S8x1x1024 : Shape := ⟨3, ![8, 1, 1024]⟩
abbrev S1024x7168 : Shape := ⟨2, ![1024, 7168]⟩
abbrev S65536x7168 : Shape := ⟨2, ![65536, 7168]⟩
abbrev S1024x1024 : Shape := ⟨2, ![1024, 1024]⟩
abbrev S1x1x1024 : Shape := ⟨3, ![1, 1, 1024]⟩
abbrev S1024x3584 : Shape := ⟨2, ![1024, 3584]⟩
abbrev S1024 : Shape := ⟨1, ![1024]⟩
abbrev S1024x1 : Shape := ⟨2, ![1024, 1]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S8x1x1024, .f32⟩
  | .hbm, ⟨2, _⟩ => ⟨S8x1x1024, .f32⟩
  | .hbm, ⟨3, _⟩ => ⟨S1024x7168, .bf16⟩
  | .hbm, ⟨4, _⟩ => ⟨S65536x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3584, .bf16⟩
  | .local _ .vmem, ⟨7, _⟩ => ⟨S1024x3584, .bf16⟩
  | .local _ .vmem, ⟨8, _⟩ => ⟨S1024x3584, .bf16⟩
  | .local _ .vmem, ⟨9, _⟩ => ⟨S1024x3584, .bf16⟩
  | .local _ .vmem, ⟨10, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojReferenceIdeal.lean ====
abbrev S65536x1024 : Shape := ⟨2, ![65536, 1024]⟩
abbrev S8x1x1024 : Shape := ⟨3, ![8, 1, 1024]⟩
abbrev S1024x7168 : Shape := ⟨2, ![1024, 7168]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S8x8192x7168 : Shape := ⟨3, ![8, 8192, 7168]⟩
abbrev S65536x7168 : Shape := ⟨2, ![65536, 7168]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x1x1024, .f32⟩
  | .hbm, ⟨2, _⟩ => ⟨S8x1x1024, .f32⟩
  | .hbm, ⟨3, _⟩ => ⟨S1024x7168, .bf16⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S1024x7168, .f32⟩
  | .hbm, ⟨36, _⟩ => ⟨S8x8192x7168, .f32⟩
  | .hbm, ⟨37, _⟩ => ⟨S65536x7168, .f32⟩
  | .hbm, ⟨38, _⟩ => ⟨S65536x7168, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Colproj.lean ====
abbrev S8x8192x1024 : Shape := ⟨3, ![8, 8192, 1024]⟩
abbrev S8x1x1024 : Shape := ⟨3, ![8, 1, 1024]⟩
abbrev S1024x6144 : Shape := ⟨2, ![1024, 6144]⟩
abbrev S1024x128 : Shape := ⟨2, ![1024, 128]⟩
abbrev S8x128x64x1024 : Shape := ⟨4, ![8, 128, 64, 1024]⟩
abbrev S8x128x1024 : Shape := ⟨3, ![8, 128, 1024]⟩
abbrev S_ : Shape := ⟨0, ![]⟩
abbrev S1024x1024 : Shape := ⟨2, ![1024, 1024]⟩
abbrev S8x64x128x6144 : Shape := ⟨4, ![8, 64, 128, 6144]⟩
abbrev S8x64x128x128 : Shape := ⟨4, ![8, 64, 128, 128]⟩
abbrev S1x128x8x1024 : Shape := ⟨4, ![1, 128, 8, 1024]⟩
abbrev S1x1x1024 : Shape := ⟨3, ![1, 1, 1024]⟩
abbrev S1024x3072 : Shape := ⟨2, ![1024, 3072]⟩
abbrev S1x8x128x3072 : Shape := ⟨4, ![1, 8, 128, 3072]⟩
abbrev S1x8x128x128 : Shape := ⟨4, ![1, 8, 128, 128]⟩
abbrev S1024 : Shape := ⟨1, ![1024]⟩
abbrev S1024x1 : Shape := ⟨2, ![1024, 1]⟩
abbrev S1x1024 : Shape := ⟨2, ![1, 1024]⟩

abbrev nBuf : Space → Nat
  | .hbm => 23
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024x6144, .bf16⟩
  | .hbm, ⟨4, _⟩ => ⟨S1024x128, .bf16⟩
  | .hbm, ⟨5, _⟩ => ⟨S8x128x64x1024, .f32⟩
  | .hbm, ⟨6, _⟩ => ⟨S8x128x1024, .i32⟩
  | .hbm, ⟨7, _⟩ => ⟨S8x128x1024, .i32⟩
  | .hbm, ⟨8, _⟩ => ⟨S8x128x1024, .i32⟩
  | .hbm, ⟨9, _⟩ => ⟨S_, .i32⟩
  | .hbm, ⟨10, _⟩ => ⟨S8x128x1024, .i32⟩
  | .hbm, ⟨11, _⟩ => ⟨S8x128x1024, .i32⟩
  | .hbm, ⟨12, _⟩ => ⟨S8x128x1024, .i32⟩
  | .hbm, ⟨13, _⟩ => ⟨S8x128x1024, .i1⟩
  | .hbm, ⟨14, _⟩ => ⟨S_, .f32⟩
  | .hbm, ⟨15, _⟩ => ⟨S_, .f32⟩
  | .hbm, ⟨16, _⟩ => ⟨S8x128x1024, .f32⟩
  | .hbm, ⟨17, _⟩ => ⟨S8x128x1024, .f32⟩
  | .hbm, ⟨18, _⟩ => ⟨S8x128x1024, .f32⟩
  | .hbm, ⟨19, _⟩ => ⟨S1024x1024, .f32⟩
  | .hbm, ⟨20, _⟩ => ⟨S1024x1024, .bf16⟩
  | .hbm, ⟨21, _⟩ => ⟨S8x64x128x6144, .bf16⟩
  | .hbm, ⟨22, _⟩ => ⟨S8x64x128x128, .f32⟩
  | .local _ .vmem, ⟨0, _⟩ => ⟨S1x128x8x1024, .f32⟩
  | .local _ .vmem, ⟨1, _⟩ => ⟨S1x128x8x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x3072, .bf16⟩
  | .local _ .vmem, ⟨8, _⟩ => ⟨S1024x3072, .bf16⟩
  | .local _ .vmem, ⟨9, _⟩ => ⟨S1024x128, .bf16⟩
  | .local _ .vmem, ⟨10, _⟩ => ⟨S1x8x128x3072, .bf16⟩
  | .local _ .vmem, ⟨11, _⟩ => ⟨S1x8x128x3072, .bf16⟩
  | .local _ .vmem, ⟨12, _⟩ => ⟨S1x8x128x128, .f32⟩
  | .local _ .vmem, ⟨13, _⟩ => ⟨S1x8x128x128, .f32⟩
  | .local _ .vmem, ⟨14, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x8x128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ColprojReferenceIdeal.lean ====
abbrev S8x8192x1024 : Shape := ⟨3, ![8, 8192, 1024]⟩
abbrev S8x1x1024 : Shape := ⟨3, ![8, 1, 1024]⟩
abbrev S1024x6144 : Shape := ⟨2, ![1024, 6144]⟩
abbrev S1024x128 : Shape := ⟨2, ![1024, 128]⟩
abbrev S_ : Shape := ⟨0, ![]⟩
abbrev S8x8192 : Shape := ⟨2, ![8, 8192]⟩
abbrev S8x8192x1 : Shape := ⟨3, ![8, 8192, 1]⟩
abbrev S8x8192x6144 : Shape := ⟨3, ![8, 8192, 6144]⟩
abbrev S8x8192x128 : Shape := ⟨3, ![8, 8192, 128]⟩
abbrev S8x128x64x6144 : Shape := ⟨4, ![8, 128, 64, 6144]⟩
abbrev S8x64x128x6144 : Shape := ⟨4, ![8, 64, 128, 6144]⟩
abbrev S8x128x64x128 : Shape := ⟨4, ![8, 128, 64, 128]⟩
abbrev S8x64x128x128 : Shape := ⟨4, ![8, 64, 128, 128]⟩

abbrev nBuf : Space → Nat
  | .hbm => 48
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024x6144, .bf16⟩
  | .hbm, ⟨4, _⟩ => ⟨S1024x128, .bf16⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S1024x6144, .f32⟩
  | .hbm, ⟨36, _⟩ => ⟨S8x8192x6144, .f32⟩
  | .hbm, ⟨37, _⟩ => ⟨S1024x128, .f32⟩
  | .hbm, ⟨38, _⟩ => ⟨S8x8192x128, .f32⟩
  | .hbm, ⟨39, _⟩ => ⟨S8x128x64x6144, .f32⟩
  | .hbm, ⟨40, _⟩ => ⟨S8x64x128x6144, .f32⟩
  | .hbm, ⟨41, _⟩ => ⟨S8x8192x6144, .f32⟩
  | .hbm, ⟨42, _⟩ => ⟨S8x128x64x128, .f32⟩
  | .hbm, ⟨43, _⟩ => ⟨S8x64x128x128, .f32⟩
  | .hbm, ⟨44, _⟩ => ⟨S8x8192x128, .f32⟩
  | .hbm, ⟨45, _⟩ => ⟨S8x64x128x6144, .f32⟩
  | .hbm, ⟨46, _⟩ => ⟨S8x64x128x6144, .bf16⟩
  | .hbm, ⟨47, _⟩ => ⟨S8x64x128x128, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Merge.lean ====
abbrev S65536x1024 : Shape := ⟨2, ![65536, 1024]⟩
abbrev S8x64x128x1024 : Shape := ⟨4, ![8, 64, 128, 1024]⟩
abbrev S65536x7168 : Shape := ⟨2, ![65536, 7168]⟩
abbrev S8x1x1024 : Shape := ⟨3, ![8, 1, 1024]⟩
abbrev S1024x1024 : Shape := ⟨2, ![1024, 1024]⟩
abbrev S1x1024 : Shape := ⟨2, ![1, 1024]⟩
abbrev S8x64x512 : Shape := ⟨3, ![8, 64, 512]⟩
abbrev S_ : Shape := ⟨0, ![]⟩
abbrev S512x512 : Shape := ⟨2, ![512, 512]⟩
abbrev S512x1024 : Shape := ⟨2, ![512, 1024]⟩
abbrev S1x64x8x1024 : Shape := ⟨4, ![1, 64, 8, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S8x64x128x1024, .f32⟩
  | .hbm, ⟨3, _⟩ => ⟨S65536x7168, .bf16⟩
  | .hbm, ⟨4, _⟩ => ⟨S8x1x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8x64x512, .i32⟩
  | .hbm, ⟨9, _⟩ => ⟨S8x64x512, .i32⟩
  | .hbm, ⟨10, _⟩ => ⟨S8x64x512, .i32⟩
  | .hbm, ⟨11, _⟩ => ⟨S_, .i32⟩
  | .hbm, ⟨12, _⟩ => ⟨S8x64x512, .i32⟩
  | .hbm, ⟨13, _⟩ => ⟨S8x64x512, .i32⟩
  | .hbm, ⟨14, _⟩ => ⟨S8x64x512, .i32⟩
  | .hbm, ⟨15, _⟩ => ⟨S8x64x512, .i1⟩
  | .hbm, ⟨16, _⟩ => ⟨S_, .f32⟩
  | .hbm, ⟨17, _⟩ => ⟨S_, .f32⟩
  | .hbm, ⟨18, _⟩ => ⟨S8x64x512, .f32⟩
  | .hbm, ⟨19, _⟩ => ⟨S8x64x512, .f32⟩
  | .hbm, ⟨20, _⟩ => ⟨S8x64x512, .f32⟩
  | .hbm, ⟨21, _⟩ => ⟨S512x512, .f32⟩
  | .hbm, ⟨22, _⟩ => ⟨S512x512, .bf16⟩
  | .hbm, ⟨23, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x64x8x1024, .f32⟩
  | .local _ .vmem, ⟨5, _⟩ => ⟨S1x64x8x1024, .f32⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S65536x1024 : Shape := ⟨2, ![65536, 1024]⟩
abbrev S8x64x128x1024 : Shape := ⟨4, ![8, 64, 128, 1024]⟩
abbrev S65536x7168 : Shape := ⟨2, ![65536, 7168]⟩
abbrev S8x1x1024 : Shape := ⟨3, ![8, 1, 1024]⟩
abbrev S1024x1024 : Shape := ⟨2, ![1024, 1024]⟩
abbrev S1x1024 : Shape := ⟨2, ![1, 1024]⟩
abbrev S8x8192x1024 : Shape := ⟨3, ![8, 8192, 1024]⟩
abbrev S8x128x64x1024 : Shape := ⟨4, ![8, 128, 64, 1024]⟩
abbrev S8x8192x7168 : Shape := ⟨3, ![8, 8192, 7168]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S8x64x128x1024, .f32⟩
  | .hbm, ⟨3, _⟩ => ⟨S65536x7168, .bf16⟩
  | .hbm, ⟨4, _⟩ => ⟨S8x1x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S8x64x128x1024, .f32⟩
  | .hbm, ⟨12, _⟩ => ⟨S8x128x64x1024, .f32⟩
  | .hbm, ⟨13, _⟩ => ⟨S8x8192x1024, .f32⟩
  | .hbm, ⟨14, _⟩ => ⟨S8x8192x7168, .bf16⟩
  | .hbm, ⟨15, _⟩ => ⟨S8x8192x7168, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S_, .f32⟩
  | .hbm, ⟨21, _⟩ => ⟨S8x8192x1024, .f32⟩
  | .hbm, ⟨22, _⟩ => ⟨S8x8192x1024, .f32⟩
  | .hbm, ⟨23, _⟩ => ⟨S_, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x8192x1024, .f32⟩
  | .hbm, ⟨31, _⟩ => ⟨S8x8192x1024, .f32⟩
  | .hbm, ⟨32, _⟩ => ⟨S_, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S1024x1024, .f32⟩
  | .hbm, ⟨38, _⟩ => ⟨S8x8192x1024, .f32⟩
  | .hbm, ⟨39, _⟩ => ⟨S_, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x1024, .f32⟩
  | .hbm, ⟨61, _⟩ => ⟨S8x8192x1024, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x1, .f32⟩
  | .hbm, ⟨66, _⟩ => ⟨S8x8192x1024, .f32⟩
  | .hbm, ⟨67, _⟩ => ⟨S8x8192x1024, .f32⟩
  | .hbm, ⟨68, _⟩ => ⟨S1x1x1024, .f32⟩
  | .hbm, ⟨69, _⟩ => ⟨S8x8192x1024, .f32⟩
  | .hbm, ⟨70, _⟩ => ⟨S8x8192x1024, .f32⟩
  | .hbm, ⟨71, _⟩ => ⟨S1x1x1024, .f32⟩
  | .hbm, ⟨72, _⟩ => ⟨S8x8192x1024, .f32⟩
  | .hbm, ⟨73, _⟩ => ⟨S8x8192x1024, .f32⟩
  | .hbm, ⟨74, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Ctxrow.lean ====
abbrev S2048x1024 : Shape := ⟨2, ![2048, 1024]⟩
abbrev S8x1x1024 : Shape := ⟨3, ![8, 1, 1024]⟩
abbrev S1024x7168 : Shape := ⟨2, ![1024, 7168]⟩
abbrev S2048x7168 : Shape := ⟨2, ![2048, 7168]⟩
abbrev S256x1024 : Shape := ⟨2, ![256, 1024]⟩
abbrev S1x1x1024 : Shape := ⟨3, ![1, 1, 1024]⟩
abbrev S1024x3584 : Shape := ⟨2, ![1024, 3584]⟩
abbrev S256x3584 : Shape := ⟨2, ![256, 3584]⟩
abbrev S256 : Shape := ⟨1, ![256]⟩
abbrev S256x1 : Shape := ⟨2, ![256, 1]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S8x1x1024, .f32⟩
  | .hbm, ⟨2, _⟩ => ⟨S8x1x1024, .f32⟩
  | .hbm, ⟨3, _⟩ => ⟨S1024x7168, .bf16⟩
  | .hbm, ⟨4, _⟩ => ⟨S2048x7168, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3584, .bf16⟩
  | .local _ .vmem, ⟨7, _⟩ => ⟨S1024x3584, .bf16⟩
  | .local _ .vmem, ⟨8, _⟩ => ⟨S256x3584, .bf16⟩
  | .local _ .vmem, ⟨9, _⟩ => ⟨S256x3584, .bf16⟩
  | .local _ .vmem, ⟨10, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxrowReferenceIdeal.lean ====
abbrev S2048x1024 : Shape := ⟨2, ![2048, 1024]⟩
abbrev S8x1x1024 : Shape := ⟨3, ![8, 1, 1024]⟩
abbrev S1024x7168 : Shape := ⟨2, ![1024, 7168]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S8x256x7168 : Shape := ⟨3, ![8, 256, 7168]⟩
abbrev S2048x7168 : Shape := ⟨2, ![2048, 7168]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1x1024, .f32⟩
  | .hbm, ⟨2, _⟩ => ⟨S8x1x1024, .f32⟩
  | .hbm, ⟨3, _⟩ => ⟨S1024x7168, .bf16⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S8x256x1, .f32⟩
  | .hbm, ⟨24, _⟩ => ⟨S8x256x1, .f32⟩
  | .hbm, ⟨25, _⟩ => ⟨S8x256x1, .f32⟩
  | .hbm, ⟨26, _⟩ => ⟨S8x256x1024, .f32⟩
  | .hbm, ⟨27, _⟩ => ⟨S8x256x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S1024x7168, .f32⟩
  | .hbm, ⟨36, _⟩ => ⟨S8x256x7168, .f32⟩
  | .hbm, ⟨37, _⟩ => ⟨S2048x7168, .f32⟩
  | .hbm, ⟨38, _⟩ => ⟨S2048x7168, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Ctxcol.lean ====
abbrev S8x256x1024 : Shape := ⟨3, ![8, 256, 1024]⟩
abbrev S8x1x1024 : Shape := ⟨3, ![8, 1, 1024]⟩
abbrev S1024x6144 : Shape := ⟨2, ![1024, 6144]⟩
abbrev S1024x128 : Shape := ⟨2, ![1024, 128]⟩
abbrev S8x1x256x6144 : Shape := ⟨4, ![8, 1, 256, 6144]⟩
abbrev S8x1x256x128 : Shape := ⟨4, ![8, 1, 256, 128]⟩
abbrev S1x256x1024 : Shape := ⟨3, ![1, 256, 1024]⟩
abbrev S1x1x1024 : Shape := ⟨3, ![1, 1, 1024]⟩
abbrev S1024x3072 : Shape := ⟨2, ![1024, 3072]⟩
abbrev S1x1x256x3072 : Shape := ⟨4, ![1, 1, 256, 3072]⟩
abbrev S1x1x256x128 : Shape := ⟨4, ![1, 1, 256, 128]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x128 : Shape := ⟨2, ![256, 128]⟩
abbrev S256x3072 : Shape := ⟨2, ![256, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024x6144, .bf16⟩
  | .hbm, ⟨4, _⟩ => ⟨S1024x128, .bf16⟩
  | .hbm, ⟨5, _⟩ => ⟨S8x1x256x6144, .bf16⟩
  | .hbm, ⟨6, _⟩ => ⟨S8x1x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1024x3072, .bf16⟩
  | .local _ .vmem, ⟨8, _⟩ => ⟨S1024x128, .bf16⟩
  | .local _ .vmem, ⟨9, _⟩ => ⟨S1x1x256x3072, .bf16⟩
  | .local _ .vmem, ⟨10, _⟩ => ⟨S1x1x256x3072, .bf16⟩
  | .local _ .vmem, ⟨11, _⟩ => ⟨S1x1x256x128, .f32⟩
  | .local _ .vmem, ⟨12, _⟩ => ⟨S1x1x256x128, .f32⟩
  | .local _ .vmem, ⟨13, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CtxcolReferenceIdeal.lean ====
abbrev S8x256x1024 : Shape := ⟨3, ![8, 256, 1024]⟩
abbrev S8x1x1024 : Shape := ⟨3, ![8, 1, 1024]⟩
abbrev S1024x6144 : Shape := ⟨2, ![1024, 6144]⟩
abbrev S1024x128 : Shape := ⟨2, ![1024, 128]⟩
abbrev S_ : Shape := ⟨0, ![]⟩
abbrev S8x256 : Shape := ⟨2, ![8, 256]⟩
abbrev S8x256x1 : Shape := ⟨3, ![8, 256, 1]⟩
abbrev S8x256x6144 : Shape := ⟨3, ![8, 256, 6144]⟩
abbrev S8x256x128 : Shape := ⟨3, ![8, 256, 128]⟩
abbrev S8x1x256x6144 : Shape := ⟨4, ![8, 1, 256, 6144]⟩
abbrev S8x1x256x128 : Shape := ⟨4, ![8, 1, 256, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024x6144, .bf16⟩
  | .hbm, ⟨4, _⟩ => ⟨S1024x128, .bf16⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S8x256x1, .f32⟩
  | .hbm, ⟨24, _⟩ => ⟨S8x256x1, .f32⟩
  | .hbm, ⟨25, _⟩ => ⟨S8x256x1, .f32⟩
  | .hbm, ⟨26, _⟩ => ⟨S8x256x1024, .f32⟩
  | .hbm, ⟨27, _⟩ => ⟨S8x256x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S1024x6144, .f32⟩
  | .hbm, ⟨36, _⟩ => ⟨S8x256x6144, .f32⟩
  | .hbm, ⟨37, _⟩ => ⟨S1024x128, .f32⟩
  | .hbm, ⟨38, _⟩ => ⟨S8x256x128, .f32⟩
  | .hbm, ⟨39, _⟩ => ⟨S8x1x256x6144, .f32⟩
  | .hbm, ⟨40, _⟩ => ⟨S8x1x256x6144, .bf16⟩
  | .hbm, ⟨41, _⟩ => ⟨S8x1x256x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Ada.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== State.lean ====
abbrev S8x256x7168 : Shape := ⟨3, ![8, 256, 7168]⟩
abbrev S1x1024 : Shape := ⟨2, ![1, 1024]⟩
abbrev S64x64 : Shape := ⟨2, ![64, 64]⟩
abbrev S_ : Shape := ⟨0, ![]⟩
abbrev S8x8x128x128 : Shape := ⟨4, ![8, 8, 128, 128]⟩
abbrev S2x256x1024 : Shape := ⟨3, ![2, 256, 1024]⟩
abbrev S2x8x128x128 : Shape := ⟨4, ![2, 8, 128, 128]⟩
abbrev S1x64x1024 : Shape := ⟨3, ![1, 64, 1024]⟩
abbrev S64x1024 : Shape := ⟨2, ![64, 1024]⟩
abbrev S1x1x128x128 : Shape := ⟨4, ![1, 1, 128, 128]⟩
abbrev S128x128 : Shape := ⟨2, ![128, 128]⟩
abbrev S64x128 : Shape := ⟨2, ![64, 128]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S8x256x7168, .bf16⟩
  | .hbm, ⟨1, _⟩ => ⟨S1x1024, .f32⟩
  | .hbm, ⟨2, _⟩ => ⟨S64x64, .f32⟩
  | .hbm, ⟨3, _⟩ => ⟨S_, .f32⟩
  | .hbm, ⟨4, _⟩ => ⟨S8x8x128x128, .f32⟩
  | .hbm, ⟨5, _⟩ => ⟨S8x8x128x128, .f32⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x8x128x128, .f32⟩
  | .local _ .vmem, ⟨5, _⟩ => ⟨S2x8x128x128, .f32⟩
  | .local _ .vmem, ⟨6, _⟩ => ⟨S1x1024, .f32⟩
  | .local _ .vmem, ⟨7, _⟩ => ⟨S64x64, .f32⟩
  | .local _ .vmem, ⟨8, _⟩ => ⟨S2x8x128x128, .f32⟩
  | .local _ .vmem, ⟨9, _⟩ => ⟨S2x8x128x128, .f32⟩
  | .local _ .vmem, ⟨10, _⟩ => ⟨S2x8x128x128, .f32⟩
  | _, _ => ⟨S8x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32_4 : BitVec 32 := 0#32
  let c4_i32 : BitVec 32 := 4#32
  let v5 : BitVec 32 := Scalar.addi c0_i32_4 c4_i32
  let c1_i32 : BitVec 32 := 1#32
  ⟨c0_i32_4, v5, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c64_i32 : BitVec 32 := 64#32
  let v9 : BitVec 32 := Scalar.muli arg9 c64_i32
  v9
def k0_off1 (k0_t1 : Fin k0_t1_loop.trips) : Fin 3 → Nat :=
  let c0_8 : Index := 0#32
  let c0_i32_4 : BitVec 32 := 0#32
  let c1_i32 : BitVec 32 := 1#32
  let arg9 : BitVec 32 := Scf.iv c0_i32_4 c1_i32 k0_t1
  let c64_i32 : BitVec 32 := 64#32
  let v9 : BitVec 32 := Scalar.muli arg9 c64_i32
  let v10 : BitVec 32 := v9
  let v11 : Index := Scalar.indexCast v10
  let c0_9 : Index := 0#32
  ![0, v11.toNat, 0]
def k0_off2 (k0_t1 : Fin k0_t1_loop.trips) : Fin 3 → Nat :=
  let c1 : Index := 1#32
  let c0_i32_4 : BitVec 32 := 0#32
  let c1_i32 : BitVec 32 := 1#32
  let arg9 : BitVec 32 := Scf.iv c0_i32_4 c1_i32 k0_t1
  let c64_i32 : BitVec 32 := 64#32
  let v9 : BitVec 32 := Scalar.muli arg9 c64_i32
  let v10 : BitVec 32 := v9
  let v19 : Index := Scalar.indexCast v10
  let c0_12 : Index := 0#32
  ![1, v19.toNat, 0]
def k0_cond2 (i : grid0.Coords) : BitVec 1 :=
  let arg1 : BitVec 32 := BitVec.ofNat 32 (i 1).val
  let c0_i32_6 : BitVec 32 := 0#32
  let v6 : BitVec 1 := Scalar.cmpi .eq arg1 c0_i32_6
  let v7 : BitVec 32 := Scalar.extui v6
  let c0_i32_7 : BitVec 32 := 0#32
  let v8 : BitVec 1 := Scalar.cmpi .ne v7 c0_i32_7
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== StateReferenceIdeal.lean ====
abbrev S8x256x7168 : Shape := ⟨3, ![8, 256, 7168]⟩
abbrev S1x1024 : Shape := ⟨2, ![1, 1024]⟩
abbrev S8x256x1024 : Shape := ⟨3, ![8, 256, 1024]⟩
abbrev S1024 : Shape := ⟨1, ![1024]⟩
abbrev S_ : Shape := ⟨0, ![]⟩
abbrev S1x1x1024 : Shape := ⟨3, ![1, 1, 1024]⟩
abbrev S8x256x8x128 : Shape := ⟨4, ![8, 256, 8, 128]⟩
abbrev S8x1x8x128 : Shape := ⟨4, ![8, 1, 8, 128]⟩
abbrev S8x8x128x128 : Shape := ⟨4, ![8, 8, 128, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x256x7168, .bf16⟩
  | .hbm, ⟨1, _⟩ => ⟨S1x1024, .f32⟩
  | .hbm, ⟨2, _⟩ => ⟨S8x256x7168, .f32⟩
  | .hbm, ⟨3, _⟩ => ⟨S8x256x1024, .f32⟩
  | .hbm, ⟨4, _⟩ => ⟨S8x256x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S8x256x1024, .f32⟩
  | .hbm, ⟨10, _⟩ => ⟨S8x256x1024, .f32⟩
  | .hbm, ⟨11, _⟩ => ⟨S_, .f32⟩
  | .hbm, ⟨12, _⟩ => ⟨S8x256x1024, .f32⟩
  | .hbm, ⟨13, _⟩ => ⟨S8x256x1024, .f32⟩
  | .hbm, ⟨14, _⟩ => ⟨S_, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S8x256x1024, .f32⟩
  | .hbm, ⟨26, _⟩ => ⟨S8x256x1024, .f32⟩
  | .hbm, ⟨27, _⟩ => ⟨S8x256x8x128, .f32⟩
  | .hbm, ⟨28, _⟩ => ⟨S8x256x8x128, .f32⟩
  | .hbm, ⟨29, _⟩ => ⟨S8x256x8x128, .f32⟩
  | .hbm, ⟨30, _⟩ => ⟨S_, .f32⟩
  | .hbm, ⟨31, _⟩ => ⟨S_, .f32⟩
  | .hbm, ⟨32, _⟩ => ⟨S8x256x8x128, .f32⟩
  | .hbm, ⟨33, _⟩ => ⟨S8x1x8x128, .f32⟩
  | .hbm, ⟨34, _⟩ => ⟨S8x256x8x128, .f32⟩
  | .hbm, ⟨35, _⟩ => ⟨S8x256x8x128, .f32⟩
  | .hbm, ⟨36, _⟩ => ⟨S8x256x8x128, .f32⟩
  | .hbm, ⟨37, _⟩ => ⟨S8x256x8x128, .f32⟩
  | .hbm, ⟨38, _⟩ => ⟨S8x8x128x128, .f32⟩
  | .hbm, ⟨39, _⟩ => ⟨S8x8x128x128, .f32⟩
  | _, _ => ⟨S8x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_call0_cst : Ref sig .tc := ⟨.hbm, 30, rfl⟩
abbrev main_call0_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Back.lean ====
abbrev S8x256x7168 : Shape := ⟨3, ![8, 256, 7168]⟩
abbrev S1x1024 : Shape := ⟨2, ![1, 1024]⟩
abbrev S64x64 : Shape := ⟨2, ![64, 64]⟩
abbrev S_ : Shape := ⟨0, ![]⟩
abbrev S8x8x128x128 : Shape := ⟨4, ![8, 8, 128, 128]⟩
abbrev S2x256x1024 : Shape := ⟨3, ![2, 256, 1024]⟩
abbrev S2x8x128x128 : Shape := ⟨4, ![2, 8, 128, 128]⟩
abbrev S1x64x1024 : Shape := ⟨3, ![1, 64, 1024]⟩
abbrev S64x1024 : Shape := ⟨2, ![64, 1024]⟩
abbrev S1x1x128x128 : Shape := ⟨4, ![1, 1, 128, 128]⟩
abbrev S128x128 : Shape := ⟨2, ![128, 128]⟩
abbrev S64x128 : Shape := ⟨2, ![64, 128]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S8x256x7168, .bf16⟩
  | .hbm, ⟨1, _⟩ => ⟨S1x1024, .f32⟩
  | .hbm, ⟨2, _⟩ => ⟨S64x64, .f32⟩
  | .hbm, ⟨3, _⟩ => ⟨S_, .f32⟩
  | .hbm, ⟨4, _⟩ => ⟨S8x8x128x128, .f32⟩
  | .hbm, ⟨5, _⟩ => ⟨S8x8x128x128, .f32⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x8x128x128, .f32⟩
  | .local _ .vmem, ⟨5, _⟩ => ⟨S2x8x128x128, .f32⟩
  | .local _ .vmem, ⟨6, _⟩ => ⟨S1x1024, .f32⟩
  | .local _ .vmem, ⟨7, _⟩ => ⟨S64x64, .f32⟩
  | .local _ .vmem, ⟨8, _⟩ => ⟨S2x8x128x128, .f32⟩
  | .local _ .vmem, ⟨9, _⟩ => ⟨S2x8x128x128, .f32⟩
  | .local _ .vmem, ⟨10, _⟩ => ⟨S2x8x128x128, .f32⟩
  | _, _ => ⟨S8x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32_4 : BitVec 32 := 0#32
  let c4_i32 : BitVec 32 := 4#32
  let v5 : BitVec 32 := Scalar.addi c0_i32_4 c4_i32
  let c1_i32 : BitVec 32 := 1#32
  ⟨c0_i32_4, v5, c1_i32⟩
def k0_mult1 (k0_t1 : Fin k0_t1_loop.trips) : BitVec 32 :=
  let c3_i32 : BitVec 32 := 3#32
  let c0_i32_4 : BitVec 32 := 0#32
  let c1_i32 : BitVec 32 := 1#32
  let arg9 : BitVec 32 := Scf.iv c0_i32_4 c1_i32 k0_t1
  let v9 : BitVec 32 := Scalar.subi c3_i32 arg9
  let c64_i32 : BitVec 32 := 64#32
  let v10 : BitVec 32 := Scalar.muli v9 c64_i32
  v10
def k0_off1 (k0_t1 : Fin k0_t1_loop.trips) : Fin 3 → Nat :=
  let c0_8 : Index := 0#32
  let c3_i32 : BitVec 32 := 3#32
  let c0_i32_4 : BitVec 32 := 0#32
  let c1_i32 : BitVec 32 := 1#32
  let arg9 : BitVec 32 := Scf.iv c0_i32_4 c1_i32 k0_t1
  let v9 : BitVec 32 := Scalar.subi c3_i32 arg9
  let c64_i32 : BitVec 32 := 64#32
  let v10 : BitVec 32 := Scalar.muli v9 c64_i32
  let v11 : BitVec 32 := v10
  let v12 : Index := Scalar.indexCast v11
  let c0_9 : Index := 0#32
  ![0, v12.toNat, 0]
def k0_off2 (k0_t1 : Fin k0_t1_loop.trips) : Fin 3 → Nat :=
  let c1 : Index := 1#32
  let c3_i32 : BitVec 32 := 3#32
  let c0_i32_4 : BitVec 32 := 0#32
  let c1_i32 : BitVec 32 := 1#32
  let arg9 : BitVec 32 := Scf.iv c0_i32_4 c1_i32 k0_t1
  let v9 : BitVec 32 := Scalar.subi c3_i32 arg9
  let c64_i32 : BitVec 32 := 64#32
  let v10 : BitVec 32 := Scalar.muli v9 c64_i32
  let v11 : BitVec 32 := v10
  let v20 : Index := Scalar.indexCast v11
  let c0_12 : Index := 0#32
  ![1, v20.toNat, 0]
def k0_cond2 (i : grid0.Coords) : BitVec 1 :=
  let arg1 : BitVec 32 := BitVec.ofNat 32 (i 1).val
  let c0_i32_6 : BitVec 32 := 0#32
  let v6 : BitVec 1 := Scalar.cmpi .eq arg1 c0_i32_6
  let v7 : BitVec 32 := Scalar.extui v6
  let c0_i32_7 : BitVec 32 := 0#32
  let v8 : BitVec 1 := Scalar.cmpi .ne v7 c0_i32_7
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c1_i32 : BitVec 32 := 1#32
  let c0_i32_0 : BitVec 32 := 0#32
  ![arg0.toNat, v0.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c2_i32 : BitVec 32 := 2#32
  let c0_i32_0 : BitVec 32 := 0#32
  ![arg0.toNat, v0.toNat, c2_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== BackReferenceIdeal.lean ====
abbrev S8x256x7168 : Shape := ⟨3, ![8, 256, 7168]⟩
abbrev S1x1024 : Shape := ⟨2, ![1, 1024]⟩
abbrev S8x256x1024 : Shape := ⟨3, ![8, 256, 1024]⟩
abbrev S1024 : Shape := ⟨1, ![1024]⟩
abbrev S_ : Shape := ⟨0, ![]⟩
abbrev S1x1x1024 : Shape := ⟨3, ![1, 1, 1024]⟩
abbrev S8x256x8x128 : Shape := ⟨4, ![8, 256, 8, 128]⟩
abbrev S8x1x8x128 : Shape := ⟨4, ![8, 1, 8, 128]⟩
abbrev S8x8x128x128 : Shape := ⟨4, ![8, 8, 128, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x256x7168, .bf16⟩
  | .hbm, ⟨1, _⟩ => ⟨S1x1024, .f32⟩
  | .hbm, ⟨2, _⟩ => ⟨S8x256x7168, .f32⟩
  | .hbm, ⟨3, _⟩ => ⟨S8x256x1024, .f32⟩
  | .hbm, ⟨4, _⟩ => ⟨S8x256x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S8x256x1024, .f32⟩
  | .hbm, ⟨10, _⟩ => ⟨S8x256x1024, .f32⟩
  | .hbm, ⟨11, _⟩ => ⟨S_, .f32⟩
  | .hbm, ⟨12, _⟩ => ⟨S8x256x1024, .f32⟩
  | .hbm, ⟨13, _⟩ => ⟨S8x256x1024, .f32⟩
  | .hbm, ⟨14, _⟩ => ⟨S_, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S8x256x1024, .f32⟩
  | .hbm, ⟨26, _⟩ => ⟨S8x256x1024, .f32⟩
  | .hbm, ⟨27, _⟩ => ⟨S8x256x8x128, .f32⟩
  | .hbm, ⟨28, _⟩ => ⟨S8x256x8x128, .f32⟩
  | .hbm, ⟨29, _⟩ => ⟨S8x256x8x128, .f32⟩
  | .hbm, ⟨30, _⟩ => ⟨S8x256x8x128, .f32⟩
  | .hbm, ⟨31, _⟩ => ⟨S8x256x8x128, .f32⟩
  | .hbm, ⟨32, _⟩ => ⟨S8x256x8x128, .f32⟩
  | .hbm, ⟨33, _⟩ => ⟨S_, .f32⟩
  | .hbm, ⟨34, _⟩ => ⟨S_, .f32⟩
  | .hbm, ⟨35, _⟩ => ⟨S8x256x8x128, .f32⟩
  | .hbm, ⟨36, _⟩ => ⟨S8x1x8x128, .f32⟩
  | .hbm, ⟨37, _⟩ => ⟨S8x256x8x128, .f32⟩
  | .hbm, ⟨38, _⟩ => ⟨S8x256x8x128, .f32⟩
  | .hbm, ⟨39, _⟩ => ⟨S8x256x8x128, .f32⟩
  | .hbm, ⟨40, _⟩ => ⟨S8x256x8x128, .f32⟩
  | .hbm, ⟨41, _⟩ => ⟨S8x8x128x128, .f32⟩
  | .hbm, ⟨42, _⟩ => ⟨S8x8x128x128, .f32⟩
  | _, _ => ⟨S8x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call3_call0_cst : Ref sig .tc := ⟨.hbm, 33, rfl⟩
abbrev main_call3_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.IdealExit.lean ====
module

public import proofs.«01_k».proof.Proof.Gen.KernelIdeal.Loops

/-! The loop over a tile's eight chunks (ideal reading): its pieces do not depend on what the result's buffer held before. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What one trip stores does not depend on what it finds in the result's buffer. -/
theorem trip_free (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (v3 : Vec F S1x1024 .f32) (v4 : Vec F S64x64 .f32) (X_arg2 : BufTy.Contents (Elt F) arg2.view.ty) (X_arg3 : BufTy.Contents (Elt F) arg3.view.ty) (X_arg4 : BufTy.Contents (Elt F) arg4.view.ty) (k : Fin k0_t1_loop.trips) (f f' : BufTy.Contents (Elt F) arg8.view.ty) (g : BufTy.Contents (Elt F) arg9.view.ty) :
    tripL_k0_t1 (F := F) 𝒱 c bd i arg2 harg2 arg3 harg3 arg4 harg4 arg5 harg5 arg6 harg6 arg7 harg7 arg8 harg8 arg9 harg9 v3 v4 X_arg2 X_arg3 X_arg4 k f g = tripL_k0_t1 (F := F) 𝒱 c bd i arg2 harg2 arg3 harg3 arg4 harg4 arg5 harg5 arg6 harg6 arg7 harg7 arg8 harg8 arg9 harg9 v3 v4 X_arg2 X_arg3 X_arg4 k f' g := by
  unfold tripL_k0_t1
  unfold trip_k0_t1
  rfl

/-- Nor does what the trips before `n` store together. -/
theorem trips_free (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (v3 : Vec F S1x1024 .f32) (v4 : Vec F S64x64 .f32) (X_arg2 : BufTy.Contents (Elt F) arg2.view.ty) (X_arg3 : BufTy.Contents (Elt F) arg3.view.ty) (X_arg4 : BufTy.Contents (Elt F) arg4.view.ty) (f f' : BufTy.Contents (Elt F) arg8.view.ty) (g : BufTy.Contents (Elt F) arg9.view.ty) (n : ℕ) :
    pb_k0_t1 (F := F) 𝒱 c bd i arg2 harg2 arg3 harg3 arg4 harg4 arg5 harg5 arg6 harg6 arg7 harg7 arg8 harg8 arg9 harg9 v3 v4 X_arg2 X_arg3 X_arg4 f g n = pb_k0_t1 (F := F) 𝒱 c bd i arg2 harg2 arg3 harg3 arg4 harg4 arg5 harg5 arg6 harg6 arg7 harg7 arg8 harg8 arg9 harg9 v3 v4 X_arg2 X_arg3 X_arg4 f' g n := by
  induction n with
  | zero => rfl
  | succ n ih =>
    rw [pb_k0_t1.eq_2, pb_k0_t1.eq_2, ih]
    unfold pb_k0_t1Step
    split
    · rw [trip_free 𝒱 c bd i arg2 harg2 arg3 harg3 arg4 harg4 arg5 harg5 arg6 harg6 arg7 harg7 arg8 harg8 arg9 harg9 v3 v4 X_arg2 X_arg3 X_arg4 _ (arg8.view.writes (Elt F) f _) (arg8.view.writes (Elt F) f' _)]
    · rfl

/-- After the loop the result's buffer holds the trips' pieces, named without the contents it had before the loop. -/
instance tripsExit (𝒱 : Variants) (c : Dev nD) (bd : Option 𝒱.V) (E : Set ℕ) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (v3 : Vec F S1x1024 .f32) (v4 : Vec F S64x64 .f32) (X_arg2 : BufTy.Contents (Elt F) arg2.view.ty) (X_arg3 : BufTy.Contents (Elt F) arg3.view.ty) (X_arg4 : BufTy.Contents (Elt F) arg4.view.ty) (f : BufTy.Contents (Elt F) arg8.view.ty) (g : BufTy.Contents (Elt F) arg9.view.ty) :
    LoopExit (loopInv_k0_t1 (F := F) 𝒱 c bd E i arg2 harg2 arg3 harg3 arg4 harg4 arg5 harg5 arg6 harg6 arg7 harg7 arg8 harg8 arg9 harg9 v3 v4 X_arg2 X_arg3 X_arg4 f g) where
  post _ := iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4)
    ∗ (∃ f', (arg8.view.loc (c : Thread nD τ) ↦[arg8.view.set]{fullShare} f') ∗ ⌜f' = arg8.view.writes (Elt F) f (pb_k0_t1 (F := F) 𝒱 c bd i arg2 harg2 arg3 harg3 arg4 harg4 arg5 harg5 arg6 harg6 arg7 harg7 arg8 harg8 arg9 harg9 v3 v4 X_arg2 X_arg3 X_arg4 arg8.view.junk g 8).1⌝)
    ∗ (∃ g', (arg9.view.loc (c : Thread nD τ) ↦[arg9.view.set]{fullShare} g') ∗ ⌜g' = arg9.view.writes (Elt F) g (pb_k0_t1 (F := F) 𝒱 c bd i arg2 harg2 arg3 harg3 arg4 harg4 arg5 harg5 arg6 harg6 arg7 harg7 arg8 harg8 arg9 harg9 v3 v4 X_arg2 X_arg3 X_arg4 arg8.view.junk g 8).2⌝))
  exit u := by
    show inv_k0_t1 (F := F) 𝒱 c bd i arg2 harg2 arg3 harg3 arg4 harg4 arg5 harg5 arg6 harg6 arg7 harg7 arg8 harg8 arg9 harg9 v3 v4 X_arg2 X_arg3 X_arg4 f g 8 u ⊢ _
    unfold inv_k0_t1
    rw [trips_free 𝒱 c bd i arg2 harg2 arg3 harg3 arg4 harg4 arg5 harg5 arg6 harg6 arg7 harg7 arg8 harg8 arg9 harg9 v3 v4 X_arg2 X_arg3 X_arg4 f arg8.view.junk g 8]

end Cert.KernelIdeal.Gen

end
-- ==== Proof.IdealRunA.lean ====
/- The body at the points that reset the carried state (a tile row's first tile), run through the loop
   with the loop's pieces named without the result buffer's prior contents (`tripsExit`). -/
module

public import proofs.«01_k».proof.Proof.Gen.KernelIdeal.Frame.Runs
public import proofs.«01_k».proof.Proof.IdealExit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 16, 32, 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (hc0 : cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) :
    Σ' (L6 : List (View.Piece (Elt F) S2x512x1024 .bf16)), { LS0 : List (View.Piece (Elt F) S2x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_hgrn_fwd i arg2 harg2 arg3 harg3 arg4 harg4 arg5 harg5 arg6 harg6 arg7 harg7 arg8 harg8 arg9 harg9) K } := by
  refine ⟨?_, ?_, fun E K => ?run⟩
  case run =>
    simp only [cc0_hgrn_fwd_eq_skeleton]; unfold cc0_hgrn_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Gen

end
-- ==== Proof.IdealRunB.lean ====
/- The body at the other points, which go on from the carried state. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 63: 60 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (hc0 : ¬cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (xs0 : Vec F S2x8x128x128 .f32) :
    Σ' (L6 : List (View.Piece (Elt F) S2x512x1024 .bf16)), { LS0 : List (View.Piece (Elt F) S2x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_hgrn_fwd i arg2 harg2 arg3 harg3 arg4 harg4 arg5 harg5 arg6 harg6 arg7 harg7 arg8 harg8 arg9 harg9) K } := by
  refine ⟨?_, ?_, fun E K => ?run⟩
  case run =>
    simp only [cc0_hgrn_fwd_eq_skeleton]; unfold cc0_hgrn_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Gen

end
-- ==== Proof.IdealFrame.lean ====
/- What the result's blocks and the carried state hold point by point, the run of the whole program, and its frame. -/
module

public import proofs.«01_k».proof.Proof.IdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Point

variable (c : Dev nD) (i : grid0.Coords) (arg2 : Memref sig .tc .vmem S2x512x1024 .bf16) (harg2 : arg2.IsWhole)
  (arg3 : Memref sig .tc .vmem S2x512x1024 .bf16) (harg3 : arg3.IsWhole) (arg4 : Memref sig .tc .vmem S2x512x1024 .bf16)
  (harg4 : arg4.IsWhole) (arg5 : Memref sig .tc .vmem S2x8x128x128 .f32) (harg5 : arg5.IsWhole)
  (arg6 : Memref sig .tc .vmem S1x1024 .f32) (harg6 : arg6.IsWhole) (arg7 : Memref sig .tc .vmem S64x64 .f32)
  (harg7 : arg7.IsWhole) (arg8 : Memref sig .tc .vmem S2x512x1024 .bf16) (harg8 : arg8.IsWhole)
  (arg9 : Memref sig .tc .vmem S2x8x128x128 .f32) (harg9 : arg9.IsWhole)

/-- Case A's pieces for output 6 tile its block (16 stores of `S1x64x1024`, checked by the kernel's evaluation: Lib/Ring.lean `Piece.tiledL`, linear in the pieces, through a loop's `@[irreducible]` trip theorem too), so they cover it. -/
theorem cover0_A_6 (hc0 : cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (y : S2x512x1024.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x64x1024.size (by sl_kernel_rfl) y

/-- What case A leaves in output 6's staging buffer: its pieces read back over junk. -/
def out0_A_6 (hc0 : cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) : Vec F S2x512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- Case A's pieces for scratch `arg9`, which the kernel carries between points, cover it: one of them a store of the WHOLE buffer (Lib/Ring.lean `sl_whole_mem`). -/
theorem scover0_A_0 (hc0 : cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (y : S2x8x128x128.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_wholeMem (kernelRun0_A c i arg2 harg2 arg3 harg3 arg4 harg4 arg5 harg5 arg6 harg6 arg7 harg7 arg8 harg8 arg9 harg9 hc0 x0 x1 x2 x3 x4 x5).2.1 (by sl_whole_mem) y

/-- What case A leaves in scratch `arg9`: its pieces read back over junk. -/
def sout0_A_0 (hc0 : cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) : Vec F S2x8x128x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- Case B's pieces for output 6 tile its block (16 stores of `S1x64x1024`, checked by the kernel's evaluation: Lib/Ring.lean `Piece.tiledL`, linear in the pieces, through a loop's `@[irreducible]` trip theorem too), so they cover it. -/
theorem cover0_B_6 (hc0 : ¬cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (xs0 : Vec F S2x8x128x128 .f32) (y : S2x512x1024.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x64x1024.size (by sl_kernel_rfl) y

/-- What case B leaves in output 6's staging buffer: its pieces read back over junk. -/
def out0_B_6 (hc0 : ¬cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (xs0 : Vec F S2x8x128x128 .f32) : Vec F S2x512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- Case B's pieces for scratch `arg9`, which the kernel carries between points, cover it: 128 pieces of `S1x1x128x128` tiling it (Lib/Ring.lean `Piece.tiledL`). -/
theorem scover0_B_0 (hc0 : ¬cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (xs0 : Vec F S2x8x128x128 .f32) (y : S2x8x128x128.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S1x1x128x128.size (by sl_kernel_rfl) y

/-- What case B leaves in scratch `arg9`: its pieces read back over junk. -/
def sout0_B_0 (hc0 : ¬cond0_0 i)
    (x0 : Vec F S2x512x1024 .bf16) (x1 : Vec F S2x512x1024 .bf16) (x2 : Vec F S2x512x1024 .bf16) (x3 : Vec F S2x8x128x128 .f32) (x4 : Vec F S1x1024 .f32) (x5 : Vec F S64x64 .f32) (xs0 : Vec F S2x8x128x128 .f32) : Vec F S2x8x128x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 x5 xs0).2.1)

/-! ## What the outputs hold after each point -/

end Point

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x512x1024 .bf16 × Vec F S2x8x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases hz : t.val = 0
    · rw [PhiS_castSucc m c t, PhiS_zero m c _ _ hz, PhiA0_eq]
      rw [outsAt0_A m c t h0]
      unfold out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      rw [outsAt0_A m c t h0]
      unfold out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_6 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.IdealValue.lean ====
/- The result after the run: the blocks that the points write back, and the carried state as a fold. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  simp only [flushed6, outsAt0_B m c t h0]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8x8192x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0) = (dats m 0 c).arrAt 6 cfg0.N :=
  (h c).1 6

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      kept_main_arg0 m r h c,
      kept_main_arg1 m r h c,
      kept_main_arg2 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_0 (c : Dev nD) (n : ℕ) (hb : n < cfg0.N) (acc : Vec F S2x8x128x128 .f32) : Vec F S2x8x128x128 .f32 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2) 16 (fun n h => scAt0_0 m c n h (VS0_0.read (Elt F) VS0_0.junk)) (scAt0_0 m c)
    (fun n h hn => by
      have hN := lt_of_lt_of_eq h (show cfg0.N = 64 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S2x512x1024 .bf16 × Vec F S2x8x128x128 .f32 :=
  ((VO0_6.read (Elt F) VO0_6.junk, VS0_0.read (Elt F) VS0_0.junk) : Vec F S2x512x1024 .bf16 × Vec F S2x8x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S2x512x1024 .bf16 × Vec F S2x8x128x128 .f32) : Vec F S2x512x1024 .bf16 × Vec F S2x8x128x128 .f32 :=
  if h0 : n % 16 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2)

/-- `stAt0` at a point of case A: that case's contents. -/
theorem stAt0_A (c : Dev nD) (t : Fin cfg0.N) (acc : Vec F S2x512x1024 .bf16 × Vec F S2x8x128x128 .f32) (h0 : t.val % 16 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) :=
  (dif_pos h0).trans rfl

/-- `stAt0` at a point of case B: that case's contents, over `acc`. -/
theorem stAt0_B (c : Dev nD) (t : Fin cfg0.N) (acc : Vec F S2x512x1024 .bf16 × Vec F S2x8x128x128 .f32) (h0 : ¬t.val % 16 = 0) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S8x8192x1024.Idx) : ℕ := 16 * ((i 0).val / 2 - 0) + 1 * ((i 1).val / 512 - 0) + 1 * ((i 2).val / 1024 - 0)
set_option backward.proofsInPublic true in
abbrev loc6Of (i : S8x8192x1024.Idx) : S2x512x1024.Idx := fun a => match a with
  | ⟨0, _⟩ => ⟨(i 0).val % 2, Nat.mod_lt _ (by decide)⟩
  | ⟨1, _⟩ => ⟨(i 1).val % 512, Nat.mod_lt _ (by decide)⟩
  | ⟨2, _⟩ => ⟨(i 2).val % 1024, Nat.mod_lt _ (by decide)⟩
abbrev pt6Of (i : S8x8192x1024.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 3) ∧ win0_6.index t (0 : Fin 3) ≤ 3
    ∧ 0 ≤ win0_6.index t (1 : Fin 3) ∧ win0_6.index t (1 : Fin 3) ≤ 15
    ∧ 0 ≤ win0_6.index t (2 : Fin 3) ∧ win0_6.index t (2 : Fin 3) ≤ 0
    ∧ 16 * (win0_6.index t (0 : Fin 3) - 0) + 1 * (win0_6.index t (1 : Fin 3) - 0) + 1 * (win0_6.index t (2 : Fin 3) - 0) = t.val :=
  (by decide +kernel : ∀ t : Fin grid0.N, _)

/-- Every block of the box is SOME flushing point's: `onto6Pt`, the point that writes back the block at place `q` of the box. -/
abbrev onto6Pt (q0 : Fin 4) (q1 : Fin 16) (q2 : Fin 1) : Fin grid0.N :=
  ⟨16 * q0.val + 1 * q1.val + 1 * q2.val, lt_of_lt_of_eq (by omega) N_0.symm⟩
theorem idx_onto6 : ∀ (q0 : Fin 4) (q1 : Fin 16) (q2 : Fin 1), ∃ t : Fin cfg0.N, (cfg0.win 6).flush t = true ∧ win0_6.index t = ![q0.val + 0, q1.val + 0, q2.val + 0] :=
  fun q0 q1 q2 => ⟨onto6Pt q0 q1 q2, (by decide +kernel : ∀ (q0 : Fin 4) (q1 : Fin 16) (q2 : Fin 1), win0_6.flush (onto6Pt q0 q1 q2) = true ∧ win0_6.index (onto6Pt q0 q1 q2) = ![q0.val + 0, q1.val + 0, q2.val + 0]) q0 q1 q2⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2, e3⟩ := idx_facts6 t
  funext y
  have hy0 : (y 0).val < 2 := (y 0).isLt
  have hy1 : (y 1).val < 512 := (y 1).isLt
  have hy2 : (y 2).val < 1024 := (y 2).isLt
  have hb0 : (((cfg0.win 6).blk t).view.emb y 0).val = win0_6.index t (0 : Fin 3) * 2 + 1 * (y 0).val := rfl
  have hb1 : (((cfg0.win 6).blk t).view.emb y 1).val = win0_6.index t (1 : Fin 3) * 512 + 1 * (y 1).val := rfl
  have hb2 : (((cfg0.win 6).blk t).view.emb y 2).val = win0_6.index t (2 : Fin 3) * 1024 + 1 * (y 2).val := rfl
  have hr : run6Of (((cfg0.win 6).blk t).view.emb y) = t.val := by
    show 16 * ((((cfg0.win 6).blk t).view.emb y 0).val / 2 - 0) + 1 * ((((cfg0.win 6).blk t).view.emb y 1).val / 512 - 0) + 1 * ((((cfg0.win 6).blk t).view.emb y 2).val / 1024 - 0) = _
    rw [hb0, hb1, hb2]
    rw [show (win0_6.index t (0 : Fin 3) * 2 + 1 * (y 0).val) / 2 = win0_6.index t (0 : Fin 3) from by omega]; rw [show (win0_6.index t (1 : Fin 3) * 512 + 1 * (y 1).val) / 512 = win0_6.index t (1 : Fin 3) from by omega]; rw [show (win0_6.index t (2 : Fin 3) * 1024 + 1 * (y 2).val) / 1024 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 2 = (y 0).val; rw [hb0]; omega
    | ⟨1, _⟩ => show (((cfg0.win 6).blk t).view.emb y 1).val % 512 = (y 1).val; rw [hb1]; omega
    | ⟨2, _⟩ => show (((cfg0.win 6).blk t).view.emb y 2).val % 1024 = (y 2).val; rw [hb2]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S8x8192x1024.Idx) :
    i ∈ ((cfg0.win 6).blk t).view.set ↔ ∀ a : Fin 3, win0_6.index t a * S2x512x1024.size a ≤ (i a).val ∧ (i a).val < win0_6.index t a * S2x512x1024.size a + S2x512x1024.size a := by
  show i ∈ ((View.whole main_v0).slice (win0_6.rect t)).set ↔ _
  rw [View.set_slice_whole, Rect.mem_set_unit]
  exact Iff.rfl

/-- THE COVERED INDICES: in some flushing point's block iff inside the box those blocks fill. -/
theorem covered_iff6 (i : S8x8192x1024.Idx) :
    (∃ t : Fin cfg0.N, (cfg0.win 6).flush t = true ∧ i ∈ ((cfg0.win 6).blk t).view.set) ↔ 0 ≤ (i 0).val ∧ (i 0).val < 8 ∧ 0 ≤ (i 1).val ∧ (i 1).val < 8192 ∧ 0 ≤ (i 2).val ∧ (i 2).val < 1024 := by
  constructor
  · rintro ⟨t, -, hi⟩
    rw [mem_blk6] at hi
    have b0 : win0_6.index t (0 : Fin 3) * 2 ≤ (i 0).val ∧ (i 0).val < win0_6.index t (0 : Fin 3) * 2 + 2 := hi 0
    have b1 : win0_6.index t (1 : Fin 3) * 512 ≤ (i 1).val ∧ (i 1).val < win0_6.index t (1 : Fin 3) * 512 + 512 := hi 1
    have b2 : win0_6.index t (2 : Fin 3) * 1024 ≤ (i 2).val ∧ (i 2).val < win0_6.index t (2 : Fin 3) * 1024 + 1024 := hi 2
    obtain ⟨e0, e1, e2, e3⟩ := idx_facts6 t
    omega
  · intro h
    have hi0 : (i 0).val < 8 := (i 0).isLt
    have hi1 : (i 1).val < 8192 := (i 1).isLt
    have hi2 : (i 2).val < 1024 := (i 2).isLt
    obtain ⟨t, hft, ht⟩ := idx_onto6 ⟨(i 0).val / 2 - 0, by omega⟩ ⟨(i 1).val / 512 - 0, by omega⟩ ⟨(i 2).val / 1024 - 0, by omega⟩
    have q0 : win0_6.index t (0 : Fin 3) = (i 0).val / 2 - 0 + 0 := congrFun ht 0
    have q1 : win0_6.index t (1 : Fin 3) = (i 1).val / 512 - 0 + 0 := congrFun ht 1
    have q2 : win0_6.index t (2 : Fin 3) = (i 2).val / 1024 - 0 + 0 := congrFun ht 2
    refine ⟨t, hft, ?_⟩
    rw [mem_blk6]
    intro a
    match a with
    | ⟨0, _⟩ => show win0_6.index t (0 : Fin 3) * 2 ≤ (i 0).val ∧ (i 0).val < win0_6.index t (0 : Fin 3) * 2 + 2; omega
    | ⟨1, _⟩ => show win0_6.index t (1 : Fin 3) * 512 ≤ (i 1).val ∧ (i 1).val < win0_6.index t (1 : Fin 3) * 512 + 512; omega
    | ⟨2, _⟩ => show win0_6.index t (2 : Fin 3) * 1024 ≤ (i 2).val ∧ (i 2).val < win0_6.index t (2 : Fin 3) * 1024 + 1024; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 8 := (i 0).isLt; have h1 : (i 1).val < 8192 := (i 1).isLt; have h2 : (i 2).val < 1024 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post6 m r h c).trans (final6 m c),
      kept_main_arg0 m r h c,
      kept_main_arg1 m r h c,
      kept_main_arg2 m r h c⟩)
    (run_main m ρ)

end Cert.KernelIdeal.Value

end
-- ==== Proof.Block.lean ====
/-
  What one trip of the kernel's loop computes, named: one chunk of 64 time steps of one batch, head by head.

  The kernel writes the same operations out for each of two batches and eight heads; here each is one function of the
  head's first column, and the last two theorems say that what a trip stores is these functions of what it read.
-/
module

public import proofs.«01_k».proof.Proof.IdealExit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The chunk's queries, gate logarithms, keys, running sums and values, all heads side by side. -/
def blkQ (Q : Vec F S1x64x1024 .bf16) : FVec F S64x1024 .f32 := k0_pay3 Q
/-- The gate's logarithms. -/
def blkL (lb : Vec F S1x1024 .f32) (G : Vec F S1x64x1024 .bf16) : FVec F S64x1024 .f32 := k0_pay12 lb (k0_pay4 G)
/-- The keys: one minus the gate. -/
def blkK (lb : Vec F S1x1024 .f32) (G : Vec F S1x64x1024 .bf16) : FVec F S64x1024 .f32 := k0_pay13 lb (k0_pay4 G)
/-- The running sums of the gate's logarithms. -/
def blkC (lb : Vec F S1x1024 .f32) (tri : Vec F S64x64 .f32) (G : Vec F S1x64x1024 .bf16) : FVec F S64x1024 .f32 :=
  k0_pay14 lb tri (k0_pay4 G)
/-- The values. -/
def blkV (V : Vec F S1x64x1024 .bf16) : FVec F S64x1024 .bf16 := k0_pay15 (k0_pay5 V)

/-- The head's share of the output that comes from the state before the chunk. -/
def headInter (o : ℕ) (w : S64x1024.Slices ![0, o] S64x128) (qin : FVec F S64x1024 .bf16) (st : Vec F S1x1x128x128 .f32) :
    FVec F S64x128 .f32 :=
  matmul dot_S64x128_S128x128_S64x128_1_1_0_0_n_n none (extractStridedSlice S64x128 ![0, o] qin w)
    (truncf .bf16 (shapeCast S128x128 st shapeCasts_S1x1x128x128_S128x128) bitsLt_bf16_f32) (constant S64x128 .f32 0x00000000#32)

/-- Four blocks' columns of one head side by side. -/
def headCat (o : ℕ) (w : S64x1024.Slices ![0, o] S64x128) (a0 a1 a2 a3 : FVec F S64x1024 .bf16) : FVec F S64x512 .bf16 :=
  concatenate S64x512 1 [⟨S64x128, extractStridedSlice S64x128 ![0, o] a0 w⟩, ⟨S64x128, extractStridedSlice S64x128 ![0, o] a1 w⟩,
    ⟨S64x128, extractStridedSlice S64x128 ![0, o] a2 w⟩, ⟨S64x128, extractStridedSlice S64x128 ![0, o] a3 w⟩]
    concatenates_S64x128_S64x128_S64x128_S64x128_S64x512_d1

/-- The head's attention weights before the mask. -/
def headAtt (o : ℕ) (w : S64x1024.Slices ![0, o] S64x128) (q0 q1 q2 q3 k0 k1 k2 k3 : FVec F S64x1024 .bf16) : FVec F S64x64 .f32 :=
  matmul dot_S64x512_S64x512_S64x64_1_1_0_0_n_n none (headCat o w q0 q1 q2 q3) (headCat o w k0 k1 k2 k3)
    (constant S64x64 .f32 0x00000000#32)

/-- The head's output from the two shares. -/
def headSum (o : ℕ) (w : S64x1024.Slices ![0, o] S64x128) (v : FVec F S64x1024 .bf16) (inter : FVec F S64x128 .f32)
    (att : FVec F S64x64 .f32) : FVec F S64x128 .f32 :=
  addf inter (matmul dot_S64x64_S64x128_S64x128_1_0_0_1_n_n none
    (truncf .bf16 (select k0_pay9 att (broadcast S64x64 (Scalar.ofBits .f32 0x00000000#32))) bitsLt_bf16_f32)
    (extractStridedSlice S64x128 ![0, o] v w) (constant S64x128 .f32 0x00000000#32))

/-- The head's state after the chunk, from the running sums, the keys, the values and the state before. -/
def headNext (o : ℕ) (w : S64x1024.Slices ![0, o] S64x128) (w' : S1x1024.Slices ![0, o] S1x128) (v kst : FVec F S64x1024 .bf16)
    (dec : FVec F S1x1024 .f32) (st : Vec F S1x1x128x128 .f32) : FVec F S1x1x128x128 .f32 :=
  shapeCast S1x1x128x128 (addf (mulf (broadcastTo S128x128 (extractStridedSlice S1x128 ![0, o] dec w') broadcasts_S1x128_S128x128)
      (shapeCast S128x128 st shapeCasts_S1x1x128x128_S128x128))
    (matmul dot_S64x128_S64x128_S128x128_0_0_1_1_n_n none (extractStridedSlice S64x128 ![0, o] v w)
      (extractStridedSlice S64x128 ![0, o] kst w) (constant S128x128 .f32 0x00000000#32)))
    shapeCasts_S128x128_S1x1x128x128

/-- One head's state after a chunk. -/
def headState (o : ℕ) (w : S64x1024.Slices ![0, o] S64x128) (w' : S1x1024.Slices ![0, o] S1x128) (lb : Vec F S1x1024 .f32)
    (tri : Vec F S64x64 .f32) (G V : Vec F S1x64x1024 .bf16) (st : Vec F S1x1x128x128 .f32) : FVec F S1x1x128x128 .f32 :=
  headNext o w w' (blkV V) (k0_pay24 (blkK lb G) (blkC lb tri G)) (k0_pay25 (blkC lb tri G)) st

/-- One head's output of a chunk. -/
def headOut (o : ℕ) (w : S64x1024.Slices ![0, o] S64x128) (lb : Vec F S1x1024 .f32) (tri : Vec F S64x64 .f32)
    (Q G V : Vec F S1x64x1024 .bf16) (st : Vec F S1x1x128x128 .f32) : FVec F S64x128 .f32 :=
  headSum o w (blkV V) (headInter o w (k0_pay26 (blkQ Q) (blkC lb tri G)) st)
    (headAtt o w (k0_pay28 (blkQ Q) (blkL lb G) (blkC lb tri G)) (k0_pay31 (blkQ Q) (blkL lb G) (blkC lb tri G))
      (k0_pay34 (blkQ Q) (blkL lb G) (blkC lb tri G)) (k0_pay37 (blkQ Q) (blkL lb G) (blkC lb tri G))
      (k0_pay29 (blkL lb G) (blkK lb G) (blkC lb tri G)) (k0_pay32 (blkL lb G) (blkK lb G) (blkC lb tri G))
      (k0_pay35 (blkL lb G) (blkK lb G) (blkC lb tri G)) (k0_pay38 (blkL lb G) (blkK lb G) (blkC lb tri G)))

/-- A chunk's output rows, the eight heads side by side. -/
def rowOut (lb : Vec F S1x1024 .f32) (tri : Vec F S64x64 .f32) (Q G V : Vec F S1x64x1024 .bf16)
    (s0 s1 s2 s3 s4 s5 s6 s7 : Vec F S1x1x128x128 .f32) : FVec F S1x64x1024 .bf16 :=
  k0_pay154 (headOut 0 slices_S64x1024_o0_0_S64x128 lb tri Q G V s0) (headOut 128 slices_S64x1024_o0_128_S64x128 lb tri Q G V s1) (headOut 256 slices_S64x1024_o0_256_S64x128 lb tri Q G V s2) (headOut 384 slices_S64x1024_o0_384_S64x128 lb tri Q G V s3) (headOut 512 slices_S64x1024_o0_512_S64x128 lb tri Q G V s4) (headOut 640 slices_S64x1024_o0_640_S64x128 lb tri Q G V s5) (headOut 768 slices_S64x1024_o0_768_S64x128 lb tri Q G V s6) (headOut 896 slices_S64x1024_o0_896_S64x128 lb tri Q G V s7)

/-- What a trip stores into the result's buffer. -/
theorem trip_out (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (v3 : Vec F S1x1024 .f32) (v4 : Vec F S64x64 .f32) (X_arg2 : BufTy.Contents (Elt F) arg2.view.ty) (X_arg3 : BufTy.Contents (Elt F) arg3.view.ty) (X_arg4 : BufTy.Contents (Elt F) arg4.view.ty) (k : Fin k0_t1_loop.trips) (f : BufTy.Contents (Elt F) arg8.view.ty) (g : BufTy.Contents (Elt F) arg9.view.ty) :
    (tripL_k0_t1 (F := F) 𝒱 c bd i arg2 harg2 arg3 harg3 arg4 harg4 arg5 harg5 arg6 harg6 arg7 harg7 arg8 harg8 arg9 harg9 v3 v4 X_arg2 X_arg3 X_arg4 k f g).1 =
    [⟨Rect.unit (s := S2x512x1024) (k0_off2 k) ![1, 64, 1024] (k0_off2_inb k),
        rowOut v3 v4 (View.readAt (Elt F) arg4.view (Rect.unit (s := S2x512x1024) (k0_off2 k) S1x64x1024.size (k0_off2_inb k)).toLoadRect X_arg4) (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3)
          (View.readAt (Elt F) arg9.view (Rect.unit (s := S2x8x128x128) ![1, 0, 0, 0] S1x1x128x128.size inb_S2x8x128x128_S1x1x128x128_1_0_0_0).toLoadRect g)
          (View.readAt (Elt F) arg9.view (Rect.unit (s := S2x8x128x128) ![1, 1, 0, 0] S1x1x128x128.size inb_S2x8x128x128_S1x1x128x128_1_1_0_0).toLoadRect g)
          (View.readAt (Elt F) arg9.view (Rect.unit (s := S2x8x128x128) ![1, 2, 0, 0] S1x1x128x128.size inb_S2x8x128x128_S1x1x128x128_1_2_0_0).toLoadRect g)
          (View.readAt (Elt F) arg9.view (Rect.unit (s := S2x8x128x128) ![1, 3, 0, 0] S1x1x128x128.size inb_S2x8x128x128_S1x1x128x128_1_3_0_0).toLoadRect g)
          (View.readAt (Elt F) arg9.view (Rect.unit (s := S2x8x128x128) ![1, 4, 0, 0] S1x1x128x128.size inb_S2x8x128x128_S1x1x128x128_1_4_0_0).toLoadRect g)
          (View.readAt (Elt F) arg9.view (Rect.unit (s := S2x8x128x128) ![1, 5, 0, 0] S1x1x128x128.size inb_S2x8x128x128_S1x1x128x128_1_5_0_0).toLoadRect g)
          (View.readAt (Elt F) arg9.view (Rect.unit (s := S2x8x128x128) ![1, 6, 0, 0] S1x1x128x128.size inb_S2x8x128x128_S1x1x128x128_1_6_0_0).toLoadRect g)
          (View.readAt (Elt F) arg9.view (Rect.unit (s := S2x8x128x128) ![1, 7, 0, 0] S1x1x128x128.size inb_S2x8x128x128_S1x1x128x128_1_7_0_0).toLoadRect g)⟩,
     ⟨Rect.unit (s := S2x512x1024) (k0_off1 k) ![1, 64, 1024] (k0_off1_inb k),
        rowOut v3 v4 (View.readAt (Elt F) arg4.view (Rect.unit (s := S2x512x1024) (k0_off1 k) S1x64x1024.size (k0_off1_inb k)).toLoadRect X_arg4) (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3)
          (View.readAt (Elt F) arg9.view (Rect.unit (s := S2x8x128x128) ![0, 0, 0, 0] S1x1x128x128.size inb_S2x8x128x128_S1x1x128x128_0_0_0_0).toLoadRect g)
          (View.readAt (Elt F) arg9.view (Rect.unit (s := S2x8x128x128) ![0, 1, 0, 0] S1x1x128x128.size inb_S2x8x128x128_S1x1x128x128_0_1_0_0).toLoadRect g)
          (View.readAt (Elt F) arg9.view (Rect.unit (s := S2x8x128x128) ![0, 2, 0, 0] S1x1x128x128.size inb_S2x8x128x128_S1x1x128x128_0_2_0_0).toLoadRect g)
          (View.readAt (Elt F) arg9.view (Rect.unit (s := S2x8x128x128) ![0, 3, 0, 0] S1x1x128x128.size inb_S2x8x128x128_S1x1x128x128_0_3_0_0).toLoadRect g)
          (View.readAt (Elt F) arg9.view (Rect.unit (s := S2x8x128x128) ![0, 4, 0, 0] S1x1x128x128.size inb_S2x8x128x128_S1x1x128x128_0_4_0_0).toLoadRect g)
          (View.readAt (Elt F) arg9.view (Rect.unit (s := S2x8x128x128) ![0, 5, 0, 0] S1x1x128x128.size inb_S2x8x128x128_S1x1x128x128_0_5_0_0).toLoadRect g)
          (View.readAt (Elt F) arg9.view (Rect.unit (s := S2x8x128x128) ![0, 6, 0, 0] S1x1x128x128.size inb_S2x8x128x128_S1x1x128x128_0_6_0_0).toLoadRect g)
          (View.readAt (Elt F) arg9.view (Rect.unit (s := S2x8x128x128) ![0, 7, 0, 0] S1x1x128x128.size inb_S2x8x128x128_S1x1x128x128_0_7_0_0).toLoadRect g)⟩] := by
  unfold tripL_k0_t1
  unfold trip_k0_t1
  rfl

/-- What a trip stores into the states' buffer. -/
theorem trip_state (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (v3 : Vec F S1x1024 .f32) (v4 : Vec F S64x64 .f32) (X_arg2 : BufTy.Contents (Elt F) arg2.view.ty) (X_arg3 : BufTy.Contents (Elt F) arg3.view.ty) (X_arg4 : BufTy.Contents (Elt F) arg4.view.ty) (k : Fin k0_t1_loop.trips) (f : BufTy.Contents (Elt F) arg8.view.ty) (g : BufTy.Contents (Elt F) arg9.view.ty) :
    (tripL_k0_t1 (F := F) 𝒱 c bd i arg2 harg2 arg3 harg3 arg4 harg4 arg5 harg5 arg6 harg6 arg7 harg7 arg8 harg8 arg9 harg9 v3 v4 X_arg2 X_arg3 X_arg4 k f g).2 =
    [⟨Rect.unit ![1, 7, 0, 0] ![1, 1, 128, 128] inb_S2x8x128x128_S1x1x128x128_1_7_0_0,
        headState 896 slices_S64x1024_o0_896_S64x128 slices_S1x1024_o0_896_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 7, 0, 0] S1x1x128x128.size inb_S2x8x128x128_S1x1x128x128_1_7_0_0).toLoadRect g)⟩,
     ⟨Rect.unit ![1, 6, 0, 0] ![1, 1, 128, 128] inb_S2x8x128x128_S1x1x128x128_1_6_0_0,
        headState 768 slices_S64x1024_o0_768_S64x128 slices_S1x1024_o0_768_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 6, 0, 0] S1x1x128x128.size inb_S2x8x128x128_S1x1x128x128_1_6_0_0).toLoadRect g)⟩,
     ⟨Rect.unit ![1, 5, 0, 0] ![1, 1, 128, 128] inb_S2x8x128x128_S1x1x128x128_1_5_0_0,
        headState 640 slices_S64x1024_o0_640_S64x128 slices_S1x1024_o0_640_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 5, 0, 0] S1x1x128x128.size inb_S2x8x128x128_S1x1x128x128_1_5_0_0).toLoadRect g)⟩,
     ⟨Rect.unit ![1, 4, 0, 0] ![1, 1, 128, 128] inb_S2x8x128x128_S1x1x128x128_1_4_0_0,
        headState 512 slices_S64x1024_o0_512_S64x128 slices_S1x1024_o0_512_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 4, 0, 0] S1x1x128x128.size inb_S2x8x128x128_S1x1x128x128_1_4_0_0).toLoadRect g)⟩,
     ⟨Rect.unit ![1, 3, 0, 0] ![1, 1, 128, 128] inb_S2x8x128x128_S1x1x128x128_1_3_0_0,
        headState 384 slices_S64x1024_o0_384_S64x128 slices_S1x1024_o0_384_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 3, 0, 0] S1x1x128x128.size inb_S2x8x128x128_S1x1x128x128_1_3_0_0).toLoadRect g)⟩,
     ⟨Rect.unit ![1, 2, 0, 0] ![1, 1, 128, 128] inb_S2x8x128x128_S1x1x128x128_1_2_0_0,
        headState 256 slices_S64x1024_o0_256_S64x128 slices_S1x1024_o0_256_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 2, 0, 0] S1x1x128x128.size inb_S2x8x128x128_S1x1x128x128_1_2_0_0).toLoadRect g)⟩,
     ⟨Rect.unit ![1, 1, 0, 0] ![1, 1, 128, 128] inb_S2x8x128x128_S1x1x128x128_1_1_0_0,
        headState 128 slices_S64x1024_o0_128_S64x128 slices_S1x1024_o0_128_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 1, 0, 0] S1x1x128x128.size inb_S2x8x128x128_S1x1x128x128_1_1_0_0).toLoadRect g)⟩,
     ⟨Rect.unit ![1, 0, 0, 0] ![1, 1, 128, 128] inb_S2x8x128x128_S1x1x128x128_1_0_0_0,
        headState 0 slices_S64x1024_o0_0_S64x128 slices_S1x1024_o0_0_S1x128 v3 v4 (View.readAt (Elt F) arg2.view (Rect.unit (s := S2x512x1024) (k0_off2 k) S1x64x1024.size (k0_off2_inb k)).toLoadRect X_arg2) (View.readAt (Elt F) arg3.view (Rect.unit (s := S2x512x1024) (k0_off2 k) S1x64x1024.size (k0_off2_inb k)).toLoadRect X_arg3) (View.readAt (Elt F) arg9.view (Rect.unit (s := S2x8x128x128) ![1, 0, 0, 0] S1x1x128x128.size inb_S2x8x128x128_S1x1x128x128_1_0_0_0).toLoadRect g)⟩,
     ⟨Rect.unit ![0, 7, 0, 0] ![1, 1, 128, 128] inb_S2x8x128x128_S1x1x128x128_0_7_0_0,
        headState 896 slices_S64x1024_o0_896_S64x128 slices_S1x1024_o0_896_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 7, 0, 0] S1x1x128x128.size inb_S2x8x128x128_S1x1x128x128_0_7_0_0).toLoadRect g)⟩,
     ⟨Rect.unit ![0, 6, 0, 0] ![1, 1, 128, 128] inb_S2x8x128x128_S1x1x128x128_0_6_0_0,
        headState 768 slices_S64x1024_o0_768_S64x128 slices_S1x1024_o0_768_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 6, 0, 0] S1x1x128x128.size inb_S2x8x128x128_S1x1x128x128_0_6_0_0).toLoadRect g)⟩,
     ⟨Rect.unit ![0, 5, 0, 0] ![1, 1, 128, 128] inb_S2x8x128x128_S1x1x128x128_0_5_0_0,
        headState 640 slices_S64x1024_o0_640_S64x128 slices_S1x1024_o0_640_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 5, 0, 0] S1x1x128x128.size inb_S2x8x128x128_S1x1x128x128_0_5_0_0).toLoadRect g)⟩,
     ⟨Rect.unit ![0, 4, 0, 0] ![1, 1, 128, 128] inb_S2x8x128x128_S1x1x128x128_0_4_0_0,
        headState 512 slices_S64x1024_o0_512_S64x128 slices_S1x1024_o0_512_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 4, 0, 0] S1x1x128x128.size inb_S2x8x128x128_S1x1x128x128_0_4_0_0).toLoadRect g)⟩,
     ⟨Rect.unit ![0, 3, 0, 0] ![1, 1, 128, 128] inb_S2x8x128x128_S1x1x128x128_0_3_0_0,
        headState 384 slices_S64x1024_o0_384_S64x128 slices_S1x1024_o0_384_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 3, 0, 0] S1x1x128x128.size inb_S2x8x128x128_S1x1x128x128_0_3_0_0).toLoadRect g)⟩,
     ⟨Rect.unit ![0, 2, 0, 0] ![1, 1, 128, 128] inb_S2x8x128x128_S1x1x128x128_0_2_0_0,
        headState 256 slices_S64x1024_o0_256_S64x128 slices_S1x1024_o0_256_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 2, 0, 0] S1x1x128x128.size inb_S2x8x128x128_S1x1x128x128_0_2_0_0).toLoadRect g)⟩,
     ⟨Rect.unit ![0, 1, 0, 0] ![1, 1, 128, 128] inb_S2x8x128x128_S1x1x128x128_0_1_0_0,
        headState 128 slices_S64x1024_o0_128_S64x128 slices_S1x1024_o0_128_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 1, 0, 0] S1x1x128x128.size inb_S2x8x128x128_S1x1x128x128_0_1_0_0).toLoadRect g)⟩,
     ⟨Rect.unit ![0, 0, 0, 0] ![1, 1, 128, 128] inb_S2x8x128x128_S1x1x128x128_0_0_0_0,
        headState 0 slices_S64x1024_o0_0_S64x128 slices_S1x1024_o0_0_S1x128 v3 v4 (View.readAt (Elt F) arg2.view (Rect.unit (s := S2x512x1024) (k0_off1 k) S1x64x1024.size (k0_off1_inb k)).toLoadRect X_arg2) (View.readAt (Elt F) arg3.view (Rect.unit (s := S2x512x1024) (k0_off1 k) S1x64x1024.size (k0_off1_inb k)).toLoadRect X_arg3) (View.readAt (Elt F) arg9.view (Rect.unit (s := S2x8x128x128) ![0, 0, 0, 0] S1x1x128x128.size inb_S2x8x128x128_S1x1x128x128_0_0_0_0).toLoadRect g)⟩] := by
  unfold tripL_k0_t1
  unfold trip_k0_t1
  rfl

end Cert.KernelIdeal.Gen

end
-- ==== Proof.Scalars.lean ====
/-
  Scalar facts over the extended reals that the gated recurrence rests on: the constants its text spells, the logistic
  function written with a hyperbolic tangent, the forget gate as a real number between 1/32 and 1, and its logarithm.
-/
module

public import Idealize.ShloMosaic.PureOps.Ideal
public import Idealize.ShloMosaic.Lib.IdealHost
public import Mathlib.Analysis.SpecialFunctions.Log.Basic

@[expose] public section

noncomputable section

namespace Cert.Hgrn

open Idealize.ShloMosaic

/-- The pattern of one denotes one. -/
theorem ofBits_one : Ideal.ofBits .f32 0x3F800000#32 = (1 : EReal) := by
  simp [Ideal.ofBits, Ideal.ieee, -EReal.coe_mul]; norm_num

/-- The pattern of one half denotes one half. -/
theorem ofBits_half : Ideal.ofBits .f32 0x3F000000#32 = (((1 / 2 : ℝ)) : EReal) := by
  simp [Ideal.ofBits, Ideal.ieee, -EReal.coe_mul]; norm_num

/-- The pattern of sixty denotes sixty. -/
theorem ofBits_sixty : Ideal.ofBits .f32 0x42700000#32 = (((60 : ℝ)) : EReal) := by
  simp [Ideal.ofBits, Ideal.ieee, -EReal.coe_mul]; norm_num

/-- The pattern of one thirty-second denotes it. -/
theorem ofBits_lb : Ideal.ofBits .f32 0x3D000000#32 = (((1 / 32 : ℝ)) : EReal) := by
  simp [Ideal.ofBits, Ideal.ieee, -EReal.coe_mul]; norm_num

/-- The pattern of minus infinity denotes the bottom element. -/
theorem ofBits_ninf : Ideal.ofBits .f32 0xFF800000#32 = (⊥ : EReal) := by
  simp [Ideal.ofBits, Ideal.ieee]

/-- The logistic function through a hyperbolic tangent: `tanh (x/2) / 2 + 1/2`, at the infinities too. -/
theorem sig_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    have hp := Real.exp_pos (1 / 2 * r)
    have hm := Real.exp_pos (-(1 / 2 * r))
    rw [h1]
    generalize Real.exp (1 / 2 * r) = a at *
    generalize Real.exp (-(1 / 2 * r)) = b at *
    have hb : (a + b) ≠ 0 := by positivity
    have hc : (1 + b * b) ≠ 0 := by positivity
    field_simp
    nlinarith [h2]

/-- The logistic function is a real number between 0 and 1. -/
theorem logistic_real (x : EReal) : ∃ s : ℝ, Ideal.logistic x = (s : EReal) ∧ 0 ≤ s ∧ s ≤ 1 := by
  induction x with
  | bot => exact ⟨0, by rw [Ideal.logistic_bot]; rfl, le_rfl, zero_le_one⟩
  | top => exact ⟨1, by rw [Ideal.logistic_top]; rfl, zero_le_one, le_rfl⟩
  | coe r =>
    refine ⟨_, Ideal.logistic_coe r, by positivity, ?_⟩
    have := Real.exp_pos (-r)
    exact inv_le_one_of_one_le₀ (by linarith)

/-- The forget gate `b + (1 - b) · logistic x` of a lower bound `b` between 1/32 and 1 is a real number between 1/32 and 1. -/
theorem gate_real (b x : EReal) (h0 : ((1 / 32 : ℝ) : EReal) ≤ b) (h1 : b ≤ 1) :
    ∃ g : ℝ, b + (1 - b) * Ideal.logistic x = (g : EReal) ∧ 1 / 32 ≤ g ∧ g ≤ 1 := by
  obtain ⟨s, hs, hs0, hs1⟩ := logistic_real x
  induction b with
  | bot => exact absurd (le_bot_iff.mp h0) (EReal.coe_ne_bot _)
  | top => exact absurd (top_le_iff.mp h1) (by decide)
  | coe b =>
    have hb0 : 1 / 32 ≤ b := EReal.coe_le_coe_iff.mp h0
    have hb1 : b ≤ 1 := EReal.coe_le_coe_iff.mp (by simpa using h1)
    refine ⟨b + (1 - b) * s, ?_, ?_, ?_⟩
    · rw [hs, show (1 : EReal) = ((1 : ℝ) : EReal) by norm_cast, ← EReal.coe_sub, ← EReal.coe_mul, ← EReal.coe_add]
    · nlinarith
    · nlinarith

/-- The logarithm of a gate between 1/32 and 1 is a real number between `- log 32` and 0. -/
theorem log_real (g : ℝ) (h0 : 1 / 32 ≤ g) (h1 : g ≤ 1) :
    ∃ l : ℝ, Ideal.log (g : EReal) = (l : EReal) ∧ -Real.log 32 ≤ l ∧ l ≤ 0 := by
  have hg : 0 < g := by linarith
  refine ⟨Real.log g, by rw [Ideal.log_coe, if_neg (not_le.mpr hg)], ?_, Real.log_nonpos hg.le h1⟩
  rw [← Real.log_inv]
  exact Real.log_le_log (by norm_num) (by linarith)

/-- Sixteen times the logarithm of 32 is at most 60. -/
theorem log_bound : 16 * Real.log 32 ≤ 60 := by
  have h : (32 : ℝ) ≤ Real.exp (15 / 4) := by
    have e : Real.exp (15 / 4) = Real.exp (15 / 128) ^ 32 := by
      rw [← Real.exp_nat_mul]; congr 1; norm_num
    rw [e]
    have h1 : (15 / 128 : ℝ) + 1 ≤ Real.exp (15 / 128) := Real.add_one_le_exp _
    calc (32 : ℝ) ≤ (15 / 128 + 1) ^ 32 := by norm_num
      _ ≤ _ := pow_le_pow_left₀ (by norm_num) h1 32
  have := (Real.log_le_iff_le_exp (by norm_num : (0 : ℝ) < 32)).mpr h
  linarith

end Cert.Hgrn

end
-- ==== Proof.Chunk.lean ====
/-
  One chunk of 64 time steps of the gated recurrence, one head, as mathematics over the extended reals.

  `cum` is the running sum of the logarithms of the gate; `chunkOut` and `chunkState` are the reference's chunk: the
  output row and the state after the chunk. `blockAtt` is the same attention weight as a sum over four sub-blocks of
  sixteen rows, each taken against the running sum at the sub-block's first row, with the exponent of the key clamped at
  sixty; `blockAtt_eq` says that under the gate's bound the clamp never acts and the two weights are equal.
-/
module

public import proofs.«01_k».proof.Proof.Scalars

@[expose] public section

noncomputable section

namespace Cert.Hgrn

open Idealize.ShloMosaic

/-- The running sum of `L` up to and including row `t`. -/
def cum (L : Fin 64 → EReal) (t : Fin 64) : EReal := ∑ s : Fin 64, if s.val ≤ t.val then L s else 0

/-- The attention weight of row `s` in row `t`. -/
def chunkAtt (q k L : Fin 64 → Fin 128 → EReal) (t s : Fin 64) : EReal :=
  ∑ d : Fin 128, q t d * (Ideal.exp (if s.val ≤ t.val then cum (fun r => L r d) t - cum (fun r => L r d) s else ⊥) * k s d)

/-- The chunk's output at row `t`, value column `e`, from the state `S` before the chunk (key row, value column). -/
def chunkOut (q k v L : Fin 64 → Fin 128 → EReal) (S : Fin 128 → Fin 128 → EReal) (t : Fin 64) (e : Fin 128) : EReal :=
  (∑ s : Fin 64, chunkAtt q k L t s * v s e) + ∑ d : Fin 128, q t d * Ideal.exp (cum (fun r => L r d) t) * S d e

/-- The state after the chunk. -/
def chunkState (k v L : Fin 64 → Fin 128 → EReal) (S : Fin 128 → Fin 128 → EReal) (d e : Fin 128) : EReal :=
  Ideal.exp (cum (fun r => L r d) 63) * S d e
    + ∑ s : Fin 64, k s d * Ideal.exp (cum (fun r => L r d) 63 - cum (fun r => L r d) s) * v s e

/-- Row `16 i`, the first of sub-block `i`. -/
def sub0 (i : Fin 4) : Fin 64 := ⟨16 * i.val, by omega⟩

/-- The running sum before sub-block `i`'s first row. -/
def subRef (L : Fin 64 → EReal) (i : Fin 4) : EReal := cum L (sub0 i) - L (sub0 i)

/-- The attention weight summed over the four sub-blocks. -/
def blockAtt (q k L : Fin 64 → Fin 128 → EReal) (t s : Fin 64) : EReal :=
  ∑ i : Fin 4, ∑ d : Fin 128,
    (if t.val / 16 = i.val then q t d * Ideal.exp (cum (fun r => L r d) t - subRef (fun r => L r d) i) else 0)
      * (k s d * Ideal.exp (min (subRef (fun r => L r d) i - cum (fun r => L r d) s) ((60 : ℝ) : EReal)))

/-- A column of gate logarithms is bounded: each entry a real number between `- log 32` and 0. -/
def Bounded (L : Fin 64 → EReal) : Prop := ∀ s, ∃ l : ℝ, L s = (l : EReal) ∧ -Real.log 32 ≤ l ∧ l ≤ 0

/-- The running sum of real numbers is the real running sum. -/
theorem cum_coe (l : Fin 64 → ℝ) (t : Fin 64) :
    cum (fun s => (l s : EReal)) t = ((∑ s : Fin 64, if s.val ≤ t.val then l s else 0 : ℝ) : EReal) := by
  unfold cum
  have h : ∀ A : Finset (Fin 64), (∑ s ∈ A, if s.val ≤ t.val then (l s : EReal) else 0)
      = ((∑ s ∈ A, if s.val ≤ t.val then l s else 0 : ℝ) : EReal) := by
    intro A
    induction A using Finset.induction_on with
    | empty => simp
    | insert a A ha ih =>
      rw [Finset.sum_insert ha, Finset.sum_insert ha, ih, EReal.coe_add]
      split <;> rfl
  exact h _

/-- Sixteen rows lie in a sub-block. -/
theorem card_sub : ∀ i : Fin 4, ((Finset.univ : Finset (Fin 64)).filter
    (fun r => 16 * i.val ≤ r.val ∧ r.val < 16 * i.val + 16)).card = 16 := by decide

/-- From the running sum before a sub-block to the running sum at a row not past it, the logarithms fall by at most sixty. -/
theorem gap_le (l : Fin 64 → ℝ) (h0 : ∀ s, -Real.log 32 ≤ l s) (h1 : ∀ s, l s ≤ 0) (i : Fin 4) (s : Fin 64)
    (hs : s.val < 16 * i.val + 16) :
    ((∑ r : Fin 64, if r.val ≤ (sub0 i).val then l r else 0) - l (sub0 i))
      - (∑ r : Fin 64, if r.val ≤ s.val then l r else 0) ≤ 60 := by
  have hl : l (sub0 i) = ∑ r : Fin 64, if r = sub0 i then l r else 0 := by simp
  have hlog : 0 ≤ Real.log 32 := Real.log_nonneg (by norm_num)
  calc _ = ∑ r : Fin 64, (((if r.val ≤ (sub0 i).val then l r else 0) - (if r = sub0 i then l r else 0))
              - (if r.val ≤ s.val then l r else 0)) := by
            rw [Finset.sum_sub_distrib, Finset.sum_sub_distrib, ← hl]
    _ ≤ ∑ r : Fin 64, (if 16 * i.val ≤ r.val ∧ r.val < 16 * i.val + 16 then Real.log 32 else 0) := by
            refine Finset.sum_le_sum fun r _ => ?_
            have a := h0 r; have b := h1 r
            have e : r = sub0 i ↔ r.val = 16 * i.val := by rw [Fin.ext_iff]; rfl
            have e' : (sub0 i).val = 16 * i.val := rfl
            rw [e']
            simp only [e]
            split_ifs <;> first | linarith | omega
    _ = 16 * Real.log 32 := by
            rw [← Finset.sum_filter, Finset.sum_const, card_sub, nsmul_eq_mul]; norm_num
    _ ≤ 60 := log_bound

/-- Under the gate's bound the sub-block's two exponentials multiply to the reference's one. -/
theorem exp_split (L : Fin 64 → EReal) (hL : Bounded L) (i : Fin 4) (t s : Fin 64) (ht : t.val / 16 = i.val)
    (hst : s.val ≤ t.val) :
    Ideal.exp (cum L t - subRef L i) * Ideal.exp (min (subRef L i - cum L s) ((60 : ℝ) : EReal))
      = Ideal.exp (cum L t - cum L s) := by
  choose l hl h0 h1 using hL
  obtain rfl : L = fun s => (l s : EReal) := funext hl
  unfold subRef
  simp only [cum_coe, ← EReal.coe_sub]
  rw [min_eq_left (EReal.coe_le_coe_iff.mpr (gap_le l h0 h1 i s (by omega)))]
  simp only [Ideal.exp_coe, ← EReal.coe_mul, ← Real.exp_add]
  congr 2; ring

/-- A sum over the four sub-blocks with one live sub-block is that sub-block's term. -/
theorem sum_live (t : Fin 64) (f : Fin 4 → EReal) (h : ∀ i : Fin 4, t.val / 16 ≠ i.val → f i = 0) :
    ∑ i : Fin 4, f i = f ⟨t.val / 16, by omega⟩ :=
  Finset.sum_eq_single _ (fun i _ hi => h i fun e => hi (Fin.ext e.symm)) (fun h' => absurd (Finset.mem_univ _) h')

/-- The masked blocked weight is the reference's weight. -/
theorem blockAtt_eq (q k L : Fin 64 → Fin 128 → EReal) (hL : ∀ d, Bounded fun r => L r d) (t s : Fin 64) :
    (if s.val ≤ t.val then blockAtt q k L t s else 0) = chunkAtt q k L t s := by
  unfold chunkAtt
  split
  · next hst =>
    unfold blockAtt
    rw [sum_live t _ (fun i hi => Finset.sum_eq_zero fun d _ => by rw [if_neg hi, zero_mul])]
    refine Finset.sum_congr rfl fun d _ => ?_
    rw [if_pos rfl, ← exp_split (fun r => L r d) (hL d) ⟨t.val / 16, by omega⟩ t s rfl hst]
    ac_rfl
  · next hst => simp

/-- The running sum by a lower-triangular matrix of ones, taken once of the logarithms and once of what rounding them
    would lose, which over the extended reals is nothing. -/
theorem cum_eq (L : Fin 64 → EReal) (hL : Bounded L) (t : Fin 64) (T : Fin 64 → EReal)
    (hT : ∀ s : Fin 64, T s = if s.val ≤ t.val then 1 else 0) :
    (∑ s : Fin 64, T s * L s) + (∑ s : Fin 64, T s * (L s - L s)) = cum L t := by
  have h : ∀ s, L s - L s = 0 := fun s => by
    obtain ⟨l, hl, -⟩ := hL s
    rw [hl, ← EReal.coe_sub, sub_self]; rfl
  simp only [h, mul_zero, Finset.sum_const_zero, add_zero]
  exact Finset.sum_congr rfl fun s _ => by rw [hT]; split <;> simp

end Cert.Hgrn

end
-- ==== Proof.Spec.lean ====
/-
  The recurrence as mathematics: from raw projections to queries, gates, keys and values of one head, the state before
  each chunk and the result.
-/
module

public import proofs.«01_k».proof.Proof.Chunk

@[expose] public section

noncomputable section

namespace Cert.Hgrn

open Idealize.ShloMosaic

/-- The swish activation. -/
def silu (x : EReal) : EReal := x * Ideal.logistic x

/-- The forget gate with lower bound `b`. -/
def gate (b x : EReal) : EReal := b + (1 - b) * Ideal.logistic x

/-- Column `d` of head `h` among the 1024 columns. -/
def col (h : Fin 8) (d : Fin 128) : Fin 1024 := ⟨128 * h.val + d.val, by omega⟩

/-- One head's queries from the raw projection. -/
def hq (r : Fin 64 → Fin 128 → EReal) : Fin 64 → Fin 128 → EReal := fun t d => silu (r t d)

/-- One head's gate logarithms from the raw projection and the bound. -/
def hl (b : Fin 128 → EReal) (r : Fin 64 → Fin 128 → EReal) : Fin 64 → Fin 128 → EReal := fun t d => Ideal.log (gate (b d) (r t d))

/-- One head's keys. -/
def hk (b : Fin 128 → EReal) (r : Fin 64 → Fin 128 → EReal) : Fin 64 → Fin 128 → EReal := fun t d => 1 - gate (b d) (r t d)

/-- The output of one chunk of one head, from raw projections `q`, `f`, `v`. -/
def stepOut (b : Fin 128 → EReal) (q f v : Fin 64 → Fin 128 → EReal) (S : Fin 128 → Fin 128 → EReal) : Fin 64 → Fin 128 → EReal :=
  chunkOut (hq q) (hk b f) v (hl b f) S

/-- The state after one chunk of one head. -/
def stepState (b : Fin 128 → EReal) (f v : Fin 64 → Fin 128 → EReal) (S : Fin 128 → Fin 128 → EReal) : Fin 128 → Fin 128 → EReal :=
  chunkState (hk b f) v (hl b f) S

/-- The gate's bound: from one thirty-second to one. -/
def InRange (b : Fin 128 → EReal) : Prop := ∀ d, ((1 / 32 : ℝ) : EReal) ≤ b d ∧ b d ≤ 1

/-- A bounded gate has bounded logarithms. -/
theorem hl_bounded (b : Fin 128 → EReal) (hb : InRange b) (r : Fin 64 → Fin 128 → EReal) (d : Fin 128) :
    Bounded fun t => hl b r t d := by
  intro t
  obtain ⟨g, hg, h0, h1⟩ := gate_real (b d) (r t d) (hb d).1 (hb d).2
  obtain ⟨l, hl', a, c⟩ := log_real g h0 h1
  exact ⟨l, by show Ideal.log (b d + (1 - b d) * Ideal.logistic (r t d)) = _; rw [hg, hl'], a, c⟩

/-- One head's state before chunk `n`, from the state `S` before the first; `f n` and `v n` are chunk `n`'s rows. -/
def stateSeq (b : Fin 128 → EReal) (f v : ℕ → Fin 64 → Fin 128 → EReal) (S : Fin 128 → Fin 128 → EReal) :
    ℕ → Fin 128 → Fin 128 → EReal
  | 0 => S
  | n + 1 => stepState b (f n) (v n) (stateSeq b f v S n)

/-- One head's output of chunk `n`. -/
def outSeq (b : Fin 128 → EReal) (q f v : ℕ → Fin 64 → Fin 128 → EReal) (S : Fin 128 → Fin 128 → EReal) (n : ℕ) :
    Fin 64 → Fin 128 → EReal :=
  stepOut b (q n) (f n) (v n) (stateSeq b f v S n)

/-- `n + m` chunks are `n` chunks and then `m` more. -/
theorem stateSeq_add (b : Fin 128 → EReal) (f v : ℕ → Fin 64 → Fin 128 → EReal) (S : Fin 128 → Fin 128 → EReal) (n m : ℕ) :
    stateSeq b f v S (n + m) = stateSeq b (fun j => f (n + j)) (fun j => v (n + j)) (stateSeq b f v S n) m := by
  induction m with
  | zero => rfl
  | succ m ih =>
    show stepState b (f (n + m)) (v (n + m)) (stateSeq b f v S (n + m)) = _
    rw [ih]; rfl

/-- Only the chunks before `n` matter to the state before chunk `n`. -/
theorem stateSeq_congr (b : Fin 128 → EReal) (f f' v v' : ℕ → Fin 64 → Fin 128 → EReal) (S : Fin 128 → Fin 128 → EReal) (n : ℕ)
    (hf : ∀ j < n, f j = f' j) (hv : ∀ j < n, v j = v' j) : stateSeq b f v S n = stateSeq b f' v' S n := by
  induction n with
  | zero => rfl
  | succ n ih =>
    show stepState b (f n) (v n) _ = stepState b (f' n) (v' n) _
    rw [ih (fun j h => hf j (by omega)) (fun j h => hv j (by omega)), hf n (by omega), hv n (by omega)]

/-- Row `t` of chunk `n` among the 8192 time steps (taken modulo 8192, so that it is a row for every `n`). -/
def row (n : ℕ) (t : Fin 64) : Fin 8192 := ⟨(64 * n + t.val) % 8192, Nat.mod_lt _ (by decide)⟩

/-- One head's rows of chunk `n`, of an array of 8192 rows of eight heads. -/
def chunkRows (x : Fin 8192 → Fin 1024 → EReal) (h : Fin 8) : ℕ → Fin 64 → Fin 128 → EReal := fun n t d => x (row n t) (col h d)

/-- The head of a column. -/
def hd (c : Fin 1024) : Fin 8 := ⟨c.val / 128, by omega⟩

/-- The recurrence's output at batch `B`, time `T` and column `c`, from queries, gates' arguments and values, each of eight
    batches, and the initial states. -/
def hgrnOut (b : Fin 1024 → EReal) (q f v : Fin 8 → Fin 8192 → Fin 1024 → EReal) (S0 : Fin 8 → Fin 8 → Fin 128 → Fin 128 → EReal)
    (B : Fin 8) (T : Fin 8192) (c : Fin 1024) : EReal :=
  outSeq (fun d => b (col (hd c) d)) (chunkRows (q B) (hd c)) (chunkRows (f B) (hd c)) (chunkRows (v B) (hd c)) (S0 B (hd c)) (T.val / 64)
    ⟨T.val % 64, Nat.mod_lt _ (by decide)⟩ ⟨c.val % 128, Nat.mod_lt _ (by decide)⟩

end Cert.Hgrn

end
-- ==== Proof.BlockMath.lean ====
/-
  What one head of one chunk computes, over the extended reals: the blocked attention weights are the reference's, and
  the output and the next state are `stepOut` and `stepState` of the head's columns.
-/
module

public import proofs.«01_k».proof.Proof.Block
public import proofs.«01_k».proof.Proof.Spec
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.Hgrn

/-- The queries at an index. -/
theorem blkQ_apply (Q : Vec Ideal S1x64x1024 .bf16) (t : Fin 64) (c : Fin 1024) :
    blkQ (F := Ideal) Q (ix2 t c) = silu (Q (ix3 0 t c)) := by
  pointwise [blkQ, k0_pay3]
  rw [ofBits_half, sig_eq]; rfl

/-- The gate's logarithms at an index. -/
theorem blkL_apply (lb : Vec Ideal S1x1024 .f32) (G : Vec Ideal S1x64x1024 .bf16) (t : Fin 64) (c : Fin 1024) :
    blkL (F := Ideal) lb G (ix2 t c) = Ideal.log (gate (lb (ix2 0 c)) (G (ix3 0 t c))) := by
  pointwise [blkL, k0_pay4, k0_pay12, k0_pay11]
  rw [ofBits_half, sig_eq]; rfl

/-- The keys at an index. -/
theorem blkK_apply (lb : Vec Ideal S1x1024 .f32) (G : Vec Ideal S1x64x1024 .bf16) (t : Fin 64) (c : Fin 1024) :
    blkK (F := Ideal) lb G (ix2 t c) = 1 - gate (lb (ix2 0 c)) (G (ix3 0 t c)) := by
  pointwise [blkK, k0_pay4, k0_pay13, k0_pay11]
  rw [ofBits_half, sig_eq]; rfl

/-- The values at an index. -/
theorem blkV_apply (V : Vec Ideal S1x64x1024 .bf16) (t : Fin 64) (c : Fin 1024) :
    blkV (F := Ideal) V (ix2 t c) = V (ix3 0 t c) := by
  pointwise [blkV, k0_pay15, k0_pay5]

/-- The triangular matrix of ones. -/
def IsTri (tri : Vec Ideal S64x64 .f32) : Prop := ∀ t s : Fin 64, tri (ix2 t s) = if s.val ≤ t.val then (1 : EReal) else 0

/-- The running sums at an index. -/
theorem blkC_apply (lb : Vec Ideal S1x1024 .f32) (tri : Vec Ideal S64x64 .f32) (G : Vec Ideal S1x64x1024 .bf16) (htri : IsTri tri)
    (c : Fin 1024) (hb : ((1 / 32 : ℝ) : EReal) ≤ lb (ix2 0 c) ∧ lb (ix2 0 c) ≤ 1) (t : Fin 64) :
    blkC (F := Ideal) lb tri G (ix2 t c) = cum (fun s => Ideal.log (gate (lb (ix2 0 c)) (G (ix3 0 s c)))) t := by
  have hL : ∀ s : Fin 64, k0_pay12 (F := Ideal) lb (k0_pay4 G) (ix2 s c) = Ideal.log (gate (lb (ix2 0 c)) (G (ix3 0 s c))) :=
    fun s => blkL_apply lb G s c
  pointwise [blkC, k0_pay14, k0_pay10]
  simp only [hL]
  refine cum_eq (fun s => Ideal.log (gate (lb (ix2 0 c)) (G (ix3 0 s c)))) ?_ t (fun s => tri (ix2 t s)) (htri t)
  intro s
  obtain ⟨g, hg, h0, h1⟩ := gate_real (lb (ix2 0 c)) (G (ix3 0 s c)) hb.1 hb.2
  obtain ⟨l, hl', a, b⟩ := log_real g h0 h1
  exact ⟨l, by show Ideal.log (lb (ix2 0 c) + (1 - lb (ix2 0 c)) * Ideal.logistic (G (ix3 0 s c))) = _; rw [hg, hl'], a, b⟩

/-- The keys carried to the chunk's end. -/
theorem kst_apply (K C : FVec Ideal S64x1024 .f32) (t : Fin 64) (c : Fin 1024) :
    k0_pay24 (F := Ideal) K C (ix2 t c) = K (ix2 t c) * Ideal.exp (C (ix2 63 c) - C (ix2 t c)) := by
  pointwise [k0_pay24, k0_pay23]

/-- The whole chunk's decay. -/
theorem dec_apply (C : FVec Ideal S64x1024 .f32) (c : Fin 1024) :
    k0_pay25 (F := Ideal) C (ix2 0 c) = Ideal.exp (C (ix2 63 c)) := by
  pointwise [k0_pay25, k0_pay23]

/-- The queries against the state. -/
theorem qin_apply (Q C : FVec Ideal S64x1024 .f32) (t : Fin 64) (c : Fin 1024) :
    k0_pay26 (F := Ideal) Q C (ix2 t c) = Q (ix2 t c) * Ideal.exp (C (ix2 t c)) := by
  pointwise [k0_pay26]

/-- A sub-block's queries: zero outside its sixteen rows. -/
def qhat (i : Fin 4) (Q L C : FVec Ideal S64x1024 .f32) (t : Fin 64) (c : Fin 1024) : EReal :=
  if t.val / 16 = i.val then Q (ix2 t c) * Ideal.exp (C (ix2 t c) - (C (ix2 (sub0 i) c) - L (ix2 (sub0 i) c))) else 0

/-- A sub-block's keys, the exponent clamped at sixty. -/
def khat (i : Fin 4) (L K C : FVec Ideal S64x1024 .f32) (s : Fin 64) (c : Fin 1024) : EReal :=
  K (ix2 s c) * Ideal.exp (min (C (ix2 (sub0 i) c) - L (ix2 (sub0 i) c) - C (ix2 s c)) ((60 : ℝ) : EReal))

section
variable (Q L K C : FVec Ideal S64x1024 .f32) (t : Fin 64) (c : Fin 1024)

/-- The first sub-block's queries. -/
theorem q0_apply : k0_pay28 (F := Ideal) Q L C (ix2 t c) = qhat 0 Q L C t c := by
  pointwise [k0_pay28, k0_pay27]
  show _ = if t.val / 16 = 0 then _ else 0
  by_cases h : t.val / 16 = 0
  · rw [if_pos h, dif_pos (by omega)]
    rfl
  · rw [if_neg h]
    split_ifs <;> first | rfl | (exfalso; omega)

/-- The first sub-block's keys. -/
theorem k0_apply : k0_pay29 (F := Ideal) L K C (ix2 t c) = khat 0 L K C t c := by
  pointwise [k0_pay29, k0_pay27]
  rw [ofBits_sixty]; rfl

/-- The second sub-block's queries. -/
theorem q1_apply : k0_pay31 (F := Ideal) Q L C (ix2 t c) = qhat 1 Q L C t c := by
  pointwise [k0_pay31, k0_pay30]
  show _ = if t.val / 16 = 1 then _ else 0
  by_cases h : t.val / 16 = 1
  · rw [if_pos h, dif_neg (by omega), dif_pos (by omega)]
    have e : 16 + (t.val - 16) = t.val := by omega
    simp only [e]; rfl
  · rw [if_neg h]
    split_ifs <;> first | rfl | (exfalso; omega)

/-- The second sub-block's keys. -/
theorem k1_apply : k0_pay32 (F := Ideal) L K C (ix2 t c) = khat 1 L K C t c := by
  pointwise [k0_pay32, k0_pay30]
  rw [ofBits_sixty]; rfl

/-- The third sub-block's queries. -/
theorem q2_apply : k0_pay34 (F := Ideal) Q L C (ix2 t c) = qhat 2 Q L C t c := by
  pointwise [k0_pay34, k0_pay33]
  show _ = if t.val / 16 = 2 then _ else 0
  by_cases h : t.val / 16 = 2
  · rw [if_pos h, dif_neg (by omega), dif_neg (by omega), dif_pos (by omega)]
    have e : 32 + (t.val - 16 - 16) = t.val := by omega
    simp only [e]; rfl
  · rw [if_neg h]
    split_ifs <;> first | rfl | (exfalso; omega)

/-- The third sub-block's keys. -/
theorem k2_apply : k0_pay35 (F := Ideal) L K C (ix2 t c) = khat 2 L K C t c := by
  pointwise [k0_pay35, k0_pay33]
  rw [ofBits_sixty]; rfl

/-- The fourth sub-block's queries. -/
theorem q3_apply : k0_pay37 (F := Ideal) Q L C (ix2 t c) = qhat 3 Q L C t c := by
  pointwise [k0_pay37, k0_pay36]
  show _ = if t.val / 16 = 3 then _ else 0
  by_cases h : t.val / 16 = 3
  · rw [if_pos h, dif_neg (by omega), dif_neg (by omega), dif_neg (by omega)]
    have e : 48 + (t.val - 16 - 16 - 16) = t.val := by omega
    simp only [e]; rfl
  · rw [if_neg h]
    split_ifs <;> first | rfl | (exfalso; omega)

/-- The fourth sub-block's keys. -/
theorem k3_apply : k0_pay38 (F := Ideal) L K C (ix2 t c) = khat 3 L K C t c := by
  pointwise [k0_pay38, k0_pay36]
  rw [ofBits_sixty]; rfl

end

/-- Four blocks' columns side by side, read at a column of one of them. -/
theorem headCat_apply (o : ℕ) (w : S64x1024.Slices ![0, o] S64x128) (a0 a1 a2 a3 : FVec Ideal S64x1024 .bf16) (i : Fin 4)
    (d : Fin 128) (t : Fin 64) (c : Fin 1024) (hc : c.val = o + d.val) :
    headCat (F := Ideal) o w a0 a1 a2 a3 (ix2 t ⟨d.val + 128 * i.val, by omega⟩) = (![a0, a1, a2, a3] i) (ix2 t c) := by
  obtain ⟨c, h⟩ := c
  obtain rfl : c = o + d.val := hc
  pointwise [headCat]
  fin_vals i with hi
  · rw [show ![a0, a1, a2, a3] i = a0 by rw [show i = 0 from Fin.ext hi]; rfl, dif_pos (by omega)]
    exact congrArg a0 (congrArg (ix2 t) (Fin.ext (by dsimp only; omega)))
  · rw [show ![a0, a1, a2, a3] i = a1 by rw [show i = 1 from Fin.ext hi]; rfl, dif_neg (by omega), dif_pos (by omega)]
    exact congrArg a1 (congrArg (ix2 t) (Fin.ext (by dsimp only; omega)))
  · rw [show ![a0, a1, a2, a3] i = a2 by rw [show i = 2 from Fin.ext hi]; rfl, dif_neg (by omega), dif_neg (by omega), dif_pos (by omega)]
    exact congrArg a2 (congrArg (ix2 t) (Fin.ext (by dsimp only; omega)))
  · rw [show ![a0, a1, a2, a3] i = a3 by rw [show i = 3 from Fin.ext hi]; rfl, dif_neg (by omega), dif_neg (by omega), dif_neg (by omega)]
    exact congrArg a3 (congrArg (ix2 t) (Fin.ext (by dsimp only; omega)))

/-- The attention weights before the mask: the sum over the four sub-blocks. -/
theorem headAtt_apply (o : ℕ) (w : S64x1024.Slices ![0, o] S64x128) (q0 q1 q2 q3 k0 k1 k2 k3 : FVec Ideal S64x1024 .bf16)
    (t s : Fin 64) (cc : Fin 128 → Fin 1024) (hc : ∀ d, (cc d).val = o + d.val) :
    headAtt (F := Ideal) o w q0 q1 q2 q3 k0 k1 k2 k3 (ix2 t s)
      = ∑ i : Fin 4, ∑ d : Fin 128, (![q0, q1, q2, q3] i) (ix2 t (cc d)) * (![k0, k1, k2, k3] i) (ix2 s (cc d)) := by
  have h : headAtt (F := Ideal) o w q0 q1 q2 q3 k0 k1 k2 k3 (ix2 t s)
      = ∑ x : Fin 512, headCat (F := Ideal) o w q0 q1 q2 q3 (ix2 t x) * headCat (F := Ideal) o w k0 k1 k2 k3 (ix2 s x) := by
    pointwise [headAtt]
  rw [h, ← Fintype.sum_prod_type', ← (finProdFinEquiv (m := 4) (n := 128)).sum_comp]
  refine Finset.sum_congr rfl fun x _ => ?_
  rw [← headCat_apply o w q0 q1 q2 q3 x.1 x.2 t (cc x.2) (hc x.2), ← headCat_apply o w k0 k1 k2 k3 x.1 x.2 s (cc x.2) (hc x.2)]
  rfl

/-- The masked weights times the values, added to the state's share. -/
theorem headSum_apply (o : ℕ) (w : S64x1024.Slices ![0, o] S64x128) (v : FVec Ideal S64x1024 .bf16) (inter : FVec Ideal S64x128 .f32)
    (att : FVec Ideal S64x64 .f32) (t : Fin 64) (e : Fin 128) (c : Fin 1024) (hc : c.val = o + e.val) :
    headSum (F := Ideal) o w v inter att (ix2 t e)
      = inter (ix2 t e) + ∑ s : Fin 64, (if s.val ≤ t.val then att (ix2 t s) else 0) * v (ix2 s c) := by
  obtain ⟨c, h⟩ := c
  obtain rfl : c = o + e.val := hc
  have hm : ∀ t s : Fin 64, IntOp.cmpi CmpIPredicate.sle (BitVec.ofNat 32 s.val) (BitVec.ofNat 32 t.val)
      = if s.val ≤ t.val then 1#1 else 0#1 := by decide +kernel
  pointwise [headSum, k0_pay9]
  simp only [hm]
  congr 1
  refine Finset.sum_congr rfl fun s _ => ?_
  split
  · rfl
  · rw [zero_mul]; rfl

/-- The state's share of the output. -/
theorem headInter_apply (o : ℕ) (w : S64x1024.Slices ![0, o] S64x128) (v : FVec Ideal S64x1024 .bf16)
    (st : Vec Ideal S1x1x128x128 .f32) (t : Fin 64) (e : Fin 128) (cc : Fin 128 → Fin 1024) (hc : ∀ d, (cc d).val = o + d.val) :
    headInter (F := Ideal) o w v st (ix2 t e) = ∑ d : Fin 128, v (ix2 t (cc d)) * st (ix4 0 0 e d) := by
  pointwise [headInter]
  exact Finset.sum_congr rfl fun d _ => congrArg₂ _ (congrArg v (congrArg (ix2 t) (Fin.ext (hc d).symm))) rfl

/-- The next state from the chunk's arrays. -/
theorem headNext_apply (o : ℕ) (w : S64x1024.Slices ![0, o] S64x128) (w' : S1x1024.Slices ![0, o] S1x128)
    (v kst : FVec Ideal S64x1024 .bf16) (dec : FVec Ideal S1x1024 .f32) (st : Vec Ideal S1x1x128x128 .f32) (e d : Fin 128)
    (cc : Fin 128 → Fin 1024) (hc : ∀ d, (cc d).val = o + d.val) :
    headNext (F := Ideal) o w w' v kst dec st (ix4 0 0 e d)
      = dec (ix2 0 (cc d)) * st (ix4 0 0 e d) + ∑ s : Fin 64, v (ix2 s (cc e)) * kst (ix2 s (cc d)) := by
  have h : ∀ d : Fin 128, cc d = ⟨o + d.val, (hc d) ▸ (cc d).isLt⟩ := fun d => Fin.ext (hc d)
  rw [h d, h e]
  pointwise [headNext]

/-- A block's columns of one head. -/
def rows (A : Vec Ideal S1x64x1024 .bf16) (h : Fin 8) : Fin 64 → Fin 128 → EReal := fun t d => A (ix3 0 t (col h d))

/-- The bounds of one head. -/
def bnd (lb : Vec Ideal S1x1024 .f32) (h : Fin 8) : Fin 128 → EReal := fun d => lb (ix2 0 (col h d))

/-- A state slab as key row, value column. -/
def slab (st : Vec Ideal S1x1x128x128 .f32) : Fin 128 → Fin 128 → EReal := fun d e => st (ix4 0 0 e d)

section
variable (h : Fin 8) (o : ℕ) (ho : o = 128 * h.val) (w : S64x1024.Slices ![0, o] S64x128) (w' : S1x1024.Slices ![0, o] S1x128)
  (lb : Vec Ideal S1x1024 .f32) (tri : Vec Ideal S64x64 .f32) (htri : IsTri tri) (hb : InRange (bnd lb h))
  (Q G V : Vec Ideal S1x64x1024 .bf16) (st : Vec Ideal S1x1x128x128 .f32)

include ho htri hb

/-- One head's next state is the recurrence's. -/
theorem headState_apply (e d : Fin 128) :
    headState (F := Ideal) o w w' lb tri G V st (ix4 0 0 e d) = stepState (bnd lb h) (rows G h) (rows V h) (slab st) d e := by
  unfold headState
  rw [headNext_apply o w w' _ _ _ st e d (col h) (fun d => by subst ho; rfl), dec_apply, blkC_apply lb tri G htri _ (hb d)]
  simp only [kst_apply, blkK_apply, blkC_apply lb tri G htri _ (hb d), blkV_apply]
  unfold stepState chunkState
  refine congrArg₂ _ rfl (Finset.sum_congr rfl fun s _ => mul_comm _ _)

/-- One head's output is the recurrence's. -/
theorem headOut_apply (t : Fin 64) (e : Fin 128) :
    headOut (F := Ideal) o w lb tri Q G V st (ix2 t e)
      = stepOut (bnd lb h) (rows Q h) (rows G h) (rows V h) (slab st) t e := by
  unfold headOut
  have hc : ∀ d, (col h d).val = o + d.val := fun d => by subst ho; rfl
  rw [headSum_apply o w _ _ _ t e (col h e) (hc e), headInter_apply o w _ st t e (col h) hc, add_comm]
  unfold stepOut chunkOut
  refine congrArg₂ _ (Finset.sum_congr rfl fun s _ => congrArg₂ _ ?_ (blkV_apply V s _)) (Finset.sum_congr rfl fun d _ => ?_)
  · rw [← blockAtt_eq _ _ _ (hl_bounded (bnd lb h) hb (rows G h))]
    refine if_congr Iff.rfl ?_ rfl
    rw [headAtt_apply o w _ _ _ _ _ _ _ _ t s (col h) hc]
    unfold blockAtt
    refine Finset.sum_congr rfl fun i _ => Finset.sum_congr rfl fun d _ => ?_
    have hq : ∀ i : Fin 4, qhat i (blkQ Q) (blkL lb G) (blkC lb tri G) t (col h d)
        = if t.val / 16 = i.val then hq (rows Q h) t d * Ideal.exp (cum (fun r => hl (bnd lb h) (rows G h) r d) t
            - subRef (fun r => hl (bnd lb h) (rows G h) r d) i) else 0 := by
      intro i
      unfold qhat
      rw [blkQ_apply, blkL_apply, blkC_apply lb tri G htri _ (hb d), blkC_apply lb tri G htri _ (hb d)]
      rfl
    have hk : ∀ i : Fin 4, khat i (blkL lb G) (blkK lb G) (blkC lb tri G) s (col h d)
        = hk (bnd lb h) (rows G h) s d * Ideal.exp (min (subRef (fun r => hl (bnd lb h) (rows G h) r d) i
            - cum (fun r => hl (bnd lb h) (rows G h) r d) s) ((60 : ℝ) : EReal)) := by
      intro i
      unfold khat
      rw [blkK_apply, blkL_apply, blkC_apply lb tri G htri _ (hb d), blkC_apply lb tri G htri _ (hb d)]
      rfl
    rw [← hq i, ← hk i]
    fin_cases i
    · exact congrArg₂ _ (q0_apply _ _ _ t _) (k0_apply _ _ _ s _)
    · exact congrArg₂ _ (q1_apply _ _ _ t _) (k1_apply _ _ _ s _)
    · exact congrArg₂ _ (q2_apply _ _ _ t _) (k2_apply _ _ _ s _)
    · exact congrArg₂ _ (q3_apply _ _ _ t _) (k3_apply _ _ _ s _)
  · rw [qin_apply, blkQ_apply, blkC_apply lb tri G htri _ (hb d)]
    rfl

end

/-- The eight heads side by side, read at a column of one of them. -/
theorem cat8_apply (s0 s1 s2 s3 s4 s5 s6 s7 : FVec Ideal S64x128 .f32) (t : Fin 64) (h : Fin 8) (e : Fin 128) :
    k0_pay154 (F := Ideal) s0 s1 s2 s3 s4 s5 s6 s7 (ix3 0 t (col h e)) = (![s0, s1, s2, s3, s4, s5, s6, s7] h) (ix2 t e) := by
  unfold col
  pointwise [k0_pay154]
  fin_vals h with hh
  · rw [show ![s0, s1, s2, s3, s4, s5, s6, s7] h = s0 by rw [show h = 0 from Fin.ext hh]; rfl, dif_pos (by omega)]
    exact congrArg s0 (congrArg (ix2 t) (Fin.ext (by dsimp only; omega)))
  · rw [show ![s0, s1, s2, s3, s4, s5, s6, s7] h = s1 by rw [show h = 1 from Fin.ext hh]; rfl, dif_neg (by omega), dif_pos (by omega)]
    exact congrArg s1 (congrArg (ix2 t) (Fin.ext (by dsimp only; omega)))
  · rw [show ![s0, s1, s2, s3, s4, s5, s6, s7] h = s2 by rw [show h = 2 from Fin.ext hh]; rfl, dif_neg (by omega), dif_neg (by omega), dif_pos (by omega)]
    exact congrArg s2 (congrArg (ix2 t) (Fin.ext (by dsimp only; omega)))
  · rw [show ![s0, s1, s2, s3, s4, s5, s6, s7] h = s3 by rw [show h = 3 from Fin.ext hh]; rfl, dif_neg (by omega), dif_neg (by omega), dif_neg (by omega), dif_pos (by omega)]
    exact congrArg s3 (congrArg (ix2 t) (Fin.ext (by dsimp only; omega)))
  · rw [show ![s0, s1, s2, s3, s4, s5, s6, s7] h = s4 by rw [show h = 4 from Fin.ext hh]; rfl, dif_neg (by omega), dif_neg (by omega), dif_neg (by omega), dif_neg (by omega), dif_pos (by omega)]
    exact congrArg s4 (congrArg (ix2 t) (Fin.ext (by dsimp only; omega)))
  · rw [show ![s0, s1, s2, s3, s4, s5, s6, s7] h = s5 by rw [show h = 5 from Fin.ext hh]; rfl, dif_neg (by omega), dif_neg (by omega), dif_neg (by omega), dif_neg (by omega), dif_neg (by omega), dif_pos (by omega)]
    exact congrArg s5 (congrArg (ix2 t) (Fin.ext (by dsimp only; omega)))
  · rw [show ![s0, s1, s2, s3, s4, s5, s6, s7] h = s6 by rw [show h = 6 from Fin.ext hh]; rfl, dif_neg (by omega), dif_neg (by omega), dif_neg (by omega), dif_neg (by omega), dif_neg (by omega), dif_neg (by omega), dif_pos (by omega)]
    exact congrArg s6 (congrArg (ix2 t) (Fin.ext (by dsimp only; omega)))
  · rw [show ![s0, s1, s2, s3, s4, s5, s6, s7] h = s7 by rw [show h = 7 from Fin.ext hh]; rfl, dif_neg (by omega), dif_neg (by omega), dif_neg (by omega), dif_neg (by omega), dif_neg (by omega), dif_neg (by omega), dif_neg (by omega)]
    exact congrArg s7 (congrArg (ix2 t) (Fin.ext (by dsimp only; omega)))

end Cert.KernelIdeal.Gen

end
-- ==== Proof.Loop.lean ====
/-
  The loop over a tile's eight chunks: the states' buffer after `n` trips holds the recurrence's states before chunk `n`,
  and the result's buffer the outputs of the chunks before.
-/
module

public import proofs.«01_k».proof.Proof.BlockMath
public import Idealize.ShloMosaic.Lib.Pipeline.ValueKit
public import Idealize.ShloMosaic.Lib.Pipeline.ReadBack
public import Idealize.ShloMosaic.Lib.Ring

@[expose] public section

set_option maxRecDepth 16384

noncomputable section

namespace Cert.KernelIdeal.Gen

open Idealize.ShloMosaic Idealize.ShloMosaic.TcCoe Idealize.ShloMosaic.Tactic
open Cert.Hgrn

/-- Chunk `k`'s rows of one batch and head in a tile of 512 rows (taken modulo 512, so that it is defined for every `k`). -/
def tRows (x : Vec Ideal S2x512x1024 .bf16) (b : Fin 2) (h : Fin 8) (k : ℕ) : Fin 64 → Fin 128 → EReal :=
  fun t d => x (ix3 b ⟨(64 * k + t.val) % 512, Nat.mod_lt _ (by decide)⟩ (col h d))

/-- One batch and head of a buffer of states, as key row, value column. -/
def tState (s : Vec Ideal S2x8x128x128 .f32) (b : Fin 2) (h : Fin 8) : Fin 128 → Fin 128 → EReal := fun d e => s (ix4 b h e d)

/-- The first batch's rows of trip `k` begin at row `64 k`. -/
theorem off1_eq (k : Fin k0_t1_loop.trips) : k0_off1 k = ![0, 64 * k.val, 0] := by
  revert k; decide +kernel

/-- The second batch's rows of trip `k` begin at row `64 k`. -/
theorem off2_eq (k : Fin k0_t1_loop.trips) : k0_off2 k = ![1, 64 * k.val, 0] := by
  revert k; decide +kernel

/-- There are eight trips. -/
theorem trips_eq : k0_t1_loop.trips = 8 := by decide +kernel

/-- A load of a chunk's rows, one head of it. -/
theorem rows_ld (arg : Memref sig .tc .vmem S2x512x1024 .bf16) (X : BufTy.Contents (Elt Ideal) arg.view.ty)
    (k : Fin k0_t1_loop.trips) (b : ℕ) (hb : b < 2) (off : Fin 3 → ℕ) (hoff : off = ![b, 64 * k.val, 0])
    (inb : ∀ a, off a + S1x64x1024.size a ≤ S2x512x1024.size a) (h : Fin 8) :
    rows (View.readAt (Elt Ideal) arg.view (Rect.unit (s := S2x512x1024) off S1x64x1024.size inb).toLoadRect X) h
      = tRows (arg.view.read (Elt Ideal) X) ⟨b, hb⟩ h k.val := by
  funext t d
  subst hoff
  have hk : k.val < 8 := trips_eq ▸ k.isLt
  show View.readAt _ _ _ _ _ = _
  rw [View.readAt_eq_ld]
  refine View.ld_unit_apply_of _ _ _ _ _ _ fun a => ?_
  match a with
  | ⟨0, _⟩ => rfl
  | ⟨1, _⟩ => exact Nat.mod_eq_of_lt (by omega)
  | ⟨2, _⟩ => exact (Nat.zero_add _).symm

/-- A load of one batch's and head's state. -/
theorem slab_ld (arg : Memref sig .tc .vmem S2x8x128x128 .f32) (g : BufTy.Contents (Elt Ideal) arg.view.ty)
    (b h : ℕ) (hb : b < 2) (hh : h < 8) (inb : ∀ a, ![b, h, 0, 0] a + S1x1x128x128.size a ≤ S2x8x128x128.size a) :
    slab (View.readAt (Elt Ideal) arg.view (Rect.unit (s := S2x8x128x128) ![b, h, 0, 0] S1x1x128x128.size inb).toLoadRect g)
      = tState (arg.view.read (Elt Ideal) g) ⟨b, hb⟩ ⟨h, hh⟩ := by
  funext d e
  show View.readAt _ _ _ _ _ = _
  rw [View.readAt_eq_ld]
  refine View.ld_unit_apply_of _ _ _ _ _ _ fun a => ?_
  match a with
  | ⟨0, _⟩ => show b = b + 0; rfl
  | ⟨1, _⟩ => show h = h + 0; rfl
  | ⟨2, _⟩ => show e.val = 0 + e.val; omega
  | ⟨3, _⟩ => show d.val = 0 + d.val; omega

/-- The states after chunk `k`, as a buffer, from the states `s` before it. -/
def nextStates (lb : Vec Ideal S1x1024 .f32) (xf xv : Vec Ideal S2x512x1024 .bf16) (k : ℕ) (s : Vec Ideal S2x8x128x128 .f32) :
    Vec Ideal S2x8x128x128 .f32 :=
  fun y => stepState (bnd lb (y 1)) (tRows xf (y 0) (y 1) k) (tRows xv (y 0) (y 1) k) (tState s (y 0) (y 1)) (y 3) (y 2)

/-- The states' buffer before chunk `n`, from the states `s` before the tile's first chunk. -/
def tileStates (lb : Vec Ideal S1x1024 .f32) (xf xv : Vec Ideal S2x512x1024 .bf16) (s : Vec Ideal S2x8x128x128 .f32) :
    ℕ → Vec Ideal S2x8x128x128 .f32
  | 0 => s
  | n + 1 => nextStates lb xf xv n (tileStates lb xf xv s n)

/-- One batch and head of the next states. -/
theorem tState_next (lb : Vec Ideal S1x1024 .f32) (xf xv : Vec Ideal S2x512x1024 .bf16) (s : Vec Ideal S2x8x128x128 .f32)
    (b : Fin 2) (h : Fin 8) (n : ℕ) :
    tState (nextStates lb xf xv n s) b h = stepState (bnd lb h) (tRows xf b h n) (tRows xv b h n) (tState s b h) := rfl

/-- Each batch and head of the buffer follows its own recurrence. -/
theorem tState_tileStates (lb : Vec Ideal S1x1024 .f32) (xf xv : Vec Ideal S2x512x1024 .bf16) (s : Vec Ideal S2x8x128x128 .f32)
    (b : Fin 2) (h : Fin 8) (n : ℕ) :
    tState (tileStates lb xf xv s n) b h = stateSeq (bnd lb h) (tRows xf b h) (tRows xv b h) (tState s b h) n := by
  induction n with
  | zero => rfl
  | succ n ih =>
    have e : tileStates lb xf xv s (n + 1) = nextStates lb xf xv n (tileStates lb xf xv s n) := rfl
    have e' : stateSeq (bnd lb h) (tRows xf b h) (tRows xv b h) (tState s b h) (n + 1)
      = stepState (bnd lb h) (tRows xf b h n) (tRows xv b h n) (stateSeq (bnd lb h) (tRows xf b h) (tRows xv b h) (tState s b h) n) := rfl
    rw [e, e', tState_next, ih]

/-- A tile's output at batch `b`, row `T` and column `c`. -/
def tileOutAt (lb : Vec Ideal S1x1024 .f32) (xf xv xq : Vec Ideal S2x512x1024 .bf16) (s : Vec Ideal S2x8x128x128 .f32)
    (b : Fin 2) (T : Fin 512) (c : Fin 1024) : EReal :=
  outSeq (bnd lb (hd c)) (tRows xq b (hd c)) (tRows xf b (hd c)) (tRows xv b (hd c)) (tState s b (hd c)) (T.val / 64)
    ⟨T.val % 64, Nat.mod_lt _ (by decide)⟩ ⟨c.val % 128, Nat.mod_lt _ (by decide)⟩

/-- A tile's outputs, as a buffer. -/
def tileOut (lb : Vec Ideal S1x1024 .f32) (xf xv xq : Vec Ideal S2x512x1024 .bf16) (s : Vec Ideal S2x8x128x128 .f32) :
    Vec Ideal S2x512x1024 .bf16 :=
  fun y => tileOutAt lb xf xv xq s (y 0) (y 1) (y 2)

/-- The buffer of outputs, at an index. -/
theorem tileOut_apply (lb : Vec Ideal S1x1024 .f32) (xf xv xq : Vec Ideal S2x512x1024 .bf16) (s : Vec Ideal S2x8x128x128 .f32)
    (b : Fin 2) (T : Fin 512) (c : Fin 1024) : tileOut lb xf xv xq s (ix3 b T c) = tileOutAt lb xf xv xq s b T c := rfl

/-- A tile's output at row `t` of chunk `k` and column `e` of head `h`. -/
theorem tileOutAt_chunk (lb : Vec Ideal S1x1024 .f32) (xf xv xq : Vec Ideal S2x512x1024 .bf16) (s : Vec Ideal S2x8x128x128 .f32)
    (b : Fin 2) (k : ℕ) (t : Fin 64) (h : Fin 8) (e : Fin 128) (T : Fin 512) (hT : T.val = 64 * k + t.val) :
    tileOutAt lb xf xv xq s b T (col h e)
      = outSeq (bnd lb h) (tRows xq b h) (tRows xf b h) (tRows xv b h) (tState s b h) k t e := by
  have h1 : hd (col h e) = h := Fin.ext (by show (128 * h.val + e.val) / 128 = h.val; omega)
  have h2 : T.val / 64 = k := by omega
  have h3 : (⟨T.val % 64, Nat.mod_lt _ (by decide)⟩ : Fin 64) = t := Fin.ext (by show T.val % 64 = t.val; omega)
  have h4 : (⟨(col h e).val % 128, Nat.mod_lt _ (by decide)⟩ : Fin 128) = e :=
    Fin.ext (by show (128 * h.val + e.val) % 128 = e.val; omega)
  unfold tileOutAt
  rw [h1, h2, h3, h4]

section
variable (v3 : Vec Ideal S1x1024 .f32) (v4 : Vec Ideal S64x64 .f32) (htri : IsTri v4) (hb : ∀ h, InRange (bnd v3 h))

include htri hb

/-- One stored state agrees with the recurrence's next states. -/
theorem stPiece (arg2 arg3 : Memref sig .tc .vmem S2x512x1024 .bf16) (arg9 : Memref sig .tc .vmem S2x8x128x128 .f32)
    (X_arg2 : BufTy.Contents (Elt Ideal) arg2.view.ty) (X_arg3 : BufTy.Contents (Elt Ideal) arg3.view.ty)
    (k : Fin k0_t1_loop.trips) (g : BufTy.Contents (Elt Ideal) arg9.view.ty)
    (b h : ℕ) (hb2 : b < 2) (hh : h < 8) (o : ℕ) (ho : o = 128 * h) (w : S64x1024.Slices ![0, o] S64x128)
    (w' : S1x1024.Slices ![0, o] S1x128) (off : Fin 3 → ℕ) (hoff : off = ![b, 64 * k.val, 0])
    (inb : ∀ a, off a + S1x64x1024.size a ≤ S2x512x1024.size a)
    (inb' : ∀ a, ![b, h, 0, 0] a + S1x1x128x128.size a ≤ S2x8x128x128.size a)
    (x : (Rect.unit (s := S2x8x128x128) ![b, h, 0, 0] ![1, 1, 128, 128] inb').shape.Idx) :
    headState (F := Ideal) o w w' v3 v4
        (View.readAt (Elt Ideal) arg2.view (Rect.unit (s := S2x512x1024) off S1x64x1024.size inb).toLoadRect X_arg2)
        (View.readAt (Elt Ideal) arg3.view (Rect.unit (s := S2x512x1024) off S1x64x1024.size inb).toLoadRect X_arg3)
        (View.readAt (Elt Ideal) arg9.view (Rect.unit (s := S2x8x128x128) ![b, h, 0, 0] S1x1x128x128.size inb').toLoadRect g) x
      = nextStates v3 (arg2.view.read (Elt Ideal) X_arg2) (arg3.view.read (Elt Ideal) X_arg3) k.val (arg9.view.read (Elt Ideal) g)
          ((Rect.unit (s := S2x8x128x128) ![b, h, 0, 0] ![1, 1, 128, 128] inb').emb x) := by
  obtain ⟨x0, x1, e, d, rfl⟩ : ∃ (x0 x1 : Fin 1) (e d : Fin 128), x = ix4 x0 x1 e d := ⟨x 0, x 1, x 2, x 3, eq_ix4 x⟩
  obtain rfl : x0 = 0 := Subsingleton.elim _ _
  obtain rfl : x1 = 0 := Subsingleton.elim _ _
  have he : (Rect.unit (s := S2x8x128x128) ![b, h, 0, 0] ![1, 1, 128, 128] inb').emb (ix4 0 0 e d) = ix4 ⟨b, hb2⟩ ⟨h, hh⟩ e d := by
    funext a
    apply Fin.ext
    match a with
    | ⟨0, _⟩ => rfl
    | ⟨1, _⟩ => rfl
    | ⟨2, _⟩ => show 0 + 1 * e.val = e.val; omega
    | ⟨3, _⟩ => show 0 + 1 * d.val = d.val; omega
  rw [he, headState_apply ⟨h, hh⟩ o ho w w' v3 v4 htri (hb ⟨h, hh⟩)]
  rw [rows_ld arg2 X_arg2 k b hb2 off hoff inb, rows_ld arg3 X_arg3 k b hb2 off hoff inb, slab_ld arg9 g b h hb2 hh inb']
  rfl

/-- A trip's sixteen stored states agree with the recurrence's next states. -/
theorem state_pieces (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (X_arg2 : BufTy.Contents (Elt Ideal) arg2.view.ty) (X_arg3 : BufTy.Contents (Elt Ideal) arg3.view.ty) (X_arg4 : BufTy.Contents (Elt Ideal) arg4.view.ty) (k : Fin k0_t1_loop.trips) (f : BufTy.Contents (Elt Ideal) arg8.view.ty) (g : BufTy.Contents (Elt Ideal) arg9.view.ty) :
    View.PiecesOf (nextStates v3 (arg2.view.read (Elt Ideal) X_arg2) (arg3.view.read (Elt Ideal) X_arg3) k.val (arg9.view.read (Elt Ideal) g)) (tripL_k0_t1 (F := Ideal) 𝒱 c bd i arg2 harg2 arg3 harg3 arg4 harg4 arg5 harg5 arg6 harg6 arg7 harg7 arg8 harg8 arg9 harg9 v3 v4 X_arg2 X_arg3 X_arg4 k f g).2 := by
  rw [trip_state]
  refine ⟨?_, ?_, ?_, ?_, ?_, ?_, ?_, ?_, ?_, ?_, ?_, ?_, ?_, ?_, ?_, ?_, trivial⟩
  · exact fun x => stPiece v3 v4 htri hb arg2 arg3 arg9 X_arg2 X_arg3 k g 1 7 (by decide) (by decide) 896 rfl _ _ _ (off2_eq k) _ _ x
  · exact fun x => stPiece v3 v4 htri hb arg2 arg3 arg9 X_arg2 X_arg3 k g 1 6 (by decide) (by decide) 768 rfl _ _ _ (off2_eq k) _ _ x
  · exact fun x => stPiece v3 v4 htri hb arg2 arg3 arg9 X_arg2 X_arg3 k g 1 5 (by decide) (by decide) 640 rfl _ _ _ (off2_eq k) _ _ x
  · exact fun x => stPiece v3 v4 htri hb arg2 arg3 arg9 X_arg2 X_arg3 k g 1 4 (by decide) (by decide) 512 rfl _ _ _ (off2_eq k) _ _ x
  · exact fun x => stPiece v3 v4 htri hb arg2 arg3 arg9 X_arg2 X_arg3 k g 1 3 (by decide) (by decide) 384 rfl _ _ _ (off2_eq k) _ _ x
  · exact fun x => stPiece v3 v4 htri hb arg2 arg3 arg9 X_arg2 X_arg3 k g 1 2 (by decide) (by decide) 256 rfl _ _ _ (off2_eq k) _ _ x
  · exact fun x => stPiece v3 v4 htri hb arg2 arg3 arg9 X_arg2 X_arg3 k g 1 1 (by decide) (by decide) 128 rfl _ _ _ (off2_eq k) _ _ x
  · exact fun x => stPiece v3 v4 htri hb arg2 arg3 arg9 X_arg2 X_arg3 k g 1 0 (by decide) (by decide) 0 rfl _ _ _ (off2_eq k) _ _ x
  · exact fun x => stPiece v3 v4 htri hb arg2 arg3 arg9 X_arg2 X_arg3 k g 0 7 (by decide) (by decide) 896 rfl _ _ _ (off1_eq k) _ _ x
  · exact fun x => stPiece v3 v4 htri hb arg2 arg3 arg9 X_arg2 X_arg3 k g 0 6 (by decide) (by decide) 768 rfl _ _ _ (off1_eq k) _ _ x
  · exact fun x => stPiece v3 v4 htri hb arg2 arg3 arg9 X_arg2 X_arg3 k g 0 5 (by decide) (by decide) 640 rfl _ _ _ (off1_eq k) _ _ x
  · exact fun x => stPiece v3 v4 htri hb arg2 arg3 arg9 X_arg2 X_arg3 k g 0 4 (by decide) (by decide) 512 rfl _ _ _ (off1_eq k) _ _ x
  · exact fun x => stPiece v3 v4 htri hb arg2 arg3 arg9 X_arg2 X_arg3 k g 0 3 (by decide) (by decide) 384 rfl _ _ _ (off1_eq k) _ _ x
  · exact fun x => stPiece v3 v4 htri hb arg2 arg3 arg9 X_arg2 X_arg3 k g 0 2 (by decide) (by decide) 256 rfl _ _ _ (off1_eq k) _ _ x
  · exact fun x => stPiece v3 v4 htri hb arg2 arg3 arg9 X_arg2 X_arg3 k g 0 1 (by decide) (by decide) 128 rfl _ _ _ (off1_eq k) _ _ x
  · exact fun x => stPiece v3 v4 htri hb arg2 arg3 arg9 X_arg2 X_arg3 k g 0 0 (by decide) (by decide) 0 rfl _ _ _ (off1_eq k) _ _ x

/-- A trip's stored states fill the buffer. -/
theorem state_cover (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (X_arg2 : BufTy.Contents (Elt Ideal) arg2.view.ty) (X_arg3 : BufTy.Contents (Elt Ideal) arg3.view.ty) (X_arg4 : BufTy.Contents (Elt Ideal) arg4.view.ty) (k : Fin k0_t1_loop.trips) (f : BufTy.Contents (Elt Ideal) arg8.view.ty) (g : BufTy.Contents (Elt Ideal) arg9.view.ty) (y : S2x8x128x128.Idx) :
    ∃ p ∈ (tripL_k0_t1 (F := Ideal) 𝒱 c bd i arg2 harg2 arg3 harg3 arg4 harg4 arg5 harg5 arg6 harg6 arg7 harg7 arg8 harg8 arg9 harg9 v3 v4 X_arg2 X_arg3 X_arg4 k f g).2, y ∈ p.1.set := by
  rw [trip_state]
  exact View.cover_of_tiledL (s := S2x8x128x128) _ S1x1x128x128.size (by sl_kernel_rfl) y

/-- After a trip the states' buffer holds the recurrence's next states. -/
theorem state_trip (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (X_arg2 : BufTy.Contents (Elt Ideal) arg2.view.ty) (X_arg3 : BufTy.Contents (Elt Ideal) arg3.view.ty) (X_arg4 : BufTy.Contents (Elt Ideal) arg4.view.ty) (k : Fin k0_t1_loop.trips) (f : BufTy.Contents (Elt Ideal) arg8.view.ty) (g : BufTy.Contents (Elt Ideal) arg9.view.ty) :
    arg9.view.read (Elt Ideal) (arg9.view.writes (Elt Ideal) g (tripL_k0_t1 (F := Ideal) 𝒱 c bd i arg2 harg2 arg3 harg3 arg4 harg4 arg5 harg5 arg6 harg6 arg7 harg7 arg8 harg8 arg9 harg9 v3 v4 X_arg2 X_arg3 X_arg4 k f g).2) = nextStates v3 (arg2.view.read (Elt Ideal) X_arg2) (arg3.view.read (Elt Ideal) X_arg3) k.val (arg9.view.read (Elt Ideal) g) := by
  rw [View.read_writes_eq_canon _ _ _ (state_cover v3 v4 htri hb 𝒱 c bd i arg2 harg2 arg3 harg3 arg4 harg4 arg5 harg5 arg6 harg6 arg7 harg7 arg8 harg8 arg9 harg9 X_arg2 X_arg3 X_arg4 k f g)]
  funext y
  exact (congrFun (congrArg View.canon (List.append_nil _).symm) y).trans (View.canon_append_of_piecesOf
    (nextStates v3 (arg2.view.read (Elt Ideal) X_arg2) (arg3.view.read (Elt Ideal) X_arg3) k.val (arg9.view.read (Elt Ideal) g)) [] _ (state_pieces v3 v4 htri hb 𝒱 c bd i arg2 harg2 arg3 harg3 arg4 harg4 arg5 harg5 arg6 harg6 arg7 harg7 arg8 harg8 arg9 harg9 X_arg2 X_arg3 X_arg4 k f g) y (state_cover v3 v4 htri hb 𝒱 c bd i arg2 harg2 arg3 harg3 arg4 harg4 arg5 harg5 arg6 harg6 arg7 harg7 arg8 harg8 arg9 harg9 X_arg2 X_arg3 X_arg4 k f g y))

/-- One stored block of outputs agrees with the tile's outputs. -/
theorem outPiece (arg2 arg3 arg4 : Memref sig .tc .vmem S2x512x1024 .bf16) (arg9 : Memref sig .tc .vmem S2x8x128x128 .f32)
    (X_arg2 : BufTy.Contents (Elt Ideal) arg2.view.ty) (X_arg3 : BufTy.Contents (Elt Ideal) arg3.view.ty)
    (X_arg4 : BufTy.Contents (Elt Ideal) arg4.view.ty)
    (k : Fin k0_t1_loop.trips) (g : BufTy.Contents (Elt Ideal) arg9.view.ty) (s : Vec Ideal S2x8x128x128 .f32)
    (hg : arg9.view.read (Elt Ideal) g = tileStates v3 (arg2.view.read (Elt Ideal) X_arg2) (arg3.view.read (Elt Ideal) X_arg3) s k.val)
    (b : ℕ) (hb2 : b < 2) (off : Fin 3 → ℕ) (hoff : off = ![b, 64 * k.val, 0])
    (inb : ∀ a, off a + S1x64x1024.size a ≤ S2x512x1024.size a)
    (i0 : ∀ a, ![b, 0, 0, 0] a + S1x1x128x128.size a ≤ S2x8x128x128.size a)
    (i1 : ∀ a, ![b, 1, 0, 0] a + S1x1x128x128.size a ≤ S2x8x128x128.size a)
    (i2 : ∀ a, ![b, 2, 0, 0] a + S1x1x128x128.size a ≤ S2x8x128x128.size a)
    (i3 : ∀ a, ![b, 3, 0, 0] a + S1x1x128x128.size a ≤ S2x8x128x128.size a)
    (i4 : ∀ a, ![b, 4, 0, 0] a + S1x1x128x128.size a ≤ S2x8x128x128.size a)
    (i5 : ∀ a, ![b, 5, 0, 0] a + S1x1x128x128.size a ≤ S2x8x128x128.size a)
    (i6 : ∀ a, ![b, 6, 0, 0] a + S1x1x128x128.size a ≤ S2x8x128x128.size a)
    (i7 : ∀ a, ![b, 7, 0, 0] a + S1x1x128x128.size a ≤ S2x8x128x128.size a)
    (x : (Rect.unit (s := S2x512x1024) off ![1, 64, 1024] inb).shape.Idx) :
    rowOut (F := Ideal) v3 v4 (View.readAt (Elt Ideal) arg4.view (Rect.unit (s := S2x512x1024) off S1x64x1024.size inb).toLoadRect X_arg4) (View.readAt (Elt Ideal) arg2.view (Rect.unit (s := S2x512x1024) off S1x64x1024.size inb).toLoadRect X_arg2) (View.readAt (Elt Ideal) arg3.view (Rect.unit (s := S2x512x1024) off S1x64x1024.size inb).toLoadRect X_arg3)
        (View.readAt (Elt Ideal) arg9.view (Rect.unit (s := S2x8x128x128) ![b, 0, 0, 0] S1x1x128x128.size i0).toLoadRect g) (View.readAt (Elt Ideal) arg9.view (Rect.unit (s := S2x8x128x128) ![b, 1, 0, 0] S1x1x128x128.size i1).toLoadRect g) (View.readAt (Elt Ideal) arg9.view (Rect.unit (s := S2x8x128x128) ![b, 2, 0, 0] S1x1x128x128.size i2).toLoadRect g) (View.readAt (Elt Ideal) arg9.view (Rect.unit (s := S2x8x128x128) ![b, 3, 0, 0] S1x1x128x128.size i3).toLoadRect g) (View.readAt (Elt Ideal) arg9.view (Rect.unit (s := S2x8x128x128) ![b, 4, 0, 0] S1x1x128x128.size i4).toLoadRect g) (View.readAt (Elt Ideal) arg9.view (Rect.unit (s := S2x8x128x128) ![b, 5, 0, 0] S1x1x128x128.size i5).toLoadRect g) (View.readAt (Elt Ideal) arg9.view (Rect.unit (s := S2x8x128x128) ![b, 6, 0, 0] S1x1x128x128.size i6).toLoadRect g) (View.readAt (Elt Ideal) arg9.view (Rect.unit (s := S2x8x128x128) ![b, 7, 0, 0] S1x1x128x128.size i7).toLoadRect g) x
      = tileOut v3 (arg2.view.read (Elt Ideal) X_arg2) (arg3.view.read (Elt Ideal) X_arg3) (arg4.view.read (Elt Ideal) X_arg4) s ((Rect.unit (s := S2x512x1024) off ![1, 64, 1024] inb).emb x) := by
  obtain ⟨x0, t, c, rfl⟩ : ∃ (x0 : Fin 1) (t : Fin 64) (c : Fin 1024), x = ix3 x0 t c := ⟨x 0, x 1, x 2, eq_ix3 x⟩
  obtain rfl : x0 = 0 := Subsingleton.elim _ _
  have hk : k.val < 8 := trips_eq ▸ k.isLt
  have he : (Rect.unit (s := S2x512x1024) off ![1, 64, 1024] inb).emb (ix3 0 t c) = ix3 ⟨b, hb2⟩ ⟨64 * k.val + t.val, by omega⟩ c := by
    subst hoff
    funext a
    apply Fin.ext
    match a with
    | ⟨0, _⟩ => rfl
    | ⟨1, _⟩ => show 64 * k.val + 1 * t.val = 64 * k.val + t.val; omega
    | ⟨2, _⟩ => show 0 + 1 * c.val = c.val; omega
  rw [he]
  obtain ⟨h, e, rfl⟩ : ∃ (h : Fin 8) (e : Fin 128), c = col h e :=
    ⟨hd c, ⟨c.val % 128, Nat.mod_lt _ (by decide)⟩, Fin.ext (by show c.val = 128 * (c.val / 128) + c.val % 128; omega)⟩
  have hS : ∀ H : Fin 8, ∀ ib, slab (View.readAt (Elt Ideal) arg9.view (Rect.unit (s := S2x8x128x128) ![b, H.val, 0, 0] S1x1x128x128.size ib).toLoadRect g)
      = stateSeq (bnd v3 H) (tRows (arg2.view.read (Elt Ideal) X_arg2) ⟨b, hb2⟩ H) (tRows (arg3.view.read (Elt Ideal) X_arg3) ⟨b, hb2⟩ H) (tState s ⟨b, hb2⟩ H) k.val := by
    intro H ib
    rw [slab_ld arg9 g b H.val hb2 H.isLt ib, hg, tState_tileStates]
  have key : ∀ (H : Fin 8) (ib) (o : ℕ) (w : S64x1024.Slices ![0, o] S64x128), o = 128 * H.val →
      headOut (F := Ideal) o w v3 v4 (View.readAt (Elt Ideal) arg4.view (Rect.unit (s := S2x512x1024) off S1x64x1024.size inb).toLoadRect X_arg4) (View.readAt (Elt Ideal) arg2.view (Rect.unit (s := S2x512x1024) off S1x64x1024.size inb).toLoadRect X_arg2) (View.readAt (Elt Ideal) arg3.view (Rect.unit (s := S2x512x1024) off S1x64x1024.size inb).toLoadRect X_arg3)
        (View.readAt (Elt Ideal) arg9.view (Rect.unit (s := S2x8x128x128) ![b, H.val, 0, 0] S1x1x128x128.size ib).toLoadRect g) (ix2 t e)
      = outSeq (bnd v3 H) (tRows (arg4.view.read (Elt Ideal) X_arg4) ⟨b, hb2⟩ H) (tRows (arg2.view.read (Elt Ideal) X_arg2) ⟨b, hb2⟩ H)
          (tRows (arg3.view.read (Elt Ideal) X_arg3) ⟨b, hb2⟩ H) (tState s ⟨b, hb2⟩ H) k.val t e := by
    intro H ib o w ho
    rw [headOut_apply H o ho w v3 v4 htri (hb H), rows_ld arg2 X_arg2 k b hb2 off hoff inb, rows_ld arg3 X_arg3 k b hb2 off hoff inb,
      rows_ld arg4 X_arg4 k b hb2 off hoff inb, hS H ib]
    unfold outSeq
    rfl
  rw [tileOut_apply, tileOutAt_chunk v3 _ _ _ s ⟨b, hb2⟩ k.val t h e _ rfl]
  unfold rowOut
  refine (cat8_apply _ _ _ _ _ _ _ _ t h e).trans ?_
  match h with
  | ⟨0, _⟩ => exact key 0 i0 0 slices_S64x1024_o0_0_S64x128 rfl
  | ⟨1, _⟩ => exact key 1 i1 128 slices_S64x1024_o0_128_S64x128 rfl
  | ⟨2, _⟩ => exact key 2 i2 256 slices_S64x1024_o0_256_S64x128 rfl
  | ⟨3, _⟩ => exact key 3 i3 384 slices_S64x1024_o0_384_S64x128 rfl
  | ⟨4, _⟩ => exact key 4 i4 512 slices_S64x1024_o0_512_S64x128 rfl
  | ⟨5, _⟩ => exact key 5 i5 640 slices_S64x1024_o0_640_S64x128 rfl
  | ⟨6, _⟩ => exact key 6 i6 768 slices_S64x1024_o0_768_S64x128 rfl
  | ⟨7, _⟩ => exact key 7 i7 896 slices_S64x1024_o0_896_S64x128 rfl

/-- A trip's two stored blocks agree with the tile's outputs. -/
theorem out_pieces (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (X_arg2 : BufTy.Contents (Elt Ideal) arg2.view.ty) (X_arg3 : BufTy.Contents (Elt Ideal) arg3.view.ty) (X_arg4 : BufTy.Contents (Elt Ideal) arg4.view.ty) (k : Fin k0_t1_loop.trips) (f : BufTy.Contents (Elt Ideal) arg8.view.ty) (g : BufTy.Contents (Elt Ideal) arg9.view.ty) (s : Vec Ideal S2x8x128x128 .f32)
    (hg : arg9.view.read (Elt Ideal) g = tileStates v3 (arg2.view.read (Elt Ideal) X_arg2) (arg3.view.read (Elt Ideal) X_arg3) s k.val) :
    View.PiecesOf (tileOut v3 (arg2.view.read (Elt Ideal) X_arg2) (arg3.view.read (Elt Ideal) X_arg3) (arg4.view.read (Elt Ideal) X_arg4) s) (tripL_k0_t1 (F := Ideal) 𝒱 c bd i arg2 harg2 arg3 harg3 arg4 harg4 arg5 harg5 arg6 harg6 arg7 harg7 arg8 harg8 arg9 harg9 v3 v4 X_arg2 X_arg3 X_arg4 k f g).1 := by
  rw [trip_out]
  refine ⟨?_, ?_, trivial⟩
  · exact fun x => outPiece v3 v4 htri hb arg2 arg3 arg4 arg9 X_arg2 X_arg3 X_arg4 k g s hg 1 (by decide) _ (off2_eq k) _ _ _ _ _ _ _ _ _ x
  · exact fun x => outPiece v3 v4 htri hb arg2 arg3 arg4 arg9 X_arg2 X_arg3 X_arg4 k g s hg 0 (by decide) _ (off1_eq k) _ _ _ _ _ _ _ _ _ x

/-- Before trip `n` the states' buffer holds the states before chunk `n`, and everything stored into the result agrees with
    the tile's outputs. -/
theorem loop_inv (𝒱 : Variants) (c : Dev nD) (bd : Option 𝒱.V) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole) (X_arg2 : BufTy.Contents (Elt Ideal) arg2.view.ty) (X_arg3 : BufTy.Contents (Elt Ideal) arg3.view.ty) (X_arg4 : BufTy.Contents (Elt Ideal) arg4.view.ty) (f : BufTy.Contents (Elt Ideal) arg8.view.ty) (g : BufTy.Contents (Elt Ideal) arg9.view.ty)
    (n : ℕ) (hn : n ≤ k0_t1_loop.trips) :
    arg9.view.read (Elt Ideal) (arg9.view.writes (Elt Ideal) g (pb_k0_t1 (F := Ideal) 𝒱 c bd i arg2 harg2 arg3 harg3 arg4 harg4 arg5 harg5 arg6 harg6 arg7 harg7 arg8 harg8 arg9 harg9 v3 v4 X_arg2 X_arg3 X_arg4 f g n).2)
        = tileStates v3 (arg2.view.read (Elt Ideal) X_arg2) (arg3.view.read (Elt Ideal) X_arg3) (arg9.view.read (Elt Ideal) g) n
      ∧ ∀ p ∈ (pb_k0_t1 (F := Ideal) 𝒱 c bd i arg2 harg2 arg3 harg3 arg4 harg4 arg5 harg5 arg6 harg6 arg7 harg7 arg8 harg8 arg9 harg9 v3 v4 X_arg2 X_arg3 X_arg4 f g n).1, ∀ x, p.2 x = (tileOut v3 (arg2.view.read (Elt Ideal) X_arg2) (arg3.view.read (Elt Ideal) X_arg3) (arg4.view.read (Elt Ideal) X_arg4) (arg9.view.read (Elt Ideal) g)) (p.1.emb x) := by
  induction n with
  | zero => exact ⟨rfl, fun p hp => absurd hp List.not_mem_nil⟩
  | succ n ih =>
    obtain ⟨ih1, ih2⟩ := ih (by omega)
    have e := pb_k0_t1_succ (F := Ideal) 𝒱 c bd i arg2 harg2 arg3 harg3 arg4 harg4 arg5 harg5 arg6 harg6 arg7 harg7 arg8 harg8 arg9 harg9 v3 v4 X_arg2 X_arg3 X_arg4 f g ⟨n, hn⟩
    rw [e]
    refine ⟨?_, fun p hp => ?_⟩
    · rw [View.writes_append, state_trip v3 v4 htri hb, ih1]
      rfl
    · rcases List.mem_append.mp hp with hp | hp
      · exact (out_pieces v3 v4 htri hb 𝒱 c bd i arg2 harg2 arg3 harg3 arg4 harg4 arg5 harg5 arg6 harg6 arg7 harg7 arg8 harg8 arg9 harg9 X_arg2 X_arg3 X_arg4 ⟨n, hn⟩ _ _ (arg9.view.read (Elt Ideal) g) ih1).mem p hp
      · exact ih2 p hp

end

end Cert.KernelIdeal.Gen

end
-- ==== Proof.Cases.lean ====
/-
  What one grid point leaves: the tile's outputs in the result's block, and the states after its eight chunks in the
  carried buffer. A batch pair's first point starts from the initial state, every other from what the point before left.
-/
module

public import proofs.«01_k».proof.Proof.Loop
public import proofs.«01_k».proof.Proof.IdealFrame

@[expose] public section

set_option maxRecDepth 16384

noncomputable section

namespace Cert.KernelIdeal.Gen

open Idealize.ShloMosaic Idealize.ShloMosaic.TcCoe Idealize.ShloMosaic.Tactic
open Cert.Hgrn

/-- A load of the whole bound. -/
theorem lb_ld (arg6 : Memref sig .tc .vmem S1x1024 .f32) (harg6 : arg6.IsWhole) (x4 : Vec Ideal S1x1024 .f32) :
    View.readAt (Elt Ideal) arg6.view (Rect.unit (s := S1x1024) ![0, 0] S1x1024.size inb_S1x1024_S1x1024_0_0).toLoadRect (harg6.unread x4) = x4 := by
  funext y
  rw [View.readAt_eq_ld, harg6.read_unread]
  refine View.ld_unit_apply_of _ _ _ _ _ _ fun a => ?_
  match a with
  | ⟨0, _⟩ => exact (Nat.zero_add _).symm
  | ⟨1, _⟩ => exact (Nat.zero_add _).symm

/-- A load of the whole triangle. -/
theorem tri_ld (arg7 : Memref sig .tc .vmem S64x64 .f32) (harg7 : arg7.IsWhole) (x5 : Vec Ideal S64x64 .f32) :
    View.readAt (Elt Ideal) arg7.view (Rect.unit (s := S64x64) ![0, 0] S64x64.size inb_S64x64_S64x64_0_0).toLoadRect (harg7.unread x5) = x5 := by
  funext y
  rw [View.readAt_eq_ld, harg7.read_unread]
  refine View.ld_unit_apply_of _ _ _ _ _ _ fun a => ?_
  match a with
  | ⟨0, _⟩ => exact (Nat.zero_add _).symm
  | ⟨1, _⟩ => exact (Nat.zero_add _).symm

/-- A load of the whole initial state. -/
theorem st_ld (arg5 : Memref sig .tc .vmem S2x8x128x128 .f32) (harg5 : arg5.IsWhole) (x3 : Vec Ideal S2x8x128x128 .f32) :
    View.readAt (Elt Ideal) arg5.view (Rect.unit (s := S2x8x128x128) ![0, 0, 0, 0] S2x8x128x128.size inb_S2x8x128x128_S2x8x128x128_0_0_0_0).toLoadRect (harg5.unread x3) = x3 := by
  funext y
  rw [View.readAt_eq_ld, harg5.read_unread]
  refine View.ld_unit_apply_of _ _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

variable (c : Dev nD) (i : grid0.Coords) (arg2 : Memref sig .tc .vmem S2x512x1024 .bf16) (harg2 : arg2.IsWhole) (arg3 : Memref sig .tc .vmem S2x512x1024 .bf16) (harg3 : arg3.IsWhole) (arg4 : Memref sig .tc .vmem S2x512x1024 .bf16) (harg4 : arg4.IsWhole) (arg5 : Memref sig .tc .vmem S2x8x128x128 .f32) (harg5 : arg5.IsWhole) (arg6 : Memref sig .tc .vmem S1x1024 .f32) (harg6 : arg6.IsWhole) (arg7 : Memref sig .tc .vmem S64x64 .f32) (harg7 : arg7.IsWhole) (arg8 : Memref sig .tc .vmem S2x512x1024 .bf16) (harg8 : arg8.IsWhole) (arg9 : Memref sig .tc .vmem S2x8x128x128 .f32) (harg9 : arg9.IsWhole)

/-- A later point: the states. -/
theorem sout_B_eq (hc0 : ¬cond0_0 i) (x0 x1 x2 : Vec Ideal S2x512x1024 .bf16) (x3 : Vec Ideal S2x8x128x128 .f32) (x4 : Vec Ideal S1x1024 .f32) (x5 : Vec Ideal S64x64 .f32) (xs0 : Vec Ideal S2x8x128x128 .f32) (htri : IsTri x5) (hb : ∀ h, InRange (bnd x4 h)) :
    sout0_B_0 (F := Ideal) c i arg2 harg2 arg3 harg3 arg4 harg4 arg5 harg5 arg6 harg6 arg7 harg7 arg8 harg8 arg9 harg9 hc0 x0 x1 x2 x3 x4 x5 xs0 = tileStates x4 x0 x1 xs0 8 := by
  unfold sout0_B_0
  have hcov := scover0_B_0 (F := Ideal) c i arg2 harg2 arg3 harg3 arg4 harg4 arg5 harg5 arg6 harg6 arg7 harg7 arg8 harg8 arg9 harg9 hc0 x0 x1 x2 x3 x4 x5 xs0
  rw [View.read_writes_eq_canon _ _ _ hcov, ← View.read_writes_eq_canon arg9.view (harg9.unread xs0) _ hcov]
  have h := (loop_inv x4 x5 htri hb Variants.none c none i arg2 harg2 arg3 harg3 arg4 harg4 arg5 harg5 arg6 harg6 arg7 harg7 arg8 harg8 arg9 harg9 (harg2.unread x0) (harg3.unread x1) (harg4.unread x2) arg8.view.junk (harg9.unread xs0) 8 (le_of_eq trips_eq.symm)).1
  rw [harg2.read_unread, harg3.read_unread, harg9.read_unread] at h
  refine Eq.trans ?_ h
  show arg9.view.read (Elt Ideal) (arg9.view.writes (Elt Ideal) (harg9.unread xs0) (pb_k0_t1 (F := Ideal) Variants.none c none i arg2 harg2 arg3 harg3 arg4 harg4 arg5 harg5 arg6 harg6 arg7 harg7 arg8 harg8 arg9 harg9 (View.readAt (Elt Ideal) arg6.view (Rect.unit (s := S1x1024) ![0, 0] S1x1024.size inb_S1x1024_S1x1024_0_0).toLoadRect (harg6.unread x4)) (View.readAt (Elt Ideal) arg7.view (Rect.unit (s := S64x64) ![0, 0] S64x64.size inb_S64x64_S64x64_0_0).toLoadRect (harg7.unread x5)) (harg2.unread x0) (harg3.unread x1) (harg4.unread x2) arg8.view.junk (harg9.unread xs0) 8).2) = _
  rw [lb_ld, tri_ld]

/-- A later point: the outputs. -/
theorem out_B_eq (hc0 : ¬cond0_0 i) (x0 x1 x2 : Vec Ideal S2x512x1024 .bf16) (x3 : Vec Ideal S2x8x128x128 .f32) (x4 : Vec Ideal S1x1024 .f32) (x5 : Vec Ideal S64x64 .f32) (xs0 : Vec Ideal S2x8x128x128 .f32) (htri : IsTri x5) (hb : ∀ h, InRange (bnd x4 h)) :
    out0_B_6 (F := Ideal) c i arg2 harg2 arg3 harg3 arg4 harg4 arg5 harg5 arg6 harg6 arg7 harg7 arg8 harg8 arg9 harg9 hc0 x0 x1 x2 x3 x4 x5 xs0 = tileOut x4 x0 x1 x2 xs0 := by
  unfold out0_B_6
  have hcov := cover0_B_6 (F := Ideal) c i arg2 harg2 arg3 harg3 arg4 harg4 arg5 harg5 arg6 harg6 arg7 harg7 arg8 harg8 arg9 harg9 hc0 x0 x1 x2 x3 x4 x5 xs0
  rw [View.read_writes_eq_canon _ _ _ hcov]
  have h := (loop_inv x4 x5 htri hb Variants.none c none i arg2 harg2 arg3 harg3 arg4 harg4 arg5 harg5 arg6 harg6 arg7 harg7 arg8 harg8 arg9 harg9 (harg2.unread x0) (harg3.unread x1) (harg4.unread x2) arg8.view.junk (harg9.unread xs0) 8 (le_of_eq trips_eq.symm)).2
  rw [harg2.read_unread, harg3.read_unread, harg4.read_unread, harg9.read_unread] at h
  have he : (kernelRun0_B (F := Ideal) c i arg2 harg2 arg3 harg3 arg4 harg4 arg5 harg5 arg6 harg6 arg7 harg7 arg8 harg8 arg9 harg9 hc0 x0 x1 x2 x3 x4 x5 xs0).1 = (pb_k0_t1 (F := Ideal) Variants.none c none i arg2 harg2 arg3 harg3 arg4 harg4 arg5 harg5 arg6 harg6 arg7 harg7 arg8 harg8 arg9 harg9 x4 x5 (harg2.unread x0) (harg3.unread x1) (harg4.unread x2) arg8.view.junk (harg9.unread xs0) 8).1 := by
    show (pb_k0_t1 (F := Ideal) Variants.none c none i arg2 harg2 arg3 harg3 arg4 harg4 arg5 harg5 arg6 harg6 arg7 harg7 arg8 harg8 arg9 harg9 (View.readAt (Elt Ideal) arg6.view (Rect.unit (s := S1x1024) ![0, 0] S1x1024.size inb_S1x1024_S1x1024_0_0).toLoadRect (harg6.unread x4)) (View.readAt (Elt Ideal) arg7.view (Rect.unit (s := S64x64) ![0, 0] S64x64.size inb_S64x64_S64x64_0_0).toLoadRect (harg7.unread x5)) (harg2.unread x0) (harg3.unread x1) (harg4.unread x2) arg8.view.junk (harg9.unread xs0) 8).1 = _
    rw [lb_ld, tri_ld]
  rw [← he] at h
  funext y
  exact (congrFun (congrArg View.canon (List.append_nil _).symm) y).trans (View.canon_append_of_pieces (tileOut x4 x0 x1 x2 xs0) [] _ h y (hcov y))

/-- What the carried buffer holds when a first point's loop begins: the initial state. -/
theorem reset_read (c : Dev nD) (arg5 : Memref sig .tc .vmem S2x8x128x128 .f32) (harg5 : arg5.IsWhole) (arg9 : Memref sig .tc .vmem S2x8x128x128 .f32)
    (x3 : Vec Ideal S2x8x128x128 .f32) :
    arg9.view.read (Elt Ideal) (arg9.view.writes (Elt Ideal) arg9.view.junk (kernelRun0_A.sl.HS0_1 (F := Ideal) c arg5 harg5 x3)) = x3 := by
  rw [View.read_writes_junk_eq_canon]
  unfold kernelRun0_A.sl.HS0_1
  rw [st_ld, View.canon_cons_unit_lit _ _ _ (by decide)]
  unfold k0_pay1
  exact shapeCast_self _ _

/-- A first point: the states. -/
theorem sout_A_eq (hc0 : cond0_0 i) (x0 x1 x2 : Vec Ideal S2x512x1024 .bf16) (x3 : Vec Ideal S2x8x128x128 .f32) (x4 : Vec Ideal S1x1024 .f32) (x5 : Vec Ideal S64x64 .f32) (htri : IsTri x5) (hb : ∀ h, InRange (bnd x4 h)) :
    sout0_A_0 (F := Ideal) c i arg2 harg2 arg3 harg3 arg4 harg4 arg5 harg5 arg6 harg6 arg7 harg7 arg8 harg8 arg9 harg9 hc0 x0 x1 x2 x3 x4 x5 = tileStates x4 x0 x1 x3 8 := by
  unfold sout0_A_0
  have hcov := scover0_A_0 (F := Ideal) c i arg2 harg2 arg3 harg3 arg4 harg4 arg5 harg5 arg6 harg6 arg7 harg7 arg8 harg8 arg9 harg9 hc0 x0 x1 x2 x3 x4 x5
  rw [View.read_writes_eq_canon _ _ _ hcov, ← View.read_writes_eq_canon arg9.view arg9.view.junk _ hcov]
  have h := (loop_inv x4 x5 htri hb Variants.none c none i arg2 harg2 arg3 harg3 arg4 harg4 arg5 harg5 arg6 harg6 arg7 harg7 arg8 harg8 arg9 harg9 (harg2.unread x0) (harg3.unread x1) (harg4.unread x2) arg8.view.junk (arg9.view.writes (Elt Ideal) arg9.view.junk (kernelRun0_A.sl.HS0_1 (F := Ideal) c arg5 harg5 x3)) 8 (le_of_eq trips_eq.symm)).1
  rw [harg2.read_unread, harg3.read_unread, reset_read] at h
  refine Eq.trans ?_ h
  show arg9.view.read (Elt Ideal) (arg9.view.writes (Elt Ideal) arg9.view.junk ((pb_k0_t1 (F := Ideal) Variants.none c none i arg2 harg2 arg3 harg3 arg4 harg4 arg5 harg5 arg6 harg6 arg7 harg7 arg8 harg8 arg9 harg9 (View.readAt (Elt Ideal) arg6.view (Rect.unit (s := S1x1024) ![0, 0] S1x1024.size inb_S1x1024_S1x1024_0_0).toLoadRect (harg6.unread x4)) (View.readAt (Elt Ideal) arg7.view (Rect.unit (s := S64x64) ![0, 0] S64x64.size inb_S64x64_S64x64_0_0).toLoadRect (harg7.unread x5)) (harg2.unread x0) (harg3.unread x1) (harg4.unread x2) arg8.view.junk (arg9.view.writes (Elt Ideal) arg9.view.junk (kernelRun0_A.sl.HS0_1 (F := Ideal) c arg5 harg5 x3)) 8).2 ++ kernelRun0_A.sl.HS0_1 (F := Ideal) c arg5 harg5 x3)) = _
  rw [lb_ld, tri_ld, View.writes_append]

/-- A first point: the outputs. -/
theorem out_A_eq (hc0 : cond0_0 i) (x0 x1 x2 : Vec Ideal S2x512x1024 .bf16) (x3 : Vec Ideal S2x8x128x128 .f32) (x4 : Vec Ideal S1x1024 .f32) (x5 : Vec Ideal S64x64 .f32) (htri : IsTri x5) (hb : ∀ h, InRange (bnd x4 h)) :
    out0_A_6 (F := Ideal) c i arg2 harg2 arg3 harg3 arg4 harg4 arg5 harg5 arg6 harg6 arg7 harg7 arg8 harg8 arg9 harg9 hc0 x0 x1 x2 x3 x4 x5 = tileOut x4 x0 x1 x2 x3 := by
  unfold out0_A_6
  have hcov := cover0_A_6 (F := Ideal) c i arg2 harg2 arg3 harg3 arg4 harg4 arg5 harg5 arg6 harg6 arg7 harg7 arg8 harg8 arg9 harg9 hc0 x0 x1 x2 x3 x4 x5
  rw [View.read_writes_eq_canon _ _ _ hcov]
  have h := (loop_inv x4 x5 htri hb Variants.none c none i arg2 harg2 arg3 harg3 arg4 harg4 arg5 harg5 arg6 harg6 arg7 harg7 arg8 harg8 arg9 harg9 (harg2.unread x0) (harg3.unread x1) (harg4.unread x2) arg8.view.junk (arg9.view.writes (Elt Ideal) arg9.view.junk (kernelRun0_A.sl.HS0_1 (F := Ideal) c arg5 harg5 x3)) 8 (le_of_eq trips_eq.symm)).2
  rw [harg2.read_unread, harg3.read_unread, harg4.read_unread, reset_read] at h
  have he : (kernelRun0_A (F := Ideal) c i arg2 harg2 arg3 harg3 arg4 harg4 arg5 harg5 arg6 harg6 arg7 harg7 arg8 harg8 arg9 harg9 hc0 x0 x1 x2 x3 x4 x5).1 = (pb_k0_t1 (F := Ideal) Variants.none c none i arg2 harg2 arg3 harg3 arg4 harg4 arg5 harg5 arg6 harg6 arg7 harg7 arg8 harg8 arg9 harg9 x4 x5 (harg2.unread x0) (harg3.unread x1) (harg4.unread x2) arg8.view.junk (arg9.view.writes (Elt Ideal) arg9.view.junk (kernelRun0_A.sl.HS0_1 (F := Ideal) c arg5 harg5 x3)) 8).1 := by
    show (pb_k0_t1 (F := Ideal) Variants.none c none i arg2 harg2 arg3 harg3 arg4 harg4 arg5 harg5 arg6 harg6 arg7 harg7 arg8 harg8 arg9 harg9 (View.readAt (Elt Ideal) arg6.view (Rect.unit (s := S1x1024) ![0, 0] S1x1024.size inb_S1x1024_S1x1024_0_0).toLoadRect (harg6.unread x4)) (View.readAt (Elt Ideal) arg7.view (Rect.unit (s := S64x64) ![0, 0] S64x64.size inb_S64x64_S64x64_0_0).toLoadRect (harg7.unread x5)) (harg2.unread x0) (harg3.unread x1) (harg4.unread x2) arg8.view.junk (arg9.view.writes (Elt Ideal) arg9.view.junk (kernelRun0_A.sl.HS0_1 (F := Ideal) c arg5 harg5 x3)) 8).1 = _
    rw [lb_ld, tri_ld]
  rw [← he] at h
  funext y
  exact (congrFun (congrArg View.canon (List.append_nil _).symm) y).trans (View.canon_append_of_pieces (tileOut x4 x0 x1 x2 x3) [] _ h y (hcov y))

end Cert.KernelIdeal.Gen

end
-- ==== Proof.Blocks.lean ====
/-
  The blocks each grid point reads, at an index: rows and columns of the projected input, the initial states, the bound, and
  the constant triangle of ones.
-/
module

public import proofs.«01_k».proof.Proof.BlockMath
public import proofs.«01_k».proof.Proof.IdealFrame
public import Idealize.ShloMosaic.Lib.Pipeline.ValueKit.Point

@[expose] public section

set_option maxRecDepth 16384

noncomputable section

namespace Cert.KernelIdeal.Gen

open Idealize.ShloMosaic Idealize.ShloMosaic.TcCoe Idealize.ShloMosaic.Tactic
open Cert.Hgrn

/-- The windows' block indices at each point. -/
theorem idx_facts : ∀ t : Fin cfg0.N,
    win0_0.index t = ![t.val / 16, t.val % 16, 0] ∧ win0_1.index t = ![t.val / 16, t.val % 16, 2]
    ∧ win0_2.index t = ![t.val / 16, t.val % 16, 3] ∧ win0_3.index t = ![t.val / 16, 0, 0, 0]
    ∧ win0_4.index t = ![0, 0] ∧ win0_5.index t = ![0, 0] :=
  (by decide +kernel : ∀ t : Fin grid0.N, _)

variable (m : (ℓ : Loc nD τ sig) → Buf (Elt Ideal) ℓ) (c : Dev nD) (t : Fin cfg0.N)

/-- The point's batch pair, one of its two batches. -/
def batch (t : Fin cfg0.N) (b : Fin 2) : Fin 8 := ⟨2 * (t.val / 16) + b.val, by have := lt_of_lt_of_eq t.isLt (show cfg0.N = 64 from N_0); omega⟩

/-- The point's time tile, one of its 512 rows. -/
def time (t : Fin cfg0.N) (T : Fin 512) : Fin 8192 := ⟨512 * (t.val % 16) + T.val, by omega⟩

/-- The forget gate's columns. -/
theorem iblk0_apply (b : Fin 2) (T : Fin 512) (k : Fin 1024) :
    iblk m c 0 t (ix3 b T k) = m ((c : Thread nD τ).loc main_arg0) (ix3 (batch t b) (time t T) ⟨k.val, by omega⟩) := by
  unfold batch time
  blk_ext [iblk, V, idx_facts t]

/-- The values' columns. -/
theorem iblk1_apply (b : Fin 2) (T : Fin 512) (k : Fin 1024) :
    iblk m c 1 t (ix3 b T k) = m ((c : Thread nD τ).loc main_arg0) (ix3 (batch t b) (time t T) ⟨2048 + k.val, by omega⟩) := by
  unfold batch time
  blk_ext [iblk, V, idx_facts t]

/-- The queries' columns. -/
theorem iblk2_apply (b : Fin 2) (T : Fin 512) (k : Fin 1024) :
    iblk m c 2 t (ix3 b T k) = m ((c : Thread nD τ).loc main_arg0) (ix3 (batch t b) (time t T) ⟨3072 + k.val, by omega⟩) := by
  unfold batch time
  blk_ext [iblk, V, idx_facts t]

/-- The initial states. -/
theorem iblk3_apply (b : Fin 2) (h : Fin 8) (e d : Fin 128) :
    iblk m c 3 t (ix4 b h e d) = m ((c : Thread nD τ).loc main_arg1) (ix4 (batch t b) h e d) := by
  unfold batch
  blk_ext [iblk, V, idx_facts t]

/-- The bound. -/
theorem iblk4_apply (k : Fin 1024) : iblk m c 4 t (ix2 0 k) = m ((c : Thread nD τ).loc main_arg2) (ix2 0 k) := by
  blk_ext [iblk, V, idx_facts t]

/-- The constant's words: ones on and under the diagonal. -/
theorem lit_tri : ∀ t s : Fin 64, lit0 (S64x64.rowMajor (ix2 t s)) = if s.val ≤ t.val then 0x3F800000#32 else 0x00000000#32 := by
  decide +kernel

/-- The constant, as the call finds it. -/
theorem cst_apply (i : S64x64.Idx) : V m c main_cst i = Ideal.ofBits .f32 (lit0 (S64x64.rowMajor i)) := by
  entry_read
  rfl

/-- The triangle. -/
theorem iblk5_tri : IsTri (iblk m c 5 t) := by
  intro a b
  have h : iblk m c 5 t (ix2 a b) = V m c main_cst (ix2 a b) := by
    blk_ext [iblk, idx_facts t]
  refine h.trans ?_
  rw [cst_apply, lit_tri]
  split_ifs
  · exact ofBits_one
  · exact Ideal.ofBits_zero_f32

end Cert.KernelIdeal.Gen

end
-- ==== Proof.Fold.lean ====
/-
  The grid's fold: after each point the carried buffer holds the recurrence's states and the result's block its outputs; so
  the result array is the recurrence's output.
-/
module

public import proofs.«01_k».proof.Proof.Cases
public import proofs.«01_k».proof.Proof.Blocks
public import proofs.«01_k».proof.Proof.IdealValue

@[expose] public section

set_option maxRecDepth 16384

noncomputable section

namespace Cert.KernelIdeal.Gen

open Idealize.ShloMosaic Idealize.ShloMosaic.TcCoe Idealize.ShloMosaic.Tactic
open Cert.Hgrn

variable (m : (ℓ : Loc nD τ sig) → Buf (Elt Ideal) ℓ) (c : Dev nD)

/-- The bound. -/
def argLb (k : Fin 1024) : EReal := m ((c : Thread nD τ).loc main_arg2) (ix2 0 k)
/-- The gates' arguments. -/
def argF (B : Fin 8) (T : Fin 8192) (k : Fin 1024) : EReal := m ((c : Thread nD τ).loc main_arg0) (ix3 B T ⟨k.val, by omega⟩)
/-- The values. -/
def argV (B : Fin 8) (T : Fin 8192) (k : Fin 1024) : EReal := m ((c : Thread nD τ).loc main_arg0) (ix3 B T ⟨2048 + k.val, by omega⟩)
/-- The queries, before their activation. -/
def argQ (B : Fin 8) (T : Fin 8192) (k : Fin 1024) : EReal := m ((c : Thread nD τ).loc main_arg0) (ix3 B T ⟨3072 + k.val, by omega⟩)
/-- The initial states, as key row, value column. -/
def argS (B h : Fin 8) (d e : Fin 128) : EReal := m ((c : Thread nD τ).loc main_arg1) (ix4 B h e d)

variable (t : Fin cfg0.N)

/-- A row of the point's tile is a row of the whole. -/
theorem time_row (k : ℕ) (hk : k < 8) (u : Fin 64) :
    time t ⟨(64 * k + u.val) % 512, Nat.mod_lt _ (by decide)⟩ = row (8 * (t.val % 16) + k) u := by
  apply Fin.ext
  show 512 * (t.val % 16) + (64 * k + u.val) % 512 = (64 * (8 * (t.val % 16) + k) + u.val) % 8192
  omega

theorem tRows_F (b : Fin 2) (h : Fin 8) (k : ℕ) (hk : k < 8) :
    tRows (iblk m c 0 t) b h k = chunkRows (argF m c (batch t b)) h (8 * (t.val % 16) + k) := by
  funext u d
  refine (iblk0_apply m c t _ _ _).trans ?_
  rw [time_row t k hk u]
  rfl

theorem tRows_V (b : Fin 2) (h : Fin 8) (k : ℕ) (hk : k < 8) :
    tRows (iblk m c 1 t) b h k = chunkRows (argV m c (batch t b)) h (8 * (t.val % 16) + k) := by
  funext u d
  refine (iblk1_apply m c t _ _ _).trans ?_
  rw [time_row t k hk u]
  rfl

theorem tRows_Q (b : Fin 2) (h : Fin 8) (k : ℕ) (hk : k < 8) :
    tRows (iblk m c 2 t) b h k = chunkRows (argQ m c (batch t b)) h (8 * (t.val % 16) + k) := by
  funext u d
  refine (iblk2_apply m c t _ _ _).trans ?_
  rw [time_row t k hk u]
  rfl

/-- One head's bound. -/
theorem bnd_iblk (h : Fin 8) : bnd (iblk m c 4 t) h = fun d => argLb m c (col h d) := by
  funext d
  exact iblk4_apply m c t _

/-- One batch and head's initial state. -/
theorem tState_iblk (b : Fin 2) (h : Fin 8) : tState (iblk m c 3 t) b h = argS m c (batch t b) h := by
  funext d e
  exact iblk3_apply m c t _ _ _ _

/-- A head's states before chunk `n`, from the whole arrays. -/
def headSeq (B h : Fin 8) (n : ℕ) : Fin 128 → Fin 128 → EReal :=
  stateSeq (fun d => argLb m c (col h d)) (chunkRows (argF m c B) h) (chunkRows (argV m c B) h) (argS m c B h) n

/-- A tile's states are the whole's, if they are so when the tile begins. -/
theorem tile_states (xs : Vec Ideal S2x8x128x128 .f32) (b : Fin 2) (h : Fin 8)
    (hxs : tState xs b h = headSeq m c (batch t b) h (8 * (t.val % 16))) (n : ℕ) (hn : n ≤ 8) :
    stateSeq (bnd (iblk m c 4 t) h) (tRows (iblk m c 0 t) b h) (tRows (iblk m c 1 t) b h) (tState xs b h) n
      = headSeq m c (batch t b) h (8 * (t.val % 16) + n) := by
  unfold headSeq at hxs ⊢
  rw [stateSeq_add, ← hxs, bnd_iblk]
  exact stateSeq_congr _ _ _ _ _ _ n (fun j hj => tRows_F m c t b h j (by omega)) (fun j hj => tRows_V m c t b h j (by omega))

/-- A tile's outputs are the whole's, if its states are so when it begins. -/
theorem tile_outs (xs : Vec Ideal S2x8x128x128 .f32) (b : Fin 2)
    (hxs : ∀ h, tState xs b h = headSeq m c (batch t b) h (8 * (t.val % 16))) (T : Fin 512) (k : Fin 1024) :
    tileOutAt (iblk m c 4 t) (iblk m c 0 t) (iblk m c 1 t) (iblk m c 2 t) xs b T k
      = hgrnOut (argLb m c) (argQ m c) (argF m c) (argV m c) (argS m c) (batch t b) (time t T) k := by
  have hT : T.val / 64 < 8 := by omega
  have h1 : (time t T).val / 64 = 8 * (t.val % 16) + T.val / 64 := by
    show (512 * (t.val % 16) + T.val) / 64 = _
    omega
  have h2 : (⟨(time t T).val % 64, Nat.mod_lt _ (by decide)⟩ : Fin 64) = ⟨T.val % 64, Nat.mod_lt _ (by decide)⟩ :=
    Fin.ext (by show (512 * (t.val % 16) + T.val) % 64 = T.val % 64; omega)
  unfold tileOutAt hgrnOut
  rw [h1, h2]
  unfold outSeq
  rw [tile_states m c t xs b (hd k) (hxs (hd k)) _ (le_of_lt hT), tRows_F m c t b _ _ hT, tRows_V m c t b _ _ hT, tRows_Q m c t b _ _ hT, bnd_iblk]
  rfl

variable (hb : ∀ h, InRange (fun d => argLb m c (col h d)))
include hb

/-- After every point: the states, and the outputs. -/
theorem fold (n : ℕ) (hn : n < cfg0.N) :
    (∀ b h, tState (outsAt0 m c n hn).2 b h = headSeq m c (batch ⟨n, hn⟩ b) h (8 * (n % 16) + 8))
      ∧ ∀ b T k, (outsAt0 m c n hn).1 (ix3 b T k)
          = hgrnOut (argLb m c) (argQ m c) (argF m c) (argV m c) (argS m c) (batch ⟨n, hn⟩ b) (time ⟨n, hn⟩ T) k := by
  induction n with
  | zero =>
    have hl : ∀ h, InRange (bnd (iblk m c 4 ⟨0, hn⟩) h) := fun h => by rw [bnd_iblk]; exact hb h
    have hs : ∀ b h, tState (iblk m c 3 ⟨0, hn⟩) b h = headSeq m c (batch ⟨0, hn⟩ b) h (8 * ((⟨0, hn⟩ : Fin cfg0.N).val % 16)) :=
      fun b h => tState_iblk m c ⟨0, hn⟩ b h
    rw [outsAt0_A m c ⟨0, hn⟩ rfl]
    dsimp only
    rw [sout_A_eq _ _ _ _ _ _ _ _ _ _ _ _ _ _ _ _ _ _ _ _ _ _ _ _ _ (iblk5_tri m c _) hl,
      out_A_eq _ _ _ _ _ _ _ _ _ _ _ _ _ _ _ _ _ _ _ _ _ _ _ _ _ (iblk5_tri m c _) hl]
    refine ⟨fun b h => ?_, fun b T k => ?_⟩
    · rw [tState_tileStates]
      exact tile_states m c ⟨0, hn⟩ _ b h (hs b h) 8 le_rfl
    · rw [tileOut_apply]
      exact tile_outs m c ⟨0, hn⟩ _ b (hs b) T k
  | succ n ih =>
    have hN := lt_of_lt_of_eq hn (show cfg0.N = 64 from N_0)
    have ih := (ih (by omega)).1
    have hl : ∀ h, InRange (bnd (iblk m c 4 ⟨n + 1, hn⟩) h) := fun h => by rw [bnd_iblk]; exact hb h
    by_cases h0 : (n + 1) % 16 = 0
    · have hs : ∀ b h, tState (iblk m c 3 ⟨n + 1, hn⟩) b h = headSeq m c (batch ⟨n + 1, hn⟩ b) h (8 * ((⟨n + 1, hn⟩ : Fin cfg0.N).val % 16)) := by
        intro b h
        dsimp only
        rw [h0]
        exact tState_iblk m c ⟨n + 1, hn⟩ b h
      rw [outsAt0_A m c ⟨n + 1, hn⟩ h0]
      dsimp only
      rw [sout_A_eq _ _ _ _ _ _ _ _ _ _ _ _ _ _ _ _ _ _ _ _ _ _ _ _ _ (iblk5_tri m c _) hl,
        out_A_eq _ _ _ _ _ _ _ _ _ _ _ _ _ _ _ _ _ _ _ _ _ _ _ _ _ (iblk5_tri m c _) hl]
      refine ⟨fun b h => ?_, fun b T k => ?_⟩
      · rw [tState_tileStates]
        exact tile_states m c ⟨n + 1, hn⟩ _ b h (hs b h) 8 le_rfl
      · rw [tileOut_apply]
        exact tile_outs m c ⟨n + 1, hn⟩ _ b (hs b) T k
    · have hs : ∀ b h, tState (outsAt0 m c n (by omega)).2 b h = headSeq m c (batch ⟨n + 1, hn⟩ b) h (8 * ((⟨n + 1, hn⟩ : Fin cfg0.N).val % 16)) := by
        intro b h
        rw [ih b h, show batch ⟨n, by omega⟩ b = batch ⟨n + 1, hn⟩ b from Fin.ext (by show 2 * (n / 16) + b.val = 2 * ((n + 1) / 16) + b.val; omega)]
        exact congrArg _ (by dsimp only; omega)
      rw [outsAt0_B m c ⟨n + 1, hn⟩ h0]
      dsimp only [Nat.add_sub_cancel]
      rw [sout_B_eq _ _ _ _ _ _ _ _ _ _ _ _ _ _ _ _ _ _ _ _ _ _ _ _ _ _ (iblk5_tri m c _) hl,
        out_B_eq _ _ _ _ _ _ _ _ _ _ _ _ _ _ _ _ _ _ _ _ _ _ _ _ _ _ (iblk5_tri m c _) hl]
      refine ⟨fun b h => ?_, fun b T k => ?_⟩
      · rw [tState_tileStates]
        exact tile_states m c ⟨n + 1, hn⟩ _ b h (hs b h) 8 le_rfl
      · rw [tileOut_apply]
        exact tile_outs m c ⟨n + 1, hn⟩ _ b (hs b) T k

/-- The result array is the recurrence's output. -/
theorem result_apply (B : Fin 8) (T : Fin 8192) (k : Fin 1024) :
    Value.G6 m c (ix3 B T k) = hgrnOut (argLb m c) (argQ m c) (argF m c) (argV m c) (argS m c) B T k := by
  have hp : Value.pt6Of (ix3 B T k) < cfg0.N := by
    rw [show cfg0.N = 64 from N_0]
    show 16 * (B.val / 2 - 0) + 1 * (T.val / 512 - 0) + 1 * (k.val / 1024 - 0) < 64
    omega
  have hv : Value.pt6Of (ix3 B T k) = 16 * (B.val / 2) + T.val / 512 := by
    show 16 * (B.val / 2 - 0) + 1 * (T.val / 512 - 0) + 1 * (k.val / 1024 - 0) = _
    omega
  unfold Value.G6
  rw [dif_pos hp, ← Value.outsAt0_sweep m c _ hp]
  have hl : Value.loc6Of (ix3 B T k) = ix3 ⟨B.val % 2, Nat.mod_lt _ (by decide)⟩ ⟨T.val % 512, Nat.mod_lt _ (by decide)⟩ k := by
    funext a
    apply Fin.ext
    match a with
    | ⟨0, _⟩ => rfl
    | ⟨1, _⟩ => rfl
    | ⟨2, _⟩ => exact Nat.mod_eq_of_lt k.isLt
  rw [hl, (fold m c hb _ hp).2]
  congr 1
  · apply Fin.ext
    show 2 * (Value.pt6Of (ix3 B T k) / 16) + B.val % 2 = B.val
    omega
  · apply Fin.ext
    show 512 * (Value.pt6Of (ix3 B T k) % 16) + T.val % 512 = T.val
    omega

end Cert.KernelIdeal.Gen

end
-- ==== Proof.Pre.lean ====
/-
  The precondition: every entry of the bound lies between one thirty-second and one.
-/
module

public import proofs.«01_k».proof.Defs
public import proofs.«01_k».proof.Proof.Fold
public import Idealize.ShloMosaic.Lib.ReduceAll
public import Idealize.ShloMosaic.Lib.WordArith

@[expose] public section

set_option maxRecDepth 16384

noncomputable section

namespace Cert.Pre_lb_range

open Idealize.ShloMosaic Idealize.ShloMosaic.Tactic Cert.Hgrn

/-- The predicate's shape facts. -/
instance facts : Facts where
  bcast_S_S1x1024 := by decide
  reducesTo_S1x1024_S_d0_1 := by decide
  h_S_ := by decide

/-- Where the predicate is true, each entry is in range. -/
theorem bound_of (x : FVec Ideal S8x8192x7168 .bf16) (y : FVec Ideal S8x8x128x128 .f32) (z : FVec Ideal S1x1024 .f32)
    (h : fn (F := Ideal) x y z = fun _ => 1#1) (k : Fin 1024) :
    ((1 / 32 : ℝ) : EReal) ≤ z (ix2 0 k) ∧ z (ix2 0 k) ≤ 1 := by
  haveI : Subsingleton S_.Idx := ⟨fun a b => funext fun i => i.elim0⟩
  have q := Host.reduce_andi_all _ _ Facts.reducesTo_S1x1024_S_d0_1 Facts.h_S_ ix0 (congrFun h ix0) (ix2 0 k)
  have e : IntOp.andi (Ideal.cmp .oge (z (ix2 0 k)) (Ideal.ofBits .f32 0x3D000000#32))
      (Ideal.cmp .ole (z (ix2 0 k)) (Ideal.ofBits .f32 0x3F800000#32)) = 1#1 := q
  rw [ofBits_lb, ofBits_one] at e
  simp only [Ideal.cmp] at e
  rw [show ∀ p q : Bool, IntOp.andi (BitVec.ofBool p) (BitVec.ofBool q) = BitVec.ofBool (p && q) by decide,
    show ∀ p : Bool, (BitVec.ofBool p = 1#1) = (p = true) by decide] at e
  simpa using e

end Cert.Pre_lb_range

end
-- ==== Proof.RefEntry.lean ====
/-
  What the reference's loop over chunks starts from: queries, keys, values and log gates cut into chunks, the mask of the
  causal triangle, and the transposed initial states.
-/
module

public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Facts Cert.ReferenceIdeal.Gen

variable {F : FTy → Type} [FloatOps F]

/-- A constant one, everywhere. -/
abbrev ones : FVec F S8x8192x1024 .f32 := broadcastInDim S8x8192x1024 ![] bcast_S_S8x8192x1024 (constant S_ .f32 0x3F800000#32)

/-- The logistic function, as it is written out. -/
def refSig (x : FVec F S8x8192x1024 .f32) : FVec F S8x8192x1024 .f32 := Host.divf ones (addf ones (Host.exp (Host.negf x)))

/-- The queries. -/
def refQ (A : Vec F S8x8192x7168 .bf16) : FVec F S8x8192x1024 .f32 :=
  mulf (extractStridedSlice S8x8192x1024 ![0, 0, 3072] (extf .f32 A bitsLt_bf16_f32) slices_S8x8192x7168_S8x8192x1024_0_0_3072)
    (refSig (extractStridedSlice S8x8192x1024 ![0, 0, 3072] (extf .f32 A bitsLt_bf16_f32) slices_S8x8192x7168_S8x8192x1024_0_0_3072))

/-- The values. -/
def refV (A : Vec F S8x8192x7168 .bf16) : FVec F S8x8192x1024 .f32 :=
  extractStridedSlice S8x8192x1024 ![0, 0, 2048] (extf .f32 A bitsLt_bf16_f32) slices_S8x8192x7168_S8x8192x1024_0_0_2048

/-- A row, for every batch and time. -/
def spread (x : FVec F S1024 .f32) : FVec F S8x8192x1024 .f32 :=
  broadcastInDim S8x8192x1024 ![0, 1, 2] bcast_S1x1x1024_S8x8192x1024_0_1_2 (broadcastInDim S1x1x1024 ![2] bcast_S1024_S1x1x1024_2 x)

/-- The forget gates. -/
def refG (A : Vec F S8x8192x7168 .bf16) (B : Vec F S1x1024 .f32) : FVec F S8x8192x1024 .f32 :=
  addf (spread (shapeCast S1024 B shapeCasts_S1x1024_S1024))
    (mulf (spread (subf (broadcastInDim S1024 ![] bcast_S_S1024 (constant S_ .f32 0x3F800000#32)) (shapeCast S1024 B shapeCasts_S1x1024_S1024)))
      (refSig (extractStridedSlice S8x8192x1024 ![0, 0, 0] (extf .f32 A bitsLt_bf16_f32) slices_S8x8192x7168_S8x8192x1024_0_0_0)))

/-- An array cut into heads and chunks, chunks first. -/
def chunked (x : FVec F S8x8192x1024 .f32) : FVec F S128x8x8x64x128 .f32 :=
  transpose S128x8x8x64x128 [1, 0, 3, 2, 4]
    (shapeCast S8x128x64x8x128 (shapeCast S8x8192x8x128 x shapeCasts_S8x8192x1024_S8x8192x8x128) shapeCasts_S8x8192x8x128_S8x128x64x8x128)
    transposes_S8x128x64x8x128_S128x8x8x64x128_1_0_3_2_4

/-- The causal mask. -/
def refMask : (⟨S64x64, .i1⟩ : BufTy).Contents (Elt F) :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

variable (m : (ℓ : Loc nD τ sig) → Buf (Elt F) ℓ) (c : Dev nD)

set_option maxHeartbeats 4000000 in
theorem entry_q : entryContents preI m c (Proc.devRef .tc main_v39_0) = chunked (refQ (m ((c.tc : Thread nD τ).loc main_arg0))) := by
  unfold chunked refQ refSig
  simp only [entryContents, afterL_cons, afterL_nil]
  after_reads_simp
  rfl

set_option maxHeartbeats 4000000 in
theorem entry_k : entryContents preI m c (Proc.devRef .tc main_v39_1)
    = chunked (subf ones (refG (m ((c.tc : Thread nD τ).loc main_arg0)) (m ((c.tc : Thread nD τ).loc main_arg2)))) := by
  unfold chunked refG refSig spread
  simp only [entryContents, afterL_cons, afterL_nil]
  after_reads_simp
  rfl

set_option maxHeartbeats 4000000 in
theorem entry_v : entryContents preI m c (Proc.devRef .tc main_v39_2) = chunked (refV (m ((c.tc : Thread nD τ).loc main_arg0))) := by
  unfold chunked refV
  simp only [entryContents, afterL_cons, afterL_nil]
  after_reads_simp
  rfl

set_option maxHeartbeats 4000000 in
theorem entry_l : entryContents preI m c (Proc.devRef .tc main_v39_3)
    = chunked (Host.log (refG (m ((c.tc : Thread nD τ).loc main_arg0)) (m ((c.tc : Thread nD τ).loc main_arg2)))) := by
  unfold chunked refG refSig spread
  simp only [entryContents, afterL_cons, afterL_nil]
  after_reads_simp
  rfl

set_option maxHeartbeats 4000000 in
theorem entry_mask : entryContents preI m c (Proc.devRef .tc main_v39_4) = refMask (F := F) := by
  unfold refMask
  simp only [entryContents, afterL_cons, afterL_nil]
  after_reads_simp
  rfl

set_option maxHeartbeats 4000000 in
theorem entry_s : entryContents preI m c (Proc.devRef .tc main_v39_6)
    = transpose S8x8x128x128 [0, 1, 3, 2] (m ((c.tc : Thread nD τ).loc main_arg1)) transposes_S8x8x128x128_S8x8x128x128_0_1_3_2 := by
  simp only [entryContents, afterL_cons, afterL_nil]
  after_reads_simp
  rfl

end Cert.ReferenceIdeal.Value

end
-- ==== Proof.RefPoint.lean ====
/-
  What the reference's loop starts from, at an index: the gates, queries, keys and values of the recurrence.
-/
module

public import proofs.«01_k».proof.Proof.RefEntry
public import proofs.«01_k».proof.Proof.Spec
public import Idealize.ShloMosaic.Lib.Pointwise

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Facts Cert.ReferenceIdeal.Gen Cert.Hgrn

/-- A cut array at chunk `n`, batch `b`, head `h`, row `t`, column `d`. -/
theorem chunked_apply (x : FVec Ideal S8x8192x1024 .f32) (n : Fin 128) (b : Fin 8) (h : Fin 8) (t : Fin 64) (d : Fin 128) :
    chunked x (ix5 n b h t d) = x (ix3 b (row n.val t) (col h d)) := by
  pointwise [chunked]
  exact congrArg₂ (fun a c => x (ix3 b a c)) (Fin.ext (by show n.val * 64 + t.val = (64 * n.val + t.val) % 8192; omega))
    (Fin.ext (by show h.val * 128 + d.val = 128 * h.val + d.val; omega))

/-- The logistic function, written out. -/
theorem refSig_apply (x : FVec Ideal S8x8192x1024 .f32) (i : S8x8192x1024.Idx) : refSig x i = Ideal.logistic (x i) := by
  pointwise [refSig, Ideal.logistic]
  all_goals rw [ofBits_one]

/-- The queries. -/
theorem refQ_apply (A : Vec Ideal S8x8192x7168 .bf16) (B : Fin 8) (T : Fin 8192) (k : Fin 1024) :
    refQ A (ix3 B T k) = silu (A (ix3 B T ⟨3072 + k.val, by omega⟩)) := by
  pointwise [refQ, silu, refSig_apply]

/-- The values. -/
theorem refV_apply (A : Vec Ideal S8x8192x7168 .bf16) (B : Fin 8) (T : Fin 8192) (k : Fin 1024) :
    refV A (ix3 B T k) = A (ix3 B T ⟨2048 + k.val, by omega⟩) := by
  pointwise [refV]

/-- The gates. -/
theorem refG_apply (A : Vec Ideal S8x8192x7168 .bf16) (b : Vec Ideal S1x1024 .f32) (B : Fin 8) (T : Fin 8192) (k : Fin 1024) :
    refG A b (ix3 B T k) = gate (b (ix2 0 k)) (A (ix3 B T ⟨k.val, by omega⟩)) := by
  pointwise [refG, gate, spread, refSig_apply, ofBits_one]

/-- The mask holds where the second row is not after the first. -/
theorem refMask_apply (t s : Fin 64) : refMask (F := Ideal) (ix2 t s) = if s.val ≤ t.val then 1#1 else 0#1 := by
  pointwise [refMask]
  revert t s
  decide +kernel

end Cert.ReferenceIdeal.Value

end
-- ==== Proof.RefCum.lean ====
/-
  The reference's running sums down the rows of a chunk.
-/
module

public import proofs.«01_k».proof.Proof.Chunk
public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.ShloMosaic.Tactic
open Cert.ReferenceIdeal Cert.ReferenceIdeal.Facts Cert.ReferenceIdeal.Gen Cert.Hgrn

/-- A left fold of sums is the start and the sum. -/
theorem foldl_sum (N : ℕ) (g : Fin N → EReal) (z : EReal) :
    (List.finRange N).foldl (fun r n => r + g n) z = z + ∑ n, g n := by
  rw [← List.sum_ofFn, List.ofFn_eq_map]
  generalize List.finRange N = l
  induction l generalizing z with
  | nil => simp
  | cons a l ih => rw [List.foldl_cons, ih, List.map_cons, List.sum_cons, add_assoc]

/-- The window of running sums: 64 rows of one column. -/
abbrev W : Shape := ⟨4, ![1, 1, 64, 1]⟩

/-- The window has 64 positions. -/
theorem window_numel : W.numel = 64 := by decide +kernel

/-- The window's positions, in order, are its rows. -/
theorem window_pos : ∀ n : Fin W.numel, (W.rowMajor.symm n 0).val = 0 ∧ (W.rowMajor.symm n 1).val = 0
    ∧ (W.rowMajor.symm n 2).val = n.val ∧ (W.rowMajor.symm n 3).val = 0 := by
  decide +kernel

/-- Sums over a window padded with zeros above are running sums. -/
theorem prefix_sum (f : Fin 64 → EReal) (t : Fin 64) :
    (∑ n : Fin 64, if h : 63 ≤ t.val + n.val then f ⟨t.val + n.val - 63, by omega⟩ else 0) = cum f t := by
  unfold cum
  rw [← Equiv.sum_comp (Equiv.addRight (t + 1)) (fun s : Fin 64 => if s.val ≤ t.val then f s else 0)]
  refine Finset.sum_congr rfl fun n _ => ?_
  have e : (Equiv.addRight (t + 1) n).val = (n.val + (t.val + 1)) % 64 := by
    show (n + (t + 1)).val = _
    rw [Fin.val_add, Fin.val_add]
    simp
  split
  · next h =>
    rw [if_pos (by rw [e]; omega)]
    exact congrArg f (Fin.ext (by rw [e]; show t.val + n.val - 63 = _; omega))
  · next h => rw [if_neg (by rw [e]; omega)]

/-- The reference's running sums. -/
theorem window_apply (x : FVec Ideal S8x8x64x128 .f32) (z : FVec Ideal S_ .f32) (hz : z (Shape.Idx.first h_S_) = 0) (b h : Fin 8) (t : Fin 64) (d : Fin 128) :
    (Host.reduceWindowAdd ![1, 1, 64, 1] ![1, 1, 1, 1] ![0, 0, 63, 0] ![0, 0, 0, 0] x z
      reduceWindows_S8x8x64x128_S8x8x64x128_w1s1p0_0_w1s1p0_0_w64s1p63_0_w1s1p0_0 h_S_ : FVec Ideal S8x8x64x128 .f32) (ix4 b h t d)
      = cum (fun s => x (ix4 b h s d)) t := by
  unfold Host.reduceWindowAdd
  rw [Ideal.hostReduceWindowAdd_def]
  unfold Ideal.hostReduceWindowAdd Host.reduceWindow
  simp only [hz]
  rw [foldl_sum, zero_add, ← prefix_sum]
  refine Fintype.sum_equiv (finCongr window_numel) _ _ fun n => ?_
  obtain ⟨h0, h1, h2, h3⟩ := window_pos n
  have hn : (finCongr window_numel n).val = n.val := rfl
  split
  · next hin =>
    have q := (hin 2).1
    change 63 ≤ t.val * 1 + (W.rowMajor.symm n 2).val at q
    rw [dif_pos (by rw [hn]; omega)]
    refine congrArg x (funext fun a => Fin.ext ?_)
    match a with
    | ⟨0, _⟩ => show b.val * 1 + (W.rowMajor.symm n 0).val - 0 = b.val; rw [h0]; omega
    | ⟨1, _⟩ => show h.val * 1 + (W.rowMajor.symm n 1).val - 0 = h.val; rw [h1]; omega
    | ⟨2, _⟩ => show t.val * 1 + (W.rowMajor.symm n 2).val - 63 = t.val + n.val - 63; rw [h2]; omega
    | ⟨3, _⟩ => show d.val * 1 + (W.rowMajor.symm n 3).val - 0 = d.val; rw [h3]; omega
  · next hin =>
    rw [dif_neg ?_]
    intro q
    rw [hn] at q
    refine hin fun a => ?_
    match a with
    | ⟨0, _⟩ =>
      show 0 ≤ b.val * 1 + (W.rowMajor.symm n 0).val ∧ b.val * 1 + (W.rowMajor.symm n 0).val - 0 < 8
      rw [h0]; omega
    | ⟨1, _⟩ =>
      show 0 ≤ h.val * 1 + (W.rowMajor.symm n 1).val ∧ h.val * 1 + (W.rowMajor.symm n 1).val - 0 < 8
      rw [h1]; omega
    | ⟨2, _⟩ =>
      show 63 ≤ t.val * 1 + (W.rowMajor.symm n 2).val ∧ t.val * 1 + (W.rowMajor.symm n 2).val - 63 < 64
      rw [h2]; omega
    | ⟨3, _⟩ =>
      show 0 ≤ d.val * 1 + (W.rowMajor.symm n 3).val ∧ d.val * 1 + (W.rowMajor.symm n 3).val - 0 < 128
      rw [h3]; omega

end Cert.ReferenceIdeal.Value

end
-- ==== Proof.RefStep.lean ====
/-
  One trip of the reference's loop: the state after it and the outputs it writes, at an index.
-/
module

public import proofs.«01_k».proof.Proof.RefPoint
public import proofs.«01_k».proof.Proof.RefCum
public import Idealize.ShloMosaic.Lib.DynamicIndex

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Facts Cert.ReferenceIdeal.Gen Cert.Hgrn

/-- The slice of an array of chunks at the loop's counter. -/
def chunkAtCtr (X : FVec Ideal S128x8x8x64x128 .f32) (ctr : IVec S_ 32) : FVec Ideal S8x8x64x128 .f32 :=
  shapeCast S8x8x64x128 (Host.dynamicSlice S1x8x8x64x128 X (fun k => (((![ctr, constantI S_ 32 0#32, constantI S_ 32 0#32, constantI S_ 32 0#32, constantI S_ 32 0#32] : Fin 5 → IVec S_ 32)) k (Shape.Idx.first h_S_)).toInt) sliceFits_S128x8x8x64x128_S1x8x8x64x128) shapeCasts_S1x8x8x64x128_S8x8x64x128

/-- The starts that the counter `n` names. -/
theorem start_eq (ctr : IVec S_ 32) (n : Fin 128) (hc : ctr = fun _ => BitVec.ofNat 32 n.val) :
    (fun k => (((![ctr, constantI S_ 32 0#32, constantI S_ 32 0#32, constantI S_ 32 0#32, constantI S_ 32 0#32] : Fin 5 → IVec S_ 32)) k (Shape.Idx.first h_S_)).toInt)
      = fun k => ((![n.val, 0, 0, 0, 0] : Fin 5 → ℕ) k : Int) := by
  subst hc
  funext k
  match k with
  | ⟨0, _⟩ => exact toInt_ofNat_of_lt (by omega)
  | ⟨1, _⟩ => rfl
  | ⟨2, _⟩ => rfl
  | ⟨3, _⟩ => rfl
  | ⟨4, _⟩ => rfl

/-- The mask's choice between a number and minus infinity. -/
theorem masked (p : Prop) [Decidable p] (x : EReal) :
    Scalar.select (if p then 1#1 else 0#1) x (id (constant S_ .f32 0xFF800000#32 : FVec Ideal S_ .f32) ix0) = if p then x else ⊥ := by
  by_cases hp : p
  · rw [if_pos hp, if_pos hp]; rfl
  · rw [if_neg hp, if_neg hp]; exact ofBits_ninf

/-- Chunk `n` lies inside the array. -/
theorem fits (n : Fin 128) : S128x8x8x64x128.Slices (![n.val, 0, 0, 0, 0] : Fin 5 → ℕ) S1x8x8x64x128 :=
  ⟨rfl, fun a => by
    match a with
    | ⟨0, _⟩ => show n.val + 1 ≤ 128; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega⟩

/-- A chunk written into an array of chunks at the loop's counter. -/
def putAtCtr (X : FVec Ideal S128x8x8x64x128 .f32) (U : FVec Ideal S1x8x8x64x128 .f32) (ctr : IVec S_ 32) : FVec Ideal S128x8x8x64x128 .f32 :=
  Host.dynamicUpdateSlice X U (fun k => (((![ctr, constantI S_ 32 0#32, constantI S_ 32 0#32, constantI S_ 32 0#32, constantI S_ 32 0#32] : Fin 5 → IVec S_ 32)) k (Shape.Idx.first h_S_)).toInt) updateFits_S128x8x8x64x128_S1x8x8x64x128

/-- At counter `n` chunk `n` is written. -/
theorem putAtCtr_apply (X : FVec Ideal S128x8x8x64x128 .f32) (U : FVec Ideal S1x8x8x64x128 .f32) (ctr : IVec S_ 32) (n : Fin 128)
    (hc : ctr = fun _ => BitVec.ofNat 32 n.val) (j : Fin 128) (b h : Fin 8) (t : Fin 64) (d : Fin 128) :
    putAtCtr X U ctr (ix5 j b h t d) = if j = n then U (ix5 0 b h t d) else X (ix5 j b h t d) := by
  unfold putAtCtr
  rw [start_eq ctr n hc]
  have e := Host.dynamicUpdateSlice_eq_updateSlice X U (fun k => ((![n.val, 0, 0, 0, 0] : Fin 5 → ℕ) k : Int))
    updateFits_S128x8x8x64x128_S1x8x8x64x128 (![n.val, 0, 0, 0, 0] : Fin 5 → ℕ) (fun a => by
      match a with
      | ⟨0, _⟩ => show (min (max (n.val : Int) 0) ((128 - 1 : ℕ) : Int)).toNat = n.val; omega
      | ⟨1, _⟩ => rfl
      | ⟨2, _⟩ => rfl
      | ⟨3, _⟩ => rfl
      | ⟨4, _⟩ => rfl) (fits n)
  rw [e]
  by_cases hj : j = n
  · subst hj
    pointwise
    rw [dif_pos (by omega)]
    exact congrArg (fun a => U (ix5 a b h t d)) (Fin.ext (Nat.sub_self _))
  · rw [if_neg hj]
    pointwise
    rw [dif_neg (fun q => hj (Fin.ext (by omega)))]

/-- At counter `n` the slice is chunk `n`. -/
theorem chunkAtCtr_apply (X : FVec Ideal S128x8x8x64x128 .f32) (ctr : IVec S_ 32) (n : Fin 128) (hc : ctr = fun _ => BitVec.ofNat 32 n.val)
    (b h : Fin 8) (t : Fin 64) (d : Fin 128) : chunkAtCtr X ctr (ix4 b h t d) = X (ix5 n b h t d) := by
  have hoff := fits n
  have e := Host.dynamicSlice_eq_extractStridedSlice S1x8x8x64x128 X _ (![n.val, 0, 0, 0, 0] : Fin 5 → ℕ)
    sliceFits_S128x8x8x64x128_S1x8x8x64x128 hoff (fun a => congrFun (start_eq ctr n hc) a)
  unfold chunkAtCtr
  rw [e]
  pointwise

variable (V0 : Valuation τ sig (Elt Ideal)) (n : Fin 128)
  (hc : V0 (Proc.devRef .tc main_v39_5) = fun _ => BitVec.ofNat 32 n.val)

/-- One chunk of a carried array, rows and columns of one batch and head. -/
abbrev part (X : FVec Ideal S128x8x8x64x128 .f32) (n : Fin 128) (b h : Fin 8) : Fin 64 → Fin 128 → EReal := fun t d => X (ix5 n b h t d)

include hc in
theorem v44_apply (b h : Fin 8) (t : Fin 64) (d : Fin 128) :
    res_main_while0b_v44 V0 (ix4 b h t d) = V0 (Proc.devRef .tc main_v39_0) (ix5 n b h t d) :=
  chunkAtCtr_apply (V0 (Proc.devRef .tc main_v39_0)) _ n hc b h t d

include hc in
theorem v45_apply (b h : Fin 8) (t : Fin 64) (d : Fin 128) :
    res_main_while0b_v45 V0 (ix4 b h t d) = V0 (Proc.devRef .tc main_v39_1) (ix5 n b h t d) :=
  chunkAtCtr_apply (V0 (Proc.devRef .tc main_v39_1)) _ n hc b h t d

include hc in
theorem v46_apply (b h : Fin 8) (t : Fin 64) (d : Fin 128) :
    res_main_while0b_v46 V0 (ix4 b h t d) = V0 (Proc.devRef .tc main_v39_2) (ix5 n b h t d) :=
  chunkAtCtr_apply (V0 (Proc.devRef .tc main_v39_2)) _ n hc b h t d

include hc in
/-- The running sums of the log gates. -/
theorem v48_apply (b h : Fin 8) (t : Fin 64) (d : Fin 128) :
    res_main_while0b_v48 V0 (ix4 b h t d) = cum (fun s => part (V0 (Proc.devRef .tc main_v39_3)) n b h s d) t := by
  refine (window_apply (chunkAtCtr (V0 (Proc.devRef .tc main_v39_3)) (V0 (Proc.devRef .tc main_v39_5)))
    (broadcastInDim S_ ![] bcast_S_S_ (constant S_ .f32 0x00000000#32)) ?_ b h t d).trans ?_
  · pointwise
  · exact congrArg (fun f => cum f t) (funext fun s => chunkAtCtr_apply _ _ n hc b h s d)

include hc in
/-- Their last row. -/
theorem v64_apply (b h : Fin 8) (z : Fin 1) (d : Fin 128) :
    res_main_while0b_v64 V0 (ix4 b h z d) = cum (fun s => part (V0 (Proc.devRef .tc main_v39_3)) n b h s d) 63 := by
  refine Eq.trans ?_ (v48_apply V0 n hc b h 63 d)
  pointwise [res_main_while0b_v64]

include hc in
/-- The state after the trip. -/
theorem step6_apply (b h : Fin 8) (d e : Fin 128) :
    step_main_v39_6 V0 (ix4 b h d e) = chunkState (part (V0 (Proc.devRef .tc main_v39_1)) n b h)
      (part (V0 (Proc.devRef .tc main_v39_2)) n b h) (part (V0 (Proc.devRef .tc main_v39_3)) n b h)
      (fun d e => V0 (Proc.devRef .tc main_v39_6) (ix4 b h d e)) d e := by
  unfold step_main_v39_6
  rw [id_eq]
  pointwise [chunkState, v64_apply V0 n hc, v48_apply V0 n hc, v45_apply V0 n hc, v46_apply V0 n hc]

include hc in
/-- What the trip writes at its chunk. -/
theorem step7_apply (j : Fin 128) (b h : Fin 8) (t : Fin 64) (e : Fin 128)
    (hm : V0 (Proc.devRef .tc main_v39_4) = refMask (F := Ideal)) :
    step_main_v39_7 V0 (ix5 j b h t e) = if j = n then chunkOut (part (V0 (Proc.devRef .tc main_v39_0)) n b h)
      (part (V0 (Proc.devRef .tc main_v39_1)) n b h)
      (part (V0 (Proc.devRef .tc main_v39_2)) n b h) (part (V0 (Proc.devRef .tc main_v39_3)) n b h)
      (fun d e => V0 (Proc.devRef .tc main_v39_6) (ix4 b h d e)) t e else V0 (Proc.devRef .tc main_v39_7) (ix5 j b h t e) := by
  unfold step_main_v39_7
  rw [id_eq, hm]
  refine (putAtCtr_apply (V0 (Proc.devRef .tc main_v39_7)) _ (V0 (Proc.devRef .tc main_v39_5)) n hc j b h t e).trans ?_
  refine if_congr Iff.rfl ?_ rfl
  pointwise [chunkOut, chunkAtt, v48_apply V0 n hc, v45_apply V0 n hc, v46_apply V0 n hc, v44_apply V0 n hc, refMask_apply]
  refine congrArg₂ (· + ·) (Finset.sum_congr rfl fun s _ => congrArg (· * _) (Finset.sum_congr rfl fun d _ => ?_)) rfl
  refine (mul_assoc _ _ _).trans ?_
  rw [masked]

end Cert.ReferenceIdeal.Value

end
-- ==== Proof.RefValue.lean ====
/-
  The reference's result: its loop over the chunks is the recurrence.
-/
module

public import proofs.«01_k».proof.Proof.RefStep

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Facts Cert.ReferenceIdeal.Gen Cert.Hgrn

variable (m : (ℓ : Loc nD τ sig) → Buf (Elt Ideal) ℓ) (c : Dev nD)

/-- The bound. -/
def refLb (k : Fin 1024) : EReal := m ((c.tc : Thread nD τ).loc main_arg2) (ix2 0 k)
/-- The gates' arguments. -/
def refF (B : Fin 8) (T : Fin 8192) (k : Fin 1024) : EReal := m ((c.tc : Thread nD τ).loc main_arg0) (ix3 B T ⟨k.val, by omega⟩)
/-- The values. -/
def refVal (B : Fin 8) (T : Fin 8192) (k : Fin 1024) : EReal := m ((c.tc : Thread nD τ).loc main_arg0) (ix3 B T ⟨2048 + k.val, by omega⟩)
/-- The queries' arguments. -/
def refQry (B : Fin 8) (T : Fin 8192) (k : Fin 1024) : EReal := m ((c.tc : Thread nD τ).loc main_arg0) (ix3 B T ⟨3072 + k.val, by omega⟩)
/-- The initial states: batch, head, key row, value column. -/
def refS (B h : Fin 8) (d e : Fin 128) : EReal := m ((c.tc : Thread nD τ).loc main_arg1) (ix4 B h e d)

/-- The contents after `n` trips. -/
def after' (n : ℕ) : Valuation τ sig (Elt Ideal) := STEP^[n] (entryContents preI m c)

theorem after'_succ (n : ℕ) : after' m c (n + 1) = STEP (after' m c n) := Function.iterate_succ_apply' _ _ _

theorem keep_0 (n : ℕ) : after' m c n (Proc.devRef .tc main_v39_0) = chunked (refQ (m ((c.tc : Thread nD τ).loc main_arg0))) := by
  induction n with
  | zero => exact entry_q m c
  | succ n ih => rw [after'_succ, STEP_main_v39_0, ih]

theorem keep_1 (n : ℕ) : after' m c n (Proc.devRef .tc main_v39_1)
    = chunked (subf ones (refG (m ((c.tc : Thread nD τ).loc main_arg0)) (m ((c.tc : Thread nD τ).loc main_arg2)))) := by
  induction n with
  | zero => exact entry_k m c
  | succ n ih => rw [after'_succ, STEP_main_v39_1, ih]

theorem keep_2 (n : ℕ) : after' m c n (Proc.devRef .tc main_v39_2) = chunked (refV (m ((c.tc : Thread nD τ).loc main_arg0))) := by
  induction n with
  | zero => exact entry_v m c
  | succ n ih => rw [after'_succ, STEP_main_v39_2, ih]

theorem keep_3 (n : ℕ) : after' m c n (Proc.devRef .tc main_v39_3)
    = chunked (Host.log (refG (m ((c.tc : Thread nD τ).loc main_arg0)) (m ((c.tc : Thread nD τ).loc main_arg2)))) := by
  induction n with
  | zero => exact entry_l m c
  | succ n ih => rw [after'_succ, STEP_main_v39_3, ih]

theorem keep_4 (n : ℕ) : after' m c n (Proc.devRef .tc main_v39_4) = refMask (F := Ideal) := by
  induction n with
  | zero => exact entry_mask m c
  | succ n ih => rw [after'_succ, STEP_main_v39_4, ih]

/-- The counter after `n` trips. -/
theorem ctr_eq (n : ℕ) : after' m c n (Proc.devRef .tc main_v39_5) = fun _ => BitVec.ofNat 32 n := by
  induction n with
  | zero => exact ctr_entry m c
  | succ n ih =>
    rw [after'_succ, STEP_main_v39_5]
    unfold step_main_v39_5
    rw [id_eq, ih]
    funext i
    exact (BitVec.ofNat_add n 1).symm

/-- The queries of chunk `n`. -/
theorem part_q (k : ℕ) (n : Fin 128) (b h : Fin 8) :
    part (after' m c k (Proc.devRef .tc main_v39_0)) n b h = hq (chunkRows (refQry m c b) h n.val) := by
  rw [keep_0]
  funext t d
  exact (chunked_apply _ n b h t d).trans (refQ_apply _ _ _ _)

/-- The keys of chunk `n`. -/
theorem part_k (k : ℕ) (n : Fin 128) (b h : Fin 8) :
    part (after' m c k (Proc.devRef .tc main_v39_1)) n b h
      = hk (fun d => refLb m c (col h d)) (chunkRows (refF m c b) h n.val) := by
  rw [keep_1]
  funext t d
  refine (chunked_apply _ n b h t d).trans ?_
  show ones (F := Ideal) (ix3 b (row n.val t) (col h d)) - refG _ _ (ix3 b (row n.val t) (col h d)) = _
  rw [refG_apply]
  exact congrArg (· - _) (show Ideal.ofBits .f32 0x3F800000#32 = 1 from ofBits_one)

/-- The values of chunk `n`. -/
theorem part_v (k : ℕ) (n : Fin 128) (b h : Fin 8) :
    part (after' m c k (Proc.devRef .tc main_v39_2)) n b h = chunkRows (refVal m c b) h n.val := by
  rw [keep_2]
  funext t d
  exact (chunked_apply _ n b h t d).trans (refV_apply _ _ _ _)

/-- The log gates of chunk `n`. -/
theorem part_l (k : ℕ) (n : Fin 128) (b h : Fin 8) :
    part (after' m c k (Proc.devRef .tc main_v39_3)) n b h
      = hl (fun d => refLb m c (col h d)) (chunkRows (refF m c b) h n.val) := by
  rw [keep_3]
  funext t d
  refine (chunked_apply _ n b h t d).trans ?_
  exact congrArg Ideal.log (refG_apply _ _ b (row n.val t) (col h d))

/-- One head's states. -/
abbrev refSeq (b h : Fin 8) : ℕ → Fin 128 → Fin 128 → EReal :=
  stateSeq (fun d => refLb m c (col h d)) (chunkRows (refF m c b) h) (chunkRows (refVal m c b) h) (refS m c b h)

/-- The carried state after `n` trips. -/
theorem state_eq (n : ℕ) (hn : n ≤ 128) (b h : Fin 8) :
    (fun d e => after' m c n (Proc.devRef .tc main_v39_6) (ix4 b h d e)) = refSeq m c b h n := by
  induction n with
  | zero =>
    funext d e
    refine (congrFun (entry_s m c) (ix4 b h d e)).trans ?_
    show _ = m ((c.tc : Thread nD τ).loc main_arg1) (ix4 b h e d)
    pointwise
  | succ n ih =>
    funext d e
    rw [after'_succ, STEP_main_v39_6]
    refine (step6_apply _ ⟨n, by omega⟩ (ctr_eq m c n) b h d e).trans ?_
    rw [ih (by omega), part_k, part_v, part_l]
    rfl

/-- The outputs written in `n` trips. -/
theorem out_eq (n : ℕ) (hn : n ≤ 128) (b h : Fin 8) (j : Fin 128) (hj : j.val < n) (t : Fin 64) (e : Fin 128) :
    after' m c n (Proc.devRef .tc main_v39_7) (ix5 j b h t e)
      = outSeq (fun d => refLb m c (col h d)) (chunkRows (refQry m c b) h) (chunkRows (refF m c b) h)
          (chunkRows (refVal m c b) h) (refS m c b h) j.val t e := by
  induction n with
  | zero => omega
  | succ n ih =>
    rw [after'_succ, STEP_main_v39_7]
    refine (step7_apply _ ⟨n, by omega⟩ (ctr_eq m c n) j b h t e (keep_4 m c n)).trans ?_
    by_cases hjn : j = ⟨n, by omega⟩
    · rw [if_pos hjn, state_eq m c n (by omega), part_q, part_k, part_v, part_l, hjn]
      rfl
    · rw [if_neg hjn]
      exact ih (by omega) (by have : j.val ≠ n := fun q => hjn (Fin.ext q); omega)

/-- The reference's result is the recurrence. -/
theorem result_apply (B : Fin 8) (T : Fin 8192) (k : Fin 1024) :
    out_main_v43 (after' m c 128) (ix3 B T k) = hgrnOut (refLb m c) (refQry m c) (refF m c) (refVal m c) (refS m c) B T k := by
  refine Eq.trans ?_ (out_eq m c 128 le_rfl B (hd k) ⟨T.val / 64, by omega⟩ (by show T.val / 64 < 128; omega) ⟨T.val % 64, by omega⟩ ⟨k.val % 128, by omega⟩)
  pointwise [out_main_v43]
  rfl

end Cert.ReferenceIdeal.Value

end
-- ==== Proof.Equation.lean ====
/-
  The equation: on equal arguments, with the bound in range, the kernel's result is the reference's.
-/
module

public import proofs.«01_k».proof.Proof.Pre
public import proofs.«01_k».proof.Proof.RefValue

@[expose] public section

set_option maxRecDepth 16384

noncomputable section

namespace Cert.Equation

open Idealize.ShloMosaic Idealize.ShloMosaic.TcCoe Idealize.ShloMosaic.Tactic Cert.Hgrn

/-- The recurrence, computed by the kernel, is the recurrence the reference computes. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_lb_range m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.out_main_v43 (Cert.ReferenceIdeal.Value.after' m' c 128) : Cert.KernelIdeal.S8x8192x1024.Idx → EReal)
      = Cert.KernelIdeal.Value.G6 m c := by
  funext i
  obtain ⟨B, T, k, rfl⟩ : ∃ (B : Fin 8) (T : Fin 8192) (k : Fin 1024), i = ix3 B T k := ⟨i 0, i 1, i 2, eq_ix3 i⟩
  refine (Cert.ReferenceIdeal.Value.result_apply m' c B T k).trans
    (Eq.trans ?_ (Cert.KernelIdeal.Gen.result_apply m c (fun h d => Cert.Pre_lb_range.bound_of _ _ _ (hp c) (col h d)) B T k).symm)
  have e0 : Cert.ReferenceIdeal.Value.refLb m' c = Cert.KernelIdeal.Gen.argLb m c := funext fun k => congrFun h2 _
  have e1 : Cert.ReferenceIdeal.Value.refQry m' c = Cert.KernelIdeal.Gen.argQ m c := by funext B T k; exact congrFun h0 _
  have e2 : Cert.ReferenceIdeal.Value.refF m' c = Cert.KernelIdeal.Gen.argF m c := by funext B T k; exact congrFun h0 _
  have e3 : Cert.ReferenceIdeal.Value.refVal m' c = Cert.KernelIdeal.Gen.argV m c := by funext B T k; exact congrFun h0 _
  have e4 : Cert.ReferenceIdeal.Value.refS m' c = Cert.KernelIdeal.Gen.argS m c := by funext B h d e; exact congrFun h1 _
  rw [e0, e1, e2, e3, e4]

end Cert.Equation

end
-- ==== Proof.Norm.lean ====
/-
  Layer norm, its modulation, and a projection of the modulated row: the mathematics of the input projections.
-/
module

public import Idealize.ShloMosaic.PureOps.Ideal
public import Idealize.ShloMosaic.Lib.Pointwise

@[expose] public section

noncomputable section

namespace Cert.Norm

open Idealize.ShloMosaic

/-- The row's length, as the programs' constant. -/
abbrev len : EReal := Ideal.ofBits .f32 0x44800000#32
/-- The constant under the square root. -/
abbrev eps : EReal := Ideal.ofBits .f32 0x358637BD#32
/-- One. -/
abbrev one : EReal := Ideal.ofBits .f32 0x3F800000#32

/-- A row's mean. -/
def mean (x : Fin 1024 → EReal) : EReal := Ideal.div (∑ k, x k) len

/-- A row less its mean. -/
def centred (x : Fin 1024 → EReal) (k : Fin 1024) : EReal := x k - mean x

/-- A row's layer norm. -/
def normed (x : Fin 1024 → EReal) (k : Fin 1024) : EReal :=
  centred x k * Ideal.rsqrt (mean (fun j => centred x j * centred x j) + eps)

/-- The layer norm, scaled and shifted. -/
def modulated (x sh sc : Fin 1024 → EReal) (k : Fin 1024) : EReal := normed x k * (one + sc k) + sh k

/-- A column of the modulated row's projection. -/
def project (x sh sc w : Fin 1024 → EReal) : EReal := ∑ k, modulated x sh sc k * w k

end Cert.Norm

end
-- ==== Proof.InPay.lean ====
/-
  The row-major projection's two payloads at an index: the modulated layer norm of a tile of rows, and its product with a
  tile of the weights.
-/
module

public import proofs.«01_k».proof.Proof.Norm
public import proofs.«01_k».proof.Proof.Gen.InprojIdeal.Value
public import Idealize.ShloMosaic.Lib.Pipeline.ValueKit.Point

@[expose] public section

set_option maxRecDepth 16384

noncomputable section

namespace Cert.InprojIdeal.Gen

open Idealize.ShloMosaic Idealize.ShloMosaic.TcCoe Idealize.ShloMosaic.Tactic
open Cert.Norm

/-- The rows' modulated layer norm. -/
theorem pay1_apply (x : Vec Ideal S1024x1024 .f32) (sc sh : Vec Ideal S1x1x1024 .f32) (r k : Fin 1024) :
    k0_pay1 x sc sh (ix2 r k) = modulated (fun j => x (ix2 r j)) (fun j => sh (ix3 0 0 j)) (fun j => sc (ix3 0 0 j)) k := by
  pointwise [k0_pay1, modulated, normed, centred, mean]

/-- The product. -/
theorem pay2_apply (u : Vec Ideal S1024x1024 .bf16) (w : Vec Ideal S1024x3584 .bf16) (r : Fin 1024) (e : Fin 3584) :
    k0_pay2 u w (ix2 r e) = ∑ k : Fin 1024, u (ix2 r k) * w (ix2 k e) := by
  pointwise [k0_pay2]

end Cert.InprojIdeal.Gen

end
-- ==== Proof.InFold.lean ====
/-
  The row-major projection's result array at an index: a tile's first point normalises its rows into the carried buffer and
  multiplies them by the first half of the weights, its second point multiplies them by the other half.
-/
module

public import proofs.«01_k».proof.Proof.InPay
public import Idealize.ShloMosaic.Lib.Pipeline.ValueKit
public import Idealize.ShloMosaic.Lib.Pipeline.ReadBack

@[expose] public section

set_option maxRecDepth 16384

noncomputable section

namespace Cert.InprojIdeal.Gen

open Idealize.ShloMosaic Idealize.ShloMosaic.TcCoe Idealize.ShloMosaic.Tactic
open Cert.Norm

variable (m : (ℓ : Loc nD τ sig) → Buf (Elt Ideal) ℓ) (c : Dev nD) (t : Fin cfg0.N)

/-- The windows' block indices at each point. -/
theorem idx_facts : ∀ t : Fin cfg0.N,
    win0_0.index t = ![t.val / 2, 0] ∧ win0_1.index t = ![t.val / 16, 0, 0] ∧ win0_2.index t = ![t.val / 16, 0, 0]
    ∧ win0_3.index t = ![0, t.val % 2] :=
  (by decide +kernel : ∀ t : Fin grid0.N, _)

/-- A row of the input. -/
def argX (r : Fin 65536) (k : Fin 1024) : EReal := m ((c : Thread nD τ).loc main_arg0) (ix2 r k)
/-- A batch's shift. -/
def argSh (b : Fin 8) (k : Fin 1024) : EReal := m ((c : Thread nD τ).loc main_arg1) (ix3 b 0 k)
/-- A batch's scale. -/
def argSc (b : Fin 8) (k : Fin 1024) : EReal := m ((c : Thread nD τ).loc main_arg2) (ix3 b 0 k)
/-- A column of the weights. -/
def argW (e : Fin 7168) (k : Fin 1024) : EReal := m ((c : Thread nD τ).loc main_arg3) (ix2 k e)

/-- The point's tile, one of its rows. -/
def trow (t : Fin cfg0.N) (r : Fin 1024) : Fin 65536 :=
  ⟨1024 * (t.val / 2) + r.val, by have := lt_of_lt_of_eq t.isLt (show cfg0.N = 128 from N_0); omega⟩
/-- The point's batch. -/
def tbatch (t : Fin cfg0.N) : Fin 8 := ⟨t.val / 16, by have := lt_of_lt_of_eq t.isLt (show cfg0.N = 128 from N_0); omega⟩
/-- The point's half of the weights, one of its columns. -/
def tcol (t : Fin cfg0.N) (e : Fin 3584) : Fin 7168 := ⟨3584 * (t.val % 2) + e.val, by omega⟩

theorem iblk0_apply (r k : Fin 1024) : iblk m c 0 t (ix2 r k) = argX m c (trow t r) k := by
  unfold argX trow
  blk_ext [iblk, V, idx_facts t]
theorem iblk1_apply (k : Fin 1024) : iblk m c 1 t (ix3 0 0 k) = argSh m c (tbatch t) k := by
  unfold argSh tbatch
  blk_ext [iblk, V, idx_facts t]
theorem iblk2_apply (k : Fin 1024) : iblk m c 2 t (ix3 0 0 k) = argSc m c (tbatch t) k := by
  unfold argSc tbatch
  blk_ext [iblk, V, idx_facts t]
theorem iblk3_apply (k : Fin 1024) (e : Fin 3584) : iblk m c 3 t (ix2 k e) = argW m c (tcol t e) k := by
  unfold argW tcol
  blk_ext [iblk, V, idx_facts t]

/-- What a tile's first point leaves. -/
theorem first_eq (h : t.val % 2 = 0) : outsAt0 m c t.val t.isLt
    = (k0_pay2 (k0_pay1 (iblk m c 0 t) (iblk m c 2 t) (iblk m c 1 t)) (iblk m c 3 t), k0_pay1 (iblk m c 0 t) (iblk m c 2 t) (iblk m c 1 t)) := by
  rw [outsAt0_A m c t h]
  frame_out

/-- What a tile's second point leaves. -/
theorem second_eq (h : ¬t.val % 2 = 0) (hp : t.val - 1 < cfg0.N) : outsAt0 m c t.val t.isLt
    = (k0_pay2 (outsAt0 m c (t.val - 1) hp).2 (iblk m c 3 t), (outsAt0 m c (t.val - 1) hp).2) := by
  rw [outsAt0_B m c t h]
  frame_out
  simp only [read_unread_whole]
  rfl

/-- The tile's rows, normalised and modulated, are in the carried buffer after its first point. -/
theorem first_rows (h : t.val % 2 = 0) (r k : Fin 1024) :
    (outsAt0 m c t.val t.isLt).2 (ix2 r k) = modulated (argX m c (trow t r)) (argSh m c (tbatch t)) (argSc m c (tbatch t)) k := by
  rw [first_eq m c t h]
  refine (pay1_apply _ _ _ r k).trans ?_
  simp only [iblk0_apply, iblk1_apply, iblk2_apply]

/-- Each point's block of the result. -/
theorem point_out (r : Fin 1024) (e : Fin 3584) : (outsAt0 m c t.val t.isLt).1 (ix2 r e)
    = project (argX m c (trow t r)) (argSh m c (tbatch t)) (argSc m c (tbatch t)) (argW m c (tcol t e)) := by
  by_cases h : t.val % 2 = 0
  · have hr := first_rows m c t h
    rw [first_eq m c t h] at hr ⊢
    refine (pay2_apply _ _ r e).trans ?_
    unfold project
    exact Finset.sum_congr rfl fun k _ => congrArg₂ _ (hr r k) (iblk3_apply m c t k e)
  · have hp : t.val - 1 < cfg0.N := by have := t.isLt; omega
    rw [second_eq m c t h hp]
    refine (pay2_apply _ _ r e).trans ?_
    unfold project
    refine Finset.sum_congr rfl fun k _ => congrArg₂ _ ?_ (iblk3_apply m c t k e)
    refine (first_rows m c ⟨t.val - 1, hp⟩ (by dsimp only; omega) r k).trans ?_
    rw [show trow ⟨t.val - 1, hp⟩ r = trow t r from Fin.ext (by show 1024 * ((t.val - 1) / 2) + _ = 1024 * (t.val / 2) + _; omega),
      show tbatch ⟨t.val - 1, hp⟩ = tbatch t from Fin.ext (by show (t.val - 1) / 16 = t.val / 16; omega)]

/-- The result array. -/
theorem result_apply (r : Fin 65536) (e : Fin 7168) : Value.G4 m c (ix2 r e)
    = project (argX m c r) (argSh m c ⟨r.val / 8192, by omega⟩) (argSc m c ⟨r.val / 8192, by omega⟩) (argW m c e) := by
  have hv : Value.pt4Of (ix2 r e) = 2 * (r.val / 1024) + e.val / 3584 := by
    show 2 * (r.val / 1024 - 0) + 1 * (e.val / 3584 - 0) = _
    omega
  have hp : Value.pt4Of (ix2 r e) < cfg0.N := by
    rw [hv, show cfg0.N = 128 from N_0]
    omega
  unfold Value.G4
  rw [dif_pos hp, ← Value.outsAt0_sweep m c _ hp]
  have hl : Value.loc4Of (ix2 r e) = ix2 ⟨r.val % 1024, Nat.mod_lt _ (by decide)⟩ ⟨e.val % 3584, Nat.mod_lt _ (by decide)⟩ := by
    funext a
    apply Fin.ext
    match a with
    | ⟨0, _⟩ => rfl
    | ⟨1, _⟩ => rfl
  rw [hl]
  refine (point_out m c ⟨_, hp⟩ _ _).trans ?_
  rw [show trow ⟨Value.pt4Of (ix2 r e), hp⟩ ⟨r.val % 1024, Nat.mod_lt _ (by decide)⟩ = r from
      Fin.ext (by show 1024 * (Value.pt4Of (ix2 r e) / 2) + r.val % 1024 = r.val; omega),
    show tcol ⟨Value.pt4Of (ix2 r e), hp⟩ ⟨e.val % 3584, Nat.mod_lt _ (by decide)⟩ = e from
      Fin.ext (by show 3584 * (Value.pt4Of (ix2 r e) % 2) + e.val % 3584 = e.val; omega),
    show tbatch ⟨Value.pt4Of (ix2 r e), hp⟩ = ⟨r.val / 8192, by omega⟩ from
      Fin.ext (by show Value.pt4Of (ix2 r e) / 16 = r.val / 8192; omega)]

end Cert.InprojIdeal.Gen

end
-- ==== Proof.InRef.lean ====
/-
  The row-major projection's reference at an index.
-/
module

public import proofs.«01_k».proof.Proof.Norm
public import proofs.«01_k».proof.Proof.Gen.InprojReferenceIdeal.Run

@[expose] public section

set_option maxRecDepth 16384

noncomputable section

namespace Cert.InprojReferenceIdeal.Value

open Idealize.ShloMosaic Idealize.ShloMosaic.TcCoe Idealize.ShloMosaic.Tactic Idealize.ShloMosaic.StableHlo
open Cert.InprojReferenceIdeal Cert.InprojReferenceIdeal.Facts Cert.InprojReferenceIdeal.Gen Cert.Norm

variable {F : FTy → Type} [FloatOps F]

/-- Each row's mean. -/
def refMean (x : FVec F S8x8192x1024 .f32) : FVec F S8x8192x1 .f32 :=
  Host.divf (broadcastInDim S8x8192x1 ![0, 1] bcast_S8x8192_S8x8192x1_0_1
      (Host.reduceAdd x (constant S_ .f32 0x00000000#32) reducesTo_S8x8192x1024_S8x8192_d2 h_S_))
    (broadcastInDim S8x8192x1 ![] bcast_S_S8x8192x1 (constant S_ .f32 0x44800000#32))

/-- Each row less its mean. -/
def refCentred (x : FVec F S8x8192x1024 .f32) : FVec F S8x8192x1024 .f32 :=
  subf x (broadcastInDim S8x8192x1024 ![0, 1, 2] bcast_S8x8192x1_S8x8192x1024_0_1_2 (refMean x))

/-- Each row's layer norm. -/
def refNormed (x : FVec F S8x8192x1024 .f32) : FVec F S8x8192x1024 .f32 :=
  mulf (refCentred x) (broadcastInDim S8x8192x1024 ![0, 1, 2] bcast_S8x8192x1_S8x8192x1024_0_1_2
    (Host.rsqrt (addf (refMean (mulf (refCentred x) (refCentred x))) (broadcastInDim S8x8192x1 ![] bcast_S_S8x8192x1 (constant S_ .f32 0x358637BD#32)))))

/-- The layer norm, scaled and shifted. -/
def refModulated (x : FVec F S8x8192x1024 .f32) (sh sc : FVec F S8x1x1024 .f32) : FVec F S8x8192x1024 .f32 :=
  addf (mulf (refNormed x) (broadcastInDim S8x8192x1024 ![0, 1, 2] bcast_S8x1x1024_S8x8192x1024_0_1_2
      (addf (broadcastInDim S8x1x1024 ![] bcast_S_S8x1x1024 (constant S_ .f32 0x3F800000#32)) sc)))
    (broadcastInDim S8x8192x1024 ![0, 1, 2] bcast_S8x1x1024_S8x8192x1024_0_1_2 sh)

/-- The projection. -/
def refProject (x : FVec F S65536x1024 .f32) (sh sc : FVec F S8x1x1024 .f32) (w : FVec F S1024x7168 .bf16) : FVec F S65536x7168 .bf16 :=
  truncf .bf16 (shapeCast _ (Host.dotGeneral dot_S8x8192x1024_S1024x7168_S8x8192x7168_2_0_01_1_n_n none
    (refModulated (shapeCast _ x shapeCasts_S65536x1024_S8x8192x1024) sh sc) (extf .f32 w bitsLt_bf16_f32)) shapeCasts_S8x8192x7168_S65536x7168) bitsLt_bf16_f32

/-- The reference's run leaves the projection, its arguments unchanged. -/
theorem run_project (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refProject (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := run m ρ

/-- A row's mean, at an index. -/
theorem refMean_apply (x : FVec Ideal S8x8192x1024 .f32) (b : Fin 8) (t : Fin 8192) (z : Fin 1) :
    refMean x (ix3 b t z) = mean (fun k => x (ix3 b t k)) := by
  pointwise [refMean, mean]

/-- A row less its mean, at an index. -/
theorem refCentred_apply (x : FVec Ideal S8x8192x1024 .f32) (b : Fin 8) (t : Fin 8192) (k : Fin 1024) :
    refCentred x (ix3 b t k) = centred (fun j => x (ix3 b t j)) k := by
  pointwise [refCentred, refMean_apply, centred]

/-- The layer norm, at an index. -/
theorem refNormed_apply (x : FVec Ideal S8x8192x1024 .f32) (b : Fin 8) (t : Fin 8192) (k : Fin 1024) :
    refNormed x (ix3 b t k) = normed (fun j => x (ix3 b t j)) k := by
  pointwise [refNormed, refMean_apply, refCentred_apply, normed]

/-- The modulated layer norm, at an index. -/
theorem refModulated_apply (x : FVec Ideal S8x8192x1024 .f32) (sh sc : FVec Ideal S8x1x1024 .f32) (b : Fin 8) (t : Fin 8192) (k : Fin 1024) :
    refModulated x sh sc (ix3 b t k) = modulated (fun j => x (ix3 b t j)) (fun j => sh (ix3 b 0 j)) (fun j => sc (ix3 b 0 j)) k := by
  pointwise [refModulated, refNormed_apply, modulated]

/-- The projection, at an index. -/
theorem refProject_apply (x : FVec Ideal S65536x1024 .f32) (sh sc : FVec Ideal S8x1x1024 .f32) (w : FVec Ideal S1024x7168 .bf16) (r : Fin 65536) (e : Fin 7168) :
    refProject x sh sc w (ix2 r e) = project (fun j => x (ix2 r j)) (fun j => sh (ix3 ⟨r.val / 8192, by omega⟩ 0 j))
      (fun j => sc (ix3 ⟨r.val / 8192, by omega⟩ 0 j)) (fun j => w (ix2 j e)) := by
  pointwise [refProject, refModulated_apply, project]

end Cert.InprojReferenceIdeal.Value

end
-- ==== Proof.InEquation.lean ====
/-
  The row-major projection's equation: on equal arguments, the kernel's result is the reference's.
-/
module

public import proofs.«01_k».proof.Proof.InFold
public import proofs.«01_k».proof.Proof.InRef

@[expose] public section

set_option maxRecDepth 16384

noncomputable section

namespace Cert.Equation

open Idealize.ShloMosaic Idealize.ShloMosaic.TcCoe Idealize.ShloMosaic.Tactic Cert.Norm

/-- The projection, computed by the kernel, is the projection of the reference, from the same arrays. -/
theorem inproj_eq (m : (ℓ : Loc Cert.InprojIdeal.nD Cert.InprojIdeal.τ Cert.InprojIdeal.sig) → Buf (Elt Ideal) ℓ) (c : Dev Cert.InprojIdeal.nD) :
    (Cert.InprojReferenceIdeal.Value.refProject (F := Ideal) (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2))
      (m ((c.tc : Thread Cert.InprojIdeal.nD Cert.InprojIdeal.τ).loc Cert.InprojIdeal.main_arg3)) : Cert.InprojIdeal.S65536x7168.Idx → EReal)
      = Cert.InprojIdeal.Value.G4 m c := by
  funext i
  obtain ⟨r, e, rfl⟩ : ∃ (r : Fin 65536) (e : Fin 7168), i = ix2 r e := ⟨i 0, i 1, eq_ix2 i⟩
  exact (Cert.InprojReferenceIdeal.Value.refProject_apply _ _ _ _ r e).trans (Cert.InprojIdeal.Gen.result_apply m c r e).symm

end Cert.Equation

end
-- ==== Proof.ColBody.lean ====
/-
  The column-major projection's body, run once: at a tile's first point it stores the permuted rows, the narrow product and
  the wide product; at the tile's second point it stores the wide product of the rows the first point stored.
-/
module

public import proofs.«01_k».proof.Proof.Gen.ColprojIdeal.Frame
public import proofs.«01_k».proof.Proof.Gen.ColprojIdeal.Points
public import proofs.«01_k».proof.Proof.Gen.ColprojIdeal.Skeleton
public import Idealize.ShloMosaic.Lib.Pipeline.ValueKit
public import Idealize.ShloMosaic.Lib.Pipeline.ReadBack
public import Idealize.ShloMosaic.Lib.VecWindow

@[expose] public section

set_option maxRecDepth 16384

noncomputable section

namespace Cert.ColprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
  (arg3 : Memref sig .tc .vmem S1x128x8x1024 .f32) (harg3 : arg3.IsWhole) (arg4 : Memref sig .tc .vmem S1x1x1024 .f32) (harg4 : arg4.IsWhole)
  (arg5 : Memref sig .tc .vmem S1x1x1024 .f32) (harg5 : arg5.IsWhole) (arg6 : Memref sig .tc .vmem S1024x1024 .bf16) (harg6 : arg6.IsWhole)
  (arg7 : Memref sig .tc .vmem S1024x3072 .bf16) (harg7 : arg7.IsWhole) (arg8 : Memref sig .tc .vmem S1024x128 .bf16) (harg8 : arg8.IsWhole)
  (arg9 : Memref sig .tc .vmem S1x8x128x3072 .bf16) (harg9 : arg9.IsWhole) (arg10 : Memref sig .tc .vmem S1x8x128x128 .f32) (harg10 : arg10.IsWhole)
  (arg11 : Memref sig .tc .vmem S1024x1024 .bf16) (harg11 : arg11.IsWhole)
  (x0 : Vec F S1x128x8x1024 .f32) (x1 x2 : Vec F S1x1x1024 .f32) (x3 : Vec F S1024x1024 .bf16) (x4 : Vec F S1024x3072 .bf16) (x5 : Vec F S1024x128 .bf16)

set_option maxHeartbeats 1000000 in
/-- The body at a tile's first point: whatever the outputs and the carried rows held, it leaves the payloads in them. -/
theorem body_first (hc : k0_cond1 i = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (k0_pay2 (k0_pay4 x0 x2 x1 x3) x4)
            ∗ owns (c : Thread nD τ) arg10 fullShare (k0_pay1 (k0_pay3 x0 x2 x1 x3) x5)
            ∗ owns (c : Thread nD τ) arg11 fullShare (k0_pay4 x0 x2 x1 x3)) -∗ K ⟨⟩))
      ⊢ wp frame (wpE (defs₀ (F := F)) Variants.none c none) E (cc0_inproj_cm i arg3 harg3 arg4 harg4 arg5 harg5 arg6 harg6 arg7 harg7 arg8 harg8 arg9 harg9 arg10 harg10 arg11 harg11) K := by
  simp only [cc0_inproj_cm_eq_skeleton]; unfold cc0_inproj_cm_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    refine (View.read_writes_full _ _ _ _ _).trans ?_
    frame_out
  isplitl [H7]
  · iexists _; isplitr
    swap; · iexact H7
    ipureintro
    refine (View.read_writes_full _ _ _ _ _).trans ?_
    frame_out
  iexists _; isplitr
  swap; · iexact H8
  ipureintro
  refine (View.read_writes_full _ _ _ _ _).trans ?_
  frame_out

set_option maxHeartbeats 1000000 in
/-- The body at a tile's second point: the carried rows and the narrow product stay, the wide product is stored. -/
theorem body_second (hc : ¬ k0_cond1 i = 1#1) (u : Vec F S1024x1024 .bf16) (v : Vec F S1x8x128x128 .f32) (E : Set ℕ)
    (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ owns (c : Thread nD τ) arg10 fullShare v ∗ owns (c : Thread nD τ) arg11 fullShare u
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (k0_pay2 u x4)
            ∗ owns (c : Thread nD τ) arg10 fullShare v
            ∗ owns (c : Thread nD τ) arg11 fullShare u) -∗ K ⟨⟩))
      ⊢ wp frame (wpE (defs₀ (F := F)) Variants.none c none) E (cc0_inproj_cm i arg3 harg3 arg4 harg4 arg5 harg5 arg6 harg6 arg7 harg7 arg8 harg8 arg9 harg9 arg10 harg10 arg11 harg11) K := by
  simp only [cc0_inproj_cm_eq_skeleton]; unfold cc0_inproj_cm_skel
  unfold owns
  iintro ⟨H0, H1, H2, H3, ⟨%f4, %hf4, H4⟩, H5, ⟨%d6, %f6, -, H6⟩, H7, ⟨%f8, %hf8, H8⟩, Hk⟩
  obtain rfl := harg7.eq_unread hf4; obtain rfl := harg11.eq_unread hf8
  sl_exec (disch := first | sl_exact hc)
  sl_step
  iapply Hk
  isplitl [H0]; · iexact H0
  isplitl [H1]; · iexact H1
  isplitl [H2]; · iexact H2
  isplitl [H3]; · iexact H3
  isplitl [H4]
  · iexists _; isplitr; · ipureintro; exact harg7.read_unread _
    iexact H4
  isplitl [H5]; · iexact H5
  isplitl [H6]
  · iexists _; isplitr
    swap; · iexact H6
    ipureintro
    refine (View.read_writes_full _ _ _ _ _).trans ?_
    frame_out
  isplitl [H7]; · iexact H7
  iexists _; isplitr; · ipureintro; exact harg11.read_unread _
  iexact H8

end Cert.ColprojIdeal.Gen

end
-- ==== Proof.ColFrame.lean ====
/-
  The column-major projection's frame: what every point leaves, stated by its tile, the run of the whole program, and its
  arguments unchanged.
-/
module

public import proofs.«01_k».proof.Proof.ColBody

@[expose] public section

set_option maxRecDepth 16384

noncomputable section

namespace Cert.ColprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg) (c : Dev nD)

/-! ## Which points are a tile's first -/

/-- The body's condition holds at the even points. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The narrow product's block is left as found at the odd points only. -/
theorem idle_iff (t : Fin cfg0.N) : cfg0.idle 7 (grid0.coords t) = !decide (t.val % 2 = 0) := by
  show (!(k0_cond1 (grid0.coords t) == 1#1)) = _
  by_cases h : t.val % 2 = 0
  · simp only [(first_iff t).mpr h, h, beq_self_eq_true, decide_true]
  · simp only [beq_eq_false_iff_ne.mpr (fun e => h ((first_iff t).mp e)), h, decide_false]

/-! ## What a point leaves -/

/-- The first point of a point's tile. -/
def base (t : Fin cfg0.N) : Fin cfg0.N := ⟨2 * (t.val / 2), by have := t.isLt; omega⟩

theorem base_even (t : Fin cfg0.N) (h : t.val % 2 = 0) : base t = t := Fin.ext (by show 2 * (t.val / 2) = t.val; omega)
theorem base_odd (t : Fin cfg0.N) (h : ¬ t.val % 2 = 0) (hp : t.val - 1 < cfg0.N) : base ⟨t.val - 1, hp⟩ = base t :=
  Fin.ext (by show 2 * ((t.val - 1) / 2) = 2 * (t.val / 2); omega)

/-- The rows a tile's first point stores, permuted. -/
def rowsAt (t : Fin cfg0.N) : Vec F S1024x1024 .bf16 :=
  k0_pay4 (iblk m c 0 (base t)) (iblk m c 2 (base t)) (iblk m c 1 (base t)) (iblk m c 3 (base t))

/-- The narrow product a tile's first point stores. -/
def narrowAt (t : Fin cfg0.N) : Vec F S1x8x128x128 .f32 :=
  k0_pay1 (k0_pay3 (iblk m c 0 (base t)) (iblk m c 2 (base t)) (iblk m c 1 (base t)) (iblk m c 3 (base t))) (iblk m c 5 (base t))

/-- The wide product a point stores. -/
def wideAt (t : Fin cfg0.N) : Vec F S1x8x128x3072 .bf16 := k0_pay2 (rowsAt m c t) (iblk m c 4 t)

theorem rowsAt_odd (t : Fin cfg0.N) (h : ¬ t.val % 2 = 0) (hp : t.val - 1 < cfg0.N) : rowsAt m c ⟨t.val - 1, hp⟩ = rowsAt m c t := by
  unfold rowsAt; rw [base_odd t h hp]
theorem narrowAt_odd (t : Fin cfg0.N) (h : ¬ t.val % 2 = 0) (hp : t.val - 1 < cfg0.N) : narrowAt m c ⟨t.val - 1, hp⟩ = narrowAt m c t := by
  unfold narrowAt; rw [base_odd t h hp]

/-! ## The pipeline's data -/

/-- The carried rows' buffer. -/
abbrev scr : Memref sig .tc .vmem S1024x1024 .bf16 := Memref.whole cc0_scratch0

/-- Between points: at the start anything, afterwards the carried rows at what the last point's tile stored. -/
def inv : (n : ℕ) → n ≤ cfg0.N → sProp (MT nD τ sig Unit (Elt F) ℕ (UR sig nD τ) ℕ)
  | 0, _ => Pipeline.ΦA spec0 c
  | n + 1, hn => iprop(owns (c : Thread nD τ) scr fullShare (rowsAt m c ⟨n, hn⟩) ∗ (∃ r, prngReg c r))

/-- The invariant at the start, its buffer spelled as a memref. -/
theorem start_eq : (Pipeline.ΦA spec0 c : sProp (MT nD τ sig Unit (Elt F) ℕ (UR sig nD τ) ℕ))
    = iprop((∃ d, owns (c : Thread nD τ) scr fullShare d) ∗ (∃ r, prngReg c r)) := by
  unfold Pipeline.ΦA; rw [scopedRest0_eq]; simp only [owns_whole]; rfl

theorem inv_pos (n : ℕ) (h : n ≤ cfg0.N) (hz : n ≠ 0) :
    inv m c n h = iprop(owns (c : Thread nD τ) scr fullShare (rowsAt m c ⟨n - 1, by omega⟩) ∗ (∃ r, prngReg c r)) := by
  cases n with
  | zero => exact absurd rfl hz
  | succ n => rfl

/-- The invariant at any point gives the one at the start: the carried rows are forgotten. -/
theorem inv_forget (n : ℕ) (h : n ≤ cfg0.N) : inv m c n h ⊢ Pipeline.ΦA spec0 c := by
  cases n with
  | zero => exact Idealize.SL.BI.Entails.refl _
  | succ n =>
    rw [start_eq, inv_pos m c (n + 1) h (Nat.succ_ne_zero n)]
    iintro ⟨H, Hg⟩
    isplitl [H]
    · iexists _; iexact H
    iexact Hg

/-- The pipeline's data: the arrays as found, each input's block in place, the outputs at the payloads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => wideAt m c t
    | ⟨7, _⟩ => narrowAt m c t
  Φ t := inv m c t.val (Nat.le_of_lt_succ t.isLt)
  q _ := fullShare
  owed _ := 0

theorem arrays_eq (w : Fin cfg0.W) : (dats m 0 c).A w = V m c (Pipeline.arrRef spec0 w) := by dsimp only [dats]
theorem inv_start (t : Fin cfg0.N) : (dats m 0 c).Φ t.castSucc = inv m c t.val (Nat.le_of_lt t.isLt) := by
  dsimp only [dats]; exact Pipeline.Dat.Φ_castSucc (inv m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = wideAt m c t := by dsimp only [dats]
theorem after_7 (t : Fin cfg0.N) : (dats m 0 c).after 7 t = narrowAt m c t := by dsimp only [dats]

theorem before_0 (t : Fin cfg0.N) (d) : (dats m 0 c).before 0 t d = iblk m c 0 t := before0_0_of m (dats m 0 c) (arrays_eq m c 0) (after_0 m c) t d
theorem before_1 (t : Fin cfg0.N) (d) : (dats m 0 c).before 1 t d = iblk m c 1 t := before0_1_of m (dats m 0 c) (arrays_eq m c 1) (after_1 m c) t d
theorem before_2 (t : Fin cfg0.N) (d) : (dats m 0 c).before 2 t d = iblk m c 2 t := before0_2_of m (dats m 0 c) (arrays_eq m c 2) (after_2 m c) t d
theorem before_3 (t : Fin cfg0.N) (d) : (dats m 0 c).before 3 t d = iblk m c 3 t := before0_3_of m (dats m 0 c) (arrays_eq m c 3) (after_3 m c) t d
theorem before_4 (t : Fin cfg0.N) (d) : (dats m 0 c).before 4 t d = iblk m c 4 t := before0_4_of m (dats m 0 c) (arrays_eq m c 4) (after_4 m c) t d
theorem before_5 (t : Fin cfg0.N) (d) : (dats m 0 c).before 5 t d = iblk m c 5 t := before0_5_of m (dats m 0 c) (arrays_eq m c 5) (after_5 m c) t d

/-- A tile's second point finds the narrow product its first point stored. -/
theorem before_7 (t : Fin cfg0.N) (h : ¬ t.val % 2 = 0) (d) : (dats m 0 c).before 7 t d = narrowAt m c t := by
  have hp : t.val - 1 < cfg0.N := Nat.lt_of_le_of_lt (Nat.sub_le _ _) t.isLt
  have hf : (cfg0.win 7).flush ⟨t.val - 1, hp⟩ = false :=
    Bool.eq_false_iff.mpr fun e => by have := (flush0_7 _).mp e; dsimp only at this; omega
  have hi : cfg0.idle 7 (cfg0.grid.coords ⟨t.val - 1, hp⟩) = false := by
    refine (idle_iff ⟨t.val - 1, hp⟩).trans ?_
    rw [decide_eq_true (by omega : (t.val - 1) % 2 = 0)]; rfl
  rw [(dats m 0 c).before_of_pos 7 t (by omega) ((cfg0.win 7).fetch_out rfl t), hf, if_neg Bool.false_ne_true]
  unfold Dat.left
  rw [hi]
  unfold Dat.kept
  rw [Pipeline.fill_of_clip_none 7 _ (fun _ => rfl) d ((dats m 0 c).after 7 ⟨t.val - 1, hp⟩), Pipeline.Window.fill_cut, after_7,
    narrowAt_odd m c t h hp]

/-! ## The body at a point -/

/-- What the body is handed, -/
def bodyPre (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it leaves. -/
def bodyPost (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at a tile's first point. -/
theorem sound_first (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, inv_start]
  rw [show (dats m 0 c).Φ t.succ = iprop(owns (c : Thread nD τ) scr fullShare (rowsAt m c t) ∗ (∃ r, prngReg c r)) from rfl]
  refine (BIClass.sep_mono (inv_forget m c _ _) (Idealize.SL.BI.Entails.refl _)).trans ?_
  rw [start_eq]
  unfold wideAt narrowAt rowsAt
  rw [base_even t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c (grid0.coords t) _ _ _ _ _ _ _ _ _ _ _ _ _ _ _ _ _ _ (iblk m c 0 t) (iblk m c 1 t) (iblk m c 2 t)
    (iblk m c 3 t) (iblk m c 4 t) (iblk m c 5 t) ((first_iff t).mpr h) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The body at a tile's second point. -/
theorem sound_second (t : Fin cfg0.N) (h : ¬ t.val % 2 = 0) :
    bodyPre m c t ⊢ wp frame (wpE (defs₀ (F := F)) Variants.none c none) Set.univ (bodyAt0 t) (fun _ => bodyPost m c t) := by
  have hz : t.val ≠ 0 := fun e => h (by rw [e])
  unfold bodyPre bodyPost bodyAt0
  simp only [before_0, before_1, before_2, before_3, before_4, before_5, before_7 m c t h]
  rw [show (dats m 0 c).owesAt () t.succ = (dats m 0 c).owesAt () t.castSucc from rfl,
    after_0, after_1, after_2, after_3, after_4, after_5, after_6, after_7, inv_start, inv_pos m c _ _ hz, rowsAt_odd m c t h]
  rw [show (dats m 0 c).Φ t.succ = iprop(owns (c : Thread nD τ) scr fullShare (rowsAt m c t) ∗ (∃ r, prngReg c r)) from rfl]
  unfold wideAt
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_second c (grid0.coords t) _ _ _ _ _ _ _ _ _ _ _ _ _ _ _ _ _ _ (iblk m c 0 t) (iblk m c 1 t) (iblk m c 2 t)
    (iblk m c 3 t) (iblk m c 4 t) (iblk m c 5 t) (fun e => h ((first_iff t).mp e)) (rowsAt m c t) (narrowAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_point (t : Fin cfg0.N) :
    bodyPre m c t ⊢ wp frame (wpE (defs₀ (F := F)) Variants.none c none) Set.univ (bodyAt0 t) (fun _ => bodyPost m c t) := by
  by_cases h : t.val % 2 = 0
  · exact sound_first m c t h
  · exact sound_second m c t h

/-- The body table's row at a point is the body. -/
theorem row_eq (t : Fin cfg0.N) : defs₀ (F := F) .tc cfg0.body (cfg0.bodyArgs t (cfg0.slots t)) = bodyAt0 t := by
  unfold defs₀; rw [Defs.onTc_tc]

/-- The narrow product's block is left live, or written back. -/
theorem live_or_flush (t : Fin cfg0.N) : cfg0.idle 7 (cfg0.grid.coords t) = false ∨ (cfg0.win 7).flush t = true := by
  by_cases h : t.val % 2 = 0
  · exact .inl ((idle_iff t).trans (by rw [decide_eq_true h]; rfl))
  · exact .inr ((flush0_7 t).mpr (by omega))

/-- The pipeline's obligation on the body. -/
theorem obligation : BodyObligation (dats (F := F) m 0 c) (defs₀ (F := F)) Variants.none () Set.univ := fun t => by
  rw [bigSep_W0, bigSep_W0, row_eq]
  refine triple_restated (sound_point m c t) rfl .rfl fun _ => ?_
  unfold bodyPost
  rcases live_or_flush t with h | h
  · rw [h]
  · rw [h]
    cases cfg0.idle 7 (cfg0.grid.coords t) <;> exact .rfl

/-! ## The run -/

theorem enter : Pipeline.ΦA spec0 c ⊢ (dats m 0 c).Φ 0 := Idealize.SL.BI.Entails.refl _
theorem leave : (dats m 0 c).Φ (Fin.last cfg0.N) ⊢ Pipeline.ΦA spec0 c := inv_forget m c cfg0.N (Nat.le_refl _)

set_option backward.isDefEq.respectTransparency.types false in
/-- The program runs, every array ends at what its points wrote back, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hin := enter m) (hout := leave m)

/-- The run without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays_eq m) (run_arrays m ρ)) ((θ_run defs _ _).mono (fun _ h => h.2) (run_quiescent m ρ))

end Cert.ColprojIdeal.Gen

end
-- ==== Proof.ColPay.lean ====
/-
  The column-major projection's payloads at an index: a tile's rows, normalised, modulated and reordered by a matrix, and their
  product with a block of the weights.
-/
module

public import proofs.«01_k».proof.Proof.Norm
public import proofs.«01_k».proof.Proof.ColFrame
public import Idealize.ShloMosaic.Lib.Pipeline.ValueKit.Point

@[expose] public section

set_option maxRecDepth 16384

noncomputable section

namespace Cert.ColprojIdeal.Gen

open Idealize.ShloMosaic Idealize.ShloMosaic.TcCoe Idealize.ShloMosaic.Tactic
open Cert.Norm

/-- The rows' modulated layer norm, times the reordering matrix. -/
theorem pay3_apply (x : Vec Ideal S1x128x8x1024 .f32) (sc sh : Vec Ideal S1x1x1024 .f32) (p : Vec Ideal S1024x1024 .bf16) (i k : Fin 1024) :
    k0_pay3 x sc sh p (ix2 i k) = ∑ j : Fin 1024, p (ix2 i j)
      * modulated (fun l => x (ix4 0 ⟨j.val / 8, by omega⟩ ⟨j.val % 8, by omega⟩ l)) (fun l => sh (ix3 0 0 l)) (fun l => sc (ix3 0 0 l)) k := by
  pointwise [k0_pay3, modulated, normed, centred, mean]

/-- The carried rows are the reordered rows. -/
theorem pay4_apply (x : Vec Ideal S1x128x8x1024 .f32) (sc sh : Vec Ideal S1x1x1024 .f32) (p : Vec Ideal S1024x1024 .bf16) (i k : Fin 1024) :
    k0_pay4 x sc sh p (ix2 i k) = k0_pay3 x sc sh p (ix2 i k) := by
  pointwise [k0_pay4]

/-- The narrow product. -/
theorem pay1_apply (u : Vec Ideal S1024x1024 .bf16) (w : Vec Ideal S1024x128 .bf16) (z : Fin 1) (a : Fin 8) (r : Fin 128) (e : Fin 128) :
    k0_pay1 u w (ix4 z a r e) = ∑ k : Fin 1024, u (ix2 ⟨a.val * 128 + r.val, by omega⟩ k) * w (ix2 k e) := by
  pointwise [k0_pay1]

/-- The wide product. -/
theorem pay2_apply (u : Vec Ideal S1024x1024 .bf16) (w : Vec Ideal S1024x3072 .bf16) (z : Fin 1) (a : Fin 8) (r : Fin 128) (e : Fin 3072) :
    k0_pay2 u w (ix4 z a r e) = ∑ k : Fin 1024, u (ix2 ⟨a.val * 128 + r.val, by omega⟩ k) * w (ix2 k e) := by
  pointwise [k0_pay2]

end Cert.ColprojIdeal.Gen

end
-- ==== Proof.ColFold.lean ====
/-
  The column-major projection's blocks at an index, and the two products each point stores.
-/
module

public import proofs.«01_k».proof.Proof.ColPay
public import Idealize.ShloMosaic.Lib.Pipeline.ValueKit
public import Idealize.ShloMosaic.Lib.Pipeline.ReadBack

@[expose] public section

set_option maxRecDepth 16384

noncomputable section

namespace Cert.ColprojIdeal.Gen

open Idealize.ShloMosaic Idealize.ShloMosaic.TcCoe Idealize.ShloMosaic.Tactic Idealize.ShloMosaic.StableHlo
open Cert.Norm Cert.ColprojIdeal.Facts₀ Cert.ColprojIdeal.Facts

variable (m : (ℓ : Loc nD τ sig) → Buf (Elt Ideal) ℓ) (c : Dev nD) (t : Fin cfg0.N)

/-- The windows' block indices at each point. -/
theorem idx_facts : ∀ t : Fin cfg0.N,
    win0_0.index t = ![t.val / 16, 0, t.val / 2 % 8, 0] ∧ win0_1.index t = ![t.val / 16, 0, 0] ∧ win0_2.index t = ![t.val / 16, 0, 0]
    ∧ win0_3.index t = ![0, 0] ∧ win0_4.index t = ![0, t.val % 2] ∧ win0_5.index t = ![0, 0]
    ∧ win0_6.index t = ![t.val / 16, t.val / 2 % 8, 0, t.val % 2] ∧ win0_7.index t = ![t.val / 16, t.val / 2 % 8, 0, 0] :=
  (by decide +kernel : ∀ t : Fin grid0.N, _)

/-- A row of a batch of the input. -/
def argX (b : Fin 8) (n : Fin 8192) (k : Fin 1024) : EReal := m ((c : Thread nD τ).loc main_arg0) (ix3 b n k)
/-- A batch's shift. -/
def argSh (b : Fin 8) (k : Fin 1024) : EReal := m ((c : Thread nD τ).loc main_arg1) (ix3 b 0 k)
/-- A batch's scale. -/
def argSc (b : Fin 8) (k : Fin 1024) : EReal := m ((c : Thread nD τ).loc main_arg2) (ix3 b 0 k)
/-- A column of the wide weights. -/
def argW (e : Fin 6144) (k : Fin 1024) : EReal := m ((c : Thread nD τ).loc main_arg3) (ix2 k e)
/-- A column of the narrow weights. -/
def argN (e : Fin 128) (k : Fin 1024) : EReal := m ((c : Thread nD τ).loc main_arg4) (ix2 k e)

/-- The point's batch. -/
def tbatch (t : Fin cfg0.N) : Fin 8 := ⟨t.val / 16, by have := lt_of_lt_of_eq t.isLt (show cfg0.N = 128 from N_0); omega⟩
/-- A column of the image, of the point's tile of eight. -/
def tcolumn (t : Fin cfg0.N) (a : Fin 8) : Fin 64 := ⟨t.val / 2 % 8 * 8 + a.val, by omega⟩
/-- The input's row at a row and a column of the image. -/
def token (r : Fin 128) (w : Fin 64) : Fin 8192 := ⟨r.val * 64 + w.val, by omega⟩
/-- The point's half of the wide weights, one of its columns. -/
def thalf (t : Fin cfg0.N) (e : Fin 3072) : Fin 6144 := ⟨t.val % 2 * 3072 + e.val, by omega⟩

/-- The input as the call finds it, its rows laid out as the image. -/
theorem image_apply (b : Fin 8) (r : Fin 128) (w : Fin 64) (k : Fin 1024) : V m c main_v0 (ix4 b r w k) = argX m c b (token r w) k := by
  unfold argX token V
  simp only [List.flatten_cons, List.flatten_nil, List.append_nil, List.cons_append, List.nil_append]
  after_results_simp
  pointwise

theorem iblk0_apply (r : Fin 128) (a : Fin 8) (k : Fin 1024) : iblk m c 0 t (ix4 0 r a k) = argX m c (tbatch t) (token r (tcolumn t a)) k := by
  refine Eq.trans ?_ (image_apply m c (tbatch t) r (tcolumn t a) k)
  unfold tbatch tcolumn
  blk_ext [iblk, idx_facts t]
theorem iblk1_apply (k : Fin 1024) : iblk m c 1 t (ix3 0 0 k) = argSh m c (tbatch t) k := by
  unfold argSh tbatch
  blk_ext [iblk, V, idx_facts t]
theorem iblk2_apply (k : Fin 1024) : iblk m c 2 t (ix3 0 0 k) = argSc m c (tbatch t) k := by
  unfold argSc tbatch
  blk_ext [iblk, V, idx_facts t]
theorem iblk4_apply (k : Fin 1024) (e : Fin 3072) : iblk m c 4 t (ix2 k e) = argW m c (thalf t e) k := by
  unfold argW thalf
  blk_ext [iblk, V, idx_facts t]
theorem iblk5_apply (k : Fin 1024) (e : Fin 128) : iblk m c 5 t (ix2 k e) = argN m c e k := by
  unfold argN
  blk_ext [iblk, V, idx_facts t]

/-- The reordering matrix, as computed before the call. -/
def matrix : Vec Ideal S1024x1024 .bf16 :=
  truncf (F := Ideal) .bf16 (shapeCast S1024x1024 (select
      (cmpi .eq (iotaInDim S8x128x1024 32 2) (addi (muli (iotaInDim S8x128x1024 32 1)
        (broadcastInDim S8x128x1024 ![] bcast_S_S8x128x1024 (constantI S_ 32 8#32))) (iotaInDim S8x128x1024 32 0)))
      (broadcastInDim S8x128x1024 ![] bcast_S_S8x128x1024 (constant (F := Ideal) S_ .f32 0x3F800000#32))
      (broadcastInDim S8x128x1024 ![] bcast_S_S8x128x1024 (constant (F := Ideal) S_ .f32 0x00000000#32)))
    shapeCasts_S8x128x1024_S1024x1024) bitsLt_bf16_f32

/-- The call finds it. -/
theorem entry_matrix : V m c main_v10 = matrix := by
  unfold V
  simp only [List.flatten_cons, List.flatten_nil, List.append_nil, List.cons_append, List.nil_append]
  after_results_simp
  rfl

/-- Its row `128 a + r` is one at `8 r + a`, zero elsewhere. -/
theorem matrix_apply (i j : Fin 1024) : matrix (ix2 i j) = if j.val = i.val % 128 * 8 + i.val / 128 then (1 : EReal) else 0 := by
  have h : IntOp.addi (IntOp.muli (BitVec.ofNat 32 (i.val % 128)) 8#32) (BitVec.ofNat 32 (i.val / 128))
      = BitVec.ofNat 32 (i.val % 128 * 8 + i.val / 128) := by
    show BitVec.ofNat 32 (i.val % 128) * BitVec.ofNat 32 8 + BitVec.ofNat 32 (i.val / 128) = _
    rw [← BitVec.ofNat_mul, ← BitVec.ofNat_add]
  have hi : i.val % 128 * 8 + i.val / 128 < 2 ^ 32 := by omega
  have hj : j.val < 2 ^ 32 := by omega
  pointwise [matrix]
  rw [h]
  by_cases e : j.val = i.val % 128 * 8 + i.val / 128
  · rw [if_pos e, e]
    have e2 : IntOp.cmpi .eq (BitVec.ofNat 32 (i.val % 128 * 8 + i.val / 128)) (BitVec.ofNat 32 (i.val % 128 * 8 + i.val / 128)) = 1#1 := by
      unfold IntOp.cmpi
      simp only [beq_self_eq_true]
      rfl
    rw [e2]
    rfl
  · rw [if_neg e]
    have e2 : IntOp.cmpi .eq (BitVec.ofNat 32 j.val) (BitVec.ofNat 32 (i.val % 128 * 8 + i.val / 128)) = 0#1 := by
      have hne : BitVec.ofNat 32 j.val ≠ BitVec.ofNat 32 (i.val % 128 * 8 + i.val / 128) := fun w => e (by
        have := congrArg BitVec.toNat w
        rwa [BitVec.toNat_ofNat, BitVec.toNat_ofNat, Nat.mod_eq_of_lt hi, Nat.mod_eq_of_lt hj] at this)
      unfold IntOp.cmpi
      simp only [beq_eq_false_iff_ne.mpr hne]
      rfl
    rw [e2]
    rfl

theorem iblk3_apply (i j : Fin 1024) : iblk m c 3 t (ix2 i j) = if j.val = i.val % 128 * 8 + i.val / 128 then (1 : EReal) else 0 := by
  refine Eq.trans ?_ ((congrFun (entry_matrix m c) (ix2 i j)).trans (matrix_apply i j))
  blk_ext [iblk, idx_facts t]

/-! ## What each point stores -/

theorem tbatch_base : tbatch (base t) = tbatch t := Fin.ext (by show 2 * (t.val / 2) / 16 = t.val / 16; omega)
theorem tcolumn_base (a : Fin 8) : tcolumn (base t) a = tcolumn t a :=
  Fin.ext (by show 2 * (t.val / 2) / 2 % 8 * 8 + a.val = t.val / 2 % 8 * 8 + a.val; omega)

/-- A tile's rows, normalised and modulated, column by column of the image. -/
theorem stored_rows (a : Fin 8) (r : Fin 128) (k : Fin 1024) :
    k0_pay3 (iblk m c 0 (base t)) (iblk m c 2 (base t)) (iblk m c 1 (base t)) (iblk m c 3 (base t)) (ix2 ⟨a.val * 128 + r.val, by omega⟩ k)
      = modulated (argX m c (tbatch t) (token r (tcolumn t a))) (argSh m c (tbatch t)) (argSc m c (tbatch t)) k := by
  refine (pay3_apply _ _ _ _ _ k).trans ?_
  refine (Finset.sum_eq_single (⟨r.val * 8 + a.val, by omega⟩ : Fin 1024) (fun j _ hj => ?_) (fun h => absurd (Finset.mem_univ _) h)).trans ?_
  · rw [iblk3_apply, if_neg (fun e => hj (Fin.ext (by dsimp only at e ⊢; omega))), zero_mul]
  · rw [iblk3_apply, if_pos (by dsimp only; omega), one_mul]
    simp only [iblk0_apply, iblk1_apply, iblk2_apply, tbatch_base, tcolumn_base]
    rw [show (⟨(r.val * 8 + a.val) / 8, by omega⟩ : Fin 128) = r from Fin.ext (by dsimp only; omega),
      show (⟨(r.val * 8 + a.val) % 8, by omega⟩ : Fin 8) = a from Fin.ext (by dsimp only; omega)]

/-- The wide product a point stores. -/
theorem wide_point (z : Fin 1) (a : Fin 8) (r : Fin 128) (e : Fin 3072) : wideAt m c t (ix4 z a r e)
    = project (argX m c (tbatch t) (token r (tcolumn t a))) (argSh m c (tbatch t)) (argSc m c (tbatch t)) (argW m c (thalf t e)) := by
  unfold wideAt rowsAt project
  refine (pay2_apply _ _ z a r e).trans (Finset.sum_congr rfl fun k _ => congrArg₂ _ ?_ (iblk4_apply m c t k e))
  exact (pay4_apply _ _ _ _ _ k).trans (stored_rows m c t a r k)

/-- The narrow product a tile's first point stores. -/
theorem narrow_point (z : Fin 1) (a : Fin 8) (r : Fin 128) (e : Fin 128) : narrowAt m c t (ix4 z a r e)
    = project (argX m c (tbatch t) (token r (tcolumn t a))) (argSh m c (tbatch t)) (argSc m c (tbatch t)) (argN m c e) := by
  unfold narrowAt project
  exact (pay1_apply _ _ z a r e).trans (Finset.sum_congr rfl fun k _ => congrArg₂ _ (stored_rows m c t a r k) (iblk5_apply m c _ k e))

/-! ## The two arrays after the run -/

/-- The wide result. -/
def wide : S8x64x128x6144.Idx → EReal := fun i =>
  project (argX m c (i 0) (token (i 2) (i 1))) (argSh m c (i 0)) (argSc m c (i 0)) (argW m c (i 3))
/-- The narrow result. -/
def narrow : S8x64x128x128.Idx → EReal := fun i =>
  project (argX m c (i 0) (token (i 2) (i 1))) (argSh m c (i 0)) (argSc m c (i 0)) (argN m c (i 3))

/-- The point that writes an index of the wide result back. -/
def wideWriter (b : Fin 8) (w : Fin 64) (e : Fin 6144) : Fin cfg0.N :=
  ⟨16 * b.val + 2 * (w.val / 8) + e.val / 3072, by rw [show cfg0.N = 128 from N_0]; omega⟩
/-- The point that writes an index of the narrow result back. -/
def narrowWriter (b : Fin 8) (w : Fin 64) : Fin cfg0.N :=
  ⟨16 * b.val + 2 * (w.val / 8) + 1, by rw [show cfg0.N = 128 from N_0]; omega⟩

/-- Some point writes each index of the wide result back. -/
theorem wide_covered (i : S8x64x128x6144.Idx) : ∃ t : Fin cfg0.N, (cfg0.win 6).flush t = true ∧ i ∈ ((cfg0.win 6).blk t).view.set := by
  refine ⟨wideWriter (i 0) (i 1) (i 3), flush0_6 _, ?_⟩
  have h0 : (i 0).val < 8 := (i 0).isLt
  have h1 : (i 1).val < 64 := (i 1).isLt
  have h2 : (i 2).val < 128 := (i 2).isLt
  have h3 : (i 3).val < 6144 := (i 3).isLt
  have hv : (wideWriter (i 0) (i 1) (i 3)).val = 16 * (i 0).val + 2 * ((i 1).val / 8) + (i 3).val / 3072 := rfl
  mem_blk [idx_facts]
  omega

/-- Some point writes each index of the narrow result back. -/
theorem narrow_covered (i : S8x64x128x128.Idx) : ∃ t : Fin cfg0.N, (cfg0.win 7).flush t = true ∧ i ∈ ((cfg0.win 7).blk t).view.set := by
  have h0 : (i 0).val < 8 := (i 0).isLt
  have h1 : (i 1).val < 64 := (i 1).isLt
  have h2 : (i 2).val < 128 := (i 2).isLt
  have h3 : (i 3).val < 128 := (i 3).isLt
  have hv : (narrowWriter (i 0) (i 1)).val = 16 * (i 0).val + 2 * ((i 1).val / 8) + 1 := rfl
  refine ⟨narrowWriter (i 0) (i 1), (flush0_7 _).mpr (by omega), ?_⟩
  mem_blk [idx_facts]
  omega

/-- An element of a point's block of the wide result, in the array. -/
theorem wide_place (z : Fin 1) (a : Fin 8) (r : Fin 128) (e : Fin 3072) :
    (win0_6.blk t).view.emb (ix4 z a r e) = ix4 (tbatch t) (tcolumn t a) r (thalf t e) := by
  unfold tbatch tcolumn thalf
  blk_ext [idx_facts t]

/-- An element of a point's block of the narrow result, in the array. -/
theorem narrow_place (z : Fin 1) (a : Fin 8) (r : Fin 128) (e : Fin 128) :
    (win0_7.blk t).view.emb (ix4 z a r e) = ix4 (tbatch t) (tcolumn t a) r e := by
  unfold tbatch tcolumn
  blk_ext [idx_facts t]

/-- The wide result's array after the run. -/
theorem wide_final : (dats m 0 c).arrAt 6 cfg0.N = wide m c := by
  refine (dats m 0 c).arrAt_eq_of_cover 6 _ (fun t hf => ?_) wide_covered
  funext y
  blk_simp
  rw [after_6]
  obtain ⟨z, a, r, e, rfl⟩ : ∃ (z : Fin 1) (a : Fin 8) (r : Fin 128) (e : Fin 3072), y = ix4 z a r e := ⟨y 0, y 1, y 2, y 3, eq_ix4 y⟩
  exact (wide_point m c t z a r e).trans (congrArg (wide m c) (wide_place t z a r e)).symm

/-- The narrow result's array after the run. -/
theorem narrow_final : (dats m 0 c).arrAt 7 cfg0.N = narrow m c := by
  refine (dats m 0 c).arrAt_eq_of_cover 7 _ (fun t hf => ?_) narrow_covered
  funext y
  blk_simp
  rw [after_7]
  obtain ⟨z, a, r, e, rfl⟩ : ∃ (z : Fin 1) (a : Fin 8) (r : Fin 128) (e : Fin 128), y = ix4 z a r e := ⟨y 0, y 1, y 2, y 3, eq_ix4 y⟩
  exact (narrow_point m c t z a r e).trans (congrArg (narrow m c) (narrow_place t z a r e)).symm

/-- The run leaves the two results, the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v11_0) = wide m c
      ∧ r.2.mem ((c.tc : Thread nD τ).loc main_v11_1) = narrow m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 6).trans (wide_final m c), ((h.1 c).1 7).trans (narrow_final m c), h.2.1 c⟩)
    (θ_run_and (run_arrays m ρ) (frame m ρ))

end Cert.ColprojIdeal.Gen

end
-- ==== Proof.ColRef.lean ====
/-
  The column-major projection's reference at an index.
-/
module

public import proofs.«01_k».proof.Proof.Norm
public import proofs.«01_k».proof.Proof.Gen.ColprojReferenceIdeal.Run

@[expose] public section

set_option maxRecDepth 16384

noncomputable section

namespace Cert.ColprojReferenceIdeal.Value

open Idealize.ShloMosaic Idealize.ShloMosaic.TcCoe Idealize.ShloMosaic.Tactic Idealize.ShloMosaic.StableHlo
open Cert.ColprojReferenceIdeal Cert.ColprojReferenceIdeal.Facts Cert.ColprojReferenceIdeal.Gen Cert.Norm

variable {F : FTy → Type} [FloatOps F]

/-- Each row's mean. -/
def refMean (x : FVec F S8x8192x1024 .f32) : FVec F S8x8192x1 .f32 :=
  Host.divf (broadcastInDim S8x8192x1 ![0, 1] bcast_S8x8192_S8x8192x1_0_1
      (Host.reduceAdd x (constant S_ .f32 0x00000000#32) reducesTo_S8x8192x1024_S8x8192_d2 h_S_))
    (broadcastInDim S8x8192x1 ![] bcast_S_S8x8192x1 (constant S_ .f32 0x44800000#32))

/-- Each row less its mean. -/
def refCentred (x : FVec F S8x8192x1024 .f32) : FVec F S8x8192x1024 .f32 :=
  subf x (broadcastInDim S8x8192x1024 ![0, 1, 2] bcast_S8x8192x1_S8x8192x1024_0_1_2 (refMean x))

/-- Each row's layer norm. -/
def refNormed (x : FVec F S8x8192x1024 .f32) : FVec F S8x8192x1024 .f32 :=
  mulf (refCentred x) (broadcastInDim S8x8192x1024 ![0, 1, 2] bcast_S8x8192x1_S8x8192x1024_0_1_2
    (Host.rsqrt (addf (refMean (mulf (refCentred x) (refCentred x))) (broadcastInDim S8x8192x1 ![] bcast_S_S8x8192x1 (constant S_ .f32 0x358637BD#32)))))

/-- The layer norm, scaled and shifted. -/
def refModulated (x : FVec F S8x8192x1024 .f32) (sh sc : FVec F S8x1x1024 .f32) : FVec F S8x8192x1024 .f32 :=
  addf (mulf (refNormed x) (broadcastInDim S8x8192x1024 ![0, 1, 2] bcast_S8x1x1024_S8x8192x1024_0_1_2
      (addf (broadcastInDim S8x1x1024 ![] bcast_S_S8x1x1024 (constant S_ .f32 0x3F800000#32)) sc)))
    (broadcastInDim S8x8192x1024 ![0, 1, 2] bcast_S8x1x1024_S8x8192x1024_0_1_2 sh)

/-- The wide projection, its rows read column by column of the image. -/
def refWide (x : FVec F S8x8192x1024 .f32) (sh sc : FVec F S8x1x1024 .f32) (w : FVec F S1024x6144 .bf16) : FVec F S8x64x128x6144 .bf16 :=
  truncf .bf16 (shapeCast _ (shapeCast _ (transpose S8x64x128x6144 [0, 2, 1, 3] (shapeCast _
    (Host.dotGeneral dot_S8x8192x1024_S1024x6144_S8x8192x6144_2_0_01_1_n_n none (refModulated x sh sc) (extf .f32 w bitsLt_bf16_f32))
    shapeCasts_S8x8192x6144_S8x128x64x6144) transposes_S8x128x64x6144_S8x64x128x6144_0_2_1_3) shapeCasts_S8x64x128x6144_S8x8192x6144)
    shapeCasts_S8x8192x6144_S8x64x128x6144) bitsLt_bf16_f32

/-- The narrow projection, likewise. -/
def refNarrow (x : FVec F S8x8192x1024 .f32) (sh sc : FVec F S8x1x1024 .f32) (w : FVec F S1024x128 .bf16) : FVec F S8x64x128x128 .f32 :=
  shapeCast _ (shapeCast _ (transpose S8x64x128x128 [0, 2, 1, 3] (shapeCast _
    (Host.dotGeneral dot_S8x8192x1024_S1024x128_S8x8192x128_2_0_01_1_n_n none (refModulated x sh sc) (extf .f32 w bitsLt_bf16_f32))
    shapeCasts_S8x8192x128_S8x128x64x128) transposes_S8x128x64x128_S8x64x128x128_0_2_1_3) shapeCasts_S8x64x128x128_S8x8192x128)
    shapeCasts_S8x8192x128_S8x64x128x128

/-- The reference's run leaves the two projections, its arguments unchanged. -/
theorem run_projections (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = refWide (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v36) = refNarrow (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := run m ρ

/-- A row's mean, at an index. -/
theorem refMean_apply (x : FVec Ideal S8x8192x1024 .f32) (b : Fin 8) (t : Fin 8192) (z : Fin 1) :
    refMean x (ix3 b t z) = mean (fun k => x (ix3 b t k)) := by
  pointwise [refMean, mean]

/-- A row less its mean, at an index. -/
theorem refCentred_apply (x : FVec Ideal S8x8192x1024 .f32) (b : Fin 8) (t : Fin 8192) (k : Fin 1024) :
    refCentred x (ix3 b t k) = centred (fun j => x (ix3 b t j)) k := by
  pointwise [refCentred, refMean_apply, centred]

/-- The layer norm, at an index. -/
theorem refNormed_apply (x : FVec Ideal S8x8192x1024 .f32) (b : Fin 8) (t : Fin 8192) (k : Fin 1024) :
    refNormed x (ix3 b t k) = normed (fun j => x (ix3 b t j)) k := by
  pointwise [refNormed, refMean_apply, refCentred_apply, normed]

/-- The modulated layer norm, at an index. -/
theorem refModulated_apply (x : FVec Ideal S8x8192x1024 .f32) (sh sc : FVec Ideal S8x1x1024 .f32) (b : Fin 8) (t : Fin 8192) (k : Fin 1024) :
    refModulated x sh sc (ix3 b t k) = modulated (fun j => x (ix3 b t j)) (fun j => sh (ix3 b 0 j)) (fun j => sc (ix3 b 0 j)) k := by
  pointwise [refModulated, refNormed_apply, modulated]

/-- The wide projection, at an index: of row `64 r + w`, the image's row `r` and column `w`. -/
theorem refWide_apply (x : FVec Ideal S8x8192x1024 .f32) (sh sc : FVec Ideal S8x1x1024 .f32) (wt : FVec Ideal S1024x6144 .bf16)
    (b : Fin 8) (w : Fin 64) (r : Fin 128) (e : Fin 6144) :
    refWide x sh sc wt (ix4 b w r e) = project (fun j => x (ix3 b ⟨r.val * 64 + w.val, by omega⟩ j)) (fun j => sh (ix3 b 0 j))
      (fun j => sc (ix3 b 0 j)) (fun j => wt (ix2 j e)) := by
  pointwise [refWide, refModulated_apply, project]

/-- The narrow projection, at an index. -/
theorem refNarrow_apply (x : FVec Ideal S8x8192x1024 .f32) (sh sc : FVec Ideal S8x1x1024 .f32) (wt : FVec Ideal S1024x128 .bf16)
    (b : Fin 8) (w : Fin 64) (r : Fin 128) (e : Fin 128) :
    refNarrow x sh sc wt (ix4 b w r e) = project (fun j => x (ix3 b ⟨r.val * 64 + w.val, by omega⟩ j)) (fun j => sh (ix3 b 0 j))
      (fun j => sc (ix3 b 0 j)) (fun j => wt (ix2 j e)) := by
  pointwise [refNarrow, refModulated_apply, project]

end Cert.ColprojReferenceIdeal.Value

end
-- ==== Proof.ColEquation.lean ====
/-
  The column-major projection's equations: from equal arguments, the kernel's two results are the reference's.
-/
module

public import proofs.«01_k».proof.Proof.ColFold
public import proofs.«01_k».proof.Proof.ColRef

@[expose] public section

set_option maxRecDepth 16384

noncomputable section

namespace Cert.Equation

open Idealize.ShloMosaic Idealize.ShloMosaic.TcCoe Idealize.ShloMosaic.Tactic Cert.Norm

/-- The wide projection, computed by the kernel, is the wide projection of the reference, from the same arrays. -/
theorem colproj_wide_eq (m : (ℓ : Loc Cert.ColprojIdeal.nD Cert.ColprojIdeal.τ Cert.ColprojIdeal.sig) → Buf (Elt Ideal) ℓ) (c : Dev Cert.ColprojIdeal.nD) :
    (Cert.ColprojReferenceIdeal.Value.refWide (F := Ideal) (m ((c.tc : Thread Cert.ColprojIdeal.nD Cert.ColprojIdeal.τ).loc Cert.ColprojIdeal.main_arg0))
      (m ((c.tc : Thread Cert.ColprojIdeal.nD Cert.ColprojIdeal.τ).loc Cert.ColprojIdeal.main_arg1))
      (m ((c.tc : Thread Cert.ColprojIdeal.nD Cert.ColprojIdeal.τ).loc Cert.ColprojIdeal.main_arg2))
      (m ((c.tc : Thread Cert.ColprojIdeal.nD Cert.ColprojIdeal.τ).loc Cert.ColprojIdeal.main_arg3)) : Cert.ColprojIdeal.S8x64x128x6144.Idx → EReal)
      = Cert.ColprojIdeal.Gen.wide m c := by
  funext i
  obtain ⟨b, w, r, e, rfl⟩ : ∃ (b : Fin 8) (w : Fin 64) (r : Fin 128) (e : Fin 6144), i = ix4 b w r e := ⟨i 0, i 1, i 2, i 3, eq_ix4 i⟩
  exact Cert.ColprojReferenceIdeal.Value.refWide_apply _ _ _ _ b w r e

/-- The narrow projection, computed by the kernel, is the narrow projection of the reference, from the same arrays. -/
theorem colproj_narrow_eq (m : (ℓ : Loc Cert.ColprojIdeal.nD Cert.ColprojIdeal.τ Cert.ColprojIdeal.sig) → Buf (Elt Ideal) ℓ) (c : Dev Cert.ColprojIdeal.nD) :
    (Cert.ColprojReferenceIdeal.Value.refNarrow (F := Ideal) (m ((c.tc : Thread Cert.ColprojIdeal.nD Cert.ColprojIdeal.τ).loc Cert.ColprojIdeal.main_arg0))
      (m ((c.tc : Thread Cert.ColprojIdeal.nD Cert.ColprojIdeal.τ).loc Cert.ColprojIdeal.main_arg1))
      (m ((c.tc : Thread Cert.ColprojIdeal.nD Cert.ColprojIdeal.τ).loc Cert.ColprojIdeal.main_arg2))
      (m ((c.tc : Thread Cert.ColprojIdeal.nD Cert.ColprojIdeal.τ).loc Cert.ColprojIdeal.main_arg4)) : Cert.ColprojIdeal.S8x64x128x128.Idx → EReal)
      = Cert.ColprojIdeal.Gen.narrow m c := by
  funext i
  obtain ⟨b, w, r, e, rfl⟩ : ∃ (b : Fin 8) (w : Fin 64) (r : Fin 128) (e : Fin 128), i = ix4 b w r e := ⟨i 0, i 1, i 2, i 3, eq_ix4 i⟩
  exact Cert.ColprojReferenceIdeal.Value.refNarrow_apply _ _ _ _ b w r e

end Cert.Equation

end
-- ==== Proof.CtxRowPay.lean ====
/-
  The context's row-major projection's two payloads at an index: the modulated layer norm of a tile of rows, and its product with a
  tile of the weights.
-/
module

public import proofs.«01_k».proof.Proof.Norm
public import proofs.«01_k».proof.Proof.Gen.CtxrowIdeal.Value
public import Idealize.ShloMosaic.Lib.Pipeline.ValueKit.Point

@[expose] public section

set_option maxRecDepth 16384

noncomputable section

namespace Cert.CtxrowIdeal.Gen

open Idealize.ShloMosaic Idealize.ShloMosaic.TcCoe Idealize.ShloMosaic.Tactic
open Cert.Norm

/-- The rows' modulated layer norm. -/
theorem pay1_apply (x : Vec Ideal S256x1024 .f32) (sc sh : Vec Ideal S1x1x1024 .f32) (r : Fin 256) (k : Fin 1024) :
    k0_pay1 x sc sh (ix2 r k) = modulated (fun j => x (ix2 r j)) (fun j => sh (ix3 0 0 j)) (fun j => sc (ix3 0 0 j)) k := by
  pointwise [k0_pay1, modulated, normed, centred, mean]

/-- The product. -/
theorem pay2_apply (u : Vec Ideal S256x1024 .bf16) (w : Vec Ideal S1024x3584 .bf16) (r : Fin 256) (e : Fin 3584) :
    k0_pay2 u w (ix2 r e) = ∑ k : Fin 1024, u (ix2 r k) * w (ix2 k e) := by
  pointwise [k0_pay2]

end Cert.CtxrowIdeal.Gen

end
-- ==== Proof.CtxRowFold.lean ====
/-
  The context's row-major projection's result array at an index: a tile's first point normalises its rows into the carried buffer and
  multiplies them by the first half of the weights, its second point multiplies them by the other half.
-/
module

public import proofs.«01_k».proof.Proof.CtxRowPay
public import Idealize.ShloMosaic.Lib.Pipeline.ValueKit
public import Idealize.ShloMosaic.Lib.Pipeline.ReadBack

@[expose] public section

set_option maxRecDepth 16384

noncomputable section

namespace Cert.CtxrowIdeal.Gen

open Idealize.ShloMosaic Idealize.ShloMosaic.TcCoe Idealize.ShloMosaic.Tactic
open Cert.Norm

variable (m : (ℓ : Loc nD τ sig) → Buf (Elt Ideal) ℓ) (c : Dev nD) (t : Fin cfg0.N)

/-- The windows' block indices at each point. -/
theorem idx_facts : ∀ t : Fin cfg0.N,
    win0_0.index t = ![t.val / 2, 0] ∧ win0_1.index t = ![t.val / 2, 0, 0] ∧ win0_2.index t = ![t.val / 2, 0, 0]
    ∧ win0_3.index t = ![0, t.val % 2] :=
  (by decide +kernel : ∀ t : Fin grid0.N, _)

/-- A row of the input. -/
def argX (r : Fin 2048) (k : Fin 1024) : EReal := m ((c : Thread nD τ).loc main_arg0) (ix2 r k)
/-- A batch's shift. -/
def argSh (b : Fin 8) (k : Fin 1024) : EReal := m ((c : Thread nD τ).loc main_arg1) (ix3 b 0 k)
/-- A batch's scale. -/
def argSc (b : Fin 8) (k : Fin 1024) : EReal := m ((c : Thread nD τ).loc main_arg2) (ix3 b 0 k)
/-- A column of the weights. -/
def argW (e : Fin 7168) (k : Fin 1024) : EReal := m ((c : Thread nD τ).loc main_arg3) (ix2 k e)

/-- The point's tile, one of its rows. -/
def trow (t : Fin cfg0.N) (r : Fin 256) : Fin 2048 :=
  ⟨256 * (t.val / 2) + r.val, by have := lt_of_lt_of_eq t.isLt (show cfg0.N = 16 from N_0); omega⟩
/-- The point's batch. -/
def tbatch (t : Fin cfg0.N) : Fin 8 := ⟨t.val / 2, by have := lt_of_lt_of_eq t.isLt (show cfg0.N = 16 from N_0); omega⟩
/-- The point's half of the weights, one of its columns. -/
def tcol (t : Fin cfg0.N) (e : Fin 3584) : Fin 7168 := ⟨3584 * (t.val % 2) + e.val, by omega⟩

theorem iblk0_apply (r : Fin 256) (k : Fin 1024) : iblk m c 0 t (ix2 r k) = argX m c (trow t r) k := by
  unfold argX trow
  blk_ext [iblk, V, idx_facts t]
theorem iblk1_apply (k : Fin 1024) : iblk m c 1 t (ix3 0 0 k) = argSh m c (tbatch t) k := by
  unfold argSh tbatch
  blk_ext [iblk, V, idx_facts t]
theorem iblk2_apply (k : Fin 1024) : iblk m c 2 t (ix3 0 0 k) = argSc m c (tbatch t) k := by
  unfold argSc tbatch
  blk_ext [iblk, V, idx_facts t]
theorem iblk3_apply (k : Fin 1024) (e : Fin 3584) : iblk m c 3 t (ix2 k e) = argW m c (tcol t e) k := by
  unfold argW tcol
  blk_ext [iblk, V, idx_facts t]

/-- What a tile's first point leaves. -/
theorem first_eq (h : t.val % 2 = 0) : outsAt0 m c t.val t.isLt
    = (k0_pay2 (k0_pay1 (iblk m c 0 t) (iblk m c 2 t) (iblk m c 1 t)) (iblk m c 3 t), k0_pay1 (iblk m c 0 t) (iblk m c 2 t) (iblk m c 1 t)) := by
  rw [outsAt0_A m c t h]
  frame_out

/-- What a tile's second point leaves. -/
theorem second_eq (h : ¬t.val % 2 = 0) (hp : t.val - 1 < cfg0.N) : outsAt0 m c t.val t.isLt
    = (k0_pay2 (outsAt0 m c (t.val - 1) hp).2 (iblk m c 3 t), (outsAt0 m c (t.val - 1) hp).2) := by
  rw [outsAt0_B m c t h]
  frame_out
  simp only [read_unread_whole]
  rfl

/-- The tile's rows, normalised and modulated, are in the carried buffer after its first point. -/
theorem first_rows (h : t.val % 2 = 0) (r : Fin 256) (k : Fin 1024) :
    (outsAt0 m c t.val t.isLt).2 (ix2 r k) = modulated (argX m c (trow t r)) (argSh m c (tbatch t)) (argSc m c (tbatch t)) k := by
  rw [first_eq m c t h]
  refine (pay1_apply _ _ _ r k).trans ?_
  simp only [iblk0_apply, iblk1_apply, iblk2_apply]

/-- Each point's block of the result. -/
theorem point_out (r : Fin 256) (e : Fin 3584) : (outsAt0 m c t.val t.isLt).1 (ix2 r e)
    = project (argX m c (trow t r)) (argSh m c (tbatch t)) (argSc m c (tbatch t)) (argW m c (tcol t e)) := by
  by_cases h : t.val % 2 = 0
  · have hr := first_rows m c t h
    rw [first_eq m c t h] at hr ⊢
    refine (pay2_apply _ _ r e).trans ?_
    unfold project
    exact Finset.sum_congr rfl fun k _ => congrArg₂ _ (hr r k) (iblk3_apply m c t k e)
  · have hp : t.val - 1 < cfg0.N := by have := t.isLt; omega
    rw [second_eq m c t h hp]
    refine (pay2_apply _ _ r e).trans ?_
    unfold project
    refine Finset.sum_congr rfl fun k _ => congrArg₂ _ ?_ (iblk3_apply m c t k e)
    refine (first_rows m c ⟨t.val - 1, hp⟩ (by dsimp only; omega) r k).trans ?_
    rw [show trow ⟨t.val - 1, hp⟩ r = trow t r from Fin.ext (by show 256 * ((t.val - 1) / 2) + _ = 256 * (t.val / 2) + _; omega),
      show tbatch ⟨t.val - 1, hp⟩ = tbatch t from Fin.ext (by show (t.val - 1) / 2 = t.val / 2; omega)]

/-- The result array. -/
theorem result_apply (r : Fin 2048) (e : Fin 7168) : Value.G4 m c (ix2 r e)
    = project (argX m c r) (argSh m c ⟨r.val / 256, by omega⟩) (argSc m c ⟨r.val / 256, by omega⟩) (argW m c e) := by
  have hv : Value.pt4Of (ix2 r e) = 2 * (r.val / 256) + e.val / 3584 := by
    show 2 * (r.val / 256 - 0) + 1 * (e.val / 3584 - 0) = _
    omega
  have hp : Value.pt4Of (ix2 r e) < cfg0.N := by
    rw [hv, show cfg0.N = 16 from N_0]
    omega
  unfold Value.G4
  rw [dif_pos hp, ← Value.outsAt0_sweep m c _ hp]
  have hl : Value.loc4Of (ix2 r e) = ix2 ⟨r.val % 256, Nat.mod_lt _ (by decide)⟩ ⟨e.val % 3584, Nat.mod_lt _ (by decide)⟩ := by
    funext a
    apply Fin.ext
    match a with
    | ⟨0, _⟩ => rfl
    | ⟨1, _⟩ => rfl
  rw [hl]
  refine (point_out m c ⟨_, hp⟩ _ _).trans ?_
  rw [show trow ⟨Value.pt4Of (ix2 r e), hp⟩ ⟨r.val % 256, Nat.mod_lt _ (by decide)⟩ = r from
      Fin.ext (by show 256 * (Value.pt4Of (ix2 r e) / 2) + r.val % 256 = r.val; omega),
    show tcol ⟨Value.pt4Of (ix2 r e), hp⟩ ⟨e.val % 3584, Nat.mod_lt _ (by decide)⟩ = e from
      Fin.ext (by show 3584 * (Value.pt4Of (ix2 r e) % 2) + e.val % 3584 = e.val; omega),
    show tbatch ⟨Value.pt4Of (ix2 r e), hp⟩ = ⟨r.val / 256, by omega⟩ from
      Fin.ext (by show Value.pt4Of (ix2 r e) / 2 = r.val / 256; omega)]

end Cert.CtxrowIdeal.Gen

end
-- ==== Proof.CtxRowRef.lean ====
/-
  The context's row-major projection's reference at an index.
-/
module

public import proofs.«01_k».proof.Proof.Norm
public import proofs.«01_k».proof.Proof.Gen.CtxrowReferenceIdeal.Run

@[expose] public section

set_option maxRecDepth 16384

noncomputable section

namespace Cert.CtxrowReferenceIdeal.Value

open Idealize.ShloMosaic Idealize.ShloMosaic.TcCoe Idealize.ShloMosaic.Tactic Idealize.ShloMosaic.StableHlo
open Cert.CtxrowReferenceIdeal Cert.CtxrowReferenceIdeal.Facts Cert.CtxrowReferenceIdeal.Gen Cert.Norm

variable {F : FTy → Type} [FloatOps F]

/-- Each row's mean. -/
def refMean (x : FVec F S8x256x1024 .f32) : FVec F S8x256x1 .f32 :=
  Host.divf (broadcastInDim S8x256x1 ![0, 1] bcast_S8x256_S8x256x1_0_1
      (Host.reduceAdd x (constant S_ .f32 0x00000000#32) reducesTo_S8x256x1024_S8x256_d2 h_S_))
    (broadcastInDim S8x256x1 ![] bcast_S_S8x256x1 (constant S_ .f32 0x44800000#32))

/-- Each row less its mean. -/
def refCentred (x : FVec F S8x256x1024 .f32) : FVec F S8x256x1024 .f32 :=
  subf x (broadcastInDim S8x256x1024 ![0, 1, 2] bcast_S8x256x1_S8x256x1024_0_1_2 (refMean x))

/-- Each row's layer norm. -/
def refNormed (x : FVec F S8x256x1024 .f32) : FVec F S8x256x1024 .f32 :=
  mulf (refCentred x) (broadcastInDim S8x256x1024 ![0, 1, 2] bcast_S8x256x1_S8x256x1024_0_1_2
    (Host.rsqrt (addf (refMean (mulf (refCentred x) (refCentred x))) (broadcastInDim S8x256x1 ![] bcast_S_S8x256x1 (constant S_ .f32 0x358637BD#32)))))

/-- The layer norm, scaled and shifted. -/
def refModulated (x : FVec F S8x256x1024 .f32) (sh sc : FVec F S8x1x1024 .f32) : FVec F S8x256x1024 .f32 :=
  addf (mulf (refNormed x) (broadcastInDim S8x256x1024 ![0, 1, 2] bcast_S8x1x1024_S8x256x1024_0_1_2
      (addf (broadcastInDim S8x1x1024 ![] bcast_S_S8x1x1024 (constant S_ .f32 0x3F800000#32)) sc)))
    (broadcastInDim S8x256x1024 ![0, 1, 2] bcast_S8x1x1024_S8x256x1024_0_1_2 sh)

/-- The projection. -/
def refProject (x : FVec F S2048x1024 .f32) (sh sc : FVec F S8x1x1024 .f32) (w : FVec F S1024x7168 .bf16) : FVec F S2048x7168 .bf16 :=
  truncf .bf16 (shapeCast _ (Host.dotGeneral dot_S8x256x1024_S1024x7168_S8x256x7168_2_0_01_1_n_n none
    (refModulated (shapeCast _ x shapeCasts_S2048x1024_S8x256x1024) sh sc) (extf .f32 w bitsLt_bf16_f32)) shapeCasts_S8x256x7168_S2048x7168) bitsLt_bf16_f32

/-- The reference's run leaves the projection, its arguments unchanged. -/
theorem run_project (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refProject (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := run m ρ

/-- A row's mean, at an index. -/
theorem refMean_apply (x : FVec Ideal S8x256x1024 .f32) (b : Fin 8) (t : Fin 256) (z : Fin 1) :
    refMean x (ix3 b t z) = mean (fun k => x (ix3 b t k)) := by
  pointwise [refMean, mean]

/-- A row less its mean, at an index. -/
theorem refCentred_apply (x : FVec Ideal S8x256x1024 .f32) (b : Fin 8) (t : Fin 256) (k : Fin 1024) :
    refCentred x (ix3 b t k) = centred (fun j => x (ix3 b t j)) k := by
  pointwise [refCentred, refMean_apply, centred]

/-- The layer norm, at an index. -/
theorem refNormed_apply (x : FVec Ideal S8x256x1024 .f32) (b : Fin 8) (t : Fin 256) (k : Fin 1024) :
    refNormed x (ix3 b t k) = normed (fun j => x (ix3 b t j)) k := by
  pointwise [refNormed, refMean_apply, refCentred_apply, normed]

/-- The modulated layer norm, at an index. -/
theorem refModulated_apply (x : FVec Ideal S8x256x1024 .f32) (sh sc : FVec Ideal S8x1x1024 .f32) (b : Fin 8) (t : Fin 256) (k : Fin 1024) :
    refModulated x sh sc (ix3 b t k) = modulated (fun j => x (ix3 b t j)) (fun j => sh (ix3 b 0 j)) (fun j => sc (ix3 b 0 j)) k := by
  pointwise [refModulated, refNormed_apply, modulated]

/-- The projection, at an index. -/
theorem refProject_apply (x : FVec Ideal S2048x1024 .f32) (sh sc : FVec Ideal S8x1x1024 .f32) (w : FVec Ideal S1024x7168 .bf16) (r : Fin 2048) (e : Fin 7168) :
    refProject x sh sc w (ix2 r e) = project (fun j => x (ix2 r j)) (fun j => sh (ix3 ⟨r.val / 256, by omega⟩ 0 j))
      (fun j => sc (ix3 ⟨r.val / 256, by omega⟩ 0 j)) (fun j => w (ix2 j e)) := by
  pointwise [refProject, refModulated_apply, project]

end Cert.CtxrowReferenceIdeal.Value

end
-- ==== Proof.CtxRowEquation.lean ====
/-
  The context's row-major projection's equation: on equal arguments, the kernel's result is the reference's.
-/
module

public import proofs.«01_k».proof.Proof.CtxRowFold
public import proofs.«01_k».proof.Proof.CtxRowRef

@[expose] public section

set_option maxRecDepth 16384

noncomputable section

namespace Cert.Equation

open Idealize.ShloMosaic Idealize.ShloMosaic.TcCoe Idealize.ShloMosaic.Tactic Cert.Norm

/-- The projection, computed by the kernel, is the projection of the reference, from the same arrays. -/
theorem ctxrow_eq (m : (ℓ : Loc Cert.CtxrowIdeal.nD Cert.CtxrowIdeal.τ Cert.CtxrowIdeal.sig) → Buf (Elt Ideal) ℓ) (c : Dev Cert.CtxrowIdeal.nD) :
    (Cert.CtxrowReferenceIdeal.Value.refProject (F := Ideal) (m ((c.tc : Thread Cert.CtxrowIdeal.nD Cert.CtxrowIdeal.τ).loc Cert.CtxrowIdeal.main_arg0))
      (m ((c.tc : Thread Cert.CtxrowIdeal.nD Cert.CtxrowIdeal.τ).loc Cert.CtxrowIdeal.main_arg1))
      (m ((c.tc : Thread Cert.CtxrowIdeal.nD Cert.CtxrowIdeal.τ).loc Cert.CtxrowIdeal.main_arg2))
      (m ((c.tc : Thread Cert.CtxrowIdeal.nD Cert.CtxrowIdeal.τ).loc Cert.CtxrowIdeal.main_arg3)) : Cert.CtxrowIdeal.S2048x7168.Idx → EReal)
      = Cert.CtxrowIdeal.Value.G4 m c := by
  funext i
  obtain ⟨r, e, rfl⟩ : ∃ (r : Fin 2048) (e : Fin 7168), i = ix2 r e := ⟨i 0, i 1, eq_ix2 i⟩
  exact (Cert.CtxrowReferenceIdeal.Value.refProject_apply _ _ _ _ r e).trans (Cert.CtxrowIdeal.Gen.result_apply m c r e).symm

end Cert.Equation

end
-- ==== Proof.CtxColBody.lean ====
/-
  The context's column-by-column projection's body, run once: at a tile's first point it stores the normalised rows, the narrow product and
  the wide product; at the tile's second point it stores the wide product of the rows the first point stored.
-/
module

public import proofs.«01_k».proof.Proof.Gen.CtxcolIdeal.Frame
public import proofs.«01_k».proof.Proof.Gen.CtxcolIdeal.Points
public import proofs.«01_k».proof.Proof.Gen.CtxcolIdeal.Skeleton
public import Idealize.ShloMosaic.Lib.Pipeline.ValueKit
public import Idealize.ShloMosaic.Lib.Pipeline.ReadBack
public import Idealize.ShloMosaic.Lib.VecWindow

@[expose] public section

set_option maxRecDepth 16384

noncomputable section

namespace Cert.CtxcolIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
  (arg3 : Memref sig .tc .vmem S1x256x1024 .f32) (harg3 : arg3.IsWhole) (arg4 : Memref sig .tc .vmem S1x1x1024 .f32) (harg4 : arg4.IsWhole)
  (arg5 : Memref sig .tc .vmem S1x1x1024 .f32) (harg5 : arg5.IsWhole)
  (arg6 : Memref sig .tc .vmem S1024x3072 .bf16) (harg6 : arg6.IsWhole) (arg7 : Memref sig .tc .vmem S1024x128 .bf16) (harg7 : arg7.IsWhole)
  (arg8 : Memref sig .tc .vmem S1x1x256x3072 .bf16) (harg8 : arg8.IsWhole) (arg9 : Memref sig .tc .vmem S1x1x256x128 .f32) (harg9 : arg9.IsWhole)
  (arg10 : Memref sig .tc .vmem S256x1024 .bf16) (harg10 : arg10.IsWhole)
  (x0 : Vec F S1x256x1024 .f32) (x1 x2 : Vec F S1x1x1024 .f32) (x3 : Vec F S1024x3072 .bf16) (x4 : Vec F S1024x128 .bf16)

set_option maxHeartbeats 1000000 in
/-- The body at a tile's first point: whatever the outputs and the carried rows held, it leaves the payloads in them. -/
theorem body_first (hc : k0_cond1 i = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay1 (k0_pay3 x0 x2 x1) x3)
            ∗ owns (c : Thread nD τ) arg9 fullShare (k0_pay4 x0 x2 x1 x4)
            ∗ owns (c : Thread nD τ) arg10 fullShare (k0_pay3 x0 x2 x1)) -∗ K ⟨⟩))
      ⊢ wp frame (wpE (defs₀ (F := F)) Variants.none c none) E (cc0_inproj_cm i arg3 harg3 arg4 harg4 arg5 harg5 arg6 harg6 arg7 harg7 arg8 harg8 arg9 harg9 arg10 harg10) K := by
  simp only [cc0_inproj_cm_eq_skeleton]; unfold cc0_inproj_cm_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H6]
  · iexists _; isplitr
    swap; · iexact H6
    ipureintro
    refine (View.read_writes_full _ _ _ _ _).trans ?_
    frame_out
  isplitl [H7]
  · iexists _; isplitr
    swap; · iexact H7
    ipureintro
    refine (View.read_writes_full _ _ _ _ _).trans ?_
    frame_out
  iexists _; isplitr
  swap; · iexact H8
  ipureintro
  refine (View.read_writes_full _ _ _ _ _).trans ?_
  frame_out

set_option maxHeartbeats 1000000 in
/-- The body at a tile's second point: the carried rows and the narrow product stay, the wide product is stored. -/
theorem body_second (hc : ¬ k0_cond1 i = 1#1) (u : Vec F S256x1024 .bf16) (v : Vec F S1x1x256x128 .f32) (E : Set ℕ)
    (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare v ∗ owns (c : Thread nD τ) arg10 fullShare u
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay1 u x3)
            ∗ owns (c : Thread nD τ) arg9 fullShare v
            ∗ owns (c : Thread nD τ) arg10 fullShare u) -∗ K ⟨⟩))
      ⊢ wp frame (wpE (defs₀ (F := F)) Variants.none c none) E (cc0_inproj_cm i arg3 harg3 arg4 harg4 arg5 harg5 arg6 harg6 arg7 harg7 arg8 harg8 arg9 harg9 arg10 harg10) K := by
  simp only [cc0_inproj_cm_eq_skeleton]; unfold cc0_inproj_cm_skel
  unfold owns
  iintro ⟨H0, H1, H2, ⟨%f3, %hf3, H3⟩, H4, ⟨%d6, %f6, -, H6⟩, H7, ⟨%f8, %hf8, H8⟩, Hk⟩
  obtain rfl := harg6.eq_unread hf3; obtain rfl := harg10.eq_unread hf8
  sl_exec (disch := first | sl_exact hc)
  sl_step
  iapply Hk
  isplitl [H0]; · iexact H0
  isplitl [H1]; · iexact H1
  isplitl [H2]; · iexact H2
  isplitl [H3]
  · iexists _; isplitr; · ipureintro; exact harg6.read_unread _
    iexact H3
  isplitl [H4]; · iexact H4
  isplitl [H6]
  · iexists _; isplitr
    swap; · iexact H6
    ipureintro
    refine (View.read_writes_full _ _ _ _ _).trans ?_
    frame_out
  isplitl [H7]; · iexact H7
  iexists _; isplitr; · ipureintro; exact harg10.read_unread _
  iexact H8

end Cert.CtxcolIdeal.Gen

end
-- ==== Proof.CtxColFrame.lean ====
/-
  The context's column-by-column projection's frame: what every point leaves, stated by its tile, the run of the whole program, and its
  arguments unchanged.
-/
module

public import proofs.«01_k».proof.Proof.CtxColBody

@[expose] public section

set_option maxRecDepth 16384

noncomputable section

namespace Cert.CtxcolIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg) (c : Dev nD)

/-! ## Which points are a tile's first -/

/-- The body's condition holds at the even points. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The narrow product's block is left as found at the odd points only. -/
theorem idle_iff (t : Fin cfg0.N) : cfg0.idle 6 (grid0.coords t) = !decide (t.val % 2 = 0) := by
  show (!(k0_cond1 (grid0.coords t) == 1#1)) = _
  by_cases h : t.val % 2 = 0
  · simp only [(first_iff t).mpr h, h, beq_self_eq_true, decide_true]
  · simp only [beq_eq_false_iff_ne.mpr (fun e => h ((first_iff t).mp e)), h, decide_false]

/-! ## What a point leaves -/

/-- The first point of a point's tile. -/
def base (t : Fin cfg0.N) : Fin cfg0.N := ⟨2 * (t.val / 2), by have := t.isLt; omega⟩

theorem base_even (t : Fin cfg0.N) (h : t.val % 2 = 0) : base t = t := Fin.ext (by show 2 * (t.val / 2) = t.val; omega)
theorem base_odd (t : Fin cfg0.N) (h : ¬ t.val % 2 = 0) (hp : t.val - 1 < cfg0.N) : base ⟨t.val - 1, hp⟩ = base t :=
  Fin.ext (by show 2 * ((t.val - 1) / 2) = 2 * (t.val / 2); omega)

/-- The rows a tile's first point stores. -/
def rowsAt (t : Fin cfg0.N) : Vec F S256x1024 .bf16 :=
  k0_pay3 (iblk m c 0 (base t)) (iblk m c 2 (base t)) (iblk m c 1 (base t))

/-- The narrow product a tile's first point stores. -/
def narrowAt (t : Fin cfg0.N) : Vec F S1x1x256x128 .f32 :=
  k0_pay4 (iblk m c 0 (base t)) (iblk m c 2 (base t)) (iblk m c 1 (base t)) (iblk m c 4 (base t))

/-- The wide product a point stores. -/
def wideAt (t : Fin cfg0.N) : Vec F S1x1x256x3072 .bf16 := k0_pay1 (rowsAt m c t) (iblk m c 3 t)

theorem rowsAt_odd (t : Fin cfg0.N) (h : ¬ t.val % 2 = 0) (hp : t.val - 1 < cfg0.N) : rowsAt m c ⟨t.val - 1, hp⟩ = rowsAt m c t := by
  unfold rowsAt; rw [base_odd t h hp]
theorem narrowAt_odd (t : Fin cfg0.N) (h : ¬ t.val % 2 = 0) (hp : t.val - 1 < cfg0.N) : narrowAt m c ⟨t.val - 1, hp⟩ = narrowAt m c t := by
  unfold narrowAt; rw [base_odd t h hp]

/-! ## The pipeline's data -/

/-- The carried rows' buffer. -/
abbrev scr : Memref sig .tc .vmem S256x1024 .bf16 := Memref.whole cc0_scratch0

/-- Between points: at the start anything, afterwards the carried rows at what the last point's tile stored. -/
def inv : (n : ℕ) → n ≤ cfg0.N → sProp (MT nD τ sig Unit (Elt F) ℕ (UR sig nD τ) ℕ)
  | 0, _ => Pipeline.ΦA spec0 c
  | n + 1, hn => iprop(owns (c : Thread nD τ) scr fullShare (rowsAt m c ⟨n, hn⟩) ∗ (∃ r, prngReg c r))

/-- The invariant at the start, its buffer spelled as a memref. -/
theorem start_eq : (Pipeline.ΦA spec0 c : sProp (MT nD τ sig Unit (Elt F) ℕ (UR sig nD τ) ℕ))
    = iprop((∃ d, owns (c : Thread nD τ) scr fullShare d) ∗ (∃ r, prngReg c r)) := by
  unfold Pipeline.ΦA; rw [scopedRest0_eq]; simp only [owns_whole]; rfl

theorem inv_pos (n : ℕ) (h : n ≤ cfg0.N) (hz : n ≠ 0) :
    inv m c n h = iprop(owns (c : Thread nD τ) scr fullShare (rowsAt m c ⟨n - 1, by omega⟩) ∗ (∃ r, prngReg c r)) := by
  cases n with
  | zero => exact absurd rfl hz
  | succ n => rfl

/-- The invariant at any point gives the one at the start: the carried rows are forgotten. -/
theorem inv_forget (n : ℕ) (h : n ≤ cfg0.N) : inv m c n h ⊢ Pipeline.ΦA spec0 c := by
  cases n with
  | zero => exact Idealize.SL.BI.Entails.refl _
  | succ n =>
    rw [start_eq, inv_pos m c (n + 1) h (Nat.succ_ne_zero n)]
    iintro ⟨H, Hg⟩
    isplitl [H]
    · iexists _; iexact H
    iexact Hg

/-- The pipeline's data: the arrays as found, each input's block in place, the outputs at the payloads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wideAt m c t
    | ⟨6, _⟩ => narrowAt m c t
  Φ t := inv m c t.val (Nat.le_of_lt_succ t.isLt)
  q _ := fullShare
  owed _ := 0

theorem arrays_eq (w : Fin cfg0.W) : (dats m 0 c).A w = V m c (Pipeline.arrRef spec0 w) := by dsimp only [dats]
theorem inv_start (t : Fin cfg0.N) : (dats m 0 c).Φ t.castSucc = inv m c t.val (Nat.le_of_lt t.isLt) := by
  dsimp only [dats]; exact Pipeline.Dat.Φ_castSucc (inv m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = wideAt m c t := by dsimp only [dats]
theorem after_6 (t : Fin cfg0.N) : (dats m 0 c).after 6 t = narrowAt m c t := by dsimp only [dats]

theorem before_0 (t : Fin cfg0.N) (d) : (dats m 0 c).before 0 t d = iblk m c 0 t := before0_0_of m (dats m 0 c) (arrays_eq m c 0) (after_0 m c) t d
theorem before_1 (t : Fin cfg0.N) (d) : (dats m 0 c).before 1 t d = iblk m c 1 t := before0_1_of m (dats m 0 c) (arrays_eq m c 1) (after_1 m c) t d
theorem before_2 (t : Fin cfg0.N) (d) : (dats m 0 c).before 2 t d = iblk m c 2 t := before0_2_of m (dats m 0 c) (arrays_eq m c 2) (after_2 m c) t d
theorem before_3 (t : Fin cfg0.N) (d) : (dats m 0 c).before 3 t d = iblk m c 3 t := before0_3_of m (dats m 0 c) (arrays_eq m c 3) (after_3 m c) t d
theorem before_4 (t : Fin cfg0.N) (d) : (dats m 0 c).before 4 t d = iblk m c 4 t := before0_4_of m (dats m 0 c) (arrays_eq m c 4) (after_4 m c) t d

/-- A tile's second point finds the narrow product its first point stored. -/
theorem before_6 (t : Fin cfg0.N) (h : ¬ t.val % 2 = 0) (d) : (dats m 0 c).before 6 t d = narrowAt m c t := by
  have hp : t.val - 1 < cfg0.N := Nat.lt_of_le_of_lt (Nat.sub_le _ _) t.isLt
  have hf : (cfg0.win 6).flush ⟨t.val - 1, hp⟩ = false :=
    Bool.eq_false_iff.mpr fun e => by have := (flush0_6 _).mp e; dsimp only at this; omega
  have hi : cfg0.idle 6 (cfg0.grid.coords ⟨t.val - 1, hp⟩) = false := by
    refine (idle_iff ⟨t.val - 1, hp⟩).trans ?_
    rw [decide_eq_true (by omega : (t.val - 1) % 2 = 0)]; rfl
  rw [(dats m 0 c).before_of_pos 6 t (by omega) ((cfg0.win 6).fetch_out rfl t), hf, if_neg Bool.false_ne_true]
  unfold Dat.left
  rw [hi]
  unfold Dat.kept
  rw [Pipeline.fill_of_clip_none 6 _ (fun _ => rfl) d ((dats m 0 c).after 6 ⟨t.val - 1, hp⟩), Pipeline.Window.fill_cut, after_6,
    narrowAt_odd m c t h hp]

/-! ## The body at a point -/

/-- What the body is handed, -/
def bodyPre (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it leaves. -/
def bodyPost (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at a tile's first point. -/
theorem sound_first (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6, inv_start]
  rw [show (dats m 0 c).Φ t.succ = iprop(owns (c : Thread nD τ) scr fullShare (rowsAt m c t) ∗ (∃ r, prngReg c r)) from rfl]
  refine (BIClass.sep_mono (inv_forget m c _ _) (Idealize.SL.BI.Entails.refl _)).trans ?_
  rw [start_eq]
  unfold wideAt narrowAt rowsAt
  rw [base_even t h]
  iintro ⟨⟨HS, Hg⟩, Ho, ⟨%d0, H0⟩, ⟨%d1, H1⟩, ⟨%d2, H2⟩, ⟨%d3, H3⟩, ⟨%d4, H4⟩, ⟨%d6, H6⟩, ⟨%d7, H7⟩⟩
  iapply (body_first c (grid0.coords t) _ _ _ _ _ _ _ _ _ _ _ _ _ _ _ _ (iblk m c 0 t) (iblk m c 1 t) (iblk m c 2 t)
    (iblk m c 3 t) (iblk m c 4 t) ((first_iff t).mpr h) Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [HS]; · iexact HS
  iintro ⟨H0, H1, H2, H3, H4, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H6]; · iexact H6
  iexact H7

set_option maxHeartbeats 1600000 in
/-- The body at a tile's second point. -/
theorem sound_second (t : Fin cfg0.N) (h : ¬ t.val % 2 = 0) :
    bodyPre m c t ⊢ wp frame (wpE (defs₀ (F := F)) Variants.none c none) Set.univ (bodyAt0 t) (fun _ => bodyPost m c t) := by
  have hz : t.val ≠ 0 := fun e => h (by rw [e])
  unfold bodyPre bodyPost bodyAt0
  simp only [before_0, before_1, before_2, before_3, before_4, before_6 m c t h]
  rw [show (dats m 0 c).owesAt () t.succ = (dats m 0 c).owesAt () t.castSucc from rfl,
    after_0, after_1, after_2, after_3, after_4, after_5, after_6, inv_start, inv_pos m c _ _ hz, rowsAt_odd m c t h]
  rw [show (dats m 0 c).Φ t.succ = iprop(owns (c : Thread nD τ) scr fullShare (rowsAt m c t) ∗ (∃ r, prngReg c r)) from rfl]
  unfold wideAt
  iintro ⟨⟨HS, Hg⟩, Ho, ⟨%d0, H0⟩, ⟨%d1, H1⟩, ⟨%d2, H2⟩, ⟨%d3, H3⟩, ⟨%d4, H4⟩, ⟨%d6, H6⟩, ⟨%d7, H7⟩⟩
  iapply (body_second c (grid0.coords t) _ _ _ _ _ _ _ _ _ _ _ _ _ _ _ _ (iblk m c 0 t) (iblk m c 1 t) (iblk m c 2 t)
    (iblk m c 3 t) (iblk m c 4 t) (fun e => h ((first_iff t).mp e)) (rowsAt m c t) (narrowAt m c t) Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexact H7
  isplitl [HS]; · iexact HS
  iintro ⟨H0, H1, H2, H3, H4, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H6]; · iexact H6
  iexact H7

/-- The body at any point. -/
theorem sound_point (t : Fin cfg0.N) :
    bodyPre m c t ⊢ wp frame (wpE (defs₀ (F := F)) Variants.none c none) Set.univ (bodyAt0 t) (fun _ => bodyPost m c t) := by
  by_cases h : t.val % 2 = 0
  · exact sound_first m c t h
  · exact sound_second m c t h

/-- The body table's row at a point is the body. -/
theorem row_eq (t : Fin cfg0.N) : defs₀ (F := F) .tc cfg0.body (cfg0.bodyArgs t (cfg0.slots t)) = bodyAt0 t := by
  unfold defs₀; rw [Defs.onTc_tc]

/-- The narrow product's block is left live, or written back. -/
theorem live_or_flush (t : Fin cfg0.N) : cfg0.idle 6 (cfg0.grid.coords t) = false ∨ (cfg0.win 6).flush t = true := by
  by_cases h : t.val % 2 = 0
  · exact .inl ((idle_iff t).trans (by rw [decide_eq_true h]; rfl))
  · exact .inr ((flush0_6 t).mpr (by omega))

/-- The pipeline's obligation on the body. -/
theorem obligation : BodyObligation (dats (F := F) m 0 c) (defs₀ (F := F)) Variants.none () Set.univ := fun t => by
  rw [bigSep_W0, bigSep_W0, row_eq]
  refine triple_restated (sound_point m c t) rfl .rfl fun _ => ?_
  unfold bodyPost
  rcases live_or_flush t with h | h
  · rw [h]
  · rw [h]
    cases cfg0.idle 6 (cfg0.grid.coords t) <;> exact .rfl

/-! ## The run -/

theorem enter : Pipeline.ΦA spec0 c ⊢ (dats m 0 c).Φ 0 := Idealize.SL.BI.Entails.refl _
theorem leave : (dats m 0 c).Φ (Fin.last cfg0.N) ⊢ Pipeline.ΦA spec0 c := inv_forget m c cfg0.N (Nat.le_refl _)

set_option backward.isDefEq.respectTransparency.types false in
/-- The program runs, every array ends at what its points wrote back, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hin := enter m) (hout := leave m)

/-- The run without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays_eq m) (run_arrays m ρ)) ((θ_run defs _ _).mono (fun _ h => h.2) (run_quiescent m ρ))

end Cert.CtxcolIdeal.Gen

end
-- ==== Proof.CtxColPay.lean ====
/-
  The context's column-by-column projection's payloads at an index: a tile's rows, normalised and modulated, and their product
  with a block of the weights.
-/
module

public import proofs.«01_k».proof.Proof.Norm
public import proofs.«01_k».proof.Proof.CtxColFrame
public import Idealize.ShloMosaic.Lib.Pipeline.ValueKit.Point

@[expose] public section

set_option maxRecDepth 16384

noncomputable section

namespace Cert.CtxcolIdeal.Gen

open Idealize.ShloMosaic Idealize.ShloMosaic.TcCoe Idealize.ShloMosaic.Tactic
open Cert.Norm

/-- The rows' modulated layer norm. -/
theorem pay2_apply (x : Vec Ideal S1x256x1024 .f32) (sc sh : Vec Ideal S1x1x1024 .f32) (r : Fin 256) (k : Fin 1024) :
    k0_pay2 x sc sh (ix2 r k) = modulated (fun l => x (ix3 0 r l)) (fun l => sh (ix3 0 0 l)) (fun l => sc (ix3 0 0 l)) k := by
  pointwise [k0_pay2, modulated, normed, centred, mean]

/-- The carried rows are these. -/
theorem pay3_apply (x : Vec Ideal S1x256x1024 .f32) (sc sh : Vec Ideal S1x1x1024 .f32) (r : Fin 256) (k : Fin 1024) :
    k0_pay3 x sc sh (ix2 r k) = k0_pay2 x sc sh (ix2 r k) := by
  pointwise [k0_pay3]

/-- The narrow product. -/
theorem pay4_apply (x : Vec Ideal S1x256x1024 .f32) (sc sh : Vec Ideal S1x1x1024 .f32) (w : Vec Ideal S1024x128 .bf16)
    (z a : Fin 1) (r : Fin 256) (e : Fin 128) :
    k0_pay4 x sc sh w (ix4 z a r e) = ∑ k : Fin 1024, k0_pay2 x sc sh (ix2 r k) * w (ix2 k e) := by
  pointwise [k0_pay4]

/-- The wide product. -/
theorem pay1_apply (u : Vec Ideal S256x1024 .bf16) (w : Vec Ideal S1024x3072 .bf16) (z a : Fin 1) (r : Fin 256) (e : Fin 3072) :
    k0_pay1 u w (ix4 z a r e) = ∑ k : Fin 1024, u (ix2 r k) * w (ix2 k e) := by
  pointwise [k0_pay1]

end Cert.CtxcolIdeal.Gen

end
-- ==== Proof.CtxColFold.lean ====
/-
  The context's column-by-column projection's blocks at an index, and the two products each point stores.
-/
module

public import proofs.«01_k».proof.Proof.CtxColPay
public import Idealize.ShloMosaic.Lib.Pipeline.ValueKit
public import Idealize.ShloMosaic.Lib.Pipeline.ReadBack

@[expose] public section

set_option maxRecDepth 16384

noncomputable section

namespace Cert.CtxcolIdeal.Gen

open Idealize.ShloMosaic Idealize.ShloMosaic.TcCoe Idealize.ShloMosaic.Tactic Idealize.ShloMosaic.StableHlo
open Cert.Norm Cert.CtxcolIdeal.Facts₀ Cert.CtxcolIdeal.Facts

variable (m : (ℓ : Loc nD τ sig) → Buf (Elt Ideal) ℓ) (c : Dev nD) (t : Fin cfg0.N)

/-- The windows' block indices at each point. -/
theorem idx_facts : ∀ t : Fin cfg0.N,
    win0_0.index t = ![t.val / 2, 0, 0] ∧ win0_1.index t = ![t.val / 2, 0, 0] ∧ win0_2.index t = ![t.val / 2, 0, 0]
    ∧ win0_3.index t = ![0, t.val % 2] ∧ win0_4.index t = ![0, 0]
    ∧ win0_5.index t = ![t.val / 2, 0, 0, t.val % 2] ∧ win0_6.index t = ![t.val / 2, 0, 0, 0] :=
  (by decide +kernel : ∀ t : Fin grid0.N, _)

/-- A row of a batch of the input. -/
def argX (b : Fin 8) (n : Fin 256) (k : Fin 1024) : EReal := m ((c : Thread nD τ).loc main_arg0) (ix3 b n k)
/-- A batch's shift. -/
def argSh (b : Fin 8) (k : Fin 1024) : EReal := m ((c : Thread nD τ).loc main_arg1) (ix3 b 0 k)
/-- A batch's scale. -/
def argSc (b : Fin 8) (k : Fin 1024) : EReal := m ((c : Thread nD τ).loc main_arg2) (ix3 b 0 k)
/-- A column of the wide weights. -/
def argW (e : Fin 6144) (k : Fin 1024) : EReal := m ((c : Thread nD τ).loc main_arg3) (ix2 k e)
/-- A column of the narrow weights. -/
def argN (e : Fin 128) (k : Fin 1024) : EReal := m ((c : Thread nD τ).loc main_arg4) (ix2 k e)

/-- The point's batch. -/
def tbatch (t : Fin cfg0.N) : Fin 8 := ⟨t.val / 2, by have := lt_of_lt_of_eq t.isLt (show cfg0.N = 16 from N_0); omega⟩
/-- The point's half of the wide weights, one of its columns. -/
def thalf (t : Fin cfg0.N) (e : Fin 3072) : Fin 6144 := ⟨t.val % 2 * 3072 + e.val, by omega⟩

theorem iblk0_apply (r : Fin 256) (k : Fin 1024) : iblk m c 0 t (ix3 0 r k) = argX m c (tbatch t) r k := by
  unfold argX tbatch
  blk_ext [iblk, V, idx_facts t]
theorem iblk1_apply (k : Fin 1024) : iblk m c 1 t (ix3 0 0 k) = argSh m c (tbatch t) k := by
  unfold argSh tbatch
  blk_ext [iblk, V, idx_facts t]
theorem iblk2_apply (k : Fin 1024) : iblk m c 2 t (ix3 0 0 k) = argSc m c (tbatch t) k := by
  unfold argSc tbatch
  blk_ext [iblk, V, idx_facts t]
theorem iblk3_apply (k : Fin 1024) (e : Fin 3072) : iblk m c 3 t (ix2 k e) = argW m c (thalf t e) k := by
  unfold argW thalf
  blk_ext [iblk, V, idx_facts t]
theorem iblk4_apply (k : Fin 1024) (e : Fin 128) : iblk m c 4 t (ix2 k e) = argN m c e k := by
  unfold argN
  blk_ext [iblk, V, idx_facts t]

/-! ## What each point stores -/

theorem tbatch_base : tbatch (base t) = tbatch t := Fin.ext (by show 2 * (t.val / 2) / 2 = t.val / 2; omega)

/-- A tile's rows, normalised and modulated. -/
theorem stored_rows (r : Fin 256) (k : Fin 1024) :
    k0_pay2 (iblk m c 0 (base t)) (iblk m c 2 (base t)) (iblk m c 1 (base t)) (ix2 r k)
      = modulated (argX m c (tbatch t) r) (argSh m c (tbatch t)) (argSc m c (tbatch t)) k := by
  refine (pay2_apply _ _ _ r k).trans ?_
  simp only [iblk0_apply, iblk1_apply, iblk2_apply, tbatch_base]

/-- The wide product a point stores. -/
theorem wide_point (z a : Fin 1) (r : Fin 256) (e : Fin 3072) : wideAt m c t (ix4 z a r e)
    = project (argX m c (tbatch t) r) (argSh m c (tbatch t)) (argSc m c (tbatch t)) (argW m c (thalf t e)) := by
  unfold wideAt rowsAt project
  refine (pay1_apply _ _ z a r e).trans (Finset.sum_congr rfl fun k _ => congrArg₂ _ ?_ (iblk3_apply m c t k e))
  exact (pay3_apply _ _ _ r k).trans (stored_rows m c t r k)

/-- The narrow product a tile's first point stores. -/
theorem narrow_point (z a : Fin 1) (r : Fin 256) (e : Fin 128) : narrowAt m c t (ix4 z a r e)
    = project (argX m c (tbatch t) r) (argSh m c (tbatch t)) (argSc m c (tbatch t)) (argN m c e) := by
  unfold narrowAt project
  exact (pay4_apply _ _ _ _ z a r e).trans (Finset.sum_congr rfl fun k _ => congrArg₂ _ (stored_rows m c t r k) (iblk4_apply m c _ k e))

/-! ## The two arrays after the run -/

/-- The wide result. -/
def wide : S8x1x256x6144.Idx → EReal := fun i =>
  project (argX m c (i 0) (i 2)) (argSh m c (i 0)) (argSc m c (i 0)) (argW m c (i 3))
/-- The narrow result. -/
def narrow : S8x1x256x128.Idx → EReal := fun i =>
  project (argX m c (i 0) (i 2)) (argSh m c (i 0)) (argSc m c (i 0)) (argN m c (i 3))

/-- The point that writes an index of the wide result back. -/
def wideWriter (b : Fin 8) (e : Fin 6144) : Fin cfg0.N := ⟨2 * b.val + e.val / 3072, by rw [show cfg0.N = 16 from N_0]; omega⟩
/-- The point that writes an index of the narrow result back. -/
def narrowWriter (b : Fin 8) : Fin cfg0.N := ⟨2 * b.val + 1, by rw [show cfg0.N = 16 from N_0]; omega⟩

/-- Some point writes each index of the wide result back. -/
theorem wide_covered (i : S8x1x256x6144.Idx) : ∃ t : Fin cfg0.N, (cfg0.win 5).flush t = true ∧ i ∈ ((cfg0.win 5).blk t).view.set := by
  refine ⟨wideWriter (i 0) (i 3), flush0_5 _, ?_⟩
  have h0 : (i 0).val < 8 := (i 0).isLt
  have h1 : (i 1).val < 1 := (i 1).isLt
  have h2 : (i 2).val < 256 := (i 2).isLt
  have h3 : (i 3).val < 6144 := (i 3).isLt
  have hv : (wideWriter (i 0) (i 3)).val = 2 * (i 0).val + (i 3).val / 3072 := rfl
  mem_blk [idx_facts]
  omega

/-- Some point writes each index of the narrow result back. -/
theorem narrow_covered (i : S8x1x256x128.Idx) : ∃ t : Fin cfg0.N, (cfg0.win 6).flush t = true ∧ i ∈ ((cfg0.win 6).blk t).view.set := by
  have h0 : (i 0).val < 8 := (i 0).isLt
  have h1 : (i 1).val < 1 := (i 1).isLt
  have h2 : (i 2).val < 256 := (i 2).isLt
  have h3 : (i 3).val < 128 := (i 3).isLt
  have hv : (narrowWriter (i 0)).val = 2 * (i 0).val + 1 := rfl
  refine ⟨narrowWriter (i 0), (flush0_6 _).mpr (by omega), ?_⟩
  mem_blk [idx_facts]
  omega

/-- An element of a point's block of the wide result, in the array. -/
theorem wide_place (z a : Fin 1) (r : Fin 256) (e : Fin 3072) :
    (win0_5.blk t).view.emb (ix4 z a r e) = ix4 (tbatch t) a r (thalf t e) := by
  unfold tbatch thalf
  blk_ext [idx_facts t]

/-- An element of a point's block of the narrow result, in the array. -/
theorem narrow_place (z a : Fin 1) (r : Fin 256) (e : Fin 128) :
    (win0_6.blk t).view.emb (ix4 z a r e) = ix4 (tbatch t) a r e := by
  unfold tbatch
  blk_ext [idx_facts t]

/-- The wide result's array after the run. -/
theorem wide_final : (dats m 0 c).arrAt 5 cfg0.N = wide m c := by
  refine (dats m 0 c).arrAt_eq_of_cover 5 _ (fun t hf => ?_) wide_covered
  funext y
  blk_simp
  rw [after_5]
  obtain ⟨z, a, r, e, rfl⟩ : ∃ (z a : Fin 1) (r : Fin 256) (e : Fin 3072), y = ix4 z a r e := ⟨y 0, y 1, y 2, y 3, eq_ix4 y⟩
  exact (wide_point m c t z a r e).trans (congrArg (wide m c) (wide_place t z a r e)).symm

/-- The narrow result's array after the run. -/
theorem narrow_final : (dats m 0 c).arrAt 6 cfg0.N = narrow m c := by
  refine (dats m 0 c).arrAt_eq_of_cover 6 _ (fun t hf => ?_) narrow_covered
  funext y
  blk_simp
  rw [after_6]
  obtain ⟨z, a, r, e, rfl⟩ : ∃ (z a : Fin 1) (r : Fin 256) (e : Fin 128), y = ix4 z a r e := ⟨y 0, y 1, y 2, y 3, eq_ix4 y⟩
  exact (narrow_point m c t z a r e).trans (congrArg (narrow m c) (narrow_place t z a r e)).symm

/-- The run leaves the two results, the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v0_0) = wide m c
      ∧ r.2.mem ((c.tc : Thread nD τ).loc main_v0_1) = narrow m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (wide_final m c), ((h.1 c).1 6).trans (narrow_final m c), h.2.1 c⟩)
    (θ_run_and (run_arrays m ρ) (frame m ρ))

end Cert.CtxcolIdeal.Gen

end
-- ==== Proof.CtxColRef.lean ====
/-
  The context's column-by-column projection's reference at an index.
-/
module

public import proofs.«01_k».proof.Proof.Norm
public import proofs.«01_k».proof.Proof.Gen.CtxcolReferenceIdeal.Run

@[expose] public section

set_option maxRecDepth 16384

noncomputable section

namespace Cert.CtxcolReferenceIdeal.Value

open Idealize.ShloMosaic Idealize.ShloMosaic.TcCoe Idealize.ShloMosaic.Tactic Idealize.ShloMosaic.StableHlo
open Cert.CtxcolReferenceIdeal Cert.CtxcolReferenceIdeal.Facts Cert.CtxcolReferenceIdeal.Gen Cert.Norm

variable {F : FTy → Type} [FloatOps F]

/-- Each row's mean. -/
def refMean (x : FVec F S8x256x1024 .f32) : FVec F S8x256x1 .f32 :=
  Host.divf (broadcastInDim S8x256x1 ![0, 1] bcast_S8x256_S8x256x1_0_1
      (Host.reduceAdd x (constant S_ .f32 0x00000000#32) reducesTo_S8x256x1024_S8x256_d2 h_S_))
    (broadcastInDim S8x256x1 ![] bcast_S_S8x256x1 (constant S_ .f32 0x44800000#32))

/-- Each row less its mean. -/
def refCentred (x : FVec F S8x256x1024 .f32) : FVec F S8x256x1024 .f32 :=
  subf x (broadcastInDim S8x256x1024 ![0, 1, 2] bcast_S8x256x1_S8x256x1024_0_1_2 (refMean x))

/-- Each row's layer norm. -/
def refNormed (x : FVec F S8x256x1024 .f32) : FVec F S8x256x1024 .f32 :=
  mulf (refCentred x) (broadcastInDim S8x256x1024 ![0, 1, 2] bcast_S8x256x1_S8x256x1024_0_1_2
    (Host.rsqrt (addf (refMean (mulf (refCentred x) (refCentred x))) (broadcastInDim S8x256x1 ![] bcast_S_S8x256x1 (constant S_ .f32 0x358637BD#32)))))

/-- The layer norm, scaled and shifted. -/
def refModulated (x : FVec F S8x256x1024 .f32) (sh sc : FVec F S8x1x1024 .f32) : FVec F S8x256x1024 .f32 :=
  addf (mulf (refNormed x) (broadcastInDim S8x256x1024 ![0, 1, 2] bcast_S8x1x1024_S8x256x1024_0_1_2
      (addf (broadcastInDim S8x1x1024 ![] bcast_S_S8x1x1024 (constant S_ .f32 0x3F800000#32)) sc)))
    (broadcastInDim S8x256x1024 ![0, 1, 2] bcast_S8x1x1024_S8x256x1024_0_1_2 sh)

/-- The wide projection, its rows in their order. -/
def refWide (x : FVec F S8x256x1024 .f32) (sh sc : FVec F S8x1x1024 .f32) (w : FVec F S1024x6144 .bf16) : FVec F S8x1x256x6144 .bf16 :=
  truncf .bf16 (shapeCast _
    (Host.dotGeneral dot_S8x256x1024_S1024x6144_S8x256x6144_2_0_01_1_n_n none (refModulated x sh sc) (extf .f32 w bitsLt_bf16_f32))
    shapeCasts_S8x256x6144_S8x1x256x6144) bitsLt_bf16_f32

/-- The narrow projection, likewise. -/
def refNarrow (x : FVec F S8x256x1024 .f32) (sh sc : FVec F S8x1x1024 .f32) (w : FVec F S1024x128 .bf16) : FVec F S8x1x256x128 .f32 :=
  shapeCast _
    (Host.dotGeneral dot_S8x256x1024_S1024x128_S8x256x128_2_0_01_1_n_n none (refModulated x sh sc) (extf .f32 w bitsLt_bf16_f32))
    shapeCasts_S8x256x128_S8x1x256x128

/-- The reference's run leaves the two projections, its arguments unchanged. -/
theorem run_projections (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = refWide (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v30) = refNarrow (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := run m ρ

/-- A row's mean, at an index. -/
theorem refMean_apply (x : FVec Ideal S8x256x1024 .f32) (b : Fin 8) (t : Fin 256) (z : Fin 1) :
    refMean x (ix3 b t z) = mean (fun k => x (ix3 b t k)) := by
  pointwise [refMean, mean]

/-- A row less its mean, at an index. -/
theorem refCentred_apply (x : FVec Ideal S8x256x1024 .f32) (b : Fin 8) (t : Fin 256) (k : Fin 1024) :
    refCentred x (ix3 b t k) = centred (fun j => x (ix3 b t j)) k := by
  pointwise [refCentred, refMean_apply, centred]

/-- The layer norm, at an index. -/
theorem refNormed_apply (x : FVec Ideal S8x256x1024 .f32) (b : Fin 8) (t : Fin 256) (k : Fin 1024) :
    refNormed x (ix3 b t k) = normed (fun j => x (ix3 b t j)) k := by
  pointwise [refNormed, refMean_apply, refCentred_apply, normed]

/-- The modulated layer norm, at an index. -/
theorem refModulated_apply (x : FVec Ideal S8x256x1024 .f32) (sh sc : FVec Ideal S8x1x1024 .f32) (b : Fin 8) (t : Fin 256) (k : Fin 1024) :
    refModulated x sh sc (ix3 b t k) = modulated (fun j => x (ix3 b t j)) (fun j => sh (ix3 b 0 j)) (fun j => sc (ix3 b 0 j)) k := by
  pointwise [refModulated, refNormed_apply, modulated]

/-- The wide projection, at an index. -/
theorem refWide_apply (x : FVec Ideal S8x256x1024 .f32) (sh sc : FVec Ideal S8x1x1024 .f32) (wt : FVec Ideal S1024x6144 .bf16)
    (b : Fin 8) (z : Fin 1) (r : Fin 256) (e : Fin 6144) :
    refWide x sh sc wt (ix4 b z r e) = project (fun j => x (ix3 b r j)) (fun j => sh (ix3 b 0 j))
      (fun j => sc (ix3 b 0 j)) (fun j => wt (ix2 j e)) := by
  pointwise [refWide, refModulated_apply, project]

/-- The narrow projection, at an index. -/
theorem refNarrow_apply (x : FVec Ideal S8x256x1024 .f32) (sh sc : FVec Ideal S8x1x1024 .f32) (wt : FVec Ideal S1024x128 .bf16)
    (b : Fin 8) (z : Fin 1) (r : Fin 256) (e : Fin 128) :
    refNarrow x sh sc wt (ix4 b z r e) = project (fun j => x (ix3 b r j)) (fun j => sh (ix3 b 0 j))
      (fun j => sc (ix3 b 0 j)) (fun j => wt (ix2 j e)) := by
  pointwise [refNarrow, refModulated_apply, project]

end Cert.CtxcolReferenceIdeal.Value

end
-- ==== Proof.CtxColEquation.lean ====
/-
  The context's column-by-column projection's equations: from equal arguments, the kernel's two results are the reference's.
-/
module

public import proofs.«01_k».proof.Proof.CtxColFold
public import proofs.«01_k».proof.Proof.CtxColRef

@[expose] public section

set_option maxRecDepth 16384

noncomputable section

namespace Cert.Equation

open Idealize.ShloMosaic Idealize.ShloMosaic.TcCoe Idealize.ShloMosaic.Tactic Cert.Norm

/-- The wide projection, computed by the kernel, is the wide projection of the reference, from the same arrays. -/
theorem ctxcol_wide_eq (m : (ℓ : Loc Cert.CtxcolIdeal.nD Cert.CtxcolIdeal.τ Cert.CtxcolIdeal.sig) → Buf (Elt Ideal) ℓ) (c : Dev Cert.CtxcolIdeal.nD) :
    (Cert.CtxcolReferenceIdeal.Value.refWide (F := Ideal) (m ((c.tc : Thread Cert.CtxcolIdeal.nD Cert.CtxcolIdeal.τ).loc Cert.CtxcolIdeal.main_arg0))
      (m ((c.tc : Thread Cert.CtxcolIdeal.nD Cert.CtxcolIdeal.τ).loc Cert.CtxcolIdeal.main_arg1))
      (m ((c.tc : Thread Cert.CtxcolIdeal.nD Cert.CtxcolIdeal.τ).loc Cert.CtxcolIdeal.main_arg2))
      (m ((c.tc : Thread Cert.CtxcolIdeal.nD Cert.CtxcolIdeal.τ).loc Cert.CtxcolIdeal.main_arg3)) : Cert.CtxcolIdeal.S8x1x256x6144.Idx → EReal)
      = Cert.CtxcolIdeal.Gen.wide m c := by
  funext i
  obtain ⟨b, w, r, e, rfl⟩ : ∃ (b : Fin 8) (w : Fin 1) (r : Fin 256) (e : Fin 6144), i = ix4 b w r e := ⟨i 0, i 1, i 2, i 3, eq_ix4 i⟩
  exact Cert.CtxcolReferenceIdeal.Value.refWide_apply _ _ _ _ b w r e

/-- The narrow projection, computed by the kernel, is the narrow projection of the reference, from the same arrays. -/
theorem ctxcol_narrow_eq (m : (ℓ : Loc Cert.CtxcolIdeal.nD Cert.CtxcolIdeal.τ Cert.CtxcolIdeal.sig) → Buf (Elt Ideal) ℓ) (c : Dev Cert.CtxcolIdeal.nD) :
    (Cert.CtxcolReferenceIdeal.Value.refNarrow (F := Ideal) (m ((c.tc : Thread Cert.CtxcolIdeal.nD Cert.CtxcolIdeal.τ).loc Cert.CtxcolIdeal.main_arg0))
      (m ((c.tc : Thread Cert.CtxcolIdeal.nD Cert.CtxcolIdeal.τ).loc Cert.CtxcolIdeal.main_arg1))
      (m ((c.tc : Thread Cert.CtxcolIdeal.nD Cert.CtxcolIdeal.τ).loc Cert.CtxcolIdeal.main_arg2))
      (m ((c.tc : Thread Cert.CtxcolIdeal.nD Cert.CtxcolIdeal.τ).loc Cert.CtxcolIdeal.main_arg4)) : Cert.CtxcolIdeal.S8x1x256x128.Idx → EReal)
      = Cert.CtxcolIdeal.Gen.narrow m c := by
  funext i
  obtain ⟨b, w, r, e, rfl⟩ : ∃ (b : Fin 8) (w : Fin 1) (r : Fin 256) (e : Fin 128), i = ix4 b w r e := ⟨i 0, i 1, i 2, i 3, eq_ix4 i⟩
  exact Cert.CtxcolReferenceIdeal.Value.refNarrow_apply _ _ _ _ b w r e

end Cert.Equation

end
-- ==== Proof.AdaFold.lean ====
/-
  The modulation's product: its payload at an index, its blocks, and its result's array after the run.
-/
module

public import proofs.«01_k».proof.Proof.Spec
public import proofs.«01_k».proof.Proof.Scalars
public import proofs.«01_k».proof.Proof.Gen.AdaIdeal.Value
public import Idealize.ShloMosaic.Lib.Pipeline.ValueKit.Point
public import Idealize.ShloMosaic.Lib.Pipeline.ValueKit
public import Idealize.ShloMosaic.Lib.Pipeline.ReadBack

@[expose] public section

set_option maxRecDepth 16384

noncomputable section

namespace Cert.AdaIdeal.Gen

open Idealize.ShloMosaic Idealize.ShloMosaic.TcCoe Idealize.ShloMosaic.Tactic Idealize.ShloMosaic.StableHlo

/-- `silu` as the kernel spells it. -/
def spelled (x : EReal) : EReal :=
  x * (Ideal.ofBits .f32 0x3F000000#32 * Ideal.tanh (Ideal.ofBits .f32 0x3F000000#32 * x) + Ideal.ofBits .f32 0x3F000000#32)

theorem spelled_eq (x : EReal) : spelled x = Cert.Hgrn.silu x := by
  unfold spelled Cert.Hgrn.silu
  rw [Cert.Hgrn.ofBits_half, Cert.Hgrn.sig_eq]

/-- The product of `silu` of the rows, and the bias. -/
theorem pay1_apply (x : Vec Ideal S16x1024 .f32) (w : Vec Ideal S1024x1024 .f32) (b : Vec Ideal S1x1024 .f32) (r : Fin 16) (e : Fin 1024) :
    k0_pay1 x w b (ix2 r e) = (∑ k : Fin 1024, spelled (x (ix2 r k)) * w (ix2 k e)) + b (ix2 0 e) := by
  pointwise [k0_pay1, spelled]

variable (m : (ℓ : Loc nD τ sig) → Buf (Elt Ideal) ℓ) (c : Dev nD) (t : Fin cfg0.N)

/-- The windows' block indices at each point. -/
theorem idx_facts : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- A conditioning vector. -/
def argC (r : Fin 16) (k : Fin 1024) : EReal := m ((c : Thread nD τ).loc main_arg0) (ix2 r k)
/-- A column of the weights. -/
def argW (e : Fin 6144) (k : Fin 1024) : EReal := m ((c : Thread nD τ).loc main_arg1) (ix2 k e)
/-- The bias. -/
def argB (e : Fin 6144) : EReal := m ((c : Thread nD τ).loc main_arg2) (ix1 e)

/-- A column of the point's tile. -/
def tcol (t : Fin cfg0.N) (e : Fin 1024) : Fin 6144 :=
  ⟨1024 * t.val + e.val, by have := lt_of_lt_of_eq t.isLt (show cfg0.N = 6 from N_0); omega⟩

/-- The bias as the call finds it, a row. -/
theorem bias_apply (z : Fin 1) (e : Fin 6144) : V m c main_v0 (ix2 z e) = argB m c e := by
  unfold argB V
  after_results_simp
  pointwise

theorem iblk0_apply (r : Fin 16) (k : Fin 1024) : iblk m c 0 t (ix2 r k) = argC m c r k := by
  unfold argC
  blk_ext [iblk, V, idx_facts t]
theorem iblk1_apply (k : Fin 1024) (e : Fin 1024) : iblk m c 1 t (ix2 k e) = argW m c (tcol t e) k := by
  unfold argW tcol
  blk_ext [iblk, V, idx_facts t]
theorem iblk2_apply (e : Fin 1024) : iblk m c 2 t (ix2 0 e) = argB m c (tcol t e) := by
  refine Eq.trans ?_ (bias_apply m c 0 (tcol t e))
  unfold tcol
  blk_ext [iblk, idx_facts t]

/-- The result. -/
def result : S16x6144.Idx → EReal := fun i =>
  (∑ k : Fin 1024, Cert.Hgrn.silu (argC m c (i 0) k) * argW m c (i 1) k) + argB m c (i 1)

/-- What a point's body leaves in the result's block. -/
theorem after_eq : (dats m 0 c).after 3 t = k0_pay1 (iblk m c 0 t) (iblk m c 1 t) (iblk m c 2 t) := by
  rw [after0_3]
  frame_out

/-- What each point stores. -/
theorem stored (r : Fin 16) (e : Fin 1024) :
    k0_pay1 (iblk m c 0 t) (iblk m c 1 t) (iblk m c 2 t) (ix2 r e) = result m c (ix2 r (tcol t e)) := by
  refine (pay1_apply _ _ _ r e).trans (congrArg₂ _ (Finset.sum_congr rfl fun k _ => ?_) (iblk2_apply m c t e))
  rw [spelled_eq, iblk0_apply, iblk1_apply]
  rfl

/-- The point that writes a column of the result back. -/
def writer (e : Fin 6144) : Fin cfg0.N := ⟨e.val / 1024, by rw [show cfg0.N = 6 from N_0]; omega⟩

/-- Some point writes each index of the result back. -/
theorem covered (i : S16x6144.Idx) : ∃ t : Fin cfg0.N, (cfg0.win 3).flush t = true ∧ i ∈ ((cfg0.win 3).blk t).view.set := by
  have h0 : (i 0).val < 16 := (i 0).isLt
  have h1 : (i 1).val < 6144 := (i 1).isLt
  have hv : (writer (i 1)).val = (i 1).val / 1024 := rfl
  refine ⟨writer (i 1), flush0_3 _, ?_⟩
  mem_blk [idx_facts]
  omega

/-- An element of a point's block of the result, in the array. -/
theorem place (r : Fin 16) (e : Fin 1024) : (win0_3.blk t).view.emb (ix2 r e) = ix2 r (tcol t e) := by
  unfold tcol
  blk_ext [idx_facts t]

/-- The result's array after the run. -/
theorem final : (dats m 0 c).arrAt 3 cfg0.N = result m c := by
  refine (dats m 0 c).arrAt_eq_of_cover 3 _ (fun t _ => ?_) covered
  funext y
  blk_simp
  rw [after_eq]
  obtain ⟨r, e, rfl⟩ : ∃ (r : Fin 16) (e : Fin 1024), y = ix2 r e := ⟨y 0, y 1, eq_ix2 y⟩
  exact (stored m c t r e).trans (congrArg (result m c) (place t r e)).symm

end Cert.AdaIdeal.Gen

end
-- ==== Proof.AdaEquation.lean ====
/-
  The modulation's product: the reference at an index, and the equation of the kernel's result with it.
-/
module

public import proofs.«01_k».proof.Proof.AdaFold
public import proofs.«01_k».proof.Proof.Gen.AdaReferenceIdeal.Run

@[expose] public section

set_option maxRecDepth 16384

noncomputable section

namespace Cert.AdaReferenceIdeal.Value

open Idealize.ShloMosaic Idealize.ShloMosaic.TcCoe Idealize.ShloMosaic.Tactic Idealize.ShloMosaic.StableHlo
open Cert.AdaReferenceIdeal Cert.AdaReferenceIdeal.Facts Cert.AdaReferenceIdeal.Gen

variable {F : FTy → Type} [FloatOps F]

/-- `silu`, as it is written out. -/
def refSilu (x : FVec F S16x1024 .f32) : FVec F S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- The product of `silu` of the conditioning vectors, and the bias. -/
def refAda (x : FVec F S16x1024 .f32) (w : FVec F S1024x6144 .f32) (b : FVec F S6144 .f32) : FVec F S16x6144 .f32 :=
  addf (Host.dotGeneral dot_S16x1024_S1024x6144_S16x6144_1_0_0_1_n_n none (refSilu x) w)
    (broadcastInDim S16x6144 ![0, 1] bcast_S1x6144_S16x6144_0_1 (broadcastInDim S1x6144 ![1] bcast_S6144_S1x6144_1 b))

/-- The reference's run leaves it, its arguments unchanged. -/
theorem run_ada (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refAda (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

/-- `silu`, at an index. -/
theorem refSilu_apply (x : FVec Ideal S16x1024 .f32) (r : Fin 16) (k : Fin 1024) : refSilu x (ix2 r k) = Cert.Hgrn.silu (x (ix2 r k)) := by
  pointwise [refSilu, Cert.Hgrn.silu, Ideal.logistic]

/-- The product and the bias, at an index. -/
theorem refAda_apply (x : FVec Ideal S16x1024 .f32) (w : FVec Ideal S1024x6144 .f32) (b : FVec Ideal S6144 .f32) (r : Fin 16) (e : Fin 6144) :
    refAda x w b (ix2 r e) = (∑ k : Fin 1024, Cert.Hgrn.silu (x (ix2 r k)) * w (ix2 k e)) + b (ix1 e) := by
  pointwise [refAda, refSilu_apply]

end Cert.AdaReferenceIdeal.Value

namespace Cert.Equation

open Idealize.ShloMosaic Idealize.ShloMosaic.TcCoe Idealize.ShloMosaic.Tactic

/-- The product, computed by the kernel, is the product of the reference, from the same arrays. -/
theorem ada_eq (m : (ℓ : Loc Cert.AdaIdeal.nD Cert.AdaIdeal.τ Cert.AdaIdeal.sig) → Buf (Elt Ideal) ℓ) (c : Dev Cert.AdaIdeal.nD) :
    (Cert.AdaReferenceIdeal.Value.refAda (F := Ideal) (m ((c.tc : Thread Cert.AdaIdeal.nD Cert.AdaIdeal.τ).loc Cert.AdaIdeal.main_arg0))
      (m ((c.tc : Thread Cert.AdaIdeal.nD Cert.AdaIdeal.τ).loc Cert.AdaIdeal.main_arg1))
      (m ((c.tc : Thread Cert.AdaIdeal.nD Cert.AdaIdeal.τ).loc Cert.AdaIdeal.main_arg2)) : Cert.AdaIdeal.S16x6144.Idx → EReal)
      = Cert.AdaIdeal.Gen.result m c := by
  funext i
  obtain ⟨r, e, rfl⟩ : ∃ (r : Fin 16) (e : Fin 6144), i = ix2 r e := ⟨i 0, i 1, eq_ix2 i⟩
  exact Cert.AdaReferenceIdeal.Value.refAda_apply _ _ _ r e

end Cert.Equation

end
-- ==== Proof.StateSum.lean ====
/-
  The recurrence's state in closed form: with real gate logarithms, the state after any number of chunks from the zero state
  is the sum over all rows of the key times the value, decayed by the logarithms after the row.
-/
module

public import proofs.«01_k».proof.Proof.Spec

@[expose] public section

noncomputable section

namespace Cert.Hgrn

open Idealize.ShloMosaic

/-- The gate's bound: positive. -/
def Positive (b : Fin 128 → EReal) : Prop := ∀ d, 0 < b d

/-- With a positive finite bound, the gate is a positive real number and its logarithm a real number. -/
theorem log_gate_real (b x : EReal) (h0 : 0 < b) (h1 : b < ⊤) : ∃ l : ℝ, Ideal.log (gate b x) = (l : EReal) := by
  obtain ⟨s, hs, hs0, hs1⟩ := logistic_real x
  unfold gate
  induction b with
  | bot => exact absurd h0 (by simp)
  | top => exact absurd h1 (lt_irrefl _)
  | coe b =>
    have hb : 0 < b := EReal.coe_pos.mp h0
    rw [hs, show (1 : EReal) = ((1 : ℝ) : EReal) by norm_cast, ← EReal.coe_sub, ← EReal.coe_mul, ← EReal.coe_add]
    have hg : 0 < b + (1 - b) * s := by
      rcases lt_or_eq_of_le hs1 with h | h
      · nlinarith [mul_pos hb (sub_pos.mpr h)]
      · rw [h]; linarith
    exact ⟨_, by rw [Ideal.log_coe, if_neg (not_le.mpr hg)]⟩

/-- The running sum by a lower-triangular matrix of ones, taken once of the logarithms and once of what rounding them
    would lose, which over the extended reals is nothing. -/
theorem cum_real (L : Fin 64 → EReal) (hL : ∀ s, ∃ l : ℝ, L s = (l : EReal)) (t : Fin 64) (T : Fin 64 → EReal)
    (hT : ∀ s : Fin 64, T s = if s.val ≤ t.val then 1 else 0) :
    (∑ s : Fin 64, T s * L s) + (∑ s : Fin 64, T s * (L s - L s)) = cum L t := by
  have h : ∀ s, L s - L s = 0 := fun s => by
    obtain ⟨l, hl⟩ := hL s
    rw [hl, ← EReal.coe_sub, sub_self]; rfl
  simp only [h, mul_zero, Finset.sum_const_zero, add_zero]
  exact Finset.sum_congr rfl fun s _ => by rw [hT]; split <;> simp

/-- A nonnegative real factor goes into a finite sum. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The sum of the first `n` of a sequence of real numbers. -/
def pre (g : ℕ → ℝ) (n : ℕ) : ℝ := ∑ s ∈ Finset.range n, g s

/-- The prefix sum of one chunk after `n` chunks. -/
theorem pre_add (g : ℕ → ℝ) (n m : ℕ) : pre g (n + m) = pre g n + ∑ s ∈ Finset.range m, g (n + s) := Finset.sum_range_add _ _ _

/-- The state of the first `n` rows: every key and value, decayed by the logarithms after its row. -/
def closed (g : ℕ → ℝ) (k v : ℕ → EReal) (n : ℕ) : EReal :=
  ∑ s ∈ Finset.range n, k s * ((Real.exp (pre g n - pre g (s + 1)) : ℝ) : EReal) * v s

/-- The running sum within a chunk of real logarithms. -/
theorem cum_range (g : ℕ → ℝ) (t : Fin 64) :
    cum (fun s : Fin 64 => (g s.val : EReal)) t = ((∑ s ∈ Finset.range (t.val + 1), g s : ℝ) : EReal) := by
  rw [cum_coe]
  congr 1
  rw [Fin.sum_univ_eq_sum_range (fun s => if s ≤ t.val then g s else 0) 64, ← Finset.sum_filter]
  refine Finset.sum_congr (Finset.ext fun s => ?_) fun _ _ => rfl
  simp only [Finset.mem_filter, Finset.mem_range]
  omega

/-- One more chunk. -/
theorem closed_step (g : ℕ → ℝ) (k v : ℕ → EReal) (n : ℕ) :
    closed g k v (n + 64) = Ideal.exp (cum (fun s : Fin 64 => (g (n + s.val) : EReal)) 63) * closed g k v n
      + ∑ s : Fin 64, k (n + s.val) * Ideal.exp (cum (fun r : Fin 64 => (g (n + r.val) : EReal)) 63
          - cum (fun r : Fin 64 => (g (n + r.val) : EReal)) s) * v (n + s.val) := by
  have hc : ∀ t, cum (fun s : Fin 64 => (g (n + s.val) : EReal)) t = ((∑ s ∈ Finset.range (t.val + 1), g (n + s) : ℝ) : EReal) :=
    fun t => cum_range (fun s => g (n + s)) t
  unfold closed
  rw [Finset.sum_range_add]
  congr 1
  · rw [hc, Ideal.exp_coe, coe_mul_sum _ _ (Real.exp_pos _).le]
    refine Finset.sum_congr rfl fun s _ => ?_
    have e : pre g (n + 64) - pre g (s + 1) = (∑ s ∈ Finset.range ((63 : Fin 64).val + 1), g (n + s)) + (pre g n - pre g (s + 1)) := by
      rw [pre_add]
      show _ + ∑ s ∈ Finset.range 64, g (n + s) - _ = ∑ s ∈ Finset.range 64, g (n + s) + _
      ring
    rw [e, Real.exp_add, EReal.coe_mul]
    rw [← mul_assoc, ← mul_assoc, ← mul_assoc]
    congr 1
    rw [mul_comm (k s)]
  · rw [← Fin.sum_univ_eq_sum_range (fun x => k (n + x) * ((Real.exp (pre g (n + 64) - pre g (n + x + 1)) : ℝ) : EReal) * v (n + x)) 64]
    refine Finset.sum_congr rfl fun s _ => ?_
    rw [hc, hc, ← EReal.coe_sub, Ideal.exp_coe]
    congr 3
    rw [add_assoc n, pre_add, pre_add]
    congr 1
    show _ + ∑ s ∈ Finset.range 64, g (n + s) - _ = ∑ s ∈ Finset.range 64, g (n + s) - _
    ring

/-- The recurrence from the zero state is the closed form. -/
theorem stateSeq_closed (b : Fin 128 → EReal) (f v : ℕ → Fin 64 → Fin 128 → EReal) (n : ℕ)
    (F V : ℕ → Fin 128 → EReal) (hf : ∀ j < n, ∀ t d, f j t d = F (64 * j + t.val) d)
    (hv : ∀ j < n, ∀ t d, v j t d = V (64 * j + t.val) d) (d e : Fin 128)
    (g : ℕ → ℝ) (hg : ∀ s, Ideal.log (gate (b d) (F s d)) = (g s : EReal)) :
    stateSeq b f v (fun _ _ => 0) n d e = closed g (fun s => 1 - gate (b d) (F s d)) (fun s => V s e) (64 * n) := by
  induction n with
  | zero => unfold closed; simp [stateSeq]
  | succ n ih =>
    have hx := closed_step g (fun s => 1 - gate (b d) (F s d)) (fun s => V s e) (64 * n)
    rw [show 64 * (n + 1) = 64 * n + 64 by ring, hx, ← ih (fun j h => hf j (by omega)) (fun j h => hv j (by omega))]
    have hl : (fun r : Fin 64 => hl b (f n) r d) = fun s : Fin 64 => (g (64 * n + s.val) : EReal) := by
      funext s
      show Ideal.log (gate (b d) (f n s d)) = _
      rw [hf n (by omega), hg]
    show chunkState (hk b (f n)) (v n) (Cert.Hgrn.hl b (f n)) (stateSeq b f v (fun _ _ => 0) n) d e = _
    unfold chunkState
    rw [hl]
    congr 1
    refine Finset.sum_congr rfl fun s _ => ?_
    rw [hv n (by omega)]
    show (1 - gate (b d) (f n s d)) * _ * _ = _
    rw [hf n (by omega)]

end Cert.Hgrn

end
-- ==== Proof.StateTop.lean ====
/-
  The recurrence where the gate's bound is infinite: the logarithms are infinite, every decay is zero, and from the zero state
  the state stays zero.
-/
module

public import proofs.«01_k».proof.Proof.StateSum

@[expose] public section

noncomputable section

namespace Cert.Hgrn

open Idealize.ShloMosaic

/-- With an infinite bound, the gate's logarithm is infinite. -/
theorem log_gate_top (x : EReal) : Ideal.log (gate ⊤ x) = ⊤ ∨ Ideal.log (gate ⊤ x) = ⊥ := by
  obtain ⟨s, hs, hs0, hs1⟩ := logistic_real x
  have h1 : (1 : EReal) - ⊤ = ⊥ := EReal.sub_top _
  unfold gate
  rw [hs, h1]
  rcases lt_or_eq_of_le hs0 with h | h
  · right
    rw [EReal.bot_mul_coe_of_pos h, EReal.add_bot]
    rfl
  · left
    rw [← h, EReal.coe_zero, mul_zero, add_zero]
    rfl

/-- An infinite number less itself. -/
theorem inf_sub_self (L : EReal) (h : L = ⊤ ∨ L = ⊥) : L - L = ⊥ := by
  rcases h with h | h <;> rw [h] <;> rfl

/-- The running sum of infinite numbers by a lower-triangular matrix of ones, with what rounding them would lose. -/
theorem cum_inf (L : Fin 64 → EReal) (hL : ∀ s, L s = ⊤ ∨ L s = ⊥) (t : Fin 64) (T : Fin 64 → EReal) (hT : T t = 1) :
    (∑ s : Fin 64, T s * L s) + (∑ s : Fin 64, T s * (L s - L s)) = ⊥ := by
  rw [← Finset.add_sum_erase _ (fun s => T s * (L s - L s)) (Finset.mem_univ t)]
  simp only [hT, inf_sub_self _ (hL t), one_mul, EReal.bot_add, EReal.add_bot]

/-- A difference of running sums of infinite numbers, the first over all of them. -/
theorem sums_inf (L : Fin 256 → EReal) (hL : ∀ s, L s = ⊤ ∨ L s = ⊥) (s : Fin 256) :
    (∑ r : Fin 256, if r.val ≤ (255 : Fin 256).val then L r else 0) - (∑ r : Fin 256, if r.val ≤ s.val then L r else 0) = ⊥ := by
  by_cases h : ∃ r, L r = ⊥
  · obtain ⟨r, hr⟩ := h
    rw [← Finset.add_sum_erase _ (fun r : Fin 256 => if r.val ≤ (255 : Fin 256).val then L r else 0) (Finset.mem_univ r)]
    have hr' : r.val ≤ (255 : Fin 256).val := Nat.le_of_lt_succ r.isLt
    simp only [if_pos hr', hr, EReal.bot_add]
    rw [sub_eq_add_neg]
    exact EReal.bot_add _
  · have ht : ∀ r, L r = ⊤ := fun r => (hL r).resolve_right fun e => h ⟨r, e⟩
    rw [← Finset.add_sum_erase _ (fun r : Fin 256 => if r.val ≤ s.val then L r else 0) (Finset.mem_univ s)]
    have h0 : (0 : EReal) ≤ ∑ r ∈ Finset.univ.erase s, if r.val ≤ s.val then L r else 0 :=
      Finset.sum_nonneg fun r _ => by rw [ht]; split <;> simp
    simp only [if_pos (le_refl s.val), ht s]
    rw [EReal.top_add_of_ne_bot (ne_of_gt (lt_of_lt_of_le EReal.bot_lt_zero h0)), EReal.sub_top]

/-- One chunk's next state: zero in the rows of an infinite bound, where every decay vanishes. -/
def stepPos (b : Fin 128 → EReal) (f v : Fin 64 → Fin 128 → EReal) (S : Fin 128 → Fin 128 → EReal) (d e : Fin 128) : EReal :=
  if b d = ⊤ then 0 else stepState b f v S d e

/-- The state before chunk `n`, of positive bounds. -/
def seqPos (b : Fin 128 → EReal) (f v : ℕ → Fin 64 → Fin 128 → EReal) (S : Fin 128 → Fin 128 → EReal) :
    ℕ → Fin 128 → Fin 128 → EReal
  | 0 => S
  | n + 1 => stepPos b (f n) (v n) (seqPos b f v S n)

/-- In a row of an infinite bound the state stays zero. -/
theorem seqPos_top (b : Fin 128 → EReal) (f v : ℕ → Fin 64 → Fin 128 → EReal) (n : ℕ) (d e : Fin 128) (hd : b d = ⊤) :
    seqPos b f v (fun _ _ => 0) n d e = 0 := by
  cases n with
  | zero => rfl
  | succ n => exact if_pos hd

/-- In a row of a finite bound the state is the recurrence's. -/
theorem seqPos_fin (b : Fin 128 → EReal) (f v : ℕ → Fin 64 → Fin 128 → EReal) (S : Fin 128 → Fin 128 → EReal) (n : ℕ) (d e : Fin 128)
    (hd : b d ≠ ⊤) : seqPos b f v S n d e = stateSeq b f v S n d e := by
  induction n with
  | zero => rfl
  | succ n ih =>
    refine (if_neg hd).trans ?_
    show chunkState _ _ _ _ d e = chunkState _ _ _ _ d e
    unfold chunkState
    rw [ih]

end Cert.Hgrn

end
-- ==== Proof.StateMath.lean ====
/-
  What one head of one chunk computes, over the extended reals: the next state is `stepPos` of the head's columns.
-/
module

public import proofs.«01_k».proof.Proof.StateBlock
public import proofs.«01_k».proof.Proof.StateTop
public import Idealize.ShloMosaic.Lib.Pointwise
public import Idealize.ShloMosaic.Lib.Pipeline.ValueKit
public import Idealize.ShloMosaic.Lib.Pipeline.ReadBack
public import Idealize.ShloMosaic.Lib.Ring

@[expose] public section

set_option maxRecDepth 16384

noncomputable section

namespace Cert.StateIdeal.Gen

open Idealize.ShloMosaic Idealize.ShloMosaic.TcCoe Idealize.ShloMosaic.Tactic
open Cert.Hgrn

/-- The gate at an index. -/
theorem gate_apply (lb : Vec Ideal S1x1024 .f32) (G : Vec Ideal S1x64x1024 .bf16) (t : Fin 64) (c : Fin 1024) :
    k0_pay7 (F := Ideal) lb G (ix2 t c) = gate (lb (ix2 0 c)) (G (ix3 0 t c)) := by
  pointwise [k0_pay7]
  rw [ofBits_half, sig_eq]; rfl

/-- The keys at an index. -/
theorem blkK_apply (lb : Vec Ideal S1x1024 .f32) (G : Vec Ideal S1x64x1024 .bf16) (t : Fin 64) (c : Fin 1024) :
    blkK (F := Ideal) lb G (ix2 t c) = 1 - gate (lb (ix2 0 c)) (G (ix3 0 t c)) := by
  pointwise [blkK, k0_pay8, k0_pay7]
  rw [ofBits_half, sig_eq]; rfl

/-- The values at an index. -/
theorem blkV_apply (V : Vec Ideal S1x64x1024 .bf16) (t : Fin 64) (c : Fin 1024) :
    blkV (F := Ideal) V (ix2 t c) = V (ix3 0 t c) := by
  pointwise [blkV, k0_pay10]

/-- The triangular matrix of ones. -/
def IsTri (tri : Vec Ideal S64x64 .f32) : Prop := ∀ t s : Fin 64, tri (ix2 t s) = if s.val ≤ t.val then (1 : EReal) else 0

/-- The running sums at an index. -/
theorem blkC_apply (lb : Vec Ideal S1x1024 .f32) (tri : Vec Ideal S64x64 .f32) (G : Vec Ideal S1x64x1024 .bf16) (htri : IsTri tri)
    (c : Fin 1024) (hb : 0 < lb (ix2 0 c) ∧ lb (ix2 0 c) < ⊤) (t : Fin 64) :
    blkC (F := Ideal) lb tri G (ix2 t c) = cum (fun s => Ideal.log (gate (lb (ix2 0 c)) (G (ix3 0 s c)))) t := by
  have hL : ∀ s : Fin 64, k0_pay7 (F := Ideal) lb G (ix2 s c) = gate (lb (ix2 0 c)) (G (ix3 0 s c)) :=
    fun s => gate_apply lb G s c
  pointwise [blkC, k0_pay9, k0_pay6]
  simp only [hL]
  exact cum_real (fun s => Ideal.log (gate (lb (ix2 0 c)) (G (ix3 0 s c)))) (fun s => log_gate_real _ _ hb.1 hb.2) t
    (fun s => tri (ix2 t s)) (htri t)

/-- The running sums of a column of an infinite bound. -/
theorem blkC_top (lb : Vec Ideal S1x1024 .f32) (tri : Vec Ideal S64x64 .f32) (G : Vec Ideal S1x64x1024 .bf16) (htri : IsTri tri)
    (c : Fin 1024) (hb : lb (ix2 0 c) = (⊤ : EReal)) (t : Fin 64) : blkC (F := Ideal) lb tri G (ix2 t c) = (⊥ : EReal) := by
  have hL : ∀ s : Fin 64, k0_pay7 (F := Ideal) lb G (ix2 s c) = gate ⊤ (G (ix3 0 s c)) :=
    fun s => by rw [gate_apply lb G s c, hb]
  pointwise [blkC, k0_pay9, k0_pay6]
  simp only [hL]
  exact cum_inf (fun s => Ideal.log (gate ⊤ (G (ix3 0 s c)))) (fun s => log_gate_top _) t (fun s => tri (ix2 t s))
    (by show tri (ix2 t t) = 1; rw [htri, if_pos (le_refl _)])

/-- The keys carried to the chunk's end. -/
theorem kst_apply (K C : FVec Ideal S64x1024 .f32) (t : Fin 64) (c : Fin 1024) :
    k0_pay15 (F := Ideal) K C (ix2 t c) = K (ix2 t c) * Ideal.exp (C (ix2 63 c) - C (ix2 t c)) := by
  pointwise [k0_pay15, k0_pay14]

/-- The whole chunk's decay. -/
theorem dec_apply (C : FVec Ideal S64x1024 .f32) (c : Fin 1024) :
    k0_pay16 (F := Ideal) C (ix2 0 c) = Ideal.exp (C (ix2 63 c)) := by
  pointwise [k0_pay16, k0_pay14]

/-- The next state from the chunk's arrays. -/
theorem headNext_apply (o : ℕ) (w : S64x1024.Slices ![0, o] S64x128) (w' : S1x1024.Slices ![0, o] S1x128)
    (v kst : FVec Ideal S64x1024 .bf16) (dec : FVec Ideal S1x1024 .f32) (st : Vec Ideal S1x1x128x128 .f32) (e d : Fin 128)
    (cc : Fin 128 → Fin 1024) (hc : ∀ d, (cc d).val = o + d.val) :
    headNext (F := Ideal) o w w' v kst dec st (ix4 0 0 e d)
      = dec (ix2 0 (cc d)) * st (ix4 0 0 e d) + ∑ s : Fin 64, v (ix2 s (cc e)) * kst (ix2 s (cc d)) := by
  have h : ∀ d : Fin 128, cc d = ⟨o + d.val, (hc d) ▸ (cc d).isLt⟩ := fun d => Fin.ext (hc d)
  rw [h d, h e]
  pointwise [headNext]

/-- A block's columns of one head. -/
def rows (A : Vec Ideal S1x64x1024 .bf16) (h : Fin 8) : Fin 64 → Fin 128 → EReal := fun t d => A (ix3 0 t (col h d))

/-- The bounds of one head. -/
def bnd (lb : Vec Ideal S1x1024 .f32) (h : Fin 8) : Fin 128 → EReal := fun d => lb (ix2 0 (col h d))

/-- A state slab as key row, value column. -/
def slab (st : Vec Ideal S1x1x128x128 .f32) : Fin 128 → Fin 128 → EReal := fun d e => st (ix4 0 0 e d)

/-- One head's next state is the recurrence's. -/
theorem headState_apply (h : Fin 8) (o : ℕ) (ho : o = 128 * h.val) (w : S64x1024.Slices ![0, o] S64x128) (w' : S1x1024.Slices ![0, o] S1x128)
    (lb : Vec Ideal S1x1024 .f32) (tri : Vec Ideal S64x64 .f32) (htri : IsTri tri) (hb : Positive (bnd lb h))
    (G V : Vec Ideal S1x64x1024 .bf16) (st : Vec Ideal S1x1x128x128 .f32) (e d : Fin 128) :
    headState (F := Ideal) o w w' lb tri G V st (ix4 0 0 e d) = stepPos (bnd lb h) (rows G h) (rows V h) (slab st) d e := by
  unfold headState
  rw [headNext_apply o w w' _ _ _ st e d (col h) (fun d => by subst ho; rfl), dec_apply]
  simp only [kst_apply]
  unfold stepPos
  by_cases hd : bnd lb h d = ⊤
  · rw [if_pos hd]
    simp only [blkC_top lb tri G htri _ hd, inf_sub_self ⊥ (Or.inr rfl), Ideal.exp_bot, mul_zero, zero_mul, Finset.sum_const_zero, add_zero]
  · rw [if_neg hd]
    have hC := blkC_apply lb tri G htri (col h d) ⟨hb d, lt_top_iff_ne_top.mpr hd⟩
    simp only [blkK_apply, hC, blkV_apply]
    unfold stepState chunkState
    refine congrArg₂ _ rfl (Finset.sum_congr rfl fun s _ => mul_comm _ _)

end Cert.StateIdeal.Gen

end
-- ==== Proof.StatePre.lean ====
/-
  The state's precondition: every entry of the bound is positive.
-/
module

public import proofs.«01_k».proof.Defs
public import proofs.«01_k».proof.Proof.StateFold
public import Idealize.ShloMosaic.Lib.ReduceAll
public import Idealize.ShloMosaic.Lib.WordArith

@[expose] public section

set_option maxRecDepth 16384

noncomputable section

namespace Cert.Pre_lb_positive

open Idealize.ShloMosaic Idealize.ShloMosaic.Tactic Cert.Hgrn

/-- The predicate's shape facts. -/
instance facts : Facts where
  bcast_S_S1x1024 := by decide
  reducesTo_S1x1024_S_d0_1 := by decide
  h_S_ := by decide

/-- Where the predicate is true, each entry is positive. -/
theorem bound_of (x : FVec Ideal S8x256x7168 .bf16) (z : FVec Ideal S1x1024 .f32)
    (h : fn (F := Ideal) x z = fun _ => 1#1) (k : Fin 1024) :
    (0 : EReal) < z (ix2 0 k) := by
  haveI : Subsingleton S_.Idx := ⟨fun a b => funext fun i => i.elim0⟩
  have q := Host.reduce_andi_all _ _ Facts.reducesTo_S1x1024_S_d0_1 Facts.h_S_ ix0 (congrFun h ix0) (ix2 0 k)
  have e : Ideal.cmp .ogt (z (ix2 0 k)) (Ideal.ofBits .f32 0x00000000#32) = 1#1 := q
  rw [Ideal.ofBits_zero_f32] at e
  simp only [Ideal.cmp] at e
  rw [show ∀ p : Bool, (BitVec.ofBool p = 1#1) = (p = true) by decide] at e
  simpa using e

end Cert.Pre_lb_positive

end
-- ==== Proof.StateEquation.lean ====
/-
  The state's reference at an index, and the equation of the kernel's result with it.
-/
module

public import proofs.«01_k».proof.Proof.StateFold
public import proofs.«01_k».proof.Proof.Gen.StateReferenceIdeal.Run

@[expose] public section

set_option maxRecDepth 16384

noncomputable section

namespace Cert.StateReferenceIdeal.Value

open Idealize.ShloMosaic Idealize.ShloMosaic.TcCoe Idealize.ShloMosaic.Tactic Idealize.ShloMosaic.StableHlo
open Cert.StateReferenceIdeal Cert.StateReferenceIdeal.Facts Cert.StateReferenceIdeal.Gen Cert.Hgrn

variable {F : FTy → Type} [FloatOps F]

/-- The logistic function, as it is written out. -/
def refSig (x : FVec F S8x256x1024 .f32) : FVec F S8x256x1024 .f32 :=
  Host.divf (broadcastInDim S8x256x1024 ![] bcast_S_S8x256x1024 (constant S_ .f32 0x3F800000#32))
    (addf (broadcastInDim S8x256x1024 ![] bcast_S_S8x256x1024 (constant S_ .f32 0x3F800000#32)) (Host.exp (Host.negf x)))

/-- A row of 1024 numbers, the same for every batch and time. -/
def spread (b : FVec F S1024 .f32) : FVec F S8x256x1024 .f32 :=
  broadcastInDim S8x256x1024 ![0, 1, 2] bcast_S1x1x1024_S8x256x1024_0_1_2 (broadcastInDim S1x1x1024 ![2] bcast_S1024_S1x1x1024_2 b)

/-- The forget gates. -/
def refG (A : FVec F S8x256x7168 .bf16) (b : FVec F S1x1024 .f32) : FVec F S8x256x1024 .f32 :=
  addf (spread (shapeCast _ b shapeCasts_S1x1024_S1024))
    (mulf (spread (subf (broadcastInDim S1024 ![] bcast_S_S1024 (constant S_ .f32 0x3F800000#32)) (shapeCast _ b shapeCasts_S1x1024_S1024)))
      (refSig (extractStridedSlice S8x256x1024 ![0, 0, 0] (extf .f32 A bitsLt_bf16_f32) slices_S8x256x7168_S8x256x1024_0_0_0)))

/-- An array's columns as eight heads of 128. -/
def heads (x : FVec F S8x256x1024 .f32) : FVec F S8x256x8x128 .f32 := shapeCast _ x shapeCasts_S8x256x1024_S8x256x8x128

/-- The keys. -/
def refK (A : FVec F S8x256x7168 .bf16) (b : FVec F S1x1024 .f32) : FVec F S8x256x8x128 .f32 :=
  heads (subf (broadcastInDim S8x256x1024 ![] bcast_S_S8x256x1024 (constant S_ .f32 0x3F800000#32)) (refG A b))

/-- The gates' logarithms. -/
def refL (A : FVec F S8x256x7168 .bf16) (b : FVec F S1x1024 .f32) : FVec F S8x256x8x128 .f32 := heads (Host.log (refG A b))

/-- The values. -/
def refV (A : FVec F S8x256x7168 .bf16) : FVec F S8x256x8x128 .f32 :=
  heads (extractStridedSlice S8x256x1024 ![0, 0, 2048] (extf .f32 A bitsLt_bf16_f32) slices_S8x256x7168_S8x256x1024_0_0_2048)

/-- Running sums down the rows. -/
def sums (x : FVec F S8x256x8x128 .f32) : FVec F S8x256x8x128 .f32 :=
  Host.reduceWindowAdd ![1, 256, 1, 1] ![1, 1, 1, 1] ![0, 255, 0, 0] ![0, 0, 0, 0] x
    (broadcastInDim S_ ![] bcast_S_S_ (constant S_ .f32 0x00000000#32))
    reduceWindows_S8x256x8x128_S8x256x8x128_w1s1p0_0_w256s1p255_0_w1s1p0_0_w1s1p0_0 h_S_

/-- The states, from keys, values and running sums. -/
def refState (k v g : FVec F S8x256x8x128 .f32) : FVec F S8x8x128x128 .f32 :=
  transpose S8x8x128x128 [0, 1, 3, 2] (Host.dotGeneral dot_S8x256x8x128_S8x256x8x128_S8x8x128x128_1_1_3_3_02_02 none
    (mulf k (Host.exp (subf (broadcastInDim S8x256x8x128 ![0, 1, 2, 3] bcast_S8x1x8x128_S8x256x8x128_0_1_2_3
      (extractStridedSlice S8x1x8x128 ![0, 255, 0, 0] g slices_S8x256x8x128_S8x1x8x128_0_255_0_0)) g))) v) transposes_S8x8x128x128_S8x8x128x128_0_1_3_2

/-- The reference's run leaves them, its arguments unchanged. -/
theorem run_state (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = refState (refK (m ((c.tc : Thread nD τ).loc main_arg0)) (m ((c.tc : Thread nD τ).loc main_arg1)))
        (refV (m ((c.tc : Thread nD τ).loc main_arg0))) (sums (refL (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := run m ρ

/-- The logistic function, at an index. -/
theorem refSig_apply (x : FVec Ideal S8x256x1024 .f32) (i : S8x256x1024.Idx) : refSig x i = Ideal.logistic (x i) := by
  pointwise [refSig, Ideal.logistic]
  all_goals rw [ofBits_one]

/-- The gates, at an index. -/
theorem refG_apply (A : FVec Ideal S8x256x7168 .bf16) (b : FVec Ideal S1x1024 .f32) (B : Fin 8) (T : Fin 256) (k : Fin 1024) :
    (refG (F := Ideal) A b (ix3 B T k) : EReal) = gate (b (ix2 0 k)) (A (ix3 B T ⟨k.val, by omega⟩)) := by
  pointwise [refG, gate, spread, refSig_apply, ofBits_one]

/-- One head's columns. -/
theorem heads_apply (x : FVec Ideal S8x256x1024 .f32) (B : Fin 8) (T : Fin 256) (h : Fin 8) (d : Fin 128) :
    heads x (ix4 B T h d) = x (ix3 B T (col h d)) := by
  pointwise [heads]
  exact congrArg (fun c => x (ix3 B T c)) (Fin.ext (by show h.val * 128 + d.val = 128 * h.val + d.val; omega))

/-- The keys, at an index. -/
theorem refK_apply (A : FVec Ideal S8x256x7168 .bf16) (b : FVec Ideal S1x1024 .f32) (B : Fin 8) (T : Fin 256) (h : Fin 8) (d : Fin 128) :
    (refK (F := Ideal) A b (ix4 B T h d) : EReal) = 1 - gate (b (ix2 0 (col h d))) (A (ix3 B T ⟨(col h d).val, by omega⟩)) := by
  unfold refK
  rw [heads_apply]
  pointwise [refG_apply, ofBits_one]

/-- The gates' logarithms, at an index. -/
theorem refL_apply (A : FVec Ideal S8x256x7168 .bf16) (b : FVec Ideal S1x1024 .f32) (B : Fin 8) (T : Fin 256) (h : Fin 8) (d : Fin 128) :
    (refL (F := Ideal) A b (ix4 B T h d) : EReal) = Ideal.log (gate (b (ix2 0 (col h d))) (A (ix3 B T ⟨(col h d).val, by omega⟩))) := by
  unfold refL
  rw [heads_apply]
  pointwise [refG_apply]

/-- The values, at an index. -/
theorem refV_apply (A : FVec Ideal S8x256x7168 .bf16) (B : Fin 8) (T : Fin 256) (h : Fin 8) (e : Fin 128) :
    (refV (F := Ideal) A (ix4 B T h e) : EReal) = A (ix3 B T ⟨2048 + (col h e).val, by omega⟩) := by
  unfold refV
  rw [heads_apply]
  pointwise

/-- The states, at an index. -/
theorem refState_apply (k v g : FVec Ideal S8x256x8x128 .f32) (B h : Fin 8) (e d : Fin 128) :
    refState k v g (ix4 B h e d) = ∑ s : Fin 256, k (ix4 B s h d) * Ideal.exp (g (ix4 B 255 h d) - g (ix4 B s h d)) * v (ix4 B s h e) := by
  pointwise [refState]

/-- A left fold of sums is the start and the sum. -/
theorem foldl_sum (N : ℕ) (g : Fin N → EReal) (z : EReal) :
    (List.finRange N).foldl (fun r n => r + g n) z = z + ∑ n, g n := by
  rw [← List.sum_ofFn, List.ofFn_eq_map]
  generalize List.finRange N = l
  induction l generalizing z with
  | nil => simp
  | cons a l ih => rw [List.foldl_cons, ih, List.map_cons, List.sum_cons, add_assoc]

/-- The window of running sums: 256 rows of one column. -/
abbrev W : Shape := ⟨4, ![1, 256, 1, 1]⟩

/-- The window has 256 positions. -/
theorem window_numel : W.numel = 256 := by decide +kernel

/-- The window's positions, in order, are its rows. -/
theorem window_pos : ∀ n : Fin W.numel, (W.rowMajor.symm n 0).val = 0 ∧ (W.rowMajor.symm n 1).val = n.val
    ∧ (W.rowMajor.symm n 2).val = 0 ∧ (W.rowMajor.symm n 3).val = 0 := by
  decide +kernel

/-- Sums over a window padded with zeros above are running sums. -/
theorem prefix_sum (f : Fin 256 → EReal) (t : Fin 256) :
    (∑ n : Fin 256, if h : 255 ≤ t.val + n.val then f ⟨t.val + n.val - 255, by omega⟩ else 0)
      = ∑ s : Fin 256, if s.val ≤ t.val then f s else 0 := by
  rw [← Equiv.sum_comp (Equiv.addRight (t + 1)) (fun s : Fin 256 => if s.val ≤ t.val then f s else 0)]
  refine Finset.sum_congr rfl fun n _ => ?_
  have e : (Equiv.addRight (t + 1) n).val = (n.val + (t.val + 1)) % 256 := by
    show (n + (t + 1)).val = _
    rw [Fin.val_add, Fin.val_add]
    simp
  split
  · next h =>
    rw [if_pos (by rw [e]; omega)]
    exact congrArg f (Fin.ext (by rw [e]; show t.val + n.val - 255 = _; omega))
  · next h => rw [if_neg (by rw [e]; omega)]

/-- The reference's running sums. -/
theorem sums_apply (x : FVec Ideal S8x256x8x128 .f32) (b : Fin 8) (t : Fin 256) (h : Fin 8) (d : Fin 128) :
    sums x (ix4 b t h d) = ∑ s : Fin 256, if s.val ≤ t.val then x (ix4 b s h d) else 0 := by
  have hz : (broadcastInDim S_ ![] bcast_S_S_ (constant (F := Ideal) S_ .f32 0x00000000#32) : FVec Ideal S_ .f32) (Shape.Idx.first h_S_) = (0 : EReal) :=
    Ideal.ofBits_zero_f32
  unfold sums Host.reduceWindowAdd
  rw [Ideal.hostReduceWindowAdd_def]
  unfold Ideal.hostReduceWindowAdd Host.reduceWindow
  simp only [hz]
  rw [foldl_sum, zero_add, ← prefix_sum (fun s => x (ix4 b s h d))]
  refine Fintype.sum_equiv (finCongr window_numel) _ _ fun n => ?_
  obtain ⟨h0, h1, h2, h3⟩ := window_pos n
  have hn : (finCongr window_numel n).val = n.val := rfl
  split
  · next hin =>
    have q := (hin 1).1
    change 255 ≤ t.val * 1 + (W.rowMajor.symm n 1).val at q
    rw [dif_pos (by rw [hn]; omega)]
    refine congrArg x (funext fun a => Fin.ext ?_)
    match a with
    | ⟨0, _⟩ => show b.val * 1 + (W.rowMajor.symm n 0).val - 0 = b.val; rw [h0]; omega
    | ⟨1, _⟩ => show t.val * 1 + (W.rowMajor.symm n 1).val - 255 = t.val + n.val - 255; rw [h1]; omega
    | ⟨2, _⟩ => show h.val * 1 + (W.rowMajor.symm n 2).val - 0 = h.val; rw [h2]; omega
    | ⟨3, _⟩ => show d.val * 1 + (W.rowMajor.symm n 3).val - 0 = d.val; rw [h3]; omega
  · next hin =>
    rw [dif_neg ?_]
    intro q
    rw [hn] at q
    refine hin fun a => ?_
    match a with
    | ⟨0, _⟩ =>
      show 0 ≤ b.val * 1 + (W.rowMajor.symm n 0).val ∧ b.val * 1 + (W.rowMajor.symm n 0).val - 0 < 8
      rw [h0]; omega
    | ⟨1, _⟩ =>
      show 255 ≤ t.val * 1 + (W.rowMajor.symm n 1).val ∧ t.val * 1 + (W.rowMajor.symm n 1).val - 255 < 256
      rw [h1]; omega
    | ⟨2, _⟩ =>
      show 0 ≤ h.val * 1 + (W.rowMajor.symm n 2).val ∧ h.val * 1 + (W.rowMajor.symm n 2).val - 0 < 8
      rw [h2]; omega
    | ⟨3, _⟩ =>
      show 0 ≤ d.val * 1 + (W.rowMajor.symm n 3).val ∧ d.val * 1 + (W.rowMajor.symm n 3).val - 0 < 128
      rw [h3]; omega

/-- Running sums of real numbers. -/
theorem sums_real (g : ℕ → ℝ) (t : Fin 256) :
    (∑ s : Fin 256, if s.val ≤ t.val then ((g s.val : ℝ) : EReal) else 0) = ((pre g (t.val + 1) : ℝ) : EReal) := by
  have hs : ∀ A : Finset ℕ, ∑ s ∈ A, ((g s : ℝ) : EReal) = ((∑ s ∈ A, g s : ℝ) : EReal) := by
    intro A
    classical
    induction A using Finset.induction_on with
    | empty => simp
    | insert a A ha ih => rw [Finset.sum_insert ha, Finset.sum_insert ha, ih, EReal.coe_add]
  unfold pre
  rw [← hs, Fin.sum_univ_eq_sum_range (fun s => if s ≤ t.val then ((g s : ℝ) : EReal) else 0) 256, ← Finset.sum_filter]
  refine Finset.sum_congr (Finset.ext fun s => ?_) fun _ _ => rfl
  simp only [Finset.mem_filter, Finset.mem_range]
  omega

/-- The states from the arguments are the closed form of the recurrence. -/
theorem refState_closed (A : FVec Ideal S8x256x7168 .bf16) (b : FVec Ideal S1x1024 .f32) (B h : Fin 8) (e d : Fin 128)
    (F V : ℕ → EReal) (hF : ∀ s : Fin 256, A (ix3 B s ⟨(col h d).val, by omega⟩) = F s.val)
    (hV : ∀ s : Fin 256, A (ix3 B s ⟨2048 + (col h e).val, by omega⟩) = V s.val)
    (g : ℕ → ℝ) (hg : ∀ s, Ideal.log (gate (b (ix2 0 (col h d))) (F s)) = (g s : EReal)) :
    (refState (F := Ideal) (refK A b) (refV A) (sums (refL A b)) (ix4 B h e d) : EReal)
      = closed g (fun s => 1 - gate (b (ix2 0 (col h d))) (F s)) V 256 := by
  have hs : ∀ t : Fin 256, sums (F := Ideal) (refL A b) (ix4 B t h d) = ((pre g (t.val + 1) : ℝ) : EReal) := by
    intro t
    rw [sums_apply, ← sums_real]
    refine Finset.sum_congr rfl fun s _ => ?_
    rw [refL_apply, hF, hg]
  rw [refState_apply]
  unfold closed
  rw [← Fin.sum_univ_eq_sum_range (fun s => (1 - gate (b (ix2 0 (col h d))) (F s)) * ((Real.exp (pre g 256 - pre g (s + 1)) : ℝ) : EReal) * V s) 256]
  refine Finset.sum_congr rfl fun s _ => ?_
  rw [refK_apply, refV_apply, hF, hV, hs, hs, ← EReal.coe_sub, Ideal.exp_coe]
  rfl

/-- The states' rows of an infinite bound are zero. -/
theorem refState_top (A : FVec Ideal S8x256x7168 .bf16) (b : FVec Ideal S1x1024 .f32) (B h : Fin 8) (e d : Fin 128)
    (hb : b (ix2 0 (col h d)) = (⊤ : EReal)) :
    (refState (F := Ideal) (refK A b) (refV A) (sums (refL A b)) (ix4 B h e d) : EReal) = 0 := by
  rw [refState_apply]
  refine Finset.sum_eq_zero fun s _ => ?_
  have hs : (sums (F := Ideal) (refL A b) (ix4 B 255 h d) - sums (F := Ideal) (refL A b) (ix4 B s h d) : EReal) = ⊥ := by
    rw [sums_apply, sums_apply]
    exact sums_inf _ (fun r => by rw [refL_apply, hb]; exact log_gate_top _) s
  rw [hs, Ideal.exp_bot, mul_zero, zero_mul]

end Cert.StateReferenceIdeal.Value

namespace Cert.Equation

open Idealize.ShloMosaic Idealize.ShloMosaic.TcCoe Idealize.ShloMosaic.Tactic Cert.Hgrn

/-- The states, computed by the kernel chunk by chunk, are the reference's, from the same arrays. -/
theorem state_eq (m : (ℓ : Loc Cert.StateIdeal.nD Cert.StateIdeal.τ Cert.StateIdeal.sig) → Buf (Elt Ideal) ℓ) (c : Dev Cert.StateIdeal.nD)
    (hb : ∀ h, Positive (Cert.StateIdeal.Gen.argLb m c h)) :
    (Cert.StateReferenceIdeal.Value.refState (F := Ideal)
      (Cert.StateReferenceIdeal.Value.refK (m ((c.tc : Thread Cert.StateIdeal.nD Cert.StateIdeal.τ).loc Cert.StateIdeal.main_arg0))
        (m ((c.tc : Thread Cert.StateIdeal.nD Cert.StateIdeal.τ).loc Cert.StateIdeal.main_arg1)))
      (Cert.StateReferenceIdeal.Value.refV (m ((c.tc : Thread Cert.StateIdeal.nD Cert.StateIdeal.τ).loc Cert.StateIdeal.main_arg0)))
      (Cert.StateReferenceIdeal.Value.sums (Cert.StateReferenceIdeal.Value.refL
        (m ((c.tc : Thread Cert.StateIdeal.nD Cert.StateIdeal.τ).loc Cert.StateIdeal.main_arg0))
        (m ((c.tc : Thread Cert.StateIdeal.nD Cert.StateIdeal.τ).loc Cert.StateIdeal.main_arg1)))) : Cert.StateIdeal.S8x8x128x128.Idx → EReal)
      = Cert.StateIdeal.Gen.result m c := by
  funext i
  obtain ⟨B, h, e, d, rfl⟩ : ∃ (B h : Fin 8) (e d : Fin 128), i = ix4 B h e d := ⟨i 0, i 1, i 2, i 3, eq_ix4 i⟩
  by_cases hd : Cert.StateIdeal.Gen.argLb m c h d = ⊤
  · have hk := seqPos_top (Cert.StateIdeal.Gen.argLb m c h) (fun k t d => Cert.StateIdeal.Gen.argF m c B h (64 * k + t.val) d)
      (fun k t e => Cert.StateIdeal.Gen.argV m c B h (64 * k + t.val) e) 4 d e hd
    exact (Cert.StateReferenceIdeal.Value.refState_top _ _ B h e d hd).trans hk.symm
  have hl : ∀ s : ℕ, ∃ l : ℝ, Ideal.log (gate (Cert.StateIdeal.Gen.argLb m c h d) (Cert.StateIdeal.Gen.argF m c B h s d)) = (l : EReal) :=
    fun s => log_gate_real _ _ (hb h d) (lt_top_iff_ne_top.mpr hd)
  choose g hg using hl
  have hk := (seqPos_fin (Cert.StateIdeal.Gen.argLb m c h) (fun k t d => Cert.StateIdeal.Gen.argF m c B h (64 * k + t.val) d)
    (fun k t e => Cert.StateIdeal.Gen.argV m c B h (64 * k + t.val) e) (fun _ _ => 0) 4 d e hd).trans <| stateSeq_closed (Cert.StateIdeal.Gen.argLb m c h)
    (fun k t d => Cert.StateIdeal.Gen.argF m c B h (64 * k + t.val) d) (fun k t e => Cert.StateIdeal.Gen.argV m c B h (64 * k + t.val) e) 4
    (Cert.StateIdeal.Gen.argF m c B h) (Cert.StateIdeal.Gen.argV m c B h) (fun _ _ _ _ => rfl) (fun _ _ _ _ => rfl) d e g hg
  have hm : ∀ s : Fin 256, (⟨s.val % 256, Nat.mod_lt _ (by decide)⟩ : Fin 256) = s := fun s => Fin.ext (Nat.mod_eq_of_lt s.isLt)
  refine (Cert.StateReferenceIdeal.Value.refState_closed _ _ B h e d (fun s => Cert.StateIdeal.Gen.argF m c B h s d)
    (fun s => Cert.StateIdeal.Gen.argV m c B h s e) (fun s => ?_) (fun s => ?_) g hg).trans hk.symm
  · show _ = Cert.StateIdeal.Gen.argF m c B h s.val d
    unfold Cert.StateIdeal.Gen.argF
    rw [hm]
  · show _ = Cert.StateIdeal.Gen.argV m c B h s.val e
    unfold Cert.StateIdeal.Gen.argV
    rw [hm]

end Cert.Equation

end
-- ==== Proof.BackBlock.lean ====
/-
  What one trip of the backward state kernel's loop computes, named: one chunk of 64 time steps of one batch, head by head.

  The kernel writes the same operations out for each of two batches and eight heads; here each is one function of the
  head's first column, and the last theorem says that what a trip stores is this function of what it read.
-/
module

public import proofs.«01_k».proof.Proof.StateLoop
public import proofs.«01_k».proof.Proof.Gen.BackIdeal.Frame

@[expose] public section

set_option maxRecDepth 16384

noncomputable section

namespace Cert.BackIdeal.Gen

open Idealize.ShloMosaic Idealize.ShloMosaic.TcCoe Idealize.ShloMosaic.Tactic
open Idealize.SL Idealize.SL.RA Idealize.SL.BI
open scoped Idealize.SL.BI
open Cert.StateIdeal.Gen (bnd slab tState)
open Idealize.SL.BI.BIBase Idealize.SL.BI.Laws Idealize.SL.ProofMode Idealize.SL.Sem

variable {F : FTy → Type} [FloatOps F]

/-- The keys: one minus the gate. -/
def blkK (lb : Vec F S1x1024 .f32) (G : Vec F S1x64x1024 .bf16) : FVec F S64x1024 .f32 := k0_pay10 lb G
/-- The running sums of the gate's logarithms, from the last row up. -/
def blkC (lb : Vec F S1x1024 .f32) (tri : Vec F S64x64 .f32) (G : Vec F S1x64x1024 .bf16) : FVec F S64x1024 .f32 :=
  k0_pay14 (k0_pay12 lb tri G) (k0_pay13 lb tri G)
/-- The values. -/
def blkV (V : Vec F S1x64x1024 .bf16) : FVec F S64x1024 .bf16 := k0_pay15 (k0_pay4 V)

/-- The head's state after the chunk, from the values, the keys carried to the chunk's end, the decay and the state before. -/
def headNext (o : ℕ) (w : S64x1024.Slices ![0, o] S64x128) (w' : S1x1024.Slices ![0, o] S1x128) (v kst : FVec F S64x1024 .bf16)
    (dec : FVec F S1x1024 .f32) (st : Vec F S1x1x128x128 .f32) : FVec F S1x1x128x128 .f32 :=
  shapeCast S1x1x128x128 (addf (mulf (broadcastTo S128x128 (extractStridedSlice S1x128 ![0, o] dec w') broadcasts_S1x128_S128x128)
      (shapeCast S128x128 st shapeCasts_S1x1x128x128_S128x128))
    (matmul dot_S64x128_S64x128_S128x128_0_0_1_1_n_n none (extractStridedSlice S64x128 ![0, o] v w)
      (extractStridedSlice S64x128 ![0, o] kst w) (constant S128x128 .f32 0x00000000#32)))
    shapeCasts_S128x128_S1x1x128x128

/-- One head's state after a chunk. -/
def headState (o : ℕ) (w : S64x1024.Slices ![0, o] S64x128) (w' : S1x1024.Slices ![0, o] S1x128) (lb : Vec F S1x1024 .f32)
    (tri : Vec F S64x64 .f32) (G V : Vec F S1x64x1024 .bf16) (st : Vec F S1x1x128x128 .f32) : FVec F S1x1x128x128 .f32 :=
  headNext o w w' (blkV V) (k0_pay20 (blkK lb G) (k0_pay12 lb tri G) (k0_pay13 lb tri G)) (k0_pay21 (k0_pay12 lb tri G) (k0_pay13 lb tri G)) st

variable (𝒱 : Variants) (c : Dev nD) (bd : Option 𝒱.V) (i : grid0.Coords)
  (arg2 : Memref sig .tc .vmem S2x256x1024 .bf16) (harg2 : arg2.IsWhole) (arg3 : Memref sig .tc .vmem S2x256x1024 .bf16)
  (harg3 : arg3.IsWhole) (arg4 : Memref sig .tc .vmem S2x8x128x128 .f32) (harg4 : arg4.IsWhole)
  (arg5 : Memref sig .tc .vmem S1x1024 .f32) (harg5 : arg5.IsWhole) (arg6 : Memref sig .tc .vmem S64x64 .f32)
  (harg6 : arg6.IsWhole) (arg7 : Memref sig .tc .vmem S2x8x128x128 .f32) (harg7 : arg7.IsWhole)
  (arg8 : Memref sig .tc .vmem S2x8x128x128 .f32) (harg8 : arg8.IsWhole) (v3 : Vec F S1x1024 .f32) (v4 : Vec F S64x64 .f32)
  (X_arg2 : BufTy.Contents (Elt F) arg2.view.ty) (X_arg3 : BufTy.Contents (Elt F) arg3.view.ty) (k : Fin k0_t1_loop.trips)
  (g : BufTy.Contents (Elt F) arg8.view.ty)

/-- One head's state after a trip, from the rows and the state that the trip reads. -/
abbrev tripState (b h o : ℕ) (w : S64x1024.Slices ![0, o] S64x128) (w' : S1x1024.Slices ![0, o] S1x128) (off : Fin 3 → ℕ)
    (inb : ∀ a, off a + S1x64x1024.size a ≤ S2x256x1024.size a) (inb' : ∀ a, ![b, h, 0, 0] a + S1x1x128x128.size a ≤ S2x8x128x128.size a) :
    FVec F S1x1x128x128 .f32 :=
  headState o w w' v3 v4 (View.readAt (Elt F) arg2.view (Rect.unit (s := S2x256x1024) off S1x64x1024.size inb).toLoadRect X_arg2)
    (View.readAt (Elt F) arg3.view (Rect.unit (s := S2x256x1024) off S1x64x1024.size inb).toLoadRect X_arg3)
    (View.readAt (Elt F) arg8.view (Rect.unit (s := S2x8x128x128) ![b, h, 0, 0] S1x1x128x128.size inb').toLoadRect g)

/-- What a trip stores into the states' buffer. -/
theorem trip_state :
    tripL_k0_t1 (F := F) 𝒱 c bd i arg2 harg2 arg3 harg3 arg4 harg4 arg5 harg5 arg6 harg6 arg7 harg7 arg8 harg8 v3 v4 X_arg2 X_arg3 k g =
    [⟨Rect.unit ![1, 7, 0, 0] ![1, 1, 128, 128] inb_S2x8x128x128_S1x1x128x128_1_7_0_0,
        tripState arg2 arg3 arg8 v3 v4 X_arg2 X_arg3 g 1 7 896 slices_S64x1024_o0_896_S64x128 slices_S1x1024_o0_896_S1x128 (k0_off2 k) (k0_off2_inb k) inb_S2x8x128x128_S1x1x128x128_1_7_0_0⟩,
     ⟨Rect.unit ![1, 6, 0, 0] ![1, 1, 128, 128] inb_S2x8x128x128_S1x1x128x128_1_6_0_0,
        tripState arg2 arg3 arg8 v3 v4 X_arg2 X_arg3 g 1 6 768 slices_S64x1024_o0_768_S64x128 slices_S1x1024_o0_768_S1x128 (k0_off2 k) (k0_off2_inb k) inb_S2x8x128x128_S1x1x128x128_1_6_0_0⟩,
     ⟨Rect.unit ![1, 5, 0, 0] ![1, 1, 128, 128] inb_S2x8x128x128_S1x1x128x128_1_5_0_0,
        tripState arg2 arg3 arg8 v3 v4 X_arg2 X_arg3 g 1 5 640 slices_S64x1024_o0_640_S64x128 slices_S1x1024_o0_640_S1x128 (k0_off2 k) (k0_off2_inb k) inb_S2x8x128x128_S1x1x128x128_1_5_0_0⟩,
     ⟨Rect.unit ![1, 4, 0, 0] ![1, 1, 128, 128] inb_S2x8x128x128_S1x1x128x128_1_4_0_0,
        tripState arg2 arg3 arg8 v3 v4 X_arg2 X_arg3 g 1 4 512 slices_S64x1024_o0_512_S64x128 slices_S1x1024_o0_512_S1x128 (k0_off2 k) (k0_off2_inb k) inb_S2x8x128x128_S1x1x128x128_1_4_0_0⟩,
     ⟨Rect.unit ![1, 3, 0, 0] ![1, 1, 128, 128] inb_S2x8x128x128_S1x1x128x128_1_3_0_0,
        tripState arg2 arg3 arg8 v3 v4 X_arg2 X_arg3 g 1 3 384 slices_S64x1024_o0_384_S64x128 slices_S1x1024_o0_384_S1x128 (k0_off2 k) (k0_off2_inb k) inb_S2x8x128x128_S1x1x128x128_1_3_0_0⟩,
     ⟨Rect.unit ![1, 2, 0, 0] ![1, 1, 128, 128] inb_S2x8x128x128_S1x1x128x128_1_2_0_0,
        tripState arg2 arg3 arg8 v3 v4 X_arg2 X_arg3 g 1 2 256 slices_S64x1024_o0_256_S64x128 slices_S1x1024_o0_256_S1x128 (k0_off2 k) (k0_off2_inb k) inb_S2x8x128x128_S1x1x128x128_1_2_0_0⟩,
     ⟨Rect.unit ![1, 1, 0, 0] ![1, 1, 128, 128] inb_S2x8x128x128_S1x1x128x128_1_1_0_0,
        tripState arg2 arg3 arg8 v3 v4 X_arg2 X_arg3 g 1 1 128 slices_S64x1024_o0_128_S64x128 slices_S1x1024_o0_128_S1x128 (k0_off2 k) (k0_off2_inb k) inb_S2x8x128x128_S1x1x128x128_1_1_0_0⟩,
     ⟨Rect.unit ![1, 0, 0, 0] ![1, 1, 128, 128] inb_S2x8x128x128_S1x1x128x128_1_0_0_0,
        tripState arg2 arg3 arg8 v3 v4 X_arg2 X_arg3 g 1 0 0 slices_S64x1024_o0_0_S64x128 slices_S1x1024_o0_0_S1x128 (k0_off2 k) (k0_off2_inb k) inb_S2x8x128x128_S1x1x128x128_1_0_0_0⟩,
     ⟨Rect.unit ![0, 7, 0, 0] ![1, 1, 128, 128] inb_S2x8x128x128_S1x1x128x128_0_7_0_0,
        tripState arg2 arg3 arg8 v3 v4 X_arg2 X_arg3 g 0 7 896 slices_S64x1024_o0_896_S64x128 slices_S1x1024_o0_896_S1x128 (k0_off1 k) (k0_off1_inb k) inb_S2x8x128x128_S1x1x128x128_0_7_0_0⟩,
     ⟨Rect.unit ![0, 6, 0, 0] ![1, 1, 128, 128] inb_S2x8x128x128_S1x1x128x128_0_6_0_0,
        tripState arg2 arg3 arg8 v3 v4 X_arg2 X_arg3 g 0 6 768 slices_S64x1024_o0_768_S64x128 slices_S1x1024_o0_768_S1x128 (k0_off1 k) (k0_off1_inb k) inb_S2x8x128x128_S1x1x128x128_0_6_0_0⟩,
     ⟨Rect.unit ![0, 5, 0, 0] ![1, 1, 128, 128] inb_S2x8x128x128_S1x1x128x128_0_5_0_0,
        tripState arg2 arg3 arg8 v3 v4 X_arg2 X_arg3 g 0 5 640 slices_S64x1024_o0_640_S64x128 slices_S1x1024_o0_640_S1x128 (k0_off1 k) (k0_off1_inb k) inb_S2x8x128x128_S1x1x128x128_0_5_0_0⟩,
     ⟨Rect.unit ![0, 4, 0, 0] ![1, 1, 128, 128] inb_S2x8x128x128_S1x1x128x128_0_4_0_0,
        tripState arg2 arg3 arg8 v3 v4 X_arg2 X_arg3 g 0 4 512 slices_S64x1024_o0_512_S64x128 slices_S1x1024_o0_512_S1x128 (k0_off1 k) (k0_off1_inb k) inb_S2x8x128x128_S1x1x128x128_0_4_0_0⟩,
     ⟨Rect.unit ![0, 3, 0, 0] ![1, 1, 128, 128] inb_S2x8x128x128_S1x1x128x128_0_3_0_0,
        tripState arg2 arg3 arg8 v3 v4 X_arg2 X_arg3 g 0 3 384 slices_S64x1024_o0_384_S64x128 slices_S1x1024_o0_384_S1x128 (k0_off1 k) (k0_off1_inb k) inb_S2x8x128x128_S1x1x128x128_0_3_0_0⟩,
     ⟨Rect.unit ![0, 2, 0, 0] ![1, 1, 128, 128] inb_S2x8x128x128_S1x1x128x128_0_2_0_0,
        tripState arg2 arg3 arg8 v3 v4 X_arg2 X_arg3 g 0 2 256 slices_S64x1024_o0_256_S64x128 slices_S1x1024_o0_256_S1x128 (k0_off1 k) (k0_off1_inb k) inb_S2x8x128x128_S1x1x128x128_0_2_0_0⟩,
     ⟨Rect.unit ![0, 1, 0, 0] ![1, 1, 128, 128] inb_S2x8x128x128_S1x1x128x128_0_1_0_0,
        tripState arg2 arg3 arg8 v3 v4 X_arg2 X_arg3 g 0 1 128 slices_S64x1024_o0_128_S64x128 slices_S1x1024_o0_128_S1x128 (k0_off1 k) (k0_off1_inb k) inb_S2x8x128x128_S1x1x128x128_0_1_0_0⟩,
     ⟨Rect.unit ![0, 0, 0, 0] ![1, 1, 128, 128] inb_S2x8x128x128_S1x1x128x128_0_0_0_0,
        tripState arg2 arg3 arg8 v3 v4 X_arg2 X_arg3 g 0 0 0 slices_S64x1024_o0_0_S64x128 slices_S1x1024_o0_0_S1x128 (k0_off1 k) (k0_off1_inb k) inb_S2x8x128x128_S1x1x128x128_0_0_0_0⟩] := by
  unfold tripL_k0_t1
  unfold trip_k0_t1
  rfl

end Cert.BackIdeal.Gen

end
-- ==== Proof.BackMath.lean ====
/-
  What one head of one chunk computes, over the extended reals: the next state is `stepPos` of the head's columns, the rows taken from the last to the first.
-/
module

public import proofs.«01_k».proof.Proof.BackBlock
public import proofs.«01_k».proof.Proof.StateTop
public import Idealize.ShloMosaic.Lib.Pointwise
public import Idealize.ShloMosaic.Lib.Pipeline.ValueKit
public import Idealize.ShloMosaic.Lib.Pipeline.ReadBack
public import Idealize.ShloMosaic.Lib.Ring

@[expose] public section

set_option maxRecDepth 16384

noncomputable section

namespace Cert.BackIdeal.Gen

open Idealize.ShloMosaic Idealize.ShloMosaic.TcCoe Idealize.ShloMosaic.Tactic
open Cert.Hgrn
open Cert.StateIdeal.Gen (bnd slab tState)

/-- The gate at an index. -/
theorem gate_apply (lb : Vec Ideal S1x1024 .f32) (G : Vec Ideal S1x64x1024 .bf16) (t : Fin 64) (c : Fin 1024) :
    k0_pay8 (F := Ideal) lb G (ix2 t c) = gate (lb (ix2 0 c)) (G (ix3 0 t c)) := by
  pointwise [k0_pay8]
  rw [ofBits_half, sig_eq]; rfl

/-- The keys at an index. -/
theorem blkK_apply (lb : Vec Ideal S1x1024 .f32) (G : Vec Ideal S1x64x1024 .bf16) (t : Fin 64) (c : Fin 1024) :
    blkK (F := Ideal) lb G (ix2 t c) = 1 - gate (lb (ix2 0 c)) (G (ix3 0 t c)) := by
  pointwise [blkK, k0_pay10, k0_pay8]
  rw [ofBits_half, sig_eq]; rfl

/-- The values at an index. -/
theorem blkV_apply (V : Vec Ideal S1x64x1024 .bf16) (t : Fin 64) (c : Fin 1024) :
    blkV (F := Ideal) V (ix2 t c) = V (ix3 0 t c) := by
  pointwise [blkV, k0_pay15, k0_pay4]

/-- The triangular matrix of ones. -/
def IsTri (tri : Vec Ideal S64x64 .f32) : Prop := ∀ t s : Fin 64, tri (ix2 t s) = if t.val ≤ s.val then (1 : EReal) else 0

/-- The running sums at an index: `cum` of the rows from the last up. -/
theorem blkC_apply (lb : Vec Ideal S1x1024 .f32) (tri : Vec Ideal S64x64 .f32) (G : Vec Ideal S1x64x1024 .bf16) (htri : IsTri tri)
    (c : Fin 1024) (hb : 0 < lb (ix2 0 c) ∧ lb (ix2 0 c) < ⊤) (t : Fin 64) :
    blkC (F := Ideal) lb tri G (ix2 t c) = cum (fun s => Ideal.log (gate (lb (ix2 0 c)) (G (ix3 0 s.rev c)))) t.rev := by
  have hL : ∀ s : Fin 64, k0_pay8 (F := Ideal) lb G (ix2 s c) = gate (lb (ix2 0 c)) (G (ix3 0 s c)) :=
    fun s => gate_apply lb G s c
  pointwise [blkC, k0_pay14, k0_pay12, k0_pay13, k0_pay11, k0_pay9, k0_pay7]
  simp only [hL]
  rw [← cum_real (fun s => Ideal.log (gate (lb (ix2 0 c)) (G (ix3 0 s.rev c)))) (fun s => log_gate_real _ _ hb.1 hb.2) t.rev
    (fun s => tri (ix2 t s.rev)) (fun s => by
      rw [htri]
      have h : t.val ≤ s.rev.val ↔ s.val ≤ t.rev.val := by rw [Fin.val_rev, Fin.val_rev]; omega
      simp only [h])]
  exact congrArg₂ _ (Equiv.sum_comp Fin.revPerm (fun s => tri (ix2 t s) * Ideal.log (gate (lb (ix2 0 c)) (G (ix3 0 s c))))).symm
    (Equiv.sum_comp Fin.revPerm (fun s => tri (ix2 t s) * (Ideal.log (gate (lb (ix2 0 c)) (G (ix3 0 s c))) - Ideal.log (gate (lb (ix2 0 c)) (G (ix3 0 s c)))))).symm

/-- The running sums of a column of an infinite bound. -/
theorem blkC_top (lb : Vec Ideal S1x1024 .f32) (tri : Vec Ideal S64x64 .f32) (G : Vec Ideal S1x64x1024 .bf16) (htri : IsTri tri)
    (c : Fin 1024) (hb : lb (ix2 0 c) = (⊤ : EReal)) (t : Fin 64) : blkC (F := Ideal) lb tri G (ix2 t c) = (⊥ : EReal) := by
  have hL : ∀ s : Fin 64, k0_pay8 (F := Ideal) lb G (ix2 s c) = gate ⊤ (G (ix3 0 s c)) :=
    fun s => by rw [gate_apply lb G s c, hb]
  pointwise [blkC, k0_pay14, k0_pay12, k0_pay13, k0_pay11, k0_pay9, k0_pay7]
  simp only [hL]
  exact cum_inf (fun s => Ideal.log (gate ⊤ (G (ix3 0 s c)))) (fun s => log_gate_top _) t (fun s => tri (ix2 t s))
    (by show tri (ix2 t t) = 1; rw [htri, if_pos (le_refl _)])

/-- The keys carried to the chunk's end, its first row. -/
theorem kst_apply (K A B : FVec Ideal S64x1024 .f32) (t : Fin 64) (c : Fin 1024) :
    k0_pay20 (F := Ideal) K A B (ix2 t c)
      = K (ix2 t c) * Ideal.exp (k0_pay14 (F := Ideal) A B (ix2 0 c) - k0_pay14 (F := Ideal) A B (ix2 t c)) := by
  pointwise [k0_pay20, k0_pay19]

/-- The whole chunk's decay. -/
theorem dec_apply (A B : FVec Ideal S64x1024 .f32) (c : Fin 1024) :
    k0_pay21 (F := Ideal) A B (ix2 0 c) = Ideal.exp (k0_pay14 (F := Ideal) A B (ix2 0 c)) := by
  pointwise [k0_pay21, k0_pay19]

/-- The next state from the chunk's arrays. -/
theorem headNext_apply (o : ℕ) (w : S64x1024.Slices ![0, o] S64x128) (w' : S1x1024.Slices ![0, o] S1x128)
    (v kst : FVec Ideal S64x1024 .bf16) (dec : FVec Ideal S1x1024 .f32) (st : Vec Ideal S1x1x128x128 .f32) (e d : Fin 128)
    (cc : Fin 128 → Fin 1024) (hc : ∀ d, (cc d).val = o + d.val) :
    headNext (F := Ideal) o w w' v kst dec st (ix4 0 0 e d)
      = dec (ix2 0 (cc d)) * st (ix4 0 0 e d) + ∑ s : Fin 64, v (ix2 s (cc e)) * kst (ix2 s (cc d)) := by
  have h : ∀ d : Fin 128, cc d = ⟨o + d.val, (hc d) ▸ (cc d).isLt⟩ := fun d => Fin.ext (hc d)
  rw [h d, h e]
  pointwise [headNext]

/-- A block's columns of one head, from the last row to the first. -/
def rows (A : Vec Ideal S1x64x1024 .bf16) (h : Fin 8) : Fin 64 → Fin 128 → EReal := fun t d => A (ix3 0 t.rev (col h d))

/-- One head's next state is the recurrence's. -/
theorem headState_apply (h : Fin 8) (o : ℕ) (ho : o = 128 * h.val) (w : S64x1024.Slices ![0, o] S64x128) (w' : S1x1024.Slices ![0, o] S1x128)
    (lb : Vec Ideal S1x1024 .f32) (tri : Vec Ideal S64x64 .f32) (htri : IsTri tri) (hb : Positive (bnd lb h))
    (G V : Vec Ideal S1x64x1024 .bf16) (st : Vec Ideal S1x1x128x128 .f32) (e d : Fin 128) :
    headState (F := Ideal) o w w' lb tri G V st (ix4 0 0 e d) = stepPos (bnd lb h) (rows G h) (rows V h) (slab st) d e := by
  unfold headState
  rw [headNext_apply o w w' _ _ _ st e d (col h) (fun d => by subst ho; rfl), dec_apply]
  simp only [kst_apply]
  unfold stepPos
  by_cases hd : bnd lb h d = ⊤
  · rw [if_pos hd]
    have hC : ∀ t : Fin 64, k0_pay14 (F := Ideal) (k0_pay12 lb tri G) (k0_pay13 lb tri G) (ix2 t (col h d)) = (⊥ : EReal) :=
      blkC_top lb tri G htri _ hd
    simp only [hC, inf_sub_self ⊥ (Or.inr rfl), Ideal.exp_bot, mul_zero, zero_mul, Finset.sum_const_zero, add_zero]
  · rw [if_neg hd]
    have hC : ∀ t : Fin 64, k0_pay14 (F := Ideal) (k0_pay12 lb tri G) (k0_pay13 lb tri G) (ix2 t (col h d))
        = cum (fun s => Ideal.log (gate (lb (ix2 0 (col h d))) (G (ix3 0 s.rev (col h d))))) t.rev :=
      blkC_apply lb tri G htri _ ⟨hb d, lt_top_iff_ne_top.mpr hd⟩
    simp only [blkK_apply, hC, blkV_apply]
    unfold stepState chunkState
    refine congrArg₂ _ rfl ?_
    rw [← Equiv.sum_comp Fin.revPerm]
    refine Finset.sum_congr rfl fun s _ => ?_
    simp only [Fin.revPerm_apply, Fin.rev_rev]
    exact mul_comm _ _

end Cert.BackIdeal.Gen

end
-- ==== Proof.BackLoop.lean ====
/-
  The loop over a tile's four chunks: the states' buffer after `n` trips holds the recurrence's states before chunk `n`.
-/
module

public import proofs.«01_k».proof.Proof.BackMath

@[expose] public section

set_option maxRecDepth 16384

noncomputable section

namespace Cert.BackIdeal.Gen

open Idealize.ShloMosaic Idealize.ShloMosaic.TcCoe Idealize.ShloMosaic.Tactic
open Cert.Hgrn
open Cert.StateIdeal.Gen (bnd slab tState)

/-- Chunk `k`'s rows of one batch and head in a tile of 256 rows, the chunks and rows from the last to the first (taken modulo 256, so that it is defined for every `k`). -/
def tRows (x : Vec Ideal S2x256x1024 .bf16) (b : Fin 2) (h : Fin 8) (k : ℕ) : Fin 64 → Fin 128 → EReal :=
  fun t d => x (ix3 b ⟨255 - (64 * k + t.val) % 256, by omega⟩ (col h d))

/-- The first batch's rows of trip `k` begin at row `64 (3 - k)`. -/
theorem off1_eq (k : Fin k0_t1_loop.trips) : k0_off1 k = ![0, 64 * (3 - k.val), 0] := by
  revert k; decide +kernel

/-- The second batch's rows of trip `k` begin at row `64 (3 - k)`. -/
theorem off2_eq (k : Fin k0_t1_loop.trips) : k0_off2 k = ![1, 64 * (3 - k.val), 0] := by
  revert k; decide +kernel

/-- There are four trips. -/
theorem trips_eq : k0_t1_loop.trips = 4 := by decide +kernel

/-- A load of a chunk's rows, one head of it. -/
theorem rows_ld (arg : Memref sig .tc .vmem S2x256x1024 .bf16) (X : BufTy.Contents (Elt Ideal) arg.view.ty)
    (k : Fin k0_t1_loop.trips) (b : ℕ) (hb : b < 2) (off : Fin 3 → ℕ) (hoff : off = ![b, 64 * (3 - k.val), 0])
    (inb : ∀ a, off a + S1x64x1024.size a ≤ S2x256x1024.size a) (h : Fin 8) :
    rows (View.readAt (Elt Ideal) arg.view (Rect.unit (s := S2x256x1024) off S1x64x1024.size inb).toLoadRect X) h
      = tRows (arg.view.read (Elt Ideal) X) ⟨b, hb⟩ h k.val := by
  funext t d
  subst hoff
  have hk : k.val < 4 := trips_eq ▸ k.isLt
  show View.readAt _ _ _ _ _ = _
  rw [View.readAt_eq_ld]
  refine View.ld_unit_apply_of _ _ _ _ _ _ fun a => ?_
  match a with
  | ⟨0, _⟩ => rfl
  | ⟨1, _⟩ =>
    show 255 - (64 * k.val + t.val) % 256 = 64 * (3 - k.val) + t.rev.val
    rw [Fin.val_rev, Nat.mod_eq_of_lt (by omega)]
    omega
  | ⟨2, _⟩ => exact (Nat.zero_add _).symm

/-- A load of one batch's and head's state. -/
theorem slab_ld (arg : Memref sig .tc .vmem S2x8x128x128 .f32) (g : BufTy.Contents (Elt Ideal) arg.view.ty)
    (b h : ℕ) (hb : b < 2) (hh : h < 8) (inb : ∀ a, ![b, h, 0, 0] a + S1x1x128x128.size a ≤ S2x8x128x128.size a) :
    slab (View.readAt (Elt Ideal) arg.view (Rect.unit (s := S2x8x128x128) ![b, h, 0, 0] S1x1x128x128.size inb).toLoadRect g)
      = tState (arg.view.read (Elt Ideal) g) ⟨b, hb⟩ ⟨h, hh⟩ := by
  funext d e
  show View.readAt _ _ _ _ _ = _
  rw [View.readAt_eq_ld]
  refine View.ld_unit_apply_of _ _ _ _ _ _ fun a => ?_
  match a with
  | ⟨0, _⟩ => show b = b + 0; rfl
  | ⟨1, _⟩ => show h = h + 0; rfl
  | ⟨2, _⟩ => show e.val = 0 + e.val; omega
  | ⟨3, _⟩ => show d.val = 0 + d.val; omega

/-- The states after chunk `k`, as a buffer, from the states `s` before it. -/
def nextStates (lb : Vec Ideal S1x1024 .f32) (xf xv : Vec Ideal S2x256x1024 .bf16) (k : ℕ) (s : Vec Ideal S2x8x128x128 .f32) :
    Vec Ideal S2x8x128x128 .f32 :=
  fun y => stepPos (bnd lb (y 1)) (tRows xf (y 0) (y 1) k) (tRows xv (y 0) (y 1) k) (tState s (y 0) (y 1)) (y 3) (y 2)

/-- The states' buffer before chunk `n`, from the states `s` before the tile's first chunk. -/
def tileStates (lb : Vec Ideal S1x1024 .f32) (xf xv : Vec Ideal S2x256x1024 .bf16) (s : Vec Ideal S2x8x128x128 .f32) :
    ℕ → Vec Ideal S2x8x128x128 .f32
  | 0 => s
  | n + 1 => nextStates lb xf xv n (tileStates lb xf xv s n)

/-- One batch and head of the next states. -/
theorem tState_next (lb : Vec Ideal S1x1024 .f32) (xf xv : Vec Ideal S2x256x1024 .bf16) (s : Vec Ideal S2x8x128x128 .f32)
    (b : Fin 2) (h : Fin 8) (n : ℕ) :
    tState (nextStates lb xf xv n s) b h = stepPos (bnd lb h) (tRows xf b h n) (tRows xv b h n) (tState s b h) := rfl

/-- Each batch and head of the buffer follows its own recurrence. -/
theorem tState_tileStates (lb : Vec Ideal S1x1024 .f32) (xf xv : Vec Ideal S2x256x1024 .bf16) (s : Vec Ideal S2x8x128x128 .f32)
    (b : Fin 2) (h : Fin 8) (n : ℕ) :
    tState (tileStates lb xf xv s n) b h = seqPos (bnd lb h) (tRows xf b h) (tRows xv b h) (tState s b h) n := by
  induction n with
  | zero => rfl
  | succ n ih =>
    have e : tileStates lb xf xv s (n + 1) = nextStates lb xf xv n (tileStates lb xf xv s n) := rfl
    have e' : seqPos (bnd lb h) (tRows xf b h) (tRows xv b h) (tState s b h) (n + 1)
      = stepPos (bnd lb h) (tRows xf b h n) (tRows xv b h n) (seqPos (bnd lb h) (tRows xf b h) (tRows xv b h) (tState s b h) n) := rfl
    rw [e, e', tState_next, ih]

section
variable (v3 : Vec Ideal S1x1024 .f32) (v4 : Vec Ideal S64x64 .f32) (htri : IsTri v4) (hb : ∀ h, Positive (bnd v3 h))

include htri hb

/-- One stored state agrees with the recurrence's next states. -/
theorem stPiece (arg2 arg3 : Memref sig .tc .vmem S2x256x1024 .bf16) (arg8 : Memref sig .tc .vmem S2x8x128x128 .f32)
    (X_arg2 : BufTy.Contents (Elt Ideal) arg2.view.ty) (X_arg3 : BufTy.Contents (Elt Ideal) arg3.view.ty)
    (k : Fin k0_t1_loop.trips) (g : BufTy.Contents (Elt Ideal) arg8.view.ty)
    (b h : ℕ) (hb2 : b < 2) (hh : h < 8) (o : ℕ) (ho : o = 128 * h) (w : S64x1024.Slices ![0, o] S64x128)
    (w' : S1x1024.Slices ![0, o] S1x128) (off : Fin 3 → ℕ) (hoff : off = ![b, 64 * (3 - k.val), 0])
    (inb : ∀ a, off a + S1x64x1024.size a ≤ S2x256x1024.size a)
    (inb' : ∀ a, ![b, h, 0, 0] a + S1x1x128x128.size a ≤ S2x8x128x128.size a)
    (x : (Rect.unit (s := S2x8x128x128) ![b, h, 0, 0] ![1, 1, 128, 128] inb').shape.Idx) :
    headState (F := Ideal) o w w' v3 v4
        (View.readAt (Elt Ideal) arg2.view (Rect.unit (s := S2x256x1024) off S1x64x1024.size inb).toLoadRect X_arg2)
        (View.readAt (Elt Ideal) arg3.view (Rect.unit (s := S2x256x1024) off S1x64x1024.size inb).toLoadRect X_arg3)
        (View.readAt (Elt Ideal) arg8.view (Rect.unit (s := S2x8x128x128) ![b, h, 0, 0] S1x1x128x128.size inb').toLoadRect g) x
      = nextStates v3 (arg2.view.read (Elt Ideal) X_arg2) (arg3.view.read (Elt Ideal) X_arg3) k.val (arg8.view.read (Elt Ideal) g)
          ((Rect.unit (s := S2x8x128x128) ![b, h, 0, 0] ![1, 1, 128, 128] inb').emb x) := by
  obtain ⟨x0, x1, e, d, rfl⟩ : ∃ (x0 x1 : Fin 1) (e d : Fin 128), x = ix4 x0 x1 e d := ⟨x 0, x 1, x 2, x 3, eq_ix4 x⟩
  obtain rfl : x0 = 0 := Subsingleton.elim _ _
  obtain rfl : x1 = 0 := Subsingleton.elim _ _
  have he : (Rect.unit (s := S2x8x128x128) ![b, h, 0, 0] ![1, 1, 128, 128] inb').emb (ix4 0 0 e d) = ix4 ⟨b, hb2⟩ ⟨h, hh⟩ e d := by
    funext a
    apply Fin.ext
    match a with
    | ⟨0, _⟩ => rfl
    | ⟨1, _⟩ => rfl
    | ⟨2, _⟩ => show 0 + 1 * e.val = e.val; omega
    | ⟨3, _⟩ => show 0 + 1 * d.val = d.val; omega
  rw [he, headState_apply ⟨h, hh⟩ o ho w w' v3 v4 htri (hb ⟨h, hh⟩)]
  rw [rows_ld arg2 X_arg2 k b hb2 off hoff inb, rows_ld arg3 X_arg3 k b hb2 off hoff inb, slab_ld arg8 g b h hb2 hh inb']
  rfl

variable (𝒱 : Variants) (c : Dev nD) (bd : Option 𝒱.V) (i : grid0.Coords)
  (arg2 : Memref sig .tc .vmem S2x256x1024 .bf16) (harg2 : arg2.IsWhole) (arg3 : Memref sig .tc .vmem S2x256x1024 .bf16)
  (harg3 : arg3.IsWhole) (arg4 : Memref sig .tc .vmem S2x8x128x128 .f32) (harg4 : arg4.IsWhole)
  (arg5 : Memref sig .tc .vmem S1x1024 .f32) (harg5 : arg5.IsWhole) (arg6 : Memref sig .tc .vmem S64x64 .f32)
  (harg6 : arg6.IsWhole) (arg7 : Memref sig .tc .vmem S2x8x128x128 .f32) (harg7 : arg7.IsWhole)
  (arg8 : Memref sig .tc .vmem S2x8x128x128 .f32) (harg8 : arg8.IsWhole)
  (X_arg2 : BufTy.Contents (Elt Ideal) arg2.view.ty) (X_arg3 : BufTy.Contents (Elt Ideal) arg3.view.ty) (k : Fin k0_t1_loop.trips)
  (g : BufTy.Contents (Elt Ideal) arg8.view.ty)

/-- A trip's sixteen stored states agree with the recurrence's next states. -/
theorem state_pieces :
    View.PiecesOf (nextStates v3 (arg2.view.read (Elt Ideal) X_arg2) (arg3.view.read (Elt Ideal) X_arg3) k.val (arg8.view.read (Elt Ideal) g)) (tripL_k0_t1 (F := Ideal) 𝒱 c bd i arg2 harg2 arg3 harg3 arg4 harg4 arg5 harg5 arg6 harg6 arg7 harg7 arg8 harg8 v3 v4 X_arg2 X_arg3 k g) := by
  rw [trip_state]
  refine ⟨?_, ?_, ?_, ?_, ?_, ?_, ?_, ?_, ?_, ?_, ?_, ?_, ?_, ?_, ?_, ?_, trivial⟩
  · exact fun x => stPiece v3 v4 htri hb arg2 arg3 arg8 X_arg2 X_arg3 k g 1 7 (by decide) (by decide) 896 rfl _ _ _ (off2_eq k) _ _ x
  · exact fun x => stPiece v3 v4 htri hb arg2 arg3 arg8 X_arg2 X_arg3 k g 1 6 (by decide) (by decide) 768 rfl _ _ _ (off2_eq k) _ _ x
  · exact fun x => stPiece v3 v4 htri hb arg2 arg3 arg8 X_arg2 X_arg3 k g 1 5 (by decide) (by decide) 640 rfl _ _ _ (off2_eq k) _ _ x
  · exact fun x => stPiece v3 v4 htri hb arg2 arg3 arg8 X_arg2 X_arg3 k g 1 4 (by decide) (by decide) 512 rfl _ _ _ (off2_eq k) _ _ x
  · exact fun x => stPiece v3 v4 htri hb arg2 arg3 arg8 X_arg2 X_arg3 k g 1 3 (by decide) (by decide) 384 rfl _ _ _ (off2_eq k) _ _ x
  · exact fun x => stPiece v3 v4 htri hb arg2 arg3 arg8 X_arg2 X_arg3 k g 1 2 (by decide) (by decide) 256 rfl _ _ _ (off2_eq k) _ _ x
  · exact fun x => stPiece v3 v4 htri hb arg2 arg3 arg8 X_arg2 X_arg3 k g 1 1 (by decide) (by decide) 128 rfl _ _ _ (off2_eq k) _ _ x
  · exact fun x => stPiece v3 v4 htri hb arg2 arg3 arg8 X_arg2 X_arg3 k g 1 0 (by decide) (by decide) 0 rfl _ _ _ (off2_eq k) _ _ x
  · exact fun x => stPiece v3 v4 htri hb arg2 arg3 arg8 X_arg2 X_arg3 k g 0 7 (by decide) (by decide) 896 rfl _ _ _ (off1_eq k) _ _ x
  · exact fun x => stPiece v3 v4 htri hb arg2 arg3 arg8 X_arg2 X_arg3 k g 0 6 (by decide) (by decide) 768 rfl _ _ _ (off1_eq k) _ _ x
  · exact fun x => stPiece v3 v4 htri hb arg2 arg3 arg8 X_arg2 X_arg3 k g 0 5 (by decide) (by decide) 640 rfl _ _ _ (off1_eq k) _ _ x
  · exact fun x => stPiece v3 v4 htri hb arg2 arg3 arg8 X_arg2 X_arg3 k g 0 4 (by decide) (by decide) 512 rfl _ _ _ (off1_eq k) _ _ x
  · exact fun x => stPiece v3 v4 htri hb arg2 arg3 arg8 X_arg2 X_arg3 k g 0 3 (by decide) (by decide) 384 rfl _ _ _ (off1_eq k) _ _ x
  · exact fun x => stPiece v3 v4 htri hb arg2 arg3 arg8 X_arg2 X_arg3 k g 0 2 (by decide) (by decide) 256 rfl _ _ _ (off1_eq k) _ _ x
  · exact fun x => stPiece v3 v4 htri hb arg2 arg3 arg8 X_arg2 X_arg3 k g 0 1 (by decide) (by decide) 128 rfl _ _ _ (off1_eq k) _ _ x
  · exact fun x => stPiece v3 v4 htri hb arg2 arg3 arg8 X_arg2 X_arg3 k g 0 0 (by decide) (by decide) 0 rfl _ _ _ (off1_eq k) _ _ x

/-- A trip's stored states fill the buffer. -/
theorem state_cover (y : S2x8x128x128.Idx) :
    ∃ p ∈ (tripL_k0_t1 (F := Ideal) 𝒱 c bd i arg2 harg2 arg3 harg3 arg4 harg4 arg5 harg5 arg6 harg6 arg7 harg7 arg8 harg8 v3 v4 X_arg2 X_arg3 k g), y ∈ p.1.set := by
  rw [trip_state]
  exact View.cover_of_tiledL (s := S2x8x128x128) _ S1x1x128x128.size (by sl_kernel_rfl) y

/-- After a trip the states' buffer holds the recurrence's next states. -/
theorem state_trip :
    arg8.view.read (Elt Ideal) (arg8.view.writes (Elt Ideal) g (tripL_k0_t1 (F := Ideal) 𝒱 c bd i arg2 harg2 arg3 harg3 arg4 harg4 arg5 harg5 arg6 harg6 arg7 harg7 arg8 harg8 v3 v4 X_arg2 X_arg3 k g)) = nextStates v3 (arg2.view.read (Elt Ideal) X_arg2) (arg3.view.read (Elt Ideal) X_arg3) k.val (arg8.view.read (Elt Ideal) g) := by
  rw [View.read_writes_eq_canon _ _ _ (state_cover v3 v4 htri hb 𝒱 c bd i arg2 harg2 arg3 harg3 arg4 harg4 arg5 harg5 arg6 harg6 arg7 harg7 arg8 harg8 X_arg2 X_arg3 k g)]
  funext y
  exact (congrFun (congrArg View.canon (List.append_nil _).symm) y).trans (View.canon_append_of_piecesOf
    (nextStates v3 (arg2.view.read (Elt Ideal) X_arg2) (arg3.view.read (Elt Ideal) X_arg3) k.val (arg8.view.read (Elt Ideal) g)) [] _ (state_pieces v3 v4 htri hb 𝒱 c bd i arg2 harg2 arg3 harg3 arg4 harg4 arg5 harg5 arg6 harg6 arg7 harg7 arg8 harg8 X_arg2 X_arg3 k g) y (state_cover v3 v4 htri hb 𝒱 c bd i arg2 harg2 arg3 harg3 arg4 harg4 arg5 harg5 arg6 harg6 arg7 harg7 arg8 harg8 X_arg2 X_arg3 k g y))

/-- Before trip `n` the states' buffer holds the states before chunk `n`. -/
theorem loop_inv
    (n : ℕ) (hn : n ≤ k0_t1_loop.trips) :
    arg8.view.read (Elt Ideal) (arg8.view.writes (Elt Ideal) g (pb_k0_t1 (F := Ideal) 𝒱 c bd i arg2 harg2 arg3 harg3 arg4 harg4 arg5 harg5 arg6 harg6 arg7 harg7 arg8 harg8 v3 v4 X_arg2 X_arg3 g n))
        = tileStates v3 (arg2.view.read (Elt Ideal) X_arg2) (arg3.view.read (Elt Ideal) X_arg3) (arg8.view.read (Elt Ideal) g) n := by
  induction n with
  | zero => rfl
  | succ n ih =>
    have e := pb_k0_t1_succ (F := Ideal) 𝒱 c bd i arg2 harg2 arg3 harg3 arg4 harg4 arg5 harg5 arg6 harg6 arg7 harg7 arg8 harg8 v3 v4 X_arg2 X_arg3 g ⟨n, hn⟩
    rw [e, View.writes_append, state_trip v3 v4 htri hb, ih (by omega)]
    rfl

end

end Cert.BackIdeal.Gen

end
-- ==== Proof.BackFold.lean ====
/-
  The backward state kernel's run: what each point stores and the result's array.
-/
module

public import proofs.«01_k».proof.Proof.BackLoop
public import proofs.«01_k».proof.Proof.Gen.BackIdeal.Value
public import Idealize.ShloMosaic.Lib.Pipeline.ValueKit.Point

@[expose] public section

set_option maxRecDepth 16384

noncomputable section

namespace Cert.BackIdeal.Gen

open Idealize.ShloMosaic Idealize.ShloMosaic.TcCoe Idealize.ShloMosaic.Tactic
open Idealize.ShloMosaic.StableHlo Cert.Hgrn
open Cert.StateIdeal.Gen (bnd slab tState)

/-- A load of the whole bound. -/
theorem lb_ld (argB : Memref sig .tc .vmem S1x1024 .f32) (hargB : argB.IsWhole) (x4 : Vec Ideal S1x1024 .f32) :
    View.readAt (Elt Ideal) argB.view (Rect.unit (s := S1x1024) ![0, 0] S1x1024.size inb_S1x1024_S1x1024_0_0).toLoadRect (hargB.unread x4) = x4 := by
  funext y
  rw [View.readAt_eq_ld, hargB.read_unread]
  refine View.ld_unit_apply_of _ _ _ _ _ _ fun a => ?_
  match a with
  | ⟨0, _⟩ => exact (Nat.zero_add _).symm
  | ⟨1, _⟩ => exact (Nat.zero_add _).symm

/-- A load of the whole triangle. -/
theorem tri_ld (argT : Memref sig .tc .vmem S64x64 .f32) (hargT : argT.IsWhole) (x5 : Vec Ideal S64x64 .f32) :
    View.readAt (Elt Ideal) argT.view (Rect.unit (s := S64x64) ![0, 0] S64x64.size inb_S64x64_S64x64_0_0).toLoadRect (hargT.unread x5) = x5 := by
  funext y
  rw [View.readAt_eq_ld, hargT.read_unread]
  refine View.ld_unit_apply_of _ _ _ _ _ _ fun a => ?_
  match a with
  | ⟨0, _⟩ => exact (Nat.zero_add _).symm
  | ⟨1, _⟩ => exact (Nat.zero_add _).symm

/-- A load of the whole initial state. -/
theorem st_ld (argS : Memref sig .tc .vmem S2x8x128x128 .f32) (hargS : argS.IsWhole) (x3 : Vec Ideal S2x8x128x128 .f32) :
    View.readAt (Elt Ideal) argS.view (Rect.unit (s := S2x8x128x128) ![0, 0, 0, 0] S2x8x128x128.size inb_S2x8x128x128_S2x8x128x128_0_0_0_0).toLoadRect (hargS.unread x3) = x3 := by
  funext y
  rw [View.readAt_eq_ld, hargS.read_unread]
  refine View.ld_unit_apply_of _ _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- What the states' buffer holds when the loop begins: the initial state. -/
theorem reset_read (c : Dev nD) (arg4 : Memref sig .tc .vmem S2x8x128x128 .f32) (harg4 : arg4.IsWhole) (arg8 : Memref sig .tc .vmem S2x8x128x128 .f32)
    (x2 : Vec Ideal S2x8x128x128 .f32) :
    arg8.view.read (Elt Ideal) (arg8.view.writes (Elt Ideal) arg8.view.junk (kernelRun0_A.sl.HS0_1 (F := Ideal) c arg4 harg4 x2)) = x2 := by
  rw [View.read_writes_junk_eq_canon]
  unfold kernelRun0_A.sl.HS0_1
  rw [st_ld, View.canon_cons_unit_lit _ _ _ (by decide)]
  unfold k0_pay1
  rw [shapeCast_self]
  exact shapeCast_self _ _

/-- What a point stores: the states after its four chunks. -/
theorem out_eq (c : Dev nD) (i : grid0.Coords) (arg2 : Memref sig .tc .vmem S2x256x1024 .bf16) (harg2 : arg2.IsWhole) (arg3 : Memref sig .tc .vmem S2x256x1024 .bf16) (harg3 : arg3.IsWhole) (arg4 : Memref sig .tc .vmem S2x8x128x128 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S2x8x128x128 .f32) (harg7 : arg7.IsWhole) (arg8 : Memref sig .tc .vmem S2x8x128x128 .f32) (harg8 : arg8.IsWhole) (hc0 : cond0_0 i) (hc1 : cond0_1 i)
    (x0 x1 : Vec Ideal S2x256x1024 .bf16) (x2 : Vec Ideal S2x8x128x128 .f32) (x3 : Vec Ideal S1x1024 .f32) (x4 : Vec Ideal S64x64 .f32)
    (htri : IsTri x4) (hb : ∀ h, Positive (bnd x3 h)) :
    out0_A_5 (F := Ideal) c i arg2 harg2 arg3 harg3 arg4 harg4 arg5 harg5 arg6 harg6 arg7 harg7 arg8 harg8 hc0 hc1 x0 x1 x2 x3 x4 = tileStates x3 x0 x1 x2 4 := by
  unfold out0_A_5
  rw [View.read_writes_junk_eq_canon]
  have h := loop_inv x3 x4 htri hb Variants.none c none i arg2 harg2 arg3 harg3 arg4 harg4 arg5 harg5 arg6 harg6 arg7 harg7 arg8 harg8 (harg2.unread x0) (harg3.unread x1)
    (arg8.view.writes (Elt Ideal) arg8.view.junk (kernelRun0_A.sl.HS0_1 (F := Ideal) c arg4 harg4 x2)) 4 (le_of_eq trips_eq.symm)
  rw [harg2.read_unread, harg3.read_unread, reset_read] at h
  refine Eq.trans ?_ h
  unfold kernelRun0_A
  dsimp only
  unfold kernelRun0_A.sl.v9
  refine (View.canon_cons_unit_lit (S := S2x8x128x128) _ _ _ (by decide)).trans ?_
  refine (View.readAt_eq_ld _ _ _).trans ?_
  rw [View.writes_append, lb_ld, tri_ld]
  exact View.ld_unit_lit (S := S2x8x128x128) _ _ (by decide)

variable (m : (ℓ : Loc nD τ sig) → Buf (Elt Ideal) ℓ) (c : Dev nD) (t : Fin cfg0.N)

/-- The windows' block indices at each point. -/
theorem idx_facts : ∀ t : Fin cfg0.N,
    win0_0.index t = ![t.val, 0, 1] ∧ win0_1.index t = ![t.val, 0, 2] ∧ win0_2.index t = ![t.val, 0, 0, 0]
    ∧ win0_3.index t = ![0, 0] ∧ win0_4.index t = ![0, 0] ∧ win0_5.index t = ![t.val, 0, 0, 0] :=
  (by decide +kernel : ∀ t : Fin grid0.N, _)

/-- The point's batch pair, one of its two batches. -/
def batch (t : Fin cfg0.N) (b : Fin 2) : Fin 8 := ⟨2 * t.val + b.val, by have := lt_of_lt_of_eq t.isLt (show cfg0.N = 4 from N_0); omega⟩

/-- Row `s` from the last (taken modulo 256, so that it is a row for every `s`) of the gate's arguments, one head of one batch. -/
def argF (B h : Fin 8) (s : ℕ) (d : Fin 128) : EReal :=
  m ((c : Thread nD τ).loc main_arg0) (ix3 B ⟨255 - s % 256, by omega⟩ ⟨1024 + (col h d).val, by omega⟩)
/-- Row `s` from the last of the values, one head of one batch. -/
def argV (B h : Fin 8) (s : ℕ) (e : Fin 128) : EReal :=
  m ((c : Thread nD τ).loc main_arg0) (ix3 B ⟨255 - s % 256, by omega⟩ ⟨2048 + (col h e).val, by omega⟩)
/-- The bound of one head. -/
def argLb (h : Fin 8) (d : Fin 128) : EReal := m ((c : Thread nD τ).loc main_arg1) (ix2 0 (col h d))

/-- The forget gate's columns. -/
theorem iblk0_apply (b : Fin 2) (T : Fin 256) (k : Fin 1024) :
    iblk m c 0 t (ix3 b T k) = m ((c : Thread nD τ).loc main_arg0) (ix3 (batch t b) T ⟨1024 + k.val, by omega⟩) := by
  unfold batch
  blk_ext [iblk, V, idx_facts t]

/-- The values' columns. -/
theorem iblk1_apply (b : Fin 2) (T : Fin 256) (k : Fin 1024) :
    iblk m c 1 t (ix3 b T k) = m ((c : Thread nD τ).loc main_arg0) (ix3 (batch t b) T ⟨2048 + k.val, by omega⟩) := by
  unfold batch
  blk_ext [iblk, V, idx_facts t]

/-- The initial states, as the call finds them: zero. -/
theorem zero_apply (i : S8x8x128x128.Idx) : V m c main_v0 i = (0 : EReal) := by
  unfold V
  after_results_simp
  exact Ideal.ofBits_zero_f32

/-- The initial states. -/
theorem iblk2_apply (b : Fin 2) (h : Fin 8) (e d : Fin 128) : iblk m c 2 t (ix4 b h e d) = (0 : EReal) := by
  refine Eq.trans ?_ (zero_apply m c (ix4 (batch t b) h e d))
  unfold batch
  blk_ext [iblk, idx_facts t]

/-- The bound. -/
theorem iblk3_apply (k : Fin 1024) : iblk m c 3 t (ix2 0 k) = m ((c : Thread nD τ).loc main_arg1) (ix2 0 k) := by
  blk_ext [iblk, V, idx_facts t]

/-- The constant's words: ones on and over the diagonal. -/
theorem lit_tri : ∀ t s : Fin 64, lit0 (S64x64.rowMajor (ix2 t s)) = if t.val ≤ s.val then 0x3F800000#32 else 0x00000000#32 := by
  decide +kernel

/-- The constant, as the call finds it. -/
theorem cst_apply (i : S64x64.Idx) : V m c main_cst i = Ideal.ofBits .f32 (lit0 (S64x64.rowMajor i)) := by
  unfold V
  after_results_simp
  rfl

/-- The triangle. -/
theorem iblk4_tri : IsTri (iblk m c 4 t) := by
  intro a b
  have h : iblk m c 4 t (ix2 a b) = V m c main_cst (ix2 a b) := by
    blk_ext [iblk, idx_facts t]
  refine h.trans ?_
  rw [cst_apply, lit_tri]
  split_ifs
  · exact ofBits_one
  · exact Ideal.ofBits_zero_f32

/-- One head's bounds in the block. -/
theorem bnd_iblk (h : Fin 8) : bnd (iblk m c 3 t) h = argLb m c h := funext fun d => iblk3_apply m c t (col h d)

/-- The state of one batch and head after the 256 rows, at key column `d` and value column `e`. -/
def stateAt (B h : Fin 8) (d e : Fin 128) : EReal :=
  seqPos (argLb m c h) (fun k t d => argF m c B h (64 * k + t.val) d) (fun k t e => argV m c B h (64 * k + t.val) e) (fun _ _ => 0) 4 d e

/-- The result. -/
def result : S8x8x128x128.Idx → EReal := fun i => stateAt m c (i 0) (i 1) (i 3) (i 2)

/-- What a point's body leaves in the result's block. -/
theorem after_eq (hb : ∀ h, Positive (argLb m c h)) :
    (dats m 0 c).after 5 t = tileStates (iblk m c 3 t) (iblk m c 0 t) (iblk m c 1 t) (iblk m c 2 t) 4 := by
  rw [after0_5]
  unfold outsAt0
  exact out_eq c _ _ _ _ _ _ _ _ _ _ _ _ _ _ _ _ _ _ _ _ _ _ (iblk4_tri m c t) fun h => by rw [bnd_iblk]; exact hb h

/-- What each point stores. -/
theorem stored (b : Fin 2) (h : Fin 8) (e d : Fin 128) :
    tileStates (iblk m c 3 t) (iblk m c 0 t) (iblk m c 1 t) (iblk m c 2 t) 4 (ix4 b h e d) = stateAt m c (batch t b) h d e := by
  have hx := congrFun (congrFun (tState_tileStates (iblk m c 3 t) (iblk m c 0 t) (iblk m c 1 t) (iblk m c 2 t) b h 4) d) e
  refine hx.trans ?_
  have hS : tState (iblk m c 2 t) b h = fun _ _ => (0 : EReal) := funext fun d => funext fun e => iblk2_apply m c t b h e d
  have hF : tRows (iblk m c 0 t) b h = fun k u d => argF m c (batch t b) h (64 * k + u.val) d :=
    funext fun k => funext fun u => funext fun d => iblk0_apply m c t b _ (col h d)
  have hV : tRows (iblk m c 1 t) b h = fun k u e => argV m c (batch t b) h (64 * k + u.val) e :=
    funext fun k => funext fun u => funext fun e => iblk1_apply m c t b _ (col h e)
  rw [bnd_iblk, hS, hF, hV]
  rfl

/-- The point that writes a batch of the result back. -/
def writer (B : Fin 8) : Fin cfg0.N := ⟨B.val / 2, by rw [show cfg0.N = 4 from N_0]; omega⟩

/-- Some point writes each index of the result back. -/
theorem covered (i : S8x8x128x128.Idx) : ∃ t : Fin cfg0.N, (cfg0.win 5).flush t = true ∧ i ∈ ((cfg0.win 5).blk t).view.set := by
  have h0 : (i 0).val < 8 := (i 0).isLt
  have h1 : (i 1).val < 8 := (i 1).isLt
  have h2 : (i 2).val < 128 := (i 2).isLt
  have h3 : (i 3).val < 128 := (i 3).isLt
  have hv : (writer (i 0)).val = (i 0).val / 2 := rfl
  refine ⟨writer (i 0), flush0_5 _, ?_⟩
  mem_blk [idx_facts]
  omega

/-- An element of a point's block of the result, in the array. -/
theorem place (b : Fin 2) (h : Fin 8) (e d : Fin 128) : (win0_5.blk t).view.emb (ix4 b h e d) = ix4 (batch t b) h e d := by
  unfold batch
  blk_ext [idx_facts t]

/-- The result's array after the run. -/
theorem final (hb : ∀ h, Positive (argLb m c h)) : (dats m 0 c).arrAt 5 cfg0.N = result m c := by
  refine (dats m 0 c).arrAt_eq_of_cover 5 _ (fun t _ => ?_) covered
  funext y
  blk_simp
  rw [after_eq m c t hb]
  obtain ⟨b, h, e, d, rfl⟩ : ∃ (b : Fin 2) (h : Fin 8) (e d : Fin 128), y = ix4 b h e d := ⟨y 0, y 1, y 2, y 3, eq_ix4 y⟩
  exact (stored m c t b h e d).trans (congrArg (result m c) (place t b h e d)).symm

end Cert.BackIdeal.Gen

end
-- ==== Proof.BackEquation.lean ====
/-
  The backward state's reference at an index, and the equation of the kernel's result with it.
-/
module

public import proofs.«01_k».proof.Proof.BackFold
public import proofs.«01_k».proof.Proof.StateEquation
public import proofs.«01_k».proof.Proof.Gen.BackReferenceIdeal.Run

@[expose] public section

set_option maxRecDepth 16384

noncomputable section

namespace Cert.BackReferenceIdeal.Value

open Idealize.ShloMosaic Idealize.ShloMosaic.TcCoe Idealize.ShloMosaic.Tactic Idealize.ShloMosaic.StableHlo
open Cert.BackReferenceIdeal Cert.BackReferenceIdeal.Facts Cert.BackReferenceIdeal.Gen Cert.Hgrn
open Cert.StateReferenceIdeal.Value (refSig spread heads sums refState refSig_apply heads_apply refState_apply sums_apply sums_real)

variable {F : FTy → Type} [FloatOps F]

/-- The backward forget gates. -/
def backG (A : FVec F S8x256x7168 .bf16) (b : FVec F S1x1024 .f32) : FVec F S8x256x1024 .f32 :=
  addf (spread (shapeCast _ b shapeCasts_S1x1024_S1024))
    (mulf (spread (subf (broadcastInDim S1024 ![] bcast_S_S1024 (constant S_ .f32 0x3F800000#32)) (shapeCast _ b shapeCasts_S1x1024_S1024)))
      (refSig (extractStridedSlice S8x256x1024 ![0, 0, 1024] (extf .f32 A bitsLt_bf16_f32) slices_S8x256x7168_S8x256x1024_0_0_1024)))

/-- An array's columns as heads, its rows from the last to the first. -/
def flipped (x : FVec F S8x256x1024 .f32) : FVec F S8x256x8x128 .f32 := Host.reverse [1] (heads x)

/-- The keys, from the last row to the first. -/
def backK (A : FVec F S8x256x7168 .bf16) (b : FVec F S1x1024 .f32) : FVec F S8x256x8x128 .f32 :=
  flipped (subf (broadcastInDim S8x256x1024 ![] bcast_S_S8x256x1024 (constant S_ .f32 0x3F800000#32)) (backG A b))

/-- The gates' logarithms, from the last row to the first. -/
def backL (A : FVec F S8x256x7168 .bf16) (b : FVec F S1x1024 .f32) : FVec F S8x256x8x128 .f32 := flipped (Host.log (backG A b))

/-- The values, from the last row to the first. -/
def backV (A : FVec F S8x256x7168 .bf16) : FVec F S8x256x8x128 .f32 :=
  flipped (extractStridedSlice S8x256x1024 ![0, 0, 2048] (extf .f32 A bitsLt_bf16_f32) slices_S8x256x7168_S8x256x1024_0_0_2048)

/-- The reference's run leaves the states of these, its arguments unchanged. -/
theorem run_back (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = refState (backK (m ((c.tc : Thread nD τ).loc main_arg0)) (m ((c.tc : Thread nD τ).loc main_arg1)))
        (backV (m ((c.tc : Thread nD τ).loc main_arg0))) (sums (backL (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := run m ρ

/-- The gates, at an index. -/
theorem backG_apply (A : FVec Ideal S8x256x7168 .bf16) (b : FVec Ideal S1x1024 .f32) (B : Fin 8) (T : Fin 256) (k : Fin 1024) :
    (backG (F := Ideal) A b (ix3 B T k) : EReal) = gate (b (ix2 0 k)) (A (ix3 B T ⟨1024 + k.val, by omega⟩)) := by
  pointwise [backG, gate, spread, refSig_apply, ofBits_one]

/-- One head's columns, from the last row to the first. -/
theorem flipped_apply (x : FVec Ideal S8x256x1024 .f32) (B : Fin 8) (T : Fin 256) (h : Fin 8) (d : Fin 128) :
    flipped x (ix4 B T h d) = x (ix3 B T.rev (col h d)) := by
  refine Eq.trans ?_ (heads_apply x B T.rev h d)
  unfold flipped
  refine congrArg (heads x) (funext fun a => Fin.ext ?_)
  match a with
  | ⟨0, _⟩ => rfl
  | ⟨1, _⟩ => rfl
  | ⟨2, _⟩ => rfl
  | ⟨3, _⟩ => rfl

/-- The keys, at an index. -/
theorem backK_apply (A : FVec Ideal S8x256x7168 .bf16) (b : FVec Ideal S1x1024 .f32) (B : Fin 8) (T : Fin 256) (h : Fin 8) (d : Fin 128) :
    (backK (F := Ideal) A b (ix4 B T h d) : EReal) = 1 - gate (b (ix2 0 (col h d))) (A (ix3 B T.rev ⟨1024 + (col h d).val, by omega⟩)) := by
  unfold backK
  rw [flipped_apply]
  pointwise [backG_apply, ofBits_one]

/-- The gates' logarithms, at an index. -/
theorem backL_apply (A : FVec Ideal S8x256x7168 .bf16) (b : FVec Ideal S1x1024 .f32) (B : Fin 8) (T : Fin 256) (h : Fin 8) (d : Fin 128) :
    (backL (F := Ideal) A b (ix4 B T h d) : EReal) = Ideal.log (gate (b (ix2 0 (col h d))) (A (ix3 B T.rev ⟨1024 + (col h d).val, by omega⟩))) := by
  unfold backL
  rw [flipped_apply]
  pointwise [backG_apply]

/-- The values, at an index. -/
theorem backV_apply (A : FVec Ideal S8x256x7168 .bf16) (B : Fin 8) (T : Fin 256) (h : Fin 8) (e : Fin 128) :
    (backV (F := Ideal) A (ix4 B T h e) : EReal) = A (ix3 B T.rev ⟨2048 + (col h e).val, by omega⟩) := by
  unfold backV
  rw [flipped_apply]
  pointwise

/-- The states from the arguments are the closed form of the recurrence. -/
theorem backState_closed (A : FVec Ideal S8x256x7168 .bf16) (b : FVec Ideal S1x1024 .f32) (B h : Fin 8) (e d : Fin 128)
    (F V : ℕ → EReal) (hF : ∀ s : Fin 256, A (ix3 B s.rev ⟨1024 + (col h d).val, by omega⟩) = F s.val)
    (hV : ∀ s : Fin 256, A (ix3 B s.rev ⟨2048 + (col h e).val, by omega⟩) = V s.val)
    (g : ℕ → ℝ) (hg : ∀ s, Ideal.log (gate (b (ix2 0 (col h d))) (F s)) = (g s : EReal)) :
    (refState (F := Ideal) (backK A b) (backV A) (sums (backL A b)) (ix4 B h e d) : EReal)
      = closed g (fun s => 1 - gate (b (ix2 0 (col h d))) (F s)) V 256 := by
  have hs : ∀ t : Fin 256, sums (F := Ideal) (backL A b) (ix4 B t h d) = ((pre g (t.val + 1) : ℝ) : EReal) := by
    intro t
    rw [sums_apply, ← sums_real]
    refine Finset.sum_congr rfl fun s _ => ?_
    rw [backL_apply, hF, hg]
  rw [refState_apply]
  unfold closed
  rw [← Fin.sum_univ_eq_sum_range (fun s => (1 - gate (b (ix2 0 (col h d))) (F s)) * ((Real.exp (pre g 256 - pre g (s + 1)) : ℝ) : EReal) * V s) 256]
  refine Finset.sum_congr rfl fun s _ => ?_
  rw [backK_apply, backV_apply, hF, hV, hs, hs, ← EReal.coe_sub, Ideal.exp_coe]
  rfl

/-- The states' rows of an infinite bound are zero. -/
theorem backState_top (A : FVec Ideal S8x256x7168 .bf16) (b : FVec Ideal S1x1024 .f32) (B h : Fin 8) (e d : Fin 128)
    (hb : b (ix2 0 (col h d)) = (⊤ : EReal)) :
    (refState (F := Ideal) (backK A b) (backV A) (sums (backL A b)) (ix4 B h e d) : EReal) = 0 := by
  rw [refState_apply]
  refine Finset.sum_eq_zero fun s _ => ?_
  have hs : (sums (F := Ideal) (backL A b) (ix4 B 255 h d) - sums (F := Ideal) (backL A b) (ix4 B s h d) : EReal) = ⊥ := by
    rw [sums_apply, sums_apply]
    exact sums_inf _ (fun r => by rw [backL_apply, hb]; exact log_gate_top _) s
  rw [hs, Ideal.exp_bot, mul_zero, zero_mul]

end Cert.BackReferenceIdeal.Value

namespace Cert.Equation

open Idealize.ShloMosaic Idealize.ShloMosaic.TcCoe Idealize.ShloMosaic.Tactic Cert.Hgrn
open Cert.BackReferenceIdeal.Value (backK backV backL)
open Cert.StateReferenceIdeal.Value (refState sums)
open Cert.BackIdeal (nD τ sig main_arg0 main_arg1)
open Cert.BackIdeal.Gen (argF argV argLb)

/-- The backward states, computed by the kernel chunk by chunk, are the reference's, from the same arrays. -/
theorem back_eq (m : (ℓ : Loc nD τ sig) → Buf (Elt Ideal) ℓ) (c : Dev nD) (hb : ∀ h, Positive (argLb m c h)) :
    (refState (F := Ideal) (backK (m ((c.tc : Thread nD τ).loc main_arg0)) (m ((c.tc : Thread nD τ).loc main_arg1)))
      (backV (m ((c.tc : Thread nD τ).loc main_arg0)))
      (sums (backL (m ((c.tc : Thread nD τ).loc main_arg0)) (m ((c.tc : Thread nD τ).loc main_arg1)))) : Cert.BackIdeal.S8x8x128x128.Idx → EReal)
      = Cert.BackIdeal.Gen.result m c := by
  funext i
  obtain ⟨B, h, e, d, rfl⟩ : ∃ (B h : Fin 8) (e d : Fin 128), i = ix4 B h e d := ⟨i 0, i 1, i 2, i 3, eq_ix4 i⟩
  by_cases hd : argLb m c h d = ⊤
  · have hk := seqPos_top (argLb m c h) (fun k t d => argF m c B h (64 * k + t.val) d)
      (fun k t e => argV m c B h (64 * k + t.val) e) 4 d e hd
    exact (Cert.BackReferenceIdeal.Value.backState_top _ _ B h e d hd).trans hk.symm
  have hl : ∀ s : ℕ, ∃ l : ℝ, Ideal.log (gate (argLb m c h d) (argF m c B h s d)) = (l : EReal) :=
    fun s => log_gate_real _ _ (hb h d) (lt_top_iff_ne_top.mpr hd)
  choose g hg using hl
  have hk := (seqPos_fin (argLb m c h) (fun k t d => argF m c B h (64 * k + t.val) d)
    (fun k t e => argV m c B h (64 * k + t.val) e) (fun _ _ => 0) 4 d e hd).trans <| stateSeq_closed (argLb m c h) (fun k t d => argF m c B h (64 * k + t.val) d) (fun k t e => argV m c B h (64 * k + t.val) e) 4
    (argF m c B h) (argV m c B h) (fun _ _ _ _ => rfl) (fun _ _ _ _ => rfl) d e g hg
  have hm : ∀ s : Fin 256, (⟨255 - s.val % 256, by omega⟩ : Fin 256) = s.rev := fun s => Fin.ext (by
    rw [Fin.val_rev]; show 255 - s.val % 256 = 256 - (s.val + 1); omega)
  refine (Cert.BackReferenceIdeal.Value.backState_closed _ _ B h e d (fun s => argF m c B h s d)
    (fun s => argV m c B h s e) (fun s => ?_) (fun s => ?_) g hg).trans hk.symm
  · show _ = argF m c B h s.val d
    unfold argF
    rw [hm]
  · show _ = argV m c B h s.val e
    unfold argV
    rw [hm]

end Cert.Equation

end
-- ==== Proof.MixPre.lean ====
/-
  The merge's precondition: every entry of the second output is finite.
-/
module

public import proofs.«01_k».proof.Defs
public import proofs.«01_k».proof.Proof.Scalars
public import Idealize.ShloMosaic.Lib.ReduceAll
public import Idealize.ShloMosaic.Lib.WordArith
public import Idealize.ShloMosaic.Lib.Pointwise

@[expose] public section

set_option maxRecDepth 16384

noncomputable section

namespace Cert.Pre_y_b_finite

open Idealize.ShloMosaic Idealize.ShloMosaic.Tactic Cert.Hgrn

/-- The predicate's shape facts. -/
instance facts : Facts where
  bcast_S_S8x64x128x1024 := by decide
  reducesTo_S8x64x128x1024_S_d0_1_2_3 := by decide
  h_S_ := by decide

/-- The pattern of infinity denotes the top element. -/
theorem ofBits_pinf : Ideal.ofBits .f32 0x7F800000#32 = (⊤ : EReal) := by
  simp [Ideal.ofBits, Ideal.ieee]

/-- Where the predicate is true, each entry is a real number. -/
theorem finite_of (x ya : FVec Ideal S65536x1024 .f32) (y : FVec Ideal S8x64x128x1024 .f32) (p : FVec Ideal S65536x7168 .bf16)
    (g : FVec Ideal S8x1x1024 .f32) (w : FVec Ideal S1024x1024 .bf16) (lg lb : FVec Ideal S1x1024 .f32)
    (h : fn (F := Ideal) x ya y p g w lg lb = fun _ => 1#1) (b : Fin 8) (c : Fin 64) (r : Fin 128) (k : Fin 1024) :
    y (ix4 b c r k) ≠ ⊥ ∧ y (ix4 b c r k) ≠ ⊤ := by
  haveI : Subsingleton S_.Idx := ⟨fun a b => funext fun i => i.elim0⟩
  unfold fn at h
  dsimp only at h
  have h0 := congrFun h ix0
  have q := Host.reduce_andi_all _ _ Facts.reducesTo_S8x64x128x1024_S_d0_1_2_3 Facts.h_S_ ix0 h0 (ix4 b c r k)
  have e : IntOp.andi (Ideal.cmp .ogt (y (ix4 b c r k)) (Ideal.ofBits .f32 0xFF800000#32))
      (Ideal.cmp .olt (y (ix4 b c r k)) (Ideal.ofBits .f32 0x7F800000#32)) = 1#1 := q
  rw [ofBits_ninf, ofBits_pinf] at e
  simp only [Ideal.cmp] at e
  rw [show ∀ p q : Bool, IntOp.andi (BitVec.ofBool p) (BitVec.ofBool q) = BitVec.ofBool (p && q) by decide,
    show ∀ p : Bool, (BitVec.ofBool p = 1#1) = (p = true) by decide] at e
  simp only [Bool.and_eq_true, decide_eq_true_eq] at e
  exact ⟨ne_of_gt e.1, ne_of_lt e.2⟩

end Cert.Pre_y_b_finite

end
-- ==== Proof.MixSpec.lean ====
/-
  The merge of the two mixers: each mixer's output under its gate, the sum projected, added to the scaled input, layer norm.
-/
module

public import proofs.«01_k».proof.Proof.Norm

@[expose] public section

noncomputable section

namespace Cert.Norm

open Idealize.ShloMosaic

/-- The factor of the input, as the programs' constant. -/
abbrev alpha : EReal := Ideal.ofBits .f32 0x3F9837F0#32

/-- The two outputs under their gates, added. -/
def mixed (ga ya gb yb : Fin 1024 → EReal) (k : Fin 1024) : EReal := Ideal.logistic (ga k) * ya k + Ideal.logistic (gb k) * yb k

/-- The projected sum, added to the scaled input. -/
def summed (x g u : Fin 1024 → EReal) (w : Fin 1024 → Fin 1024 → EReal) (e : Fin 1024) : EReal :=
  alpha * x e + g e * ∑ k, u k * w k e

/-- Its layer norm, scaled and shifted. -/
def merged (x g u : Fin 1024 → EReal) (w : Fin 1024 → Fin 1024 → EReal) (lg lb : Fin 1024 → EReal) (e : Fin 1024) : EReal :=
  normed (summed x g u w) e * lg e + lb e

end Cert.Norm

end
-- ==== Proof.MixPay.lean ====
/-
  The merge's two payloads at an index: the gated sum of the two outputs, the second put back in row-major order, times the
  weights; and the layer norm of that sum added to the scaled input.
-/
module

public import proofs.«01_k».proof.Proof.MixSpec
public import proofs.«01_k».proof.Proof.Scalars
public import proofs.«01_k».proof.Proof.Gen.MergeIdeal.Value
public import Idealize.ShloMosaic.Lib.Pipeline.ValueKit.Point

@[expose] public section

set_option maxRecDepth 16384

noncomputable section

namespace Cert.MergeIdeal.Gen

open Idealize.ShloMosaic Idealize.ShloMosaic.TcCoe Idealize.ShloMosaic.Tactic
open Cert.Norm

/-- The logistic function as the kernel spells it. -/
def gate (x : EReal) : EReal :=
  Ideal.ofBits .f32 0x3F000000#32 * Ideal.tanh (Ideal.ofBits .f32 0x3F000000#32 * x) + Ideal.ofBits .f32 0x3F000000#32

theorem gate_eq (x : EReal) : gate x = Ideal.logistic x := by
  unfold gate
  rw [Cert.Hgrn.ofBits_half, Cert.Hgrn.sig_eq]

/-- The second output's block times the reordering matrix: its rounding, and what the rounding leaves. -/
def reordered (y : Vec Ideal S1x64x8x1024 .f32) (p : Vec Ideal S512x512 .bf16) (r : Fin 512) (k : Fin 1024) : EReal :=
  (∑ j : Fin 512, p (ix2 r j) * y (ix4 0 ⟨j.val / 8, by omega⟩ ⟨j.val % 8, by omega⟩ k))
    + ∑ j : Fin 512, p (ix2 r j) * (y (ix4 0 ⟨j.val / 8, by omega⟩ ⟨j.val % 8, by omega⟩ k) - y (ix4 0 ⟨j.val / 8, by omega⟩ ⟨j.val % 8, by omega⟩ k))

/-- The gated sum, projected. -/
theorem pay2_apply (y : Vec Ideal S1x64x8x1024 .f32) (p : Vec Ideal S512x512 .bf16) (ga : Vec Ideal S512x1024 .bf16)
    (ya : Vec Ideal S512x1024 .f32) (gb : Vec Ideal S512x1024 .bf16) (w : Vec Ideal S1024x1024 .bf16) (r : Fin 512) (e : Fin 1024) :
    k0_pay2 y p ga ya gb w (ix2 r e)
      = ∑ k : Fin 1024, (gate (ga (ix2 r k)) * ya (ix2 r k) + gate (gb (ix2 r k)) * reordered y p r k) * w (ix2 k e) := by
  pointwise [k0_pay2, gate, reordered]

/-- The layer norm of the sum, scaled and shifted. -/
theorem pay1_apply (o x : Vec Ideal S512x1024 .f32) (g : Vec Ideal S1x1x1024 .f32) (lg lb : Vec Ideal S1x1024 .f32) (r : Fin 512) (e : Fin 1024) :
    k0_pay1 o x g lg lb (ix2 r e)
      = normed (fun k => alpha * x (ix2 r k) + g (ix3 0 0 k) * o (ix2 r k)) e * lg (ix2 0 e) + lb (ix2 0 e) := by
  pointwise [k0_pay1, normed, centred, mean]

end Cert.MergeIdeal.Gen

end
-- ==== Proof.MixFold.lean ====
/-
  The merge's blocks at an index, and the rows each point stores, where the second output is finite.
-/
module

public import proofs.«01_k».proof.Proof.MixPay
public import Idealize.ShloMosaic.Lib.Pipeline.ValueKit
public import Idealize.ShloMosaic.Lib.Pipeline.ReadBack

@[expose] public section

set_option maxRecDepth 16384

noncomputable section

namespace Cert.MergeIdeal.Gen

open Idealize.ShloMosaic Idealize.ShloMosaic.TcCoe Idealize.ShloMosaic.Tactic Idealize.ShloMosaic.StableHlo
open Cert.Norm Cert.MergeIdeal.Facts₀ Cert.MergeIdeal.Facts

variable (m : (ℓ : Loc nD τ sig) → Buf (Elt Ideal) ℓ) (c : Dev nD) (t : Fin cfg0.N)

/-- The windows' block indices at each point. -/
theorem idx_facts : ∀ t : Fin cfg0.N,
    win0_0.index t = ![t.val, 0] ∧ win0_1.index t = ![t.val, 0] ∧ win0_2.index t = ![t.val / 16, 0, t.val % 16, 0]
    ∧ win0_3.index t = ![0, 0] ∧ win0_4.index t = ![t.val, 5] ∧ win0_5.index t = ![t.val, 6] ∧ win0_6.index t = ![t.val / 16, 0, 0]
    ∧ win0_7.index t = ![0, 0] ∧ win0_8.index t = ![0, 0] ∧ win0_9.index t = ![0, 0] ∧ win0_10.index t = ![t.val, 0] :=
  (by decide +kernel : ∀ t : Fin grid0.N, _)

/-- A row of the input. -/
def argX (i : Fin 65536) (k : Fin 1024) : EReal := m ((c : Thread nD τ).loc main_arg0) (ix2 i k)
/-- A row of the first output. -/
def argA (i : Fin 65536) (k : Fin 1024) : EReal := m ((c : Thread nD τ).loc main_arg1) (ix2 i k)
/-- The second output at a column and a row of the image. -/
def argB (b : Fin 8) (w : Fin 64) (r : Fin 128) (k : Fin 1024) : EReal := m ((c : Thread nD τ).loc main_arg2) (ix4 b w r k)
/-- A row of the projection. -/
def argP (i : Fin 65536) (k : Fin 7168) : EReal := m ((c : Thread nD τ).loc main_arg3) (ix2 i k)
/-- A batch's scale of the sum. -/
def argG (b : Fin 8) (k : Fin 1024) : EReal := m ((c : Thread nD τ).loc main_arg4) (ix3 b 0 k)
/-- The weights. -/
def argW (k e : Fin 1024) : EReal := m ((c : Thread nD τ).loc main_arg5) (ix2 k e)
/-- The layer norm's scale. -/
def argLg (k : Fin 1024) : EReal := m ((c : Thread nD τ).loc main_arg6) (ix2 0 k)
/-- The layer norm's shift. -/
def argLb (k : Fin 1024) : EReal := m ((c : Thread nD τ).loc main_arg7) (ix2 0 k)

/-- The gated sum of a row: the second output at the row's place in the image. -/
def rowMixed (i : Fin 65536) : Fin 1024 → EReal :=
  mixed (fun k => argP m c i ⟨5120 + k.val, by omega⟩) (argA m c i) (fun k => argP m c i ⟨6144 + k.val, by omega⟩)
    (argB m c ⟨i.val / 8192, by omega⟩ ⟨i.val % 64, by omega⟩ ⟨i.val % 8192 / 64, by omega⟩)

/-- The result. -/
def result : S65536x1024.Idx → EReal := fun i =>
  merged (argX m c (i 0)) (argG m c ⟨(i 0).val / 8192, by have : (i 0).val < 65536 := (i 0).isLt; omega⟩) (rowMixed m c (i 0))
    (argW m c) (argLg m c) (argLb m c) (i 1)

theorem point_lt : t.val < 128 := lt_of_lt_of_eq t.isLt (show cfg0.N = 128 from N_0)

/-- The point's tile, one of its rows. -/
def trow (t : Fin cfg0.N) (r : Fin 512) : Fin 65536 := ⟨t.val * 512 + r.val, by have := point_lt t; omega⟩
/-- The point's batch. -/
def tbatch (t : Fin cfg0.N) : Fin 8 := ⟨t.val / 16, by have := point_lt t; omega⟩
/-- A row of the image, of the point's eight. -/
def timage (t : Fin cfg0.N) (a : Fin 8) : Fin 128 := ⟨t.val % 16 * 8 + a.val, by omega⟩

theorem iblk0_apply (r : Fin 512) (k : Fin 1024) : iblk m c 0 t (ix2 r k) = argX m c (trow t r) k := by
  unfold argX trow
  blk_ext [iblk, V, idx_facts t]
theorem iblk1_apply (r : Fin 512) (k : Fin 1024) : iblk m c 1 t (ix2 r k) = argA m c (trow t r) k := by
  unfold argA trow
  blk_ext [iblk, V, idx_facts t]
theorem iblk2_apply (w : Fin 64) (a : Fin 8) (k : Fin 1024) : iblk m c 2 t (ix4 0 w a k) = argB m c (tbatch t) w (timage t a) k := by
  unfold argB tbatch timage
  blk_ext [iblk, V, idx_facts t]
theorem iblk4_apply (r : Fin 512) (k : Fin 1024) : iblk m c 4 t (ix2 r k) = argP m c (trow t r) ⟨5120 + k.val, by omega⟩ := by
  unfold argP trow
  blk_ext [iblk, V, idx_facts t]
theorem iblk5_apply (r : Fin 512) (k : Fin 1024) : iblk m c 5 t (ix2 r k) = argP m c (trow t r) ⟨6144 + k.val, by omega⟩ := by
  unfold argP trow
  blk_ext [iblk, V, idx_facts t]
theorem iblk6_apply (k : Fin 1024) : iblk m c 6 t (ix3 0 0 k) = argG m c (tbatch t) k := by
  unfold argG tbatch
  blk_ext [iblk, V, idx_facts t]
theorem iblk7_apply (k e : Fin 1024) : iblk m c 7 t (ix2 k e) = argW m c k e := by
  unfold argW
  blk_ext [iblk, V, idx_facts t]
theorem iblk8_apply (k : Fin 1024) : iblk m c 8 t (ix2 0 k) = argLg m c k := by
  unfold argLg
  blk_ext [iblk, V, idx_facts t]
theorem iblk9_apply (k : Fin 1024) : iblk m c 9 t (ix2 0 k) = argLb m c k := by
  unfold argLb
  blk_ext [iblk, V, idx_facts t]

/-- The reordering matrix, as computed before the call. -/
def matrix : Vec Ideal S512x512 .bf16 :=
  truncf (F := Ideal) .bf16 (shapeCast S512x512 (select
      (cmpi .eq (iotaInDim S8x64x512 32 2) (addi (muli (iotaInDim S8x64x512 32 1)
        (broadcastInDim S8x64x512 ![] bcast_S_S8x64x512 (constantI S_ 32 8#32))) (iotaInDim S8x64x512 32 0)))
      (broadcastInDim S8x64x512 ![] bcast_S_S8x64x512 (constant (F := Ideal) S_ .f32 0x3F800000#32))
      (broadcastInDim S8x64x512 ![] bcast_S_S8x64x512 (constant (F := Ideal) S_ .f32 0x00000000#32)))
    shapeCasts_S8x64x512_S512x512) bitsLt_bf16_f32

/-- The call finds it. -/
theorem entry_matrix : V m c main_v9 = matrix := by
  unfold V
  simp only [List.flatten_cons, List.flatten_nil, List.append_nil, List.cons_append, List.nil_append]
  after_results_simp
  rfl

/-- Its row `64 a + w` is one at `8 w + a`, zero elsewhere. -/
theorem matrix_apply (i j : Fin 512) : matrix (ix2 i j) = if j.val = i.val % 64 * 8 + i.val / 64 then (1 : EReal) else 0 := by
  have h : IntOp.addi (IntOp.muli (BitVec.ofNat 32 (i.val % 64)) 8#32) (BitVec.ofNat 32 (i.val / 64))
      = BitVec.ofNat 32 (i.val % 64 * 8 + i.val / 64) := by
    show BitVec.ofNat 32 (i.val % 64) * BitVec.ofNat 32 8 + BitVec.ofNat 32 (i.val / 64) = _
    rw [← BitVec.ofNat_mul, ← BitVec.ofNat_add]
  have hi : i.val % 64 * 8 + i.val / 64 < 2 ^ 32 := by omega
  have hj : j.val < 2 ^ 32 := by omega
  pointwise [matrix]
  rw [h]
  by_cases e : j.val = i.val % 64 * 8 + i.val / 64
  · rw [if_pos e, e]
    have e2 : IntOp.cmpi .eq (BitVec.ofNat 32 (i.val % 64 * 8 + i.val / 64)) (BitVec.ofNat 32 (i.val % 64 * 8 + i.val / 64)) = 1#1 := by
      unfold IntOp.cmpi
      simp only [beq_self_eq_true]
      rfl
    rw [e2]
    rfl
  · rw [if_neg e]
    have e2 : IntOp.cmpi .eq (BitVec.ofNat 32 j.val) (BitVec.ofNat 32 (i.val % 64 * 8 + i.val / 64)) = 0#1 := by
      have hne : BitVec.ofNat 32 j.val ≠ BitVec.ofNat 32 (i.val % 64 * 8 + i.val / 64) := fun w => e (by
        have := congrArg BitVec.toNat w
        rwa [BitVec.toNat_ofNat, BitVec.toNat_ofNat, Nat.mod_eq_of_lt hi, Nat.mod_eq_of_lt hj] at this)
      unfold IntOp.cmpi
      simp only [beq_eq_false_iff_ne.mpr hne]
      rfl
    rw [e2]
    rfl

theorem iblk3_apply (i j : Fin 512) : iblk m c 3 t (ix2 i j) = if j.val = i.val % 64 * 8 + i.val / 64 then (1 : EReal) else 0 := by
  refine Eq.trans ?_ ((congrFun (entry_matrix m c) (ix2 i j)).trans (matrix_apply i j))
  blk_ext [iblk, idx_facts t]

/-! ## What each point stores, where the second output is finite -/

/-- The matrix picks one row of the block: each product has one term, and a real number less itself is zero. -/
theorem picked (y : Vec Ideal S1x64x8x1024 .f32) (p : Vec Ideal S512x512 .bf16)
    (hp : ∀ i j : Fin 512, p (ix2 i j) = if j.val = i.val % 64 * 8 + i.val / 64 then (1 : EReal) else 0) (r : Fin 512) (k : Fin 1024)
    (hy : ∀ w a, y (ix4 0 w a k) ≠ ⊥ ∧ y (ix4 0 w a k) ≠ ⊤) :
    reordered y p r k = y (ix4 0 ⟨(r.val % 64 * 8 + r.val / 64) / 8, by omega⟩ ⟨(r.val % 64 * 8 + r.val / 64) % 8, by omega⟩ k) := by
  have one (f : Fin 512 → EReal) : ∑ j : Fin 512, p (ix2 r j) * f j = f ⟨r.val % 64 * 8 + r.val / 64, by omega⟩ := by
    refine (Finset.sum_eq_single (⟨r.val % 64 * 8 + r.val / 64, by omega⟩ : Fin 512) (fun j _ hj => ?_)
      (fun h => absurd (Finset.mem_univ _) h)).trans ?_
    · rw [hp, if_neg (fun e => hj (Fin.ext e)), zero_mul]
    · rw [hp, if_pos rfl, one_mul]
  unfold reordered
  rw [one (fun j => y (ix4 0 ⟨j.val / 8, by omega⟩ ⟨j.val % 8, by omega⟩ k)),
    one (fun j => y (ix4 0 ⟨j.val / 8, by omega⟩ ⟨j.val % 8, by omega⟩ k) - y (ix4 0 ⟨j.val / 8, by omega⟩ ⟨j.val % 8, by omega⟩ k))]
  dsimp only
  rw [EReal.sub_self (hy _ _).2 (hy _ _).1, add_zero]

/-- The second output's rows, in row-major order: its rounding leaves nothing. -/
theorem reordered_eq (hf : ∀ b w r k, argB m c b w r k ≠ ⊥ ∧ argB m c b w r k ≠ ⊤) (r : Fin 512) (k : Fin 1024) :
    reordered (iblk m c 2 t) (iblk m c 3 t) r k
      = argB m c ⟨(trow t r).val / 8192, by omega⟩ ⟨(trow t r).val % 64, by omega⟩ ⟨(trow t r).val % 8192 / 64, by omega⟩ k := by
  have ht := point_lt t
  have hb : tbatch t = ⟨(trow t r).val / 8192, by omega⟩ := Fin.ext (by show t.val / 16 = (t.val * 512 + r.val) / 8192; omega)
  have hw : (⟨(r.val % 64 * 8 + r.val / 64) / 8, by omega⟩ : Fin 64) = ⟨(trow t r).val % 64, by omega⟩ :=
    Fin.ext (by
      show (r.val % 64 * 8 + r.val / 64) / 8 = (t.val * 512 + r.val) % 64
      have h1 : (r.val % 64 * 8 + r.val / 64) / 8 = r.val % 64 := by omega
      have h2 : (t.val * 512 + r.val) % 64 = r.val % 64 := by omega
      rw [h1, h2])
  have ha : timage t ⟨(r.val % 64 * 8 + r.val / 64) % 8, by omega⟩ = ⟨(trow t r).val % 8192 / 64, by omega⟩ :=
    Fin.ext (by
      show t.val % 16 * 8 + (r.val % 64 * 8 + r.val / 64) % 8 = (t.val * 512 + r.val) % 8192 / 64
      have h1 : (r.val % 64 * 8 + r.val / 64) % 8 = r.val / 64 := by omega
      have h2 : (t.val * 512 + r.val) % 8192 = t.val % 16 * 512 + r.val := by omega
      have h3 : (t.val % 16 * 512 + r.val) / 64 = t.val % 16 * 8 + r.val / 64 := by omega
      rw [h1, h2, h3])
  refine (picked _ _ (iblk3_apply m c t) r k (fun w a => ?_)).trans ?_
  · rw [iblk2_apply]
    exact hf _ _ _ _
  · rw [iblk2_apply, hb, hw, ha]

/-- The rows a point stores. -/
theorem stored (hf : ∀ b w r k, argB m c b w r k ≠ ⊥ ∧ argB m c b w r k ≠ ⊤) (r : Fin 512) (e : Fin 1024) :
    k0_pay1 (k0_pay2 (iblk m c 2 t) (iblk m c 3 t) (iblk m c 4 t) (iblk m c 1 t) (iblk m c 5 t) (iblk m c 7 t))
        (iblk m c 0 t) (iblk m c 6 t) (iblk m c 8 t) (iblk m c 9 t) (ix2 r e)
      = result m c (ix2 (trow t r) e) := by
  have ht := point_lt t
  have hb : tbatch t = ⟨(trow t r).val / 8192, by omega⟩ := Fin.ext (by show t.val / 16 = (t.val * 512 + r.val) / 8192; omega)
  refine (pay1_apply _ _ _ _ _ r e).trans ?_
  simp only [pay2_apply, reordered_eq m c t hf, gate_eq, iblk0_apply, iblk1_apply, iblk4_apply, iblk5_apply, iblk6_apply,
    iblk7_apply, iblk8_apply, iblk9_apply, hb]
  rfl

/-- What a point writes back. -/
theorem after_eq : (dats m 0 c).after 10 t
    = k0_pay1 (k0_pay2 (iblk m c 2 t) (iblk m c 3 t) (iblk m c 4 t) (iblk m c 1 t) (iblk m c 5 t) (iblk m c 7 t))
        (iblk m c 0 t) (iblk m c 6 t) (iblk m c 8 t) (iblk m c 9 t) := by
  rw [after0_10]
  unfold out0_10
  frame_out

/-- The point that writes a row of the result back. -/
def writer (i : Fin 65536) : Fin cfg0.N := ⟨i.val / 512, by rw [show cfg0.N = 128 from N_0]; omega⟩

/-- Some point writes each index of the result back. -/
theorem covered (i : S65536x1024.Idx) : ∃ t : Fin cfg0.N, (cfg0.win 10).flush t = true ∧ i ∈ ((cfg0.win 10).blk t).view.set := by
  have h0 : (i 0).val < 65536 := (i 0).isLt
  have h1 : (i 1).val < 1024 := (i 1).isLt
  have hv : (writer (i 0)).val = (i 0).val / 512 := rfl
  refine ⟨writer (i 0), flush0_10 _, ?_⟩
  mem_blk [idx_facts]
  omega

/-- An element of a point's block of the result, in the array. -/
theorem place (r : Fin 512) (e : Fin 1024) : (win0_10.blk t).view.emb (ix2 r e) = ix2 (trow t r) e := by
  unfold trow
  blk_ext [idx_facts t]

/-- The result's array after the run. -/
theorem final (hf : ∀ b w r k, argB m c b w r k ≠ ⊥ ∧ argB m c b w r k ≠ ⊤) : (dats m 0 c).arrAt 10 cfg0.N = result m c := by
  refine (dats m 0 c).arrAt_eq_of_cover 10 _ (fun t _ => ?_) covered
  funext y
  blk_simp
  rw [after_eq]
  obtain ⟨r, e, rfl⟩ : ∃ (r : Fin 512) (e : Fin 1024), y = ix2 r e := ⟨y 0, y 1, eq_ix2 y⟩
  exact (stored m c t hf r e).trans (congrArg (result m c) (place t r e)).symm

end Cert.MergeIdeal.Gen

end
-- ==== Proof.MixRef.lean ====
/-
  The merge's reference at an index.
-/
module

public import proofs.«01_k».proof.Proof.MixSpec
public import proofs.«01_k».proof.Proof.Gen.MergeReferenceIdeal.Run

@[expose] public section

set_option maxRecDepth 16384

noncomputable section

namespace Cert.MergeReferenceIdeal.Value

open Idealize.ShloMosaic Idealize.ShloMosaic.TcCoe Idealize.ShloMosaic.Tactic Idealize.ShloMosaic.StableHlo
open Cert.MergeReferenceIdeal Cert.MergeReferenceIdeal.Facts Cert.MergeReferenceIdeal.Gen Cert.Norm

variable {F : FTy → Type} [FloatOps F]

/-- The logistic function, as it is written out. -/
def refSig (x : FVec F S8x8192x1024 .f32) : FVec F S8x8192x1024 .f32 :=
  Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf x)))

/-- The two outputs under their gates, added: the second one put in row-major order. -/
def refMixed (ya : FVec F S65536x1024 .f32) (yb : FVec F S8x64x128x1024 .f32) (p : FVec F S65536x7168 .bf16) : FVec F S8x8192x1024 .f32 :=
  addf (mulf (refSig (extractStridedSlice S8x8192x1024 ![0, 0, 5120]
        (extf .f32 (shapeCast _ p shapeCasts_S65536x7168_S8x8192x7168) bitsLt_bf16_f32) slices_S8x8192x7168_S8x8192x1024_0_0_5120))
      (shapeCast _ ya shapeCasts_S65536x1024_S8x8192x1024))
    (mulf (refSig (extractStridedSlice S8x8192x1024 ![0, 0, 6144]
        (extf .f32 (shapeCast _ p shapeCasts_S65536x7168_S8x8192x7168) bitsLt_bf16_f32) slices_S8x8192x7168_S8x8192x1024_0_0_6144))
      (shapeCast _ (transpose S8x128x64x1024 [0, 2, 1, 3] (shapeCast _ (shapeCast _ yb shapeCasts_S8x64x128x1024_S8x8192x1024)
        shapeCasts_S8x8192x1024_S8x64x128x1024) transposes_S8x64x128x1024_S8x128x64x1024_0_2_1_3) shapeCasts_S8x128x64x1024_S8x8192x1024))

/-- The projected sum, added to the scaled input. -/
def refResidual (x : FVec F S65536x1024 .f32) (u : FVec F S8x8192x1024 .f32) (g : FVec F S8x1x1024 .f32)
    (w : FVec F S1024x1024 .bf16) : FVec F S8x8192x1024 .f32 :=
  addf (mulf (broadcastInDim S8x8192x1024 ![] bcast_S_S8x8192x1024 (constant S_ .f32 0x3F9837F0#32))
      (shapeCast _ x shapeCasts_S65536x1024_S8x8192x1024))
    (mulf (broadcastInDim S8x8192x1024 ![0, 1, 2] bcast_S8x1x1024_S8x8192x1024_0_1_2 g)
      (Host.dotGeneral dot_S8x8192x1024_S1024x1024_S8x8192x1024_2_0_01_1_n_n none u (extf .f32 w bitsLt_bf16_f32)))

/-- Each row's mean. -/
def refMean (x : FVec F S8x8192x1024 .f32) : FVec F S8x8192x1 .f32 :=
  Host.divf (broadcastInDim S8x8192x1 ![0, 1] bcast_S8x8192_S8x8192x1_0_1
      (Host.reduceAdd x (constant S_ .f32 0x00000000#32) reducesTo_S8x8192x1024_S8x8192_d2 h_S_))
    (broadcastInDim S8x8192x1 ![] bcast_S_S8x8192x1 (constant S_ .f32 0x44800000#32))

/-- Each row less its mean. -/
def refCentred (x : FVec F S8x8192x1024 .f32) : FVec F S8x8192x1024 .f32 :=
  subf x (broadcastInDim S8x8192x1024 ![0, 1, 2] bcast_S8x8192x1_S8x8192x1024_0_1_2 (refMean x))

/-- Each row's layer norm. -/
def refNormed (x : FVec F S8x8192x1024 .f32) : FVec F S8x8192x1024 .f32 :=
  mulf (refCentred x) (broadcastInDim S8x8192x1024 ![0, 1, 2] bcast_S8x8192x1_S8x8192x1024_0_1_2
    (Host.rsqrt (addf (refMean (mulf (refCentred x) (refCentred x))) (broadcastInDim S8x8192x1 ![] bcast_S_S8x8192x1 (constant S_ .f32 0x358637BD#32)))))

/-- A row of 1024 numbers, repeated. -/
def refRow (l : FVec F S1x1024 .f32) : FVec F S8x8192x1024 .f32 :=
  broadcastInDim S8x8192x1024 ![0, 1, 2] bcast_S1x1x1024_S8x8192x1024_0_1_2 (broadcastInDim S1x1x1024 ![1, 2] bcast_S1x1024_S1x1x1024_1_2 l)

/-- The merge. -/
def refMerged (x ya : FVec F S65536x1024 .f32) (yb : FVec F S8x64x128x1024 .f32) (p : FVec F S65536x7168 .bf16) (g : FVec F S8x1x1024 .f32)
    (w : FVec F S1024x1024 .bf16) (lg lb : FVec F S1x1024 .f32) : FVec F S65536x1024 .f32 :=
  shapeCast _ (addf (mulf (refNormed (refResidual x (refMixed ya yb p) g w)) (refRow lg)) (refRow lb)) shapeCasts_S8x8192x1024_S65536x1024

/-- The reference's run leaves the merge, its arguments unchanged. -/
theorem run_merged (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = refMerged (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := run m ρ

/-- The logistic function, at an index. -/
theorem refSig_apply (x : FVec Ideal S8x8192x1024 .f32) (i : S8x8192x1024.Idx) : refSig x i = Ideal.logistic (x i) := by
  pointwise [refSig, Ideal.logistic]

/-- The gated sum, at an index: of the second output at row `n / 64` and column `n % 64` of the image. -/
theorem refMixed_apply (ya : FVec Ideal S65536x1024 .f32) (yb : FVec Ideal S8x64x128x1024 .f32) (p : FVec Ideal S65536x7168 .bf16)
    (b : Fin 8) (n : Fin 8192) (k : Fin 1024) :
    refMixed ya yb p (ix3 b n k) = mixed (fun k => p (ix2 ⟨b.val * 8192 + n.val, by omega⟩ ⟨5120 + k.val, by omega⟩))
      (fun k => ya (ix2 ⟨b.val * 8192 + n.val, by omega⟩ k)) (fun k => p (ix2 ⟨b.val * 8192 + n.val, by omega⟩ ⟨6144 + k.val, by omega⟩))
      (fun k => yb (ix4 b ⟨n.val % 64, by omega⟩ ⟨n.val / 64, by omega⟩ k)) k := by
  pointwise [refMixed, refSig_apply, mixed]

/-- The sum, at an index. -/
theorem refResidual_apply (x : FVec Ideal S65536x1024 .f32) (u : FVec Ideal S8x8192x1024 .f32) (g : FVec Ideal S8x1x1024 .f32)
    (w : FVec Ideal S1024x1024 .bf16) (b : Fin 8) (n : Fin 8192) (e : Fin 1024) :
    refResidual x u g w (ix3 b n e) = summed (fun e => x (ix2 ⟨b.val * 8192 + n.val, by omega⟩ e)) (fun e => g (ix3 b 0 e))
      (fun k => u (ix3 b n k)) (fun k e => w (ix2 k e)) e := by
  pointwise [refResidual, summed]

/-- A row's mean, at an index. -/
theorem refMean_apply (x : FVec Ideal S8x8192x1024 .f32) (b : Fin 8) (t : Fin 8192) (z : Fin 1) :
    refMean x (ix3 b t z) = mean (fun k => x (ix3 b t k)) := by
  pointwise [refMean, mean]

/-- A row less its mean, at an index. -/
theorem refCentred_apply (x : FVec Ideal S8x8192x1024 .f32) (b : Fin 8) (t : Fin 8192) (k : Fin 1024) :
    refCentred x (ix3 b t k) = centred (fun j => x (ix3 b t j)) k := by
  pointwise [refCentred, refMean_apply, centred]

/-- The layer norm, at an index. -/
theorem refNormed_apply (x : FVec Ideal S8x8192x1024 .f32) (b : Fin 8) (t : Fin 8192) (k : Fin 1024) :
    refNormed x (ix3 b t k) = normed (fun j => x (ix3 b t j)) k := by
  pointwise [refNormed, refMean_apply, refCentred_apply, normed]

/-- The merge, at an index: of a row of a batch. -/
theorem refMerged_apply (x ya : FVec Ideal S65536x1024 .f32) (yb : FVec Ideal S8x64x128x1024 .f32) (p : FVec Ideal S65536x7168 .bf16)
    (g : FVec Ideal S8x1x1024 .f32) (w : FVec Ideal S1024x1024 .bf16) (lg lb : FVec Ideal S1x1024 .f32) (i : Fin 65536) (e : Fin 1024) :
    refMerged x ya yb p g w lg lb (ix2 i e) = merged (fun e => x (ix2 i e)) (fun e => g (ix3 ⟨i.val / 8192, by omega⟩ 0 e))
      (mixed (fun k => p (ix2 i ⟨5120 + k.val, by omega⟩)) (fun k => ya (ix2 i k)) (fun k => p (ix2 i ⟨6144 + k.val, by omega⟩))
        (fun k => yb (ix4 ⟨i.val / 8192, by omega⟩ ⟨i.val % 64, by omega⟩ ⟨i.val % 8192 / 64, by omega⟩ k)))
      (fun k e => w (ix2 k e)) (fun e => lg (ix2 0 e)) (fun e => lb (ix2 0 e)) e := by
  have hi : (⟨i.val / 8192 * 8192 + i.val % 8192, by omega⟩ : Fin 65536) = i := Fin.ext (by dsimp only; omega)
  have hc : (⟨i.val % 8192 % 64, by omega⟩ : Fin 64) = ⟨i.val % 64, by omega⟩ := Fin.ext (by dsimp only; omega)
  have h : refMerged x ya yb p g w lg lb (ix2 i e) = normed (fun j => refResidual x (refMixed ya yb p) g w
      (ix3 ⟨i.val / 8192, by omega⟩ ⟨i.val % 8192, by omega⟩ j)) e * lg (ix2 0 e) + lb (ix2 0 e) := by
    pointwise [refMerged, refRow, refNormed_apply]
  rw [h]
  simp only [refResidual_apply, refMixed_apply, merged, hi, hc]

end Cert.MergeReferenceIdeal.Value

end
-- ==== Proof.MixEquation.lean ====
/-
  The merge's equation: on equal arguments, the second output finite, the kernel's result is the reference's.
-/
module

public import proofs.«01_k».proof.Proof.MixFold
public import proofs.«01_k».proof.Proof.MixRef

@[expose] public section

set_option maxRecDepth 16384

noncomputable section

namespace Cert.Equation

open Idealize.ShloMosaic Idealize.ShloMosaic.TcCoe Idealize.ShloMosaic.Tactic Cert.Norm

/-- The merge, computed by the kernel, is the merge of the reference, from the same arrays. -/
theorem merge_eq (m : (ℓ : Loc Cert.MergeIdeal.nD Cert.MergeIdeal.τ Cert.MergeIdeal.sig) → Buf (Elt Ideal) ℓ) (c : Dev Cert.MergeIdeal.nD) :
    (Cert.MergeReferenceIdeal.Value.refMerged (F := Ideal) (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6))
      (m ((c.tc : Thread Cert.MergeIdeal.nD Cert.MergeIdeal.τ).loc Cert.MergeIdeal.main_arg7)) : Cert.MergeIdeal.S65536x1024.Idx → EReal)
      = Cert.MergeIdeal.Gen.result m c := by
  funext i
  obtain ⟨r, e, rfl⟩ : ∃ (r : Fin 65536) (e : Fin 1024), i = ix2 r e := ⟨i 0, i 1, eq_ix2 i⟩
  exact Cert.MergeReferenceIdeal.Value.refMerged_apply _ _ _ _ _ _ _ _ r e

end Cert.Equation

end
-- ==== Proof.lean ====
/-
  The certificate: every program runs and leaves its arguments, and the kernel's result is the reference's.
-/
module

public import proofs.«01_k».proof.Defs
public import proofs.«01_k».proof.Proof.FloatFrame
public import proofs.«01_k».proof.Proof.IdealValue
public import proofs.«01_k».proof.Proof.Equation
public import proofs.«01_k».proof.Proof.Gen.Inproj.Frame
public import proofs.«01_k».proof.Proof.Gen.Colproj.Launch
public import proofs.«01_k».proof.Proof.Gen.Colproj.Points
public import proofs.«01_k».proof.Proof.Gen.Colproj.Skeleton
public import proofs.«01_k».proof.Proof.Gen.Colproj.Frame
public import proofs.«01_k».proof.Proof.Gen.ColprojIdeal.Launch
public import proofs.«01_k».proof.Proof.Gen.ColprojIdeal.Points
public import proofs.«01_k».proof.Proof.Gen.ColprojIdeal.Skeleton
public import proofs.«01_k».proof.Proof.Gen.ColprojIdeal.Frame
public import proofs.«01_k».proof.Proof.Gen.ColprojReferenceIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.InEquation
public import proofs.«01_k».proof.Proof.ColFloatFrame
public import proofs.«01_k».proof.Proof.ColEquation
public import proofs.«01_k».proof.Proof.Gen.Ctxrow.Frame
public import proofs.«01_k».proof.Proof.Gen.CtxrowIdeal.Frame
public import proofs.«01_k».proof.Proof.Gen.CtxrowIdeal.Value
public import proofs.«01_k».proof.Proof.Gen.CtxrowReferenceIdeal.Run
public import proofs.«01_k».proof.Proof.Gen.Ctxcol.Launch
public import proofs.«01_k».proof.Proof.Gen.Ctxcol.Points
public import proofs.«01_k».proof.Proof.Gen.Ctxcol.Skeleton
public import proofs.«01_k».proof.Proof.Gen.Ctxcol.Frame
public import proofs.«01_k».proof.Proof.Gen.CtxcolIdeal.Launch
public import proofs.«01_k».proof.Proof.Gen.CtxcolIdeal.Points
public import proofs.«01_k».proof.Proof.Gen.CtxcolIdeal.Skeleton
public import proofs.«01_k».proof.Proof.Gen.CtxcolIdeal.Frame
public import proofs.«01_k».proof.Proof.Gen.CtxcolReferenceIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaReferenceIdeal.Run
public import proofs.«01_k».proof.Proof.Gen.State.Frame
public import proofs.«01_k».proof.Proof.Gen.StateIdeal.Frame
public import proofs.«01_k».proof.Proof.Gen.StateIdeal.Value
public import proofs.«01_k».proof.Proof.Gen.StateReferenceIdeal.Run
public import proofs.«01_k».proof.Proof.Gen.Back.Frame
public import proofs.«01_k».proof.Proof.Gen.BackIdeal.Frame
public import proofs.«01_k».proof.Proof.Gen.BackIdeal.Value
public import proofs.«01_k».proof.Proof.Gen.BackReferenceIdeal.Run
public import proofs.«01_k».proof.Proof.CtxRowEquation
public import proofs.«01_k».proof.Proof.CtxColFloatFrame
public import proofs.«01_k».proof.Proof.CtxColEquation
public import proofs.«01_k».proof.Proof.AdaEquation
public import proofs.«01_k».proof.Proof.StatePre
public import proofs.«01_k».proof.Proof.StateEquation
public import proofs.«01_k».proof.Proof.BackEquation
public import proofs.«01_k».proof.Proof.MixPre
public import proofs.«01_k».proof.Proof.MixEquation
public import Idealize.ShloMosaic.Lib.Quiescent
public import Idealize.ShloMosaic.Adequacy
public import Idealize.ShloMosaic.Init

@[expose] public section

noncomputable section

namespace Cert.Proof

open Idealize.ShloMosaic Idealize.SL.Sem

/-- The recurrence's reference runs, its arguments unchanged, every counter at zero: it has no semaphore. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The recurrence: the kernel's result is the reference's. -/
theorem equation : Cert.algebraic_KernelIdeal_ReferenceIdeal_pre_lb_range := fun m g m' g' hp ha =>
  ⟨fun c => Cert.KernelIdeal.Value.G6 m c, Cert.KernelIdeal.Value.run m g,
    (θ_run _ _ _).mono (fun r h c => ⟨(h c).1.trans (Cert.Equation.result_eq m m' c hp (ha c).1 (ha c).2.1 (ha c).2.2), (h c).2⟩)
      (Cert.ReferenceIdeal.Value.run m' g')⟩

/-- The projection's reference runs, its arguments unchanged, every counter at zero: it has no semaphore. -/
theorem inproj_reference_frame : Cert.quiescent_InprojReferenceIdeal := fun m g _ =>
  (θ_run _ _ _).mono (fun r h => ⟨fun c => (h c).2, sem_eq_zero_of_no_sems (by decide) r.2⟩) (Cert.InprojReferenceIdeal.Value.run_project m g)

/-- The projection: the kernel's result is the reference's. -/
theorem inproj_equation : Cert.algebraic_InprojIdeal_InprojReferenceIdeal := fun m g m' g' _ ha =>
  ⟨fun c => Cert.InprojIdeal.Value.G4 m c, Cert.InprojIdeal.Value.run m g,
    (θ_run _ _ _).mono (fun r h c => ⟨(h c).1.trans (by
        rw [(ha c).1, (ha c).2.1, (ha c).2.2.1, (ha c).2.2.2]
        exact Cert.Equation.inproj_eq m c), (h c).2⟩)
      (Cert.InprojReferenceIdeal.Value.run_project m' g')⟩

/-- The column-major projection's reference runs, its arguments unchanged, every counter at zero: it has no semaphore. -/
theorem colproj_reference_frame : Cert.quiescent_ColprojReferenceIdeal := fun m g _ =>
  (θ_run _ _ _).mono (fun r h => ⟨fun c => (h c).2.2, sem_eq_zero_of_no_sems (by decide) r.2⟩) (Cert.ColprojReferenceIdeal.Value.run_projections m g)

/-- The column-major projection: the kernel's two results are the reference's. -/
theorem colproj_equation : Cert.algebraic_ColprojIdeal_ColprojReferenceIdeal := fun m g m' g' _ ha =>
  ⟨fun c => Cert.ColprojIdeal.Gen.wide m c, fun c => Cert.ColprojIdeal.Gen.narrow m c, Cert.ColprojIdeal.Gen.run_results m g,
    (θ_run _ _ _).mono (fun r h c => ⟨(h c).1.trans (by
        rw [(ha c).1, (ha c).2.1, (ha c).2.2.1, (ha c).2.2.2.1]
        exact Cert.Equation.colproj_wide_eq m c), (h c).2.1.trans (by
        rw [(ha c).1, (ha c).2.1, (ha c).2.2.1, (ha c).2.2.2.2]
        exact Cert.Equation.colproj_narrow_eq m c), (h c).2.2⟩)
      (Cert.ColprojReferenceIdeal.Value.run_projections m' g')⟩

/-- The merge's reference runs, its arguments unchanged, every counter at zero: it has no semaphore. -/
theorem merge_reference_frame : Cert.quiescent_MergeReferenceIdeal := fun m g _ =>
  (θ_run _ _ _).mono (fun r h => ⟨fun c => (h c).2, sem_eq_zero_of_no_sems (by decide) r.2⟩) (Cert.MergeReferenceIdeal.Value.run_merged m g)

/-- The merge: the kernel's result is the reference's. -/
theorem merge_equation : Cert.algebraic_MergeIdeal_MergeReferenceIdeal_pre_y_b_finite := fun m g m' g' hp ha =>
  ⟨fun c => Cert.MergeIdeal.Gen.result m c,
    (θ_run _ _ _).mono (fun r h c => ⟨(h c).1.trans (Cert.MergeIdeal.Gen.final m c fun b w r k =>
        Cert.Pre_y_b_finite.finite_of _ _ _ _ _ _ _ _ (hp c) b w r k), (h c).2⟩) (Cert.MergeIdeal.Value.run_blocks m g),
    (θ_run _ _ _).mono (fun r h c => ⟨(h c).1.trans (by
        rw [(ha c).1, (ha c).2.1, (ha c).2.2.1, (ha c).2.2.2.1, (ha c).2.2.2.2.1, (ha c).2.2.2.2.2.1, (ha c).2.2.2.2.2.2.1,
          (ha c).2.2.2.2.2.2.2]
        exact Cert.Equation.merge_eq m c), (h c).2⟩)
      (Cert.MergeReferenceIdeal.Value.run_merged m' g')⟩

/-- The context's row-major projection's reference runs, its arguments unchanged, every counter at zero: it has no semaphore. -/
theorem ctxrow_reference_frame : Cert.quiescent_CtxrowReferenceIdeal := fun m g _ =>
  (θ_run _ _ _).mono (fun r h => ⟨fun c => (h c).2, sem_eq_zero_of_no_sems (by decide) r.2⟩) (Cert.CtxrowReferenceIdeal.Value.run_project m g)

/-- The context's row-major projection: the kernel's result is the reference's. -/
theorem ctxrow_equation : Cert.algebraic_CtxrowIdeal_CtxrowReferenceIdeal := fun m g m' g' _ ha =>
  ⟨fun c => Cert.CtxrowIdeal.Value.G4 m c, Cert.CtxrowIdeal.Value.run m g,
    (θ_run _ _ _).mono (fun r h c => ⟨(h c).1.trans (by
        rw [(ha c).1, (ha c).2.1, (ha c).2.2.1, (ha c).2.2.2]
        exact Cert.Equation.ctxrow_eq m c), (h c).2⟩)
      (Cert.CtxrowReferenceIdeal.Value.run_project m' g')⟩

/-- The context's column-by-column projection's reference runs, its arguments unchanged, every counter at zero: it has no semaphore. -/
theorem ctxcol_reference_frame : Cert.quiescent_CtxcolReferenceIdeal := fun m g _ =>
  (θ_run _ _ _).mono (fun r h => ⟨fun c => (h c).2.2, sem_eq_zero_of_no_sems (by decide) r.2⟩) (Cert.CtxcolReferenceIdeal.Value.run_projections m g)

/-- The context's column-by-column projection: the kernel's two results are the reference's. -/
theorem ctxcol_equation : Cert.algebraic_CtxcolIdeal_CtxcolReferenceIdeal := fun m g m' g' _ ha =>
  ⟨fun c => Cert.CtxcolIdeal.Gen.wide m c, fun c => Cert.CtxcolIdeal.Gen.narrow m c, Cert.CtxcolIdeal.Gen.run_results m g,
    (θ_run _ _ _).mono (fun r h c => ⟨(h c).1.trans (by
        rw [(ha c).1, (ha c).2.1, (ha c).2.2.1, (ha c).2.2.2.1]
        exact Cert.Equation.ctxcol_wide_eq m c), (h c).2.1.trans (by
        rw [(ha c).1, (ha c).2.1, (ha c).2.2.1, (ha c).2.2.2.2]
        exact Cert.Equation.ctxcol_narrow_eq m c), (h c).2.2⟩)
      (Cert.CtxcolReferenceIdeal.Value.run_projections m' g')⟩

/-- The modulation's reference runs, its arguments unchanged, every counter at zero: it has no semaphore. -/
theorem ada_reference_frame : Cert.quiescent_AdaReferenceIdeal := fun m g _ =>
  (θ_run _ _ _).mono (fun r h => ⟨fun c => (h c).2, sem_eq_zero_of_no_sems (by decide) r.2⟩) (Cert.AdaReferenceIdeal.Value.run_ada m g)

/-- The modulation: the kernel's result is the reference's. -/
theorem ada_equation : Cert.algebraic_AdaIdeal_AdaReferenceIdeal := fun m g m' g' _ ha =>
  ⟨fun c => Cert.AdaIdeal.Gen.result m c,
    (θ_run _ _ _).mono (fun r h c => ⟨(h c).1.trans (Cert.AdaIdeal.Gen.final m c), (h c).2⟩) (Cert.AdaIdeal.Value.run_blocks m g),
    (θ_run _ _ _).mono (fun r h c => ⟨(h c).1.trans (by
        rw [(ha c).1, (ha c).2.1, (ha c).2.2]
        exact Cert.Equation.ada_eq m c), (h c).2⟩)
      (Cert.AdaReferenceIdeal.Value.run_ada m' g')⟩

/-- The state's reference runs, its arguments unchanged, every counter at zero: it has no semaphore. -/
theorem state_reference_frame : Cert.quiescent_StateReferenceIdeal := fun m g _ =>
  (θ_run _ _ _).mono (fun r h => ⟨fun c => (h c).2, sem_eq_zero_of_no_sems (by decide) r.2⟩) (Cert.StateReferenceIdeal.Value.run_state m g)

/-- The state: the kernel's result is the reference's, where every entry of the bound is positive. -/
theorem state_equation : Cert.algebraic_StateIdeal_StateReferenceIdeal_pre_lb_positive := fun m g m' g' hp ha =>
  ⟨fun c => Cert.StateIdeal.Gen.result m c,
    (θ_run _ _ _).mono (fun r h c => ⟨(h c).1.trans (Cert.StateIdeal.Gen.final m c fun _ _ =>
        Cert.Pre_lb_positive.bound_of _ _ (hp c) _), (h c).2⟩) (Cert.StateIdeal.Value.run_blocks m g),
    (θ_run _ _ _).mono (fun r h c => ⟨(h c).1.trans (by
        rw [(ha c).1, (ha c).2]
        exact Cert.Equation.state_eq m c fun _ _ => Cert.Pre_lb_positive.bound_of _ _ (hp c) _), (h c).2⟩)
      (Cert.StateReferenceIdeal.Value.run_state m' g')⟩

/-- The backward state's reference runs, its arguments unchanged, every counter at zero: it has no semaphore. -/
theorem back_reference_frame : Cert.quiescent_BackReferenceIdeal := fun m g _ =>
  (θ_run _ _ _).mono (fun r h => ⟨fun c => (h c).2, sem_eq_zero_of_no_sems (by decide) r.2⟩) (Cert.BackReferenceIdeal.Value.run_back m g)

/-- The backward state: the kernel's result is the reference's, where every entry of the bound is positive. -/
theorem back_equation : Cert.algebraic_BackIdeal_BackReferenceIdeal_pre_lb_positive := fun m g m' g' hp ha =>
  ⟨fun c => Cert.BackIdeal.Gen.result m c,
    (θ_run _ _ _).mono (fun r h c => ⟨(h c).1.trans (Cert.BackIdeal.Gen.final m c fun _ _ =>
        Cert.Pre_lb_positive.bound_of _ _ (hp c) _), (h c).2⟩) (Cert.BackIdeal.Value.run_blocks m g),
    (θ_run _ _ _).mono (fun r h c => ⟨(h c).1.trans (by
        rw [(ha c).1, (ha c).2]
        exact Cert.Equation.back_eq m c fun _ _ => Cert.Pre_lb_positive.bound_of _ _ (hp c) _), (h c).2⟩)
      (Cert.BackReferenceIdeal.Value.run_back m' g')⟩

/-- Every claim. -/
theorem claim : Cert.Claim :=
  ⟨Cert.Kernel.Gen.facts, Cert.KernelIdeal.Gen.facts, Cert.ReferenceIdeal.Gen.facts,
    Cert.Inproj.Gen.facts, Cert.InprojIdeal.Gen.facts, Cert.InprojReferenceIdeal.Gen.facts,
    Cert.Colproj.Gen.facts, Cert.ColprojIdeal.Gen.facts, Cert.ColprojReferenceIdeal.Gen.facts,
    Cert.Merge.Gen.facts, Cert.MergeIdeal.Gen.facts, Cert.MergeReferenceIdeal.Gen.facts,
    Cert.Ctxrow.Gen.facts, Cert.CtxrowIdeal.Gen.facts, Cert.CtxrowReferenceIdeal.Gen.facts,
    Cert.Ctxcol.Gen.facts, Cert.CtxcolIdeal.Gen.facts, Cert.CtxcolReferenceIdeal.Gen.facts,
    Cert.Ada.Gen.facts, Cert.AdaIdeal.Gen.facts, Cert.AdaReferenceIdeal.Gen.facts,
    Cert.State.Gen.facts, Cert.StateIdeal.Gen.facts, Cert.StateReferenceIdeal.Gen.facts,
    Cert.Back.Gen.facts, Cert.BackIdeal.Gen.facts, Cert.BackReferenceIdeal.Gen.facts,
    Cert.Pre_lb_range.facts, Cert.Pre_y_b_finite.facts, Cert.Pre_lb_positive.facts,
    fun m ρ _ => Cert.Kernel.Gen.frame m ρ, fun m ρ _ => Cert.KernelIdeal.Gen.frame m ρ, fun m ρ _ => Cert.KernelIdeal.Gen.frame m ρ,
    reference_frame, fun m g _ => reference_frame m g trivial,
    fun m ρ _ => Cert.Inproj.Gen.frame m ρ, fun m ρ _ => Cert.InprojIdeal.Gen.frame m ρ, inproj_reference_frame,
    fun m ρ _ => Cert.Colproj.Gen.frame m ρ, fun m ρ _ => Cert.ColprojIdeal.Gen.frame m ρ, colproj_reference_frame,
    fun m ρ _ => Cert.Merge.Gen.frame m ρ, fun m ρ _ => Cert.MergeIdeal.Gen.frame m ρ, fun m ρ _ => Cert.MergeIdeal.Gen.frame m ρ,
    merge_reference_frame, fun m g _ => merge_reference_frame m g trivial,
    fun m ρ _ => Cert.Ctxrow.Gen.frame m ρ, fun m ρ _ => Cert.CtxrowIdeal.Gen.frame m ρ, ctxrow_reference_frame,
    fun m ρ _ => Cert.Ctxcol.Gen.frame m ρ, fun m ρ _ => Cert.CtxcolIdeal.Gen.frame m ρ, ctxcol_reference_frame,
    fun m ρ _ => Cert.Ada.Gen.frame m ρ, fun m ρ _ => Cert.AdaIdeal.Gen.frame m ρ, ada_reference_frame,
    fun m ρ _ => Cert.State.Gen.frame m ρ, fun m ρ _ => Cert.StateIdeal.Gen.frame m ρ, fun m ρ _ => Cert.StateIdeal.Gen.frame m ρ,
    state_reference_frame, fun m g _ => state_reference_frame m g trivial,
    fun m ρ _ => Cert.Back.Gen.frame m ρ, fun m ρ _ => Cert.BackIdeal.Gen.frame m ρ, fun m ρ _ => Cert.BackIdeal.Gen.frame m ρ,
    back_reference_frame, fun m g _ => back_reference_frame m g trivial,
    trivial, equation, trivial, inproj_equation, trivial, colproj_equation,
    trivial, merge_equation, trivial, ctxrow_equation, trivial, ctxcol_equation, trivial, ada_equation, trivial, state_equation,
    trivial, back_equation⟩

end Cert.Proof

end
